-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x8x64 .f32) (main_arg5 : FVec F S8192x512 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x512 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Pre_finite2.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  main_v18

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_v13 main_v16
-- ==== Kernel.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x96 : Shape := ⟨3, ![8192, 8, 96]⟩
abbrev S8192x8x128 : Shape := ⟨3, ![8192, 8, 128]⟩
abbrev S8192x1024 : Shape := ⟨2, ![8192, 1024]⟩
abbrev S8192x1x32 : Shape := ⟨3, ![8192, 1, 32]⟩
abbrev S8192x8x1 : Shape := ⟨3, ![8192, 8, 1]⟩
abbrev S8192x8x63 : Shape := ⟨3, ![8192, 8, 63]⟩
abbrev S1024x8192 : Shape := ⟨2, ![1024, 8192]⟩
abbrev S8x128 : Shape := ⟨2, ![8, 128]⟩
abbrev S8192x128 : Shape := ⟨2, ![8192, 128]⟩
abbrev S128x8192 : Shape := ⟨2, ![128, 8192]⟩
abbrev S1x8192x1 : Shape := ⟨3, ![1, 8192, 1]⟩
abbrev S1024x128 : Shape := ⟨2, ![1024, 128]⟩
abbrev S512x128 : Shape := ⟨2, ![512, 128]⟩
abbrev S128x512 : Shape := ⟨2, ![128, 512]⟩
abbrev S1024x512 : Shape := ⟨2, ![1024, 512]⟩
abbrev S1x1024x1 : Shape := ⟨3, ![1, 1024, 1]⟩
abbrev S1024x1 : Shape := ⟨2, ![1024, 1]⟩
abbrev S128x1024 : Shape := ⟨2, ![128, 1024]⟩

abbrev nBuf : Space → Nat
  | .hbm => 70
  | .vmem => 22
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8192x8x64, .f32⟩
  | .hbm, ⟨25, _⟩ => ⟨S8x8192x8192, .f32⟩
  | .hbm, ⟨26, _⟩ => ⟨S8x8192x8192, .f32⟩
  | .hbm, ⟨27, _⟩ => ⟨S8x64x8192, .f32⟩
  | .hbm, ⟨28, _⟩ => ⟨S8192x8x64, .f32⟩
  | .hbm, ⟨29, _⟩ => ⟨S8192x8x64, .f32⟩
  | .hbm, ⟨30, _⟩ => ⟨S_, .f32⟩
  | .hbm, ⟨31, _⟩ => ⟨S8192x8, .f32⟩
  | .hbm, ⟨32, _⟩ => ⟨S8x8192, .f32⟩
  | .hbm, ⟨33, _⟩ => ⟨S8x8192x1, .f32⟩
  | .hbm, ⟨34, _⟩ => ⟨S8192x8x96, .f32⟩
  | .hbm, ⟨35, _⟩ => ⟨S_, .f32⟩
  | .hbm, ⟨36, _⟩ => ⟨S8192x8x96, .f32⟩
  | .hbm, ⟨37, _⟩ => ⟨S8192x8x96, .f32⟩
  | .hbm, ⟨38, _⟩ => ⟨S_, .i32⟩
  | .hbm, ⟨39, _⟩ => ⟨S_, .f32⟩
  | .hbm, ⟨40, _⟩ => ⟨S8192x8x128, .f32⟩
  | .hbm, ⟨41, _⟩ => ⟨S8192x1024, .f32⟩
  | .hbm, ⟨42, _⟩ => ⟨S8192x1x32, .f32⟩
  | .hbm, ⟨43, _⟩ => ⟨S8192x8x32, .f32⟩
  | .hbm, ⟨44, _⟩ => ⟨S8192x8x96, .f32⟩
  | .hbm, ⟨45, _⟩ => ⟨S_, .i32⟩
  | .hbm, ⟨46, _⟩ => ⟨S_, .f32⟩
  | .hbm, ⟨47, _⟩ => ⟨S8192x8x128, .f32⟩
  | .hbm, ⟨48, _⟩ => ⟨S8192x1024, .f32⟩
  | .hbm, ⟨49, _⟩ => ⟨S_, .f32⟩
  | .hbm, ⟨50, _⟩ => ⟨S8192x8x1, .f32⟩
  | .hbm, ⟨51, _⟩ => ⟨S_, .f32⟩
  | .hbm, ⟨52, _⟩ => ⟨S8192x8x63, .f32⟩
  | .hbm, ⟨53, _⟩ => ⟨S8192x8x128, .f32⟩
  | .hbm, ⟨54, _⟩ => ⟨S8192x1024, .f32⟩
  | .hbm, ⟨55, _⟩ => ⟨S_, .i32⟩
  | .hbm, ⟨56, _⟩ => ⟨S_, .f32⟩
  | .hbm, ⟨57, _⟩ => ⟨S8192x8x128, .f32⟩
  | .hbm, ⟨58, _⟩ => ⟨S8192x1024, .f32⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S1024x8192, .bf16⟩
  | .hbm, ⟨64, _⟩ => ⟨S1024x8192, .bf16⟩
  | .hbm, ⟨65, _⟩ => ⟨S_, .f32⟩
  | .hbm, ⟨66, _⟩ => ⟨S8x128, .f32⟩
  | .hbm, ⟨67, _⟩ => ⟨S8192x1024, .f32⟩
  | .hbm, ⟨68, _⟩ => ⟨S8192x1024, .f32⟩
  | .hbm, ⟨69, _⟩ => ⟨S8192x1024, .f32⟩
  | .local _ .vmem, ⟨0, _⟩ => ⟨S8192x128, .bf16⟩
  | .local _ .vmem, ⟨1, _⟩ => ⟨S8192x128, .bf16⟩
  | .local _ .vmem, ⟨2, _⟩ => ⟨S128x8192, .bf16⟩
  | .local _ .vmem, ⟨3, _⟩ => ⟨S128x8192, .bf16⟩
  | .local _ .vmem, ⟨4, _⟩ => ⟨S8192x128, .bf16⟩
  | .local _ .vmem, ⟨5, _⟩ => ⟨S8192x128, .bf16⟩
  | .local _ .vmem, ⟨6, _⟩ => ⟨S128x8192, .bf16⟩
  | .local _ .vmem, ⟨7, _⟩ => ⟨S128x8192, .bf16⟩
  | .local _ .vmem, ⟨8, _⟩ => ⟨S1x8192x1, .f32⟩
  | .local _ .vmem, ⟨9, _⟩ => ⟨S1x8192x1, .f32⟩
  | .local _ .vmem, ⟨10, _⟩ => ⟨S1x8192x1, .f32⟩
  | .local _ .vmem, ⟨11, _⟩ => ⟨S1x8192x1, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S8192x128, .f32⟩
  | .local _ .vmem, ⟨17, _⟩ => ⟨S8192x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_v47_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_mult1 : BitVec 32 :=
  let c8_i32 : BitVec 32 := 8#32
  let c0_i32_4 : BitVec 32 := 0#32
  let v8 : BitVec 32 := Scalar.muli c8_i32 c0_i32_4
  let c0_i32_5 : BitVec 32 := 0#32
  let v9 : BitVec 32 := Scalar.addi v8 c0_i32_5
  let c1024_i32 : BitVec 32 := 1024#32
  let v10 : BitVec 32 := Scalar.muli v9 c1024_i32
  v10
def k0_off1 (c0_i32_5 : BitVec 32) : Fin 2 → Nat :=
  let c8_i32 : BitVec 32 := 8#32
  let c0_i32_4 : BitVec 32 := 0#32
  let v8 : BitVec 32 := Scalar.muli c8_i32 c0_i32_4
  let v9 : BitVec 32 := Scalar.addi v8 c0_i32_5
  let c1024_i32 : BitVec 32 := 1024#32
  let v10 : BitVec 32 := Scalar.muli v9 c1024_i32
  let v11 : BitVec 32 := v10
  let v12 : Index := Scalar.indexCast v11
  let c0_6 : Index := 0#32
  ![v12.toNat, 0]
def k0_off2 (c0_i32_5 : BitVec 32) : Fin 3 → Nat :=
  let c0_8 : Index := 0#32
  let c8_i32 : BitVec 32 := 8#32
  let c0_i32_4 : BitVec 32 := 0#32
  let v8 : BitVec 32 := Scalar.muli c8_i32 c0_i32_4
  let v9 : BitVec 32 := Scalar.addi v8 c0_i32_5
  let c1024_i32 : BitVec 32 := 1024#32
  let v10 : BitVec 32 := Scalar.muli v9 c1024_i32
  let v11 : BitVec 32 := v10
  let v16 : Index := Scalar.indexCast v11
  let c0_9 : Index := 0#32
  ![0, v16.toNat, 0]
def k0_off3 (c0_i32_5 : BitVec 32) : Fin 2 → Nat :=
  let c0_14 : Index := 0#32
  let c8_i32 : BitVec 32 := 8#32
  let c0_i32_4 : BitVec 32 := 0#32
  let v8 : BitVec 32 := Scalar.muli c8_i32 c0_i32_4
  let v9 : BitVec 32 := Scalar.addi v8 c0_i32_5
  let c1024_i32 : BitVec 32 := 1024#32
  let v10 : BitVec 32 := Scalar.muli v9 c1024_i32
  let v11 : BitVec 32 := v10
  let v33 : Index := Scalar.indexCast v11
  ![0, v33.toNat]
def k0_mult2 : BitVec 32 :=
  let c8_i32_21 : BitVec 32 := 8#32
  let c0_i32_4 : BitVec 32 := 0#32
  let v51 : BitVec 32 := Scalar.muli c8_i32_21 c0_i32_4
  let c1_i32 : BitVec 32 := 1#32
  let v52 : BitVec 32 := Scalar.addi v51 c1_i32
  let c1024_i32_22 : BitVec 32 := 1024#32
  let v53 : BitVec 32 := Scalar.muli v52 c1024_i32_22
  v53
def k0_mult3 : BitVec 32 :=
  let c8_i32_38 : BitVec 32 := 8#32
  let c0_i32_4 : BitVec 32 := 0#32
  let v94 : BitVec 32 := Scalar.muli c8_i32_38 c0_i32_4
  let c2_i32 : BitVec 32 := 2#32
  let v95 : BitVec 32 := Scalar.addi v94 c2_i32
  let c1024_i32_39 : BitVec 32 := 1024#32
  let v96 : BitVec 32 := Scalar.muli v95 c1024_i32_39
  v96
def k0_mult4 : BitVec 32 :=
  let c8_i32_55 : BitVec 32 := 8#32
  let c0_i32_4 : BitVec 32 := 0#32
  let v137 : BitVec 32 := Scalar.muli c8_i32_55 c0_i32_4
  let c3_i32 : BitVec 32 := 3#32
  let v138 : BitVec 32 := Scalar.addi v137 c3_i32
  let c1024_i32_56 : BitVec 32 := 1024#32
  let v139 : BitVec 32 := Scalar.muli v138 c1024_i32_56
  v139
def k0_mult5 : BitVec 32 :=
  let c8_i32_72 : BitVec 32 := 8#32
  let c0_i32_4 : BitVec 32 := 0#32
  let v180 : BitVec 32 := Scalar.muli c8_i32_72 c0_i32_4
  let c4_i32 : BitVec 32 := 4#32
  let v181 : BitVec 32 := Scalar.addi v180 c4_i32
  let c1024_i32_73 : BitVec 32 := 1024#32
  let v182 : BitVec 32 := Scalar.muli v181 c1024_i32_73
  v182
def k0_mult6 : BitVec 32 :=
  let c8_i32_89 : BitVec 32 := 8#32
  let c0_i32_4 : BitVec 32 := 0#32
  let v223 : BitVec 32 := Scalar.muli c8_i32_89 c0_i32_4
  let c5_i32 : BitVec 32 := 5#32
  let v224 : BitVec 32 := Scalar.addi v223 c5_i32
  let c1024_i32_90 : BitVec 32 := 1024#32
  let v225 : BitVec 32 := Scalar.muli v224 c1024_i32_90
  v225
def k0_mult7 : BitVec 32 :=
  let c8_i32_106 : BitVec 32 := 8#32
  let c0_i32_4 : BitVec 32 := 0#32
  let v266 : BitVec 32 := Scalar.muli c8_i32_106 c0_i32_4
  let c6_i32 : BitVec 32 := 6#32
  let v267 : BitVec 32 := Scalar.addi v266 c6_i32
  let c1024_i32_107 : BitVec 32 := 1024#32
  let v268 : BitVec 32 := Scalar.muli v267 c1024_i32_107
  v268
def k0_mult8 : BitVec 32 :=
  let c8_i32_123 : BitVec 32 := 8#32
  let c0_i32_4 : BitVec 32 := 0#32
  let v309 : BitVec 32 := Scalar.muli c8_i32_123 c0_i32_4
  let c7_i32 : BitVec 32 := 7#32
  let v310 : BitVec 32 := Scalar.addi v309 c7_i32
  let c1024_i32_124 : BitVec 32 := 1024#32
  let v311 : BitVec 32 := Scalar.muli v310 c1024_i32_124
  v311
def k0_mult9 : BitVec 32 :=
  let c8_i32_150 : BitVec 32 := 8#32
  let c0_i32_149 : BitVec 32 := 0#32
  let v361 : BitVec 32 := Scalar.muli c8_i32_150 c0_i32_149
  let c0_i32_151 : BitVec 32 := 0#32
  let v362 : BitVec 32 := Scalar.addi v361 c0_i32_151
  let c1024_i32_152 : BitVec 32 := 1024#32
  let v363 : BitVec 32 := Scalar.muli v362 c1024_i32_152
  v363
def k0_mult10 : BitVec 32 :=
  let c8_i32_168 : BitVec 32 := 8#32
  let c0_i32_149 : BitVec 32 := 0#32
  let v404 : BitVec 32 := Scalar.muli c8_i32_168 c0_i32_149
  let c1_i32_169 : BitVec 32 := 1#32
  let v405 : BitVec 32 := Scalar.addi v404 c1_i32_169
  let c1024_i32_170 : BitVec 32 := 1024#32
  let v406 : BitVec 32 := Scalar.muli v405 c1024_i32_170
  v406
def k0_mult11 : BitVec 32 :=
  let c8_i32_186 : BitVec 32 := 8#32
  let c0_i32_149 : BitVec 32 := 0#32
  let v447 : BitVec 32 := Scalar.muli c8_i32_186 c0_i32_149
  let c2_i32_187 : BitVec 32 := 2#32
  let v448 : BitVec 32 := Scalar.addi v447 c2_i32_187
  let c1024_i32_188 : BitVec 32 := 1024#32
  let v449 : BitVec 32 := Scalar.muli v448 c1024_i32_188
  v449
def k0_mult12 : BitVec 32 :=
  let c8_i32_204 : BitVec 32 := 8#32
  let c0_i32_149 : BitVec 32 := 0#32
  let v490 : BitVec 32 := Scalar.muli c8_i32_204 c0_i32_149
  let c3_i32_205 : BitVec 32 := 3#32
  let v491 : BitVec 32 := Scalar.addi v490 c3_i32_205
  let c1024_i32_206 : BitVec 32 := 1024#32
  let v492 : BitVec 32 := Scalar.muli v491 c1024_i32_206
  v492
def k0_mult13 : BitVec 32 :=
  let c8_i32_222 : BitVec 32 := 8#32
  let c0_i32_149 : BitVec 32 := 0#32
  let v533 : BitVec 32 := Scalar.muli c8_i32_222 c0_i32_149
  let c4_i32_223 : BitVec 32 := 4#32
  let v534 : BitVec 32 := Scalar.addi v533 c4_i32_223
  let c1024_i32_224 : BitVec 32 := 1024#32
  let v535 : BitVec 32 := Scalar.muli v534 c1024_i32_224
  v535
def k0_mult14 : BitVec 32 :=
  let c8_i32_240 : BitVec 32 := 8#32
  let c0_i32_149 : BitVec 32 := 0#32
  let v576 : BitVec 32 := Scalar.muli c8_i32_240 c0_i32_149
  let c5_i32_241 : BitVec 32 := 5#32
  let v577 : BitVec 32 := Scalar.addi v576 c5_i32_241
  let c1024_i32_242 : BitVec 32 := 1024#32
  let v578 : BitVec 32 := Scalar.muli v577 c1024_i32_242
  v578
def k0_mult15 : BitVec 32 :=
  let c8_i32_258 : BitVec 32 := 8#32
  let c0_i32_149 : BitVec 32 := 0#32
  let v619 : BitVec 32 := Scalar.muli c8_i32_258 c0_i32_149
  let c6_i32_259 : BitVec 32 := 6#32
  let v620 : BitVec 32 := Scalar.addi v619 c6_i32_259
  let c1024_i32_260 : BitVec 32 := 1024#32
  let v621 : BitVec 32 := Scalar.muli v620 c1024_i32_260
  v621
def k0_mult16 : BitVec 32 :=
  let c8_i32_276 : BitVec 32 := 8#32
  let c0_i32_149 : BitVec 32 := 0#32
  let v662 : BitVec 32 := Scalar.muli c8_i32_276 c0_i32_149
  let c7_i32_277 : BitVec 32 := 7#32
  let v663 : BitVec 32 := Scalar.addi v662 c7_i32_277
  let c1024_i32_278 : BitVec 32 := 1024#32
  let v664 : BitVec 32 := Scalar.muli v663 c1024_i32_278
  v664
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S8192x1x32 : Shape := ⟨3, ![8192, 1, 32]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x32 : Shape := ⟨3, ![8, 8192, 32]⟩
abbrev S8x8192x64 : Shape := ⟨3, ![8, 8192, 64]⟩
abbrev S8192x8x96 : Shape := ⟨3, ![8192, 8, 96]⟩
abbrev S8192x8x128 : Shape := ⟨3, ![8192, 8, 128]⟩
abbrev S8192x1024 : Shape := ⟨2, ![8192, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S8192x1x32, .f32⟩
  | .hbm, ⟨7, _⟩ => ⟨S8192x8x32, .f32⟩
  | .hbm, ⟨8, _⟩ => ⟨S8x8192x8192, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .i1⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .i1⟩
  | .hbm, ⟨28, _⟩ => ⟨S_, .f32⟩
  | .hbm, ⟨29, _⟩ => ⟨S8x8192, .f32⟩
  | .hbm, ⟨30, _⟩ => ⟨S8x8192, .i1⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x64x8192, .f32⟩
  | .hbm, ⟨53, _⟩ => ⟨S8192x8x64, .f32⟩
  | .hbm, ⟨54, _⟩ => ⟨S8192x512, .f32⟩
  | .hbm, ⟨55, _⟩ => ⟨S8192x8x64, .f32⟩
  | .hbm, ⟨56, _⟩ => ⟨S8x64x8192, .f32⟩
  | .hbm, ⟨57, _⟩ => ⟨S8x8192x8192, .f32⟩
  | .hbm, ⟨58, _⟩ => ⟨S8x64x8192, .f32⟩
  | .hbm, ⟨59, _⟩ => ⟨S8192x8x64, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192x8192, .f32⟩
  | .hbm, ⟨76, _⟩ => ⟨S8x8192x8192, .f32⟩
  | .hbm, ⟨77, _⟩ => ⟨S8x8192x32, .f32⟩
  | .hbm, ⟨78, _⟩ => ⟨S8192x8x32, .f32⟩
  | .hbm, ⟨79, _⟩ => ⟨S8x8192x32, .f32⟩
  | .hbm, ⟨80, _⟩ => ⟨S8192x8x32, .f32⟩
  | .hbm, ⟨81, _⟩ => ⟨S8x8192x64, .f32⟩
  | .hbm, ⟨82, _⟩ => ⟨S8192x8x64, .f32⟩
  | .hbm, ⟨83, _⟩ => ⟨S8x8192x64, .f32⟩
  | .hbm, ⟨84, _⟩ => ⟨S8192x8x64, .f32⟩
  | .hbm, ⟨85, _⟩ => ⟨S8192x8x96, .f32⟩
  | .hbm, ⟨86, _⟩ => ⟨S_, .i32⟩
  | .hbm, ⟨87, _⟩ => ⟨S_, .f32⟩
  | .hbm, ⟨88, _⟩ => ⟨S8192x8x128, .f32⟩
  | .hbm, ⟨89, _⟩ => ⟨S8192x1024, .f32⟩
  | .hbm, ⟨90, _⟩ => ⟨S8192x8x96, .f32⟩
  | .hbm, ⟨91, _⟩ => ⟨S_, .i32⟩
  | .hbm, ⟨92, _⟩ => ⟨S_, .f32⟩
  | .hbm, ⟨93, _⟩ => ⟨S8192x8x128, .f32⟩
  | .hbm, ⟨94, _⟩ => ⟨S8192x1024, .f32⟩
  | .hbm, ⟨95, _⟩ => ⟨S_, .i32⟩
  | .hbm, ⟨96, _⟩ => ⟨S_, .f32⟩
  | .hbm, ⟨97, _⟩ => ⟨S8192x8x128, .f32⟩
  | .hbm, ⟨98, _⟩ => ⟨S8192x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c : Ref sig .tc := ⟨.hbm, 86, rfl⟩
abbrev main_call0_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_13 : Ref sig .tc := ⟨.hbm, 91, rfl⟩
abbrev main_call1_v0 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_call2_v0 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel2.lean ====
abbrev S8192x8x64 : Shape := ⟨3, ![8192, 8, 64]⟩
abbrev S8192x8x32 : Shape := ⟨3, ![8192, 8, 32]⟩
abbrev S8192x32 : Shape := ⟨2, ![8192, 32]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S8192x1x32 : Shape := ⟨3, ![8192, 1, 32]⟩
abbrev S8192x8x1 : Shape := ⟨3, ![8192, 8, 1]⟩
abbrev S8192x8x63 : Shape := ⟨3, ![8192, 8, 63]⟩
abbrev S8x8192x1 : Shape := ⟨3, ![8, 8192, 1]⟩
abbrev S2048x128 : Shape := ⟨2, ![2048, 128]⟩
abbrev S8192x128 : Shape := ⟨2, ![8192, 128]⟩
abbrev S1x2048x1 : Shape := ⟨3, ![1, 2048, 1]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1x1024x1 : Shape := ⟨3, ![1, 1024, 1]⟩

abbrev nBuf : Space → Nat
  | .hbm => 31
  | .vmem => 10
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x96, .f32⟩
  | .hbm, ⟨6, _⟩ => ⟨S_, .f32⟩
  | .hbm, ⟨7, _⟩ => ⟨S8192x8x96, .f32⟩
  | .hbm, ⟨8, _⟩ => ⟨S8192x8x96, .f32⟩
  | .hbm, ⟨9, _⟩ => ⟨S_, .i32⟩
  | .hbm, ⟨10, _⟩ => ⟨S_, .f32⟩
  | .hbm, ⟨11, _⟩ => ⟨S8192x8x128, .f32⟩
  | .hbm, ⟨12, _⟩ => ⟨S8192x1024, .f32⟩
  | .hbm, ⟨13, _⟩ => ⟨S8192x1x32, .f32⟩
  | .hbm, ⟨14, _⟩ => ⟨S8192x8x32, .f32⟩
  | .hbm, ⟨15, _⟩ => ⟨S8192x8x96, .f32⟩
  | .hbm, ⟨16, _⟩ => ⟨S_, .i32⟩
  | .hbm, ⟨17, _⟩ => ⟨S_, .f32⟩
  | .hbm, ⟨18, _⟩ => ⟨S8192x8x128, .f32⟩
  | .hbm, ⟨19, _⟩ => ⟨S8192x1024, .f32⟩
  | .hbm, ⟨20, _⟩ => ⟨S_, .f32⟩
  | .hbm, ⟨21, _⟩ => ⟨S8192x8x1, .f32⟩
  | .hbm, ⟨22, _⟩ => ⟨S_, .f32⟩
  | .hbm, ⟨23, _⟩ => ⟨S8192x8x63, .f32⟩
  | .hbm, ⟨24, _⟩ => ⟨S8192x8x128, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8x8192x1, .f32⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c8_i32 : BitVec 32 := 8#32
  let c0_i32 : BitVec 32 := 0#32
  let v4 : BitVec 32 := Scalar.muli c8_i32 c0_i32
  let c0_i32_2 : BitVec 32 := 0#32
  let v5 : BitVec 32 := Scalar.addi v4 c0_i32_2
  let c1024_i32 : BitVec 32 := 1024#32
  let v6 : BitVec 32 := Scalar.muli v5 c1024_i32
  v6
def k0_off1 (c0_i32_2 : BitVec 32) : Fin 2 → Nat :=
  let c8_i32 : BitVec 32 := 8#32
  let c0_i32 : BitVec 32 := 0#32
  let v4 : BitVec 32 := Scalar.muli c8_i32 c0_i32
  let v5 : BitVec 32 := Scalar.addi v4 c0_i32_2
  let c1024_i32 : BitVec 32 := 1024#32
  let v6 : BitVec 32 := Scalar.muli v5 c1024_i32
  let v7 : BitVec 32 := v6
  let v8 : Index := Scalar.indexCast v7
  let c0_3 : Index := 0#32
  ![v8.toNat, 0]
def k0_mult2 : BitVec 32 :=
  let c8_i32_8 : BitVec 32 := 8#32
  let c0_i32 : BitVec 32 := 0#32
  let v28 : BitVec 32 := Scalar.muli c8_i32_8 c0_i32
  let c1_i32 : BitVec 32 := 1#32
  let v29 : BitVec 32 := Scalar.addi v28 c1_i32
  let c1024_i32_9 : BitVec 32 := 1024#32
  let v30 : BitVec 32 := Scalar.muli v29 c1024_i32_9
  v30
def k0_mult3 : BitVec 32 :=
  let c8_i32_15 : BitVec 32 := 8#32
  let c0_i32 : BitVec 32 := 0#32
  let v52 : BitVec 32 := Scalar.muli c8_i32_15 c0_i32
  let c2_i32 : BitVec 32 := 2#32
  let v53 : BitVec 32 := Scalar.addi v52 c2_i32
  let c1024_i32_16 : BitVec 32 := 1024#32
  let v54 : BitVec 32 := Scalar.muli v53 c1024_i32_16
  v54
def k0_mult4 : BitVec 32 :=
  let c8_i32_22 : BitVec 32 := 8#32
  let c0_i32 : BitVec 32 := 0#32
  let v76 : BitVec 32 := Scalar.muli c8_i32_22 c0_i32
  let c3_i32 : BitVec 32 := 3#32
  let v77 : BitVec 32 := Scalar.addi v76 c3_i32
  let c1024_i32_23 : BitVec 32 := 1024#32
  let v78 : BitVec 32 := Scalar.muli v77 c1024_i32_23
  v78
def k0_mult5 : BitVec 32 :=
  let c8_i32_29 : BitVec 32 := 8#32
  let c0_i32 : BitVec 32 := 0#32
  let v100 : BitVec 32 := Scalar.muli c8_i32_29 c0_i32
  let c4_i32 : BitVec 32 := 4#32
  let v101 : BitVec 32 := Scalar.addi v100 c4_i32
  let c1024_i32_30 : BitVec 32 := 1024#32
  let v102 : BitVec 32 := Scalar.muli v101 c1024_i32_30
  v102
def k0_mult6 : BitVec 32 :=
  let c8_i32_36 : BitVec 32 := 8#32
  let c0_i32 : BitVec 32 := 0#32
  let v124 : BitVec 32 := Scalar.muli c8_i32_36 c0_i32
  let c5_i32 : BitVec 32 := 5#32
  let v125 : BitVec 32 := Scalar.addi v124 c5_i32
  let c1024_i32_37 : BitVec 32 := 1024#32
  let v126 : BitVec 32 := Scalar.muli v125 c1024_i32_37
  v126
def k0_mult7 : BitVec 32 :=
  let c8_i32_43 : BitVec 32 := 8#32
  let c0_i32 : BitVec 32 := 0#32
  let v148 : BitVec 32 := Scalar.muli c8_i32_43 c0_i32
  let c6_i32 : BitVec 32 := 6#32
  let v149 : BitVec 32 := Scalar.addi v148 c6_i32
  let c1024_i32_44 : BitVec 32 := 1024#32
  let v150 : BitVec 32 := Scalar.muli v149 c1024_i32_44
  v150
def k0_mult8 : BitVec 32 :=
  let c8_i32_50 : BitVec 32 := 8#32
  let c0_i32 : BitVec 32 := 0#32
  let v172 : BitVec 32 := Scalar.muli c8_i32_50 c0_i32
  let c7_i32 : BitVec 32 := 7#32
  let v173 : BitVec 32 := Scalar.addi v172 c7_i32
  let c1024_i32_51 : BitVec 32 := 1024#32
  let v174 : BitVec 32 := Scalar.muli v173 c1024_i32_51
  v174
def k0_mult9 : BitVec 32 :=
  let c8_i32_67 : BitVec 32 := 8#32
  let c0_i32_66 : BitVec 32 := 0#32
  let v210 : BitVec 32 := Scalar.muli c8_i32_67 c0_i32_66
  let c0_i32_68 : BitVec 32 := 0#32
  let v211 : BitVec 32 := Scalar.addi v210 c0_i32_68
  let c1024_i32_69 : BitVec 32 := 1024#32
  let v212 : BitVec 32 := Scalar.muli v211 c1024_i32_69
  v212
def k0_mult10 : BitVec 32 :=
  let c8_i32_75 : BitVec 32 := 8#32
  let c0_i32_66 : BitVec 32 := 0#32
  let v234 : BitVec 32 := Scalar.muli c8_i32_75 c0_i32_66
  let c1_i32_76 : BitVec 32 := 1#32
  let v235 : BitVec 32 := Scalar.addi v234 c1_i32_76
  let c1024_i32_77 : BitVec 32 := 1024#32
  let v236 : BitVec 32 := Scalar.muli v235 c1024_i32_77
  v236
def k0_mult11 : BitVec 32 :=
  let c8_i32_83 : BitVec 32 := 8#32
  let c0_i32_66 : BitVec 32 := 0#32
  let v258 : BitVec 32 := Scalar.muli c8_i32_83 c0_i32_66
  let c2_i32_84 : BitVec 32 := 2#32
  let v259 : BitVec 32 := Scalar.addi v258 c2_i32_84
  let c1024_i32_85 : BitVec 32 := 1024#32
  let v260 : BitVec 32 := Scalar.muli v259 c1024_i32_85
  v260
def k0_mult12 : BitVec 32 :=
  let c8_i32_91 : BitVec 32 := 8#32
  let c0_i32_66 : BitVec 32 := 0#32
  let v282 : BitVec 32 := Scalar.muli c8_i32_91 c0_i32_66
  let c3_i32_92 : BitVec 32 := 3#32
  let v283 : BitVec 32 := Scalar.addi v282 c3_i32_92
  let c1024_i32_93 : BitVec 32 := 1024#32
  let v284 : BitVec 32 := Scalar.muli v283 c1024_i32_93
  v284
def k0_mult13 : BitVec 32 :=
  let c8_i32_99 : BitVec 32 := 8#32
  let c0_i32_66 : BitVec 32 := 0#32
  let v306 : BitVec 32 := Scalar.muli c8_i32_99 c0_i32_66
  let c4_i32_100 : BitVec 32 := 4#32
  let v307 : BitVec 32 := Scalar.addi v306 c4_i32_100
  let c1024_i32_101 : BitVec 32 := 1024#32
  let v308 : BitVec 32 := Scalar.muli v307 c1024_i32_101
  v308
def k0_mult14 : BitVec 32 :=
  let c8_i32_107 : BitVec 32 := 8#32
  let c0_i32_66 : BitVec 32 := 0#32
  let v330 : BitVec 32 := Scalar.muli c8_i32_107 c0_i32_66
  let c5_i32_108 : BitVec 32 := 5#32
  let v331 : BitVec 32 := Scalar.addi v330 c5_i32_108
  let c1024_i32_109 : BitVec 32 := 1024#32
  let v332 : BitVec 32 := Scalar.muli v331 c1024_i32_109
  v332
def k0_mult15 : BitVec 32 :=
  let c8_i32_115 : BitVec 32 := 8#32
  let c0_i32_66 : BitVec 32 := 0#32
  let v354 : BitVec 32 := Scalar.muli c8_i32_115 c0_i32_66
  let c6_i32_116 : BitVec 32 := 6#32
  let v355 : BitVec 32 := Scalar.addi v354 c6_i32_116
  let c1024_i32_117 : BitVec 32 := 1024#32
  let v356 : BitVec 32 := Scalar.muli v355 c1024_i32_117
  v356
def k0_mult16 : BitVec 32 :=
  let c8_i32_123 : BitVec 32 := 8#32
  let c0_i32_66 : BitVec 32 := 0#32
  let v378 : BitVec 32 := Scalar.muli c8_i32_123 c0_i32_66
  let c7_i32_124 : BitVec 32 := 7#32
  let v379 : BitVec 32 := Scalar.addi v378 c7_i32_124
  let c1024_i32_125 : BitVec 32 := 1024#32
  let v380 : BitVec 32 := Scalar.muli v379 c1024_i32_125
  v380
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8192x8x63 : Shape := ⟨3, ![8192, 8, 63]⟩
abbrev S8192x8x128 : Shape := ⟨3, ![8192, 8, 128]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x64x8192, .f32⟩
  | .hbm, ⟨27, _⟩ => ⟨S8192x8x64, .f32⟩
  | .hbm, ⟨28, _⟩ => ⟨S_, .f32⟩
  | .hbm, ⟨29, _⟩ => ⟨S8192x8x1, .f32⟩
  | .hbm, ⟨30, _⟩ => ⟨S_, .f32⟩
  | .hbm, ⟨31, _⟩ => ⟨S8192x8x63, .f32⟩
  | .hbm, ⟨32, _⟩ => ⟨S8192x8x128, .f32⟩
  | .hbm, ⟨33, _⟩ => ⟨S8192x1024, .f32⟩
  | .hbm, ⟨34, _⟩ => ⟨S8192x1024, .bf16⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x1, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S1x512x2816 : Shape := ⟨3, ![1, 512, 2816]⟩
abbrev S512x1024 : Shape := ⟨2, ![512, 1024]⟩
abbrev S1024x2816 : Shape := ⟨2, ![1024, 2816]⟩
abbrev S1x256x2816 : Shape := ⟨3, ![1, 256, 2816]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x2x2816, .f32⟩
  | .hbm, ⟨6, _⟩ => ⟨S2x8192x2816, .f32⟩
  | .hbm, ⟨7, _⟩ => ⟨S2x8192x2816, .bf16⟩
  | .hbm, ⟨8, _⟩ => ⟨S1024x5632, .bf16⟩
  | .hbm, ⟨9, _⟩ => ⟨S8192x1024, .f32⟩
  | .hbm, ⟨10, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩
abbrev S2048x256 : Shape := ⟨2, ![2048, 256]⟩
abbrev S256x1408 : Shape := ⟨2, ![256, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x2x2816, .f32⟩
  | .hbm, ⟨3, _⟩ => ⟨S2x8192x2816, .f32⟩
  | .hbm, ⟨4, _⟩ => ⟨S2x8192x2816, .bf16⟩
  | .hbm, ⟨5, _⟩ => ⟨S8192x1024, .bf16⟩
  | .hbm, ⟨6, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_29 : BitVec 32 := 0#32
  let v44 : BitVec 1 := Scalar.cmpi .ne v43 c0_i32_29
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S2048x256 : Shape := ⟨2, ![2048, 256]⟩
abbrev S256x1024 : Shape := ⟨2, ![256, 1024]⟩
abbrev S2048x128 : Shape := ⟨2, ![2048, 128]⟩
abbrev S128x1024 : Shape := ⟨2, ![128, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c3_i32 : BitVec 32 := 3#32
  let v62 : BitVec 1 := Scalar.cmpi .eq arg2 c3_i32
  let v63 : BitVec 32 := Scalar.extui v62
  let c0_i32_42 : BitVec 32 := 0#32
  let v64 : BitVec 1 := Scalar.cmpi .ne v63 c0_i32_42
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x2048, .bf16⟩
  | .hbm, ⟨6, _⟩ => ⟨S1024x2048, .bf16⟩
  | .hbm, ⟨7, _⟩ => ⟨S8192x1024, .f32⟩
  | .hbm, ⟨8, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit
public import Idealize.ShloMosaic.Lib.Pointwise

/-! What one grid point leaves in the three output blocks, as sums over the blocks it reads.

A grid point holds one head's queries, cotangents, log-sum-exps and deltas (8192 rows) and one block of 1024 keys and
values. `prob` is the softmax weight it recomputes for a query row and a key row, `dscore` the gradient of that score. -/

@[expose] public section

set_option maxRecDepth 16384

noncomputable section

open Idealize.ShloMosaic Idealize.ShloMosaic.TcCoe Idealize.SL.Sem

namespace Cert.KernelIdeal.Body

open Cert.KernelIdeal Cert.KernelIdeal.Gen

/-- The softmax weight of key row `j` for query row `i`: exp of the score less the row's log-sum-exp. -/
def prob (q : Vec Ideal S8192x128 .bf16) (lse : Vec Ideal S1x8192x1 .f32) (k : Vec Ideal S1024x128 .bf16)
    (i : Fin 8192) (j : Fin 1024) : EReal :=
  Ideal.exp (∑ l : Fin 128, q (ix2 i l) * k (ix2 j l) - lse (ix3 0 i 0))

/-- The gradient of the score of key row `j` for query row `i`: weight times (cotangent · value less the row's delta). -/
def dscore (q o : Vec Ideal S8192x128 .bf16) (lse del : Vec Ideal S1x8192x1 .f32) (k v : Vec Ideal S1024x128 .bf16)
    (i : Fin 8192) (j : Fin 1024) : EReal :=
  prob q lse k i j * (∑ l : Fin 128, o (ix2 i l) * v (ix2 j l) - del (ix3 0 i 0))

/-! ## Sums by tiles -/

/-- A sum over 8192 rows is the sum of its eight tiles of 1024 rows, in the order the body adds them. -/
theorem sum_rows (f : Fin 8192 → EReal) : ∑ i, f i =
    ∑ t : Fin 1024, f ⟨t.val, by omega⟩ + ∑ t : Fin 1024, f ⟨1024 + t.val, by omega⟩
    + ∑ t : Fin 1024, f ⟨2048 + t.val, by omega⟩ + ∑ t : Fin 1024, f ⟨3072 + t.val, by omega⟩
    + ∑ t : Fin 1024, f ⟨4096 + t.val, by omega⟩ + ∑ t : Fin 1024, f ⟨5120 + t.val, by omega⟩
    + ∑ t : Fin 1024, f ⟨6144 + t.val, by omega⟩ + ∑ t : Fin 1024, f ⟨7168 + t.val, by omega⟩ := by
  have h := Fin.sum_univ_tiles 8 1024 (by norm_num) f
  rw [Fin.sum_univ_eight] at h
  rw [h]
  have e : ∀ (n : ℕ) (hn : n < 8192) (n' : ℕ) (hn' : n' < 8192), n = n' → f ⟨n, hn⟩ = f ⟨n', hn'⟩ := by
    intro n hn n' hn' h'; subst h'; rfl
  have g : ∀ (a b : ℕ) (ha : ∀ t : Fin 1024, a + t.val < 8192) (hb : ∀ t : Fin 1024, b + t.val < 8192), a = b →
      ∑ t : Fin 1024, f ⟨a + t.val, ha t⟩ = ∑ t : Fin 1024, f ⟨b + t.val, hb t⟩ := by
    intro a b ha hb h'; subst h'; rfl
  refine Ideal.add_congr (Ideal.add_congr (Ideal.add_congr (Ideal.add_congr (Ideal.add_congr (Ideal.add_congr
    (Ideal.add_congr ?_ ?_) ?_) ?_) ?_) ?_) ?_) ?_
  all_goals exact Finset.sum_congr rfl fun t _ => e _ _ _ _ (by simp [finProdFinEquiv] <;> omega)

/-- A sum over 1024 keys is the sum of its two halves. -/
theorem sum_keys (f : Fin 1024 → EReal) :
    ∑ j, f j = ∑ t : Fin 512, f ⟨0 + t.val, by omega⟩ + ∑ t : Fin 512, f ⟨512 + t.val, by omega⟩ := by
  have h := Fin.sum_univ_tiles 2 512 (by norm_num) f
  rw [Fin.sum_univ_two] at h
  rw [h]
  have e : ∀ (n : ℕ) (hn : n < 1024) (n' : ℕ) (hn' : n' < 1024), n = n' → f ⟨n, hn⟩ = f ⟨n', hn'⟩ := by
    intro n hn n' hn' h'; subst h'; rfl
  congr 1
  all_goals exact Finset.sum_congr rfl fun t _ => e _ _ _ _ (by simp <;> omega)

/-! ## The query-gradient block: sixteen stores of 1024 rows, each reading the rows back -/

/-- A row the last store covers reads that store's payload. -/
theorem canon_hit (o : ℕ) (h) (p : (Rect.unit (s := S8192x128) ![o, 0] ![1024, 128] h).shape.Idx → Elt Ideal .f32)
    (L : List (View.Piece (Elt Ideal) S8192x128 .f32)) (i : Fin 8192) (r : Fin 1024) (d : Fin 128) (hi : i.val = o + r.val) :
    View.canon (Val := Elt Ideal) (s := S8192x128) (e := .f32) (⟨Rect.unit (s := S8192x128) ![o, 0] ![1024, 128] h, p⟩ :: L) (ix2 i d)
      = p (ix2 r d) := by
  have e : (ix2 i d : S8192x128.Idx) = (Rect.unit (s := S8192x128) ![o, 0] ![1024, 128] h).emb (ix2 r d) := by
    funext a
    apply Fin.ext
    rw [Rect.emb_apply]
    match a with
    | ⟨0, _⟩ => show i.val = o + 1 * r.val; omega
    | ⟨1, _⟩ => show d.val = 0 + 1 * d.val; omega
  rw [e]
  exact View.canon_cons_emb _ _ _ _

/-- A row the last store does not cover reads what the stores before left. -/
theorem canon_miss (o : ℕ) (h) (p : (Rect.unit (s := S8192x128) ![o, 0] ![1024, 128] h).shape.Idx → Elt Ideal .f32)
    (L : List (View.Piece (Elt Ideal) S8192x128 .f32)) (i : Fin 8192) (d : Fin 128) (h1 : i.val < o ∨ o + 1024 ≤ i.val) :
    View.canon (Val := Elt Ideal) (s := S8192x128) (e := .f32) (⟨Rect.unit (s := S8192x128) ![o, 0] ![1024, 128] h, p⟩ :: L) (ix2 i d)
      = View.canon (Val := Elt Ideal) (s := S8192x128) (e := .f32) L (ix2 i d) := by
  refine View.canon_cons_of_not_mem _ _ fun hm => ?_
  rw [Rect.mem_set_unit] at hm
  have h0 := hm 0
  have e1 : ((ix2 i d : S8192x128.Idx) 0 : ℕ) = i.val := rfl
  have e2 : (![o, 0] : Fin 2 → ℕ) 0 = o := rfl
  have e3 : (![1024, 128] : Fin 2 → ℕ) 0 = 1024 := rfl
  rw [e1, e2, e3] at h0
  omega

/-- Reading 1024 rows back after some stores: row `r` is row `o + r` of what the stores left. -/
theorem readCov_row {sig' : RefSig} {κ : Kind} {sp : Space} (w : View sig' κ sp S8192x128 .f32) (o : ℕ) (h)
    (L : List (View.Piece (Elt Ideal) S8192x128 .f32)) (i : Fin 8192) (r : Fin 1024) (d : Fin 128) (hi : i.val = o + r.val) :
    w.readCov (Val := Elt Ideal) L (Rect.unit (s := S8192x128) ![o, 0] ![1024, 128] h).toLoadRect (ix2 r d)
      = View.canon (Val := Elt Ideal) (s := S8192x128) (e := .f32) L (ix2 i d) := by
  rw [View.readCov_eq_canon']
  show View.canon (Val := Elt Ideal) (s := S8192x128) (e := .f32) L _ = _
  congr 1
  funext a
  apply Fin.ext
  match a with
  | ⟨0, _⟩ => show o + 1 * r.val = i.val; omega
  | ⟨1, _⟩ => show 0 + 1 * d.val = d.val; omega

/-- Reading 1024 rows of a whole block: row `r` is row `o + r`. -/
theorem ld_row (X : Vec Ideal S8192x128 .f32) (o : ℕ) (h) (i : Fin 8192) (r : Fin 1024) (d : Fin 128) (hi : i.val = o + r.val) :
    View.ld X (Rect.unit (s := S8192x128) ![o, 0] ![1024, 128] h) (ix2 r d) = X (ix2 i d) := by
  refine View.ld_unit_apply_of X _ _ _ _ _ fun a => ?_
  match a with
  | ⟨0, _⟩ => show i.val = o + r.val; omega
  | ⟨1, _⟩ => show d.val = 0 + d.val; omega

/-- One store of the query-gradient block: the rows as they were, plus the score gradients of 512 keys times those keys. -/
theorem accum_apply (X0 X2 : Vec Ideal S8192x128 .bf16) (X4 X5 : Vec Ideal S1x8192x1 .f32) (X6 X7 : Vec Ideal S1024x128 .bf16)
    (x : Vec Ideal S1024x128 .f32) (o b : ℕ) (h0 h1 h2) (i : Fin 8192) (r : Fin 1024) (d : Fin 128) (hb : b + 512 ≤ 1024)
    (hi : i = ⟨o + r.val, by have := h0 0; have e1 : (![o, 0] : Fin 2 → ℕ) 0 = o := rfl; have e2 : (![1024, 128] : Fin 2 → ℕ) 0 = 1024 := rfl; have e3 : S8192x128.size 0 = 8192 := rfl; omega⟩) :
    k0_pay1 (F := Ideal) (k0_pay57 (View.ld X6 (Rect.unit (s := S1024x128) ![b, 0] ![512, 128] h2)))
      (k0_pay61 (k0_pay57 (View.ld X6 (Rect.unit (s := S1024x128) ![b, 0] ![512, 128] h2)))
        (k0_pay58 (View.ld X7 (Rect.unit (s := S1024x128) ![b, 0] ![512, 128] h2)))
        (View.ld X0 (Rect.unit (s := S8192x128) ![o, 0] ![1024, 128] h0))
        (View.ld X4 (Rect.unit (s := S1x8192x1) ![0, o, 0] ![1, 1024, 1] h1))
        (View.ld X2 (Rect.unit (s := S8192x128) ![o, 0] ![1024, 128] h0))
        (View.ld X5 (Rect.unit (s := S1x8192x1) ![0, o, 0] ![1, 1024, 1] h1))) x (ix2 r d)
      = x (ix2 r d) + ∑ t : Fin 512, dscore X0 X2 X4 X5 X6 X7 i ⟨b + t.val, by omega⟩ * X6 (ix2 ⟨b + t.val, by omega⟩ d) := by
  subst hi
  pointwise [k0_pay1, k0_pay57, k0_pay58, k0_pay60, k0_pay61, dscore, prob]

/-- A store of the whole block: every row reads its payload. -/
theorem canon_whole (h) (p : (Rect.unit (s := S8192x128) ![0, 0] ![8192, 128] h).shape.Idx → Elt Ideal .f32)
    (L : List (View.Piece (Elt Ideal) S8192x128 .f32)) (i : Fin 8192) (d : Fin 128) :
    View.canon (Val := Elt Ideal) (s := S8192x128) (e := .f32) (⟨Rect.unit (s := S8192x128) ![0, 0] ![8192, 128] h, p⟩ :: L) (ix2 i d)
      = p (ix2 i d) := by
  have e : (ix2 i d : S8192x128.Idx) = (Rect.unit (s := S8192x128) ![0, 0] ![8192, 128] h).emb (ix2 i d) := by
    funext a
    apply Fin.ext
    rw [Rect.emb_apply]
    match a with
    | ⟨0, _⟩ => show i.val = 0 + 1 * i.val; omega
    | ⟨1, _⟩ => show d.val = 0 + 1 * d.val; omega
  exact (congrArg _ e).trans (View.canon_cons_emb _ _ _ _)

/-- Reading the whole block back after some stores. -/
theorem readCov_whole {sig' : RefSig} {κ : Kind} {sp : Space} (w : View sig' κ sp S8192x128 .f32) (h)
    (L : List (View.Piece (Elt Ideal) S8192x128 .f32)) (i : Fin 8192) (d : Fin 128) :
    w.readCov (Val := Elt Ideal) L (Rect.unit (s := S8192x128) ![0, 0] ![8192, 128] h).toLoadRect (ix2 i d)
      = View.canon (Val := Elt Ideal) (s := S8192x128) (e := .f32) L (ix2 i d) := by
  rw [View.readCov_eq_canon']
  show View.canon (Val := Elt Ideal) (s := S8192x128) (e := .f32) L _ = _
  congr 1
  funext a
  apply Fin.ext
  match a with
  | ⟨0, _⟩ => show 0 + 1 * i.val = i.val; omega
  | ⟨1, _⟩ => show 0 + 1 * d.val = d.val; omega

/-- The scaling of the finished block. -/
theorem scale_apply (x : Vec Ideal S8192x128 .f32) (i : Fin 8192) (d : Fin 128) :
    k0_pay4 (F := Ideal) x (ix2 i d) = x (ix2 i d) * Ideal.ofBits .f32 0x3DD105EC#32 := by
  pointwise [k0_pay4]

/-- The zeros a head starts from. -/
theorem zeros_apply (i : Fin 8192) (d : Fin 128) : k0_pay5 (F := Ideal) (ix2 i d) = 0 := by
  pointwise [k0_pay5]

variable (m : (ℓ : Loc nD τ sig) → Buf (Elt Ideal) ℓ)

/-- What a grid point reads: the head's scaled queries. -/
abbrev qB (c : Dev nD) (t : Fin cfg0.N) : Vec Ideal S8192x128 .bf16 := iblk m c 0 t
/-- What a grid point reads: the same queries, transposed. -/
abbrev qtB (c : Dev nD) (t : Fin cfg0.N) : Vec Ideal S128x8192 .bf16 := iblk m c 1 t
/-- What a grid point reads: the head's cotangents. -/
abbrev oB (c : Dev nD) (t : Fin cfg0.N) : Vec Ideal S8192x128 .bf16 := iblk m c 2 t
/-- What a grid point reads: the same cotangents, transposed. -/
abbrev otB (c : Dev nD) (t : Fin cfg0.N) : Vec Ideal S128x8192 .bf16 := iblk m c 3 t
/-- What a grid point reads: the head's log-sum-exps. -/
abbrev lB (c : Dev nD) (t : Fin cfg0.N) : Vec Ideal S1x8192x1 .f32 := iblk m c 4 t
/-- What a grid point reads: the head's deltas. -/
abbrev eB (c : Dev nD) (t : Fin cfg0.N) : Vec Ideal S1x8192x1 .f32 := iblk m c 5 t
/-- What a grid point reads: the block of keys. -/
abbrev kB (c : Dev nD) (t : Fin cfg0.N) : Vec Ideal S1024x128 .bf16 := iblk m c 6 t
/-- What a grid point reads: the block of values. -/
abbrev vB (c : Dev nD) (t : Fin cfg0.N) : Vec Ideal S1024x128 .bf16 := iblk m c 7 t

/-- The eight row chunks. -/
theorem chunk_cases (i : Fin 8192) : ∃ r : Fin 1024, i.val = 0 + r.val ∨ i.val = 1024 + r.val ∨ i.val = 2048 + r.val ∨
    i.val = 3072 + r.val ∨ i.val = 4096 + r.val ∨ i.val = 5120 + r.val ∨ i.val = 6144 + r.val ∨ i.val = 7168 + r.val :=
  ⟨⟨i.val % 1024, by omega⟩, by have := i.isLt; simp only; omega⟩

set_option maxHeartbeats 1000000 in
/-- A middle grid point of a head adds its key block's share to the query gradients. -/
theorem dq_mid (c : Dev nD) (t : Fin cfg0.N) (h0 : ¬t.val % 8 = 0) (h1 : ¬t.val % 8 = 7) (i : Fin 8192) (d : Fin 128) :
    (outsAt0 m c t.val t.isLt).1 (ix2 i d)
      = (outsAt0 m c (t.val - 1) (Nat.lt_of_le_of_lt (Nat.sub_le _ _) t.isLt)).1 (ix2 i d)
        + ∑ j : Fin 1024, dscore (qB m c t) (oB m c t) (lB m c t) (eB m c t) (kB m c t) (vB m c t) i j
            * kB m c t (ix2 j d) := by
  rw [sum_keys, ← add_assoc, outsAt0_B m c t h0 h1]
  frame_out
  obtain ⟨r, hr⟩ := chunk_cases i
  rcases hr with hr | hr | hr | hr | hr | hr | hr | hr <;>
  ( repeat (first | refine (canon_hit _ _ _ _ i r d (by omega)).trans ?_ | refine (canon_miss _ _ _ _ i d (by omega)).trans ?_)
    refine (accum_apply _ _ _ _ _ _ _ _ _ _ _ _ i r d (by omega) (Fin.ext (by exact hr))).trans (congrArg (· + _) ?_)
    refine (readCov_row _ _ _ _ i r d (by omega)).trans ?_
    repeat (first | refine (canon_hit _ _ _ _ i r d (by omega)).trans ?_ | refine (canon_miss _ _ _ _ i d (by omega)).trans ?_)
    refine (accum_apply _ _ _ _ _ _ _ _ _ _ _ _ i r d (by omega) (Fin.ext (by exact hr))).trans (congrArg (· + _) ?_)
    exact ld_row _ _ _ i r d (by omega))

set_option maxHeartbeats 1000000 in
/-- The first grid point of a head leaves its key block's share of the query gradients. -/
theorem dq_first (c : Dev nD) (t : Fin cfg0.N) (h0 : t.val % 8 = 0) (h1 : ¬t.val % 8 = 7) (i : Fin 8192) (d : Fin 128) :
    (outsAt0 m c t.val t.isLt).1 (ix2 i d)
      = ∑ j : Fin 1024, dscore (qB m c t) (oB m c t) (lB m c t) (eB m c t) (kB m c t) (vB m c t) i j
            * kB m c t (ix2 j d) := by
  rw [sum_keys, ← zero_add (∑ t : Fin 512, _), outsAt0_A m c t h0 h1]
  frame_out
  obtain ⟨r, hr⟩ := chunk_cases i
  rcases hr with hr | hr | hr | hr | hr | hr | hr | hr <;>
  ( repeat (first | refine (canon_hit _ _ _ _ i r d (by omega)).trans ?_ | refine (canon_miss _ _ _ _ i d (by omega)).trans ?_)
    refine (accum_apply _ _ _ _ _ _ _ _ _ _ _ _ i r d (by omega) (Fin.ext (by exact hr))).trans (congrArg (· + _) ?_)
    refine (readCov_row _ _ _ _ i r d (by omega)).trans ?_
    repeat (first | refine (canon_hit _ _ _ _ i r d (by omega)).trans ?_ | refine (canon_miss _ _ _ _ i d (by omega)).trans ?_)
    refine (accum_apply _ _ _ _ _ _ _ _ _ _ _ _ i r d (by omega) (Fin.ext (by exact hr))).trans (congrArg (· + _) ?_)
    refine (readCov_row _ _ _ _ i r d (by omega)).trans ?_
    repeat (refine (canon_miss _ _ _ _ i d (by omega)).trans ?_)
    refine (canon_whole _ _ _ i d).trans ?_
    exact zeros_apply i d)

set_option maxHeartbeats 1000000 in
/-- The last grid point of a head adds its key block's share and scales the query gradients. -/
theorem dq_last (c : Dev nD) (t : Fin cfg0.N) (h0 : ¬t.val % 8 = 0) (h1 : t.val % 8 = 7) (i : Fin 8192) (d : Fin 128) :
    (outsAt0 m c t.val t.isLt).1 (ix2 i d)
      = ((outsAt0 m c (t.val - 1) (Nat.lt_of_le_of_lt (Nat.sub_le _ _) t.isLt)).1 (ix2 i d)
        + ∑ j : Fin 1024, dscore (qB m c t) (oB m c t) (lB m c t) (eB m c t) (kB m c t) (vB m c t) i j
            * kB m c t (ix2 j d)) * Ideal.ofBits .f32 0x3DD105EC#32 := by
  rw [sum_keys, ← add_assoc, outsAt0_C m c t h0 h1]
  frame_out
  refine (scale_apply _ _ _).trans (congrArg (· * _) ?_)
  refine (readCov_whole _ _ _ i d).trans ?_
  obtain ⟨r, hr⟩ := chunk_cases i
  rcases hr with hr | hr | hr | hr | hr | hr | hr | hr <;>
  ( repeat (first | refine (canon_hit _ _ _ _ i r d (by omega)).trans ?_ | refine (canon_miss _ _ _ _ i d (by omega)).trans ?_)
    refine (accum_apply _ _ _ _ _ _ _ _ _ _ _ _ i r d (by omega) (Fin.ext (by exact hr))).trans (congrArg (· + _) ?_)
    refine (readCov_row _ _ _ _ i r d (by omega)).trans ?_
    repeat (first | refine (canon_hit _ _ _ _ i r d (by omega)).trans ?_ | refine (canon_miss _ _ _ _ i d (by omega)).trans ?_)
    refine (accum_apply _ _ _ _ _ _ _ _ _ _ _ _ i r d (by omega) (Fin.ext (by exact hr))).trans (congrArg (· + _) ?_)
    exact ld_row _ _ _ i r d (by omega))

/-! ## The key- and value-gradient blocks: two stores of 512 keys, each a sum over all query rows -/

/-- A grid point's value gradients: weights times cotangents, summed over the query rows. -/
theorem dv_block (c : Dev nD) (t : Fin cfg0.N) (y : S1024x128.Idx) :
    (outsAt0 m c t.val t.isLt).2.2 y
      = ∑ i : Fin 8192, otB m c t (ix2 (y 1) i)
          * prob (qB m c t) (lB m c t) (kB m c t) i (y 0) := by
  rw [sum_rows]
  rcases Nat.lt_or_ge (t.val % 8) 1 with hlo | hlo
  · rw [outsAt0_A m c t (by omega) (by omega)]
    frame_out
    clear hlo
    canon_tiles x h <;>
    · open_payloads
      pointwise [prob]
      have e1 : y 1 = (⟨(x 1).val, x1_lt⟩ : Fin 128) := Fin.ext h1
      first
        | (have e0 : y 0 = (⟨512 + (x 0).val, by omega⟩ : Fin 1024) := Fin.ext h0; rw [e0, e1]; rfl)
        | (have e0 : y 0 = (⟨(x 0).val, by omega⟩ : Fin 1024) := Fin.ext h0; rw [e0, e1]; rfl)
  rcases Nat.lt_or_ge (t.val % 8) 7 with hmid | hmid
  · rw [outsAt0_B m c t (by omega) (by omega)]
    frame_out
    clear hlo hmid
    canon_tiles x h <;>
    · open_payloads
      pointwise [prob]
      have e1 : y 1 = (⟨(x 1).val, x1_lt⟩ : Fin 128) := Fin.ext h1
      first
        | (have e0 : y 0 = (⟨512 + (x 0).val, by omega⟩ : Fin 1024) := Fin.ext h0; rw [e0, e1]; rfl)
        | (have e0 : y 0 = (⟨(x 0).val, by omega⟩ : Fin 1024) := Fin.ext h0; rw [e0, e1]; rfl)
  · rw [outsAt0_C m c t (by omega) (by omega)]
    frame_out
    clear hlo hmid
    canon_tiles x h <;>
    · open_payloads
      pointwise [prob]
      have e1 : y 1 = (⟨(x 1).val, x1_lt⟩ : Fin 128) := Fin.ext h1
      first
        | (have e0 : y 0 = (⟨512 + (x 0).val, by omega⟩ : Fin 1024) := Fin.ext h0; rw [e0, e1]; rfl)
        | (have e0 : y 0 = (⟨(x 0).val, by omega⟩ : Fin 1024) := Fin.ext h0; rw [e0, e1]; rfl)

set_option maxHeartbeats 1000000 in
/-- A grid point's key gradients: score gradients times scaled queries, summed over the query rows. -/
theorem dk_block (c : Dev nD) (t : Fin cfg0.N) (y : S1024x128.Idx) :
    (outsAt0 m c t.val t.isLt).2.1 y
      = ∑ i : Fin 8192, qtB m c t (ix2 (y 1) i)
          * dscore (qB m c t) (oB m c t) (lB m c t) (eB m c t) (kB m c t) (vB m c t) i (y 0) := by
  rw [sum_rows]
  rcases Nat.lt_or_ge (t.val % 8) 1 with hlo | hlo
  · rw [outsAt0_A m c t (by omega) (by omega)]
    frame_out
    clear hlo
    canon_tiles x h <;>
    · open_payloads
      pointwise [prob, dscore]
      have e1 : y 1 = (⟨(x 1).val, x1_lt⟩ : Fin 128) := Fin.ext h1
      first
        | (have e0 : y 0 = (⟨512 + (x 0).val, by omega⟩ : Fin 1024) := Fin.ext h0; rw [e0, e1]; rfl)
        | (have e0 : y 0 = (⟨(x 0).val, by omega⟩ : Fin 1024) := Fin.ext h0; rw [e0, e1]; rfl)
  rcases Nat.lt_or_ge (t.val % 8) 7 with hmid | hmid
  · rw [outsAt0_B m c t (by omega) (by omega)]
    frame_out
    clear hlo hmid
    canon_tiles x h <;>
    · open_payloads
      pointwise [prob, dscore]
      have e1 : y 1 = (⟨(x 1).val, x1_lt⟩ : Fin 128) := Fin.ext h1
      first
        | (have e0 : y 0 = (⟨512 + (x 0).val, by omega⟩ : Fin 1024) := Fin.ext h0; rw [e0, e1]; rfl)
        | (have e0 : y 0 = (⟨(x 0).val, by omega⟩ : Fin 1024) := Fin.ext h0; rw [e0, e1]; rfl)
  · rw [outsAt0_C m c t (by omega) (by omega)]
    frame_out
    clear hlo hmid
    canon_tiles x h <;>
    · open_payloads
      pointwise [prob, dscore]
      have e1 : y 1 = (⟨(x 1).val, x1_lt⟩ : Fin 128) := Fin.ext h1
      first
        | (have e0 : y 0 = (⟨512 + (x 0).val, by omega⟩ : Fin 1024) := Fin.ext h0; rw [e0, e1]; rfl)
        | (have e0 : y 0 = (⟨(x 0).val, by omega⟩ : Fin 1024) := Fin.ext h0; rw [e0, e1]; rfl)

end Cert.KernelIdeal.Body

end
-- ==== Proof.Math.lean ====
module

public import proofs.«01_k».proof.Proof.Body

/-! Softmax attention and its gradients over the reals. -/

@[expose] public section

set_option maxRecDepth 16384

noncomputable section

open Idealize.ShloMosaic Idealize.ShloMosaic.TcCoe Idealize.SL.Sem

namespace Cert.Attn

/-- The scale of the scores as a real number. -/
def κ : ℝ := 13698540 / 134217728

/-- A value lane of a head lies among the 512 columns. -/
theorem wide (h : Fin 8) (d : Fin 64) : h.val * 64 + d.val < 512 := by
  omega

/-- The constant the scores are scaled by is the real scale. -/
theorem scale_eq : Ideal.ofBits .f32 0x3DD105EC#32 = (κ : EReal) := by
  simp [κ, Ideal.ofBits, Ideal.ieee, -EReal.coe_mul]; norm_num

/-- The word of negative infinity is the bottom element. -/
theorem bottom_eq : Ideal.ofBits .f32 0xFF800000#32 = ⊥ := by
  simp [Ideal.ofBits, Ideal.ieee]

/-- The word of infinity is the top element. -/
theorem infinity_eq : Ideal.ofBits .f32 0x7F800000#32 = ⊤ := by
  simp [Ideal.ofBits, Ideal.ieee]

/-- A finite sum of reals is the same sum taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals is a real. -/
theorem fold_max_real {ι : Type} (s : Finset ι) (hs : s.Nonempty) (f : ι → ℝ) :
    ∃ M : ℝ, Finset.fold max (⊥ : EReal) (fun x => (f x : EReal)) s = (M : EReal) := by
  classical
  induction hs using Finset.Nonempty.cons_induction with
  | singleton a => exact ⟨f a, by simp⟩
  | cons a s ha hs ih =>
      obtain ⟨M, hM⟩ := ih
      refine ⟨max (f a) M, ?_⟩
      rw [Finset.fold_cons, hM, EReal.coe_strictMono.monotone.map_max]

/-- A sum over 128 lanes is the sum over the first 64, the next 32 and the last 32. -/
theorem sum_lanes {A : Type} [AddCommMonoid A] (f : Fin 128 → A) :
    ∑ l, f l = ∑ d : Fin 64, f ⟨d, by omega⟩ + (∑ e : Fin 32, f ⟨64 + e, by omega⟩ + ∑ e : Fin 32, f ⟨96 + e, by omega⟩) := by
  rw [show (∑ l, f l) = ∑ l : Fin (64 + (32 + 32)), f l from rfl, Fin.sum_univ_add, Fin.sum_univ_add]
  rfl

/-- A sum over 128 lanes is the sum over the first 64 and the last 64. -/
theorem sum_halves {A : Type} [AddCommMonoid A] (f : Fin 128 → A) :
    ∑ l, f l = ∑ d : Fin 64, f ⟨d, by omega⟩ + ∑ e : Fin 64, f ⟨64 + e, by omega⟩ := by
  rw [show (∑ l, f l) = ∑ l : Fin (64 + 64), f l from rfl, Fin.sum_univ_add]
  rfl

section Row

variable {n : ℕ} [NeZero n] (s dP : Fin n → ℝ) (M : ℝ)

/-- The softmax of a row of scores. -/
def softmax (j : Fin n) : ℝ := Real.exp (s j) / ∑ x, Real.exp (s x)

/-- The gradient of a row of scores, from the gradient of its probabilities. -/
def dscore (j : Fin n) : ℝ := softmax s j * (dP j - ∑ x, softmax s x * dP x)

/-- A row's sum of shifted exponentials is positive. -/
theorem total_pos : 0 < ∑ x, Real.exp (s x - M) :=
  Finset.sum_pos (fun x _ => Real.exp_pos _) ⟨0, Finset.mem_univ _⟩

/-- Shifting a row of scores leaves its softmax. -/
theorem softmax_shift (j : Fin n) : Real.exp (s j - M) / ∑ x, Real.exp (s x - M) = softmax s j := by
  unfold softmax
  simp only [Real.exp_sub]
  rw [← Finset.sum_div, div_div_div_cancel_right₀ (Real.exp_ne_zero M)]

/-- The exponential of a score less its row's log-sum-exp is the softmax. -/
theorem softmax_lse (j : Fin n) : Real.exp (s j - (M + Real.log (∑ x, Real.exp (s x - M)))) = softmax s j := by
  rw [← sub_sub, Real.exp_sub, Real.exp_log (total_pos s M), softmax_shift]

/-- The gradient through a quotient of exponentials by their sum. -/
theorem dscore_quot (j : Fin n) :
    (dP j / (∑ x, Real.exp (s x - M))
      + -(∑ x, dP x * (1 / ((∑ x, Real.exp (s x - M)) * ∑ x, Real.exp (s x - M))) * Real.exp (s x - M))) * Real.exp (s j - M)
    = dscore s dP j := by
  have hL := (total_pos s M).ne'
  unfold dscore
  simp only [← softmax_shift s M]
  have e : ∀ x, dP x * (1 / ((∑ x, Real.exp (s x - M)) * ∑ x, Real.exp (s x - M))) * Real.exp (s x - M)
      = (Real.exp (s x - M) / (∑ x, Real.exp (s x - M)) * dP x) / (∑ x, Real.exp (s x - M)) := fun x => by field_simp
  rw [Finset.sum_congr rfl (fun x _ => e x), ← Finset.sum_div]
  field_simp
  ring

end Row

variable (r0 : Fin 8192 → Fin 8 → Fin 64 → ℝ) (r1 : Fin 8192 → Fin 8 → Fin 32 → ℝ) (r2 : Fin 8192 → Fin 8 → Fin 64 → ℝ)
  (r3 : Fin 8192 → Fin 32 → ℝ) (r4 r5 : Fin 8192 → Fin 8 → Fin 64 → ℝ)

/-- The scaled score of a query and a key. -/
def score (h : Fin 8) (i j : Fin 8192) : ℝ := (∑ d, r0 i h d * r2 j h d + ∑ e, r1 i h e * r3 j e) * κ

/-- The gradient of a probability. -/
def dprob (h : Fin 8) (i j : Fin 8192) : ℝ := ∑ d, r5 i h d * r4 j h d

/-- An attention probability. -/
def prob (h : Fin 8) (i j : Fin 8192) : ℝ := softmax (score r0 r1 r2 r3 h i) j

/-- The gradient of a score before its scale. -/
def grad (h : Fin 8) (i j : Fin 8192) : ℝ := dscore (score r0 r1 r2 r3 h i) (dprob r4 r5 h i) j

/-- Two arrays of one head side by side, padded with zeros to 128 lanes. -/
def lanes (u : Fin 64 → ℝ) (v : Fin 32 → ℝ) (l : Fin 128) : ℝ :=
  if h : l.val < 96 then if h' : l.val < 64 then u ⟨l, h'⟩ else v ⟨l - 64, by omega⟩ else 0

/-- One array of one head, padded with zeros to 128 lanes. -/
def lanes64 (u : Fin 64 → ℝ) (l : Fin 128) : ℝ := if h : l.val < 64 then u ⟨l, h⟩ else 0

/-- The gradient of the queries at a row, a head and a lane. -/
def dq (i : Fin 8192) (h : Fin 8) (l : Fin 128) : ℝ :=
  lanes (fun d => ∑ j, grad r0 r1 r2 r3 r4 r5 h i j * κ * r2 j h d) (fun e => ∑ j, grad r0 r1 r2 r3 r4 r5 h i j * κ * r3 j e) l

/-- The gradient of the keys at a row, a head and a lane. -/
def dk (j : Fin 8192) (h : Fin 8) (l : Fin 128) : ℝ :=
  lanes (fun d => ∑ i, grad r0 r1 r2 r3 r4 r5 h i j * κ * r0 i h d) (fun e => ∑ i, grad r0 r1 r2 r3 r4 r5 h i j * κ * r1 i h e) l

/-- The gradient of the values at a row, a head and a lane. -/
def dv (j : Fin 8192) (h : Fin 8) (l : Fin 128) : ℝ :=
  lanes64 (fun d => ∑ i, r5 i h d * prob r0 r1 r2 r3 h i j) l

/-- The product of two padded rows. -/
theorem lanes_mul (u u' : Fin 64 → ℝ) (v v' : Fin 32 → ℝ) (a : ℝ) :
    ∑ l, (lanes u v l * a) * lanes u' v' l = (∑ d, u d * u' d + ∑ e, v e * v' e) * a := by
  rw [sum_lanes]
  have h1 : ∀ d : Fin 64, lanes u v ⟨d, by omega⟩ * a * lanes u' v' ⟨d, by omega⟩ = u d * u' d * a := fun d => by
    have := d.isLt
    simp only [lanes, show d.val < 96 by omega, this, dite_true]; ring
  have h2 : ∀ e : Fin 32, lanes u v ⟨64 + e, by omega⟩ * a * lanes u' v' ⟨64 + e, by omega⟩ = v e * v' e * a := fun e => by
    have := e.isLt
    simp only [lanes, show 64 + e.val < 96 by omega, show ¬ 64 + e.val < 64 by omega, dite_true, dite_false, Nat.add_sub_cancel_left]; ring
  have h3 : ∀ e : Fin 32, lanes u v ⟨96 + e, by omega⟩ * a * lanes u' v' ⟨96 + e, by omega⟩ = 0 := fun e => by
    simp only [lanes, show ¬ 96 + e.val < 96 by omega, dite_false]; ring
  rw [Finset.sum_congr rfl (fun d _ => h1 d), Finset.sum_congr rfl (fun e _ => h2 e), Finset.sum_congr rfl (fun e _ => h3 e),
    ← Finset.sum_mul, ← Finset.sum_mul, Finset.sum_const_zero]
  ring

/-- The product of a row padded with zeros and any row that starts with a given one. -/
theorem lanes64_mul (u u' : Fin 64 → ℝ) (f : Fin 128 → ℝ) (hf : ∀ d : Fin 64, f ⟨d, by omega⟩ = u' d) :
    ∑ l, lanes64 u l * f l = ∑ d, u d * u' d := by
  rw [sum_halves]
  have h1 : ∀ d : Fin 64, lanes64 u ⟨d, by omega⟩ * f ⟨d, by omega⟩ = u d * u' d := fun d => by
    simp only [lanes64, hf, d.isLt, dite_true]
  have h2 : ∀ e : Fin 64, lanes64 u ⟨64 + e, by omega⟩ * f ⟨64 + e, by omega⟩ = 0 := fun e => by
    simp only [lanes64, show ¬ 64 + e.val < 64 by omega, dite_false, zero_mul]
  rw [Finset.sum_congr rfl (fun d _ => h1 d), Finset.sum_congr rfl (fun e _ => h2 e), Finset.sum_const_zero, add_zero]

/-- The queries' gradient as a product with the padded keys, scaled last. -/
theorem dq_eq (i : Fin 8192) (h : Fin 8) (l : Fin 128) :
    (∑ j, grad r0 r1 r2 r3 r4 r5 h i j * lanes (r2 j h) (r3 j) l) * κ = dq r0 r1 r2 r3 r4 r5 i h l := by
  rw [Finset.sum_mul]
  simp only [dq, lanes]
  split_ifs
  · exact Finset.sum_congr rfl fun j _ => by ring
  · exact Finset.sum_congr rfl fun j _ => by ring
  · simp

/-- The keys' gradient as a product with the padded scaled queries. -/
theorem dk_eq (j : Fin 8192) (h : Fin 8) (l : Fin 128) :
    ∑ i, (lanes (r0 i h) (r1 i h) l * κ) * grad r0 r1 r2 r3 r4 r5 h i j = dk r0 r1 r2 r3 r4 r5 j h l := by
  simp only [dk, lanes]
  split_ifs
  · exact Finset.sum_congr rfl fun j _ => by ring
  · exact Finset.sum_congr rfl fun j _ => by ring
  · simp

/-- The values' gradient as a product with the padded cotangents. -/
theorem dv_eq (j : Fin 8192) (h : Fin 8) (l : Fin 128) :
    ∑ i, lanes64 (r5 i h) l * prob r0 r1 r2 r3 h i j = dv r0 r1 r2 r3 r5 j h l := by
  simp only [dv, lanes64]
  split_ifs
  · rfl
  · simp

/-- The gradient of an output times the output is the sum of the probabilities times their gradients. -/
theorem delta_eq (h : Fin 8) (i : Fin 8192) :
    ∑ d, r5 i h d * ∑ j, r4 j h d * prob r0 r1 r2 r3 h i j = ∑ j, prob r0 r1 r2 r3 h i j * dprob r4 r5 h i j := by
  simp only [dprob, Finset.mul_sum]
  rw [Finset.sum_comm]
  exact Finset.sum_congr rfl fun j _ => Finset.sum_congr rfl fun d _ => by ring

end Cert.Attn
end
-- ==== Proof.Finite.lean ====
module

public import proofs.«01_k».proof.Pre_finite
public import proofs.«01_k».proof.Proof.Math
public import Idealize.ShloMosaic.Lib.ReduceAll
public import Idealize.ShloMosaic.Lib.WordCmp

/-! What the precondition says: every entry of every argument is a real number. -/

@[expose] public section

set_option maxRecDepth 16384

noncomputable section

open Idealize.ShloMosaic Idealize.ShloMosaic.TcCoe Idealize.SL.Sem

namespace Cert.Pre_finite

/-- The side conditions of the precondition's operations. -/
theorem facts : Facts where
  bcast_S_S8192x8x64 := by decide
  reducesTo_S8192x8x64_S_d0_1_2 := by decide
  h_S_ := by decide
  bcast_S_S8192x8x32 := by decide
  reducesTo_S8192x8x32_S_d0_1_2 := by decide
  bcast_S_S8192x32 := by decide
  reducesTo_S8192x32_S_d0_1 := by decide
  bcast_S_S8192x512 := by decide
  reducesTo_S8192x512_S_d0_1 := by decide

/-- An extended real whose absolute value is below infinity is real. -/
theorem real_of_lt (x : EReal) (h : Ideal.cmp .olt (max x (-x)) (Ideal.ofBits .f32 0x7F800000#32) = 1#1) : ∃ r : ℝ, x = (r : EReal) := by
  rw [Cert.Attn.infinity_eq] at h
  have hx : max x (-x) < ⊤ := by
    by_contra hn
    simp [Ideal.cmp, hn] at h
  induction x with
  | bot => simp at hx
  | coe r => exact ⟨r, rfl⟩
  | top => simp at hx

/-- An array whose absolute values are all below infinity is real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, x i = (r : EReal) :=
  haveI : Subsingleton S_.Idx := ⟨fun a b => funext fun k => k.elim0⟩
  real_of_lt _ (Host.reduce_andi_all _ _ hr hu j e i)

/-- Under the precondition every entry of every argument is real. -/
theorem reals [Facts] (x0 : FVec Ideal S8192x8x64 .f32) (x1 : FVec Ideal S8192x8x32 .f32) (x2 : FVec Ideal S8192x8x64 .f32)
    (x3 : FVec Ideal S8192x32 .f32) (x4 : FVec Ideal S8192x8x64 .f32) (x5 : FVec Ideal S8192x512 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h' := congrFun h (Shape.Idx.first (s := S_) Facts.h_S_)
  simp only [fn, fn_part1, andi_apply, IntOp.andi_eq_one] at h'
  obtain ⟨⟨⟨⟨⟨h0, h1⟩, h2⟩, h3⟩, h4⟩, h5⟩ := h'
  exact ⟨real_of_all x0 _ _ _ _ h0, real_of_all x1 _ _ _ _ h1, real_of_all x2 _ _ _ _ h2, real_of_all x3 _ _ _ _ h3,
    real_of_all x4 _ _ _ _ h4, real_of_all x5 _ _ _ _ h5⟩

end Cert.Pre_finite
end
-- ==== Proof.Frames.lean ====
module

public import proofs.«01_k».proof.Defs
public import proofs.«01_k».proof.Proof.Finite
public import proofs.«01_k».proof.Proof.Gen.Kernel.Frame
public import proofs.«01_k».proof.Proof.Gen.KernelIdeal.Frame
public import proofs.«01_k».proof.Proof.Gen.ReferenceIdeal.Run

/-! Each program runs, leaves its arguments as they were and ends with every counter at zero. -/

@[expose] public section

set_option maxRecDepth 16384

noncomputable section

open Idealize.ShloMosaic Idealize.ShloMosaic.TcCoe Idealize.SL.Sem

namespace Cert.Frames

/-- The kernel runs and ends quiet. -/
theorem kernel : Cert.quiescent_Kernel := fun m ρ _ => Cert.Kernel.Gen.frame m ρ

/-- The kernel over the extended reals runs and ends quiet. -/
theorem kernelIdeal : Cert.quiescent_KernelIdeal := fun m ρ _ => Cert.KernelIdeal.Gen.frame m ρ

/-- The reference over the extended reals runs and ends quiet. -/
theorem referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same of the kernel under the precondition. -/
theorem kernelIdeal_finite [Cert.Pre_finite.Facts] : Cert.quiescent_KernelIdeal_pre_finite := fun m ρ _ => Cert.KernelIdeal.Gen.frame m ρ

/-- The same of the reference under the precondition. -/
theorem referenceIdeal_finite [Cert.Pre_finite.Facts] : Cert.quiescent_ReferenceIdeal_pre_finite := fun m ρ _ => referenceIdeal m ρ trivial

/-- The kernel over the extended reals is the kernel's own text. -/
theorem preserves : Cert.preserves_Kernel_KernelIdeal := trivial

end Cert.Frames
end
-- ==== Proof.Frames2.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run

/-! The forward attention call and its reference run, leave their arguments as they were and end with every counter at zero. -/

@[expose] public section

set_option maxRecDepth 16384

noncomputable section

open Idealize.ShloMosaic Idealize.ShloMosaic.TcCoe Idealize.SL.Sem

namespace Cert.Frames

/-- The kernel runs and ends quiet. -/
theorem kernel2 : Cert.quiescent_Kernel2 := fun m ρ _ => Cert.Kernel2.Gen.frame m ρ

/-- The kernel over the extended reals runs and ends quiet. -/
theorem kernel2Ideal : Cert.quiescent_Kernel2Ideal := fun m ρ _ => Cert.Kernel2Ideal.Gen.frame m ρ

/-- The reference over the extended reals runs and ends quiet. -/
theorem reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The same of the kernel under the precondition. -/
theorem kernel2Ideal_finite [Cert.Pre_finite2.Facts] : Cert.quiescent_Kernel2Ideal_pre_finite2 := fun m ρ _ => Cert.Kernel2Ideal.Gen.frame m ρ

/-- The same of the reference under the precondition. -/
theorem reference2Ideal_finite [Cert.Pre_finite2.Facts] : Cert.quiescent_Reference2Ideal_pre_finite2 := fun m ρ _ => reference2Ideal m ρ trivial

/-- The two printed kernels are the same program. -/
theorem preserves2 : Cert.preserves_Kernel2_Kernel2Ideal := trivial

end Cert.Frames
end
-- ==== Proof.NormFrames.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run

/-! The product with the RMS-norm backward and its reference run, leave their arguments as they were and end with every
counter at zero. -/

@[expose] public section

set_option maxRecDepth 16384

noncomputable section

open Idealize.ShloMosaic Idealize.ShloMosaic.TcCoe Idealize.SL.Sem

namespace Cert.Frames

/-- The kernel runs and ends quiet. -/
theorem kernel3 : Cert.quiescent_Kernel3 := fun m ρ _ => Cert.Kernel3.Gen.frame m ρ

/-- The kernel over the extended reals runs and ends quiet. -/
theorem kernel3Ideal : Cert.quiescent_Kernel3Ideal := fun m ρ _ => Cert.Kernel3Ideal.Gen.frame m ρ

/-- The reference over the extended reals runs and ends quiet. -/
theorem reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two printed kernels are the same program. -/
theorem preserves3 : Cert.preserves_Kernel3_Kernel3Ideal := trivial

end Cert.Frames
end
-- ==== Proof.WupRun.lean ====
module

public import proofs.«01_k».proof.Proof.Gen.Kernel4Ideal.Frame

/-! One grid point of the accumulated product, run on any buffers. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel4Ideal.Run

open Cert.Kernel4Ideal Cert.Kernel4Ideal.Gen

variable {F : FTy → Type} [FloatOps F]

/-- The assertions about this program's memory. -/
abbrev Asrt (F : FTy → Type) [FloatOps F] : Type := sProp (MT nD τ sig Unit (Elt F) ℕ (UR sig nD τ) ℕ)

/-- The grid point is the last of its output block. -/
abbrev isLast (i : grid0.Coords) : Prop := k0_cond1 i = 1#1

set_option maxHeartbeats 4000000 in
/-- A point that is not the last of its block: it keeps its inputs and the output buffer and leaves the listed stores in the accumulator. -/
def pointMid (c : Dev nD) (i : grid0.Coords) (a : Memref sig .tc .vmem S2048x1024 .bf16) (ha : a.IsWhole) (b : Memref sig .tc .vmem S1x2048x1408 .bf16) (hb : b.IsWhole)
    (o : Memref sig .tc .vmem S1x1024x1408 .f32) (ho : o.IsWhole) (s : Memref sig .tc .vmem S1024x1408 .f32) (hs : s.IsWhole) (hl : ¬isLast i)
    (x : Vec F S2048x1024 .bf16) (y : Vec F S1x2048x1408 .bf16) (z : Vec F S1024x1408 .f32) :
    { L : List (View.Piece (Elt F) S1024x1408 .f32) // ∀ (w : Vec F S1x1024x1408 .f32) (E : Set ℕ) (K : PUnit → Asrt F),
        iprop(owns (c : Thread nD τ) a fullShare x ∗ owns (c : Thread nD τ) b fullShare y ∗ owns (c : Thread nD τ) o fullShare w ∗ owns (c : Thread nD τ) s fullShare z
            ∗ (iprop(owns (c : Thread nD τ) a fullShare x ∗ owns (c : Thread nD τ) b fullShare y ∗ owns (c : Thread nD τ) o fullShare w
                ∗ (∃ f, s.view.loc (c : Thread nD τ) ↦[s.view.set]{fullShare} s.view.writes (Elt F) f L)) -∗ K ⟨⟩))
          ⊢ wp frame (wpE (defs₀ (F := F)) Variants.none c none) E (cc0_mm_d_wup i a ha b hb o ho s hs) K } := by
  refine ⟨?_, fun w E K => ?run⟩
  case run =>
    unfold cc0_mm_d_wup
    simp only [k0_part1]
    unfold owns
    iintro ⟨⟨%f0, %e0, H0⟩, ⟨%f1, %e1, H1⟩, ⟨%f2, %e2, H2⟩, ⟨%f3, %e3, H3⟩, Hk⟩
    obtain rfl := ha.eq_unread e0
    obtain rfl := hb.eq_unread e1
    obtain rfl := ho.eq_unread e2
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      isplitr
      · ipureintro
        exact ho.read_unread _
      iexact H2
    iexists _
    iexact H3

set_option maxHeartbeats 4000000 in
/-- The last point of a block: it keeps its inputs and leaves the listed stores in the output buffer and in the accumulator. -/
def pointLast (c : Dev nD) (i : grid0.Coords) (a : Memref sig .tc .vmem S2048x1024 .bf16) (ha : a.IsWhole) (b : Memref sig .tc .vmem S1x2048x1408 .bf16) (hb : b.IsWhole)
    (o : Memref sig .tc .vmem S1x1024x1408 .f32) (ho : o.IsWhole) (s : Memref sig .tc .vmem S1024x1408 .f32) (hs : s.IsWhole) (hl : isLast i)
    (x : Vec F S2048x1024 .bf16) (y : Vec F S1x2048x1408 .bf16) (z : Vec F S1024x1408 .f32) :
    Σ' M : List (View.Piece (Elt F) S1x1024x1408 .f32), { L : List (View.Piece (Elt F) S1024x1408 .f32) // ∀ (E : Set ℕ) (K : PUnit → Asrt F),
        iprop(owns (c : Thread nD τ) a fullShare x ∗ owns (c : Thread nD τ) b fullShare y ∗ (∃ w, owns (c : Thread nD τ) o fullShare w) ∗ owns (c : Thread nD τ) s fullShare z
            ∗ (iprop(owns (c : Thread nD τ) a fullShare x ∗ owns (c : Thread nD τ) b fullShare y
                ∗ (∃ f, o.view.loc (c : Thread nD τ) ↦[o.view.set]{fullShare} o.view.writes (Elt F) f M)
                ∗ (∃ f, s.view.loc (c : Thread nD τ) ↦[s.view.set]{fullShare} s.view.writes (Elt F) f L)) -∗ K ⟨⟩))
          ⊢ wp frame (wpE (defs₀ (F := F)) Variants.none c none) E (cc0_mm_d_wup i a ha b hb o ho s hs) K } := by
  refine ⟨?_, ?_, fun E K => ?run⟩
  case run =>
    unfold cc0_mm_d_wup
    simp only [k0_part1]
    unfold owns
    iintro ⟨⟨%f0, %e0, H0⟩, ⟨%f1, %e1, H1⟩, ⟨%d2, %f2, -, H2⟩, ⟨%f3, %e3, H3⟩, Hk⟩
    obtain rfl := ha.eq_unread e0
    obtain rfl := hb.eq_unread e1
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      iexact H2
    iexists _
    iexact H3

end Cert.Kernel4Ideal.Run
end
-- ==== Proof.WupFrame.lean ====
module

public import proofs.«01_k».proof.Proof.WupRun
public import Idealize.ShloMosaic.Lib.Claim

/-! The accumulated product's run: what the accumulator and the output hold point by point. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel4Ideal.Run

open Cert.Kernel4Ideal Cert.Kernel4Ideal.Gen

variable {F : FTy → Type} [FloatOps F] (m : (ℓ : Loc nD τ sig) → Buf (Elt F) ℓ) (ρ : Dev nD → PrngReg)

/-- The buffer of the first operand's block at a point. -/
abbrev inA (t : Fin cfg0.N) : Memref sig .tc .vmem S2048x1024 .bf16 := win0_0.stage (cfg0.slots t 0)
/-- The buffer of the second operand's block at a point. -/
abbrev inB (t : Fin cfg0.N) : Memref sig .tc .vmem S1x2048x1408 .bf16 := win0_1.stage (cfg0.slots t 1)
/-- The buffer of the output's block at a point. -/
abbrev outO (t : Fin cfg0.N) : Memref sig .tc .vmem S1x1024x1408 .f32 := win0_2.stage (cfg0.slots t 2)
/-- The accumulator's buffer. -/
abbrev sumS : Memref sig .tc .vmem S1024x1408 .f32 := Memref.whole cc0_scratch0
/-- The first operand's buffer is a whole buffer. -/
theorem inA_whole (t : Fin cfg0.N) : (inA t).IsWhole := hstage0_0 ((cfg0.slots t 0).cast nbuf0_0)
/-- The second operand's buffer is a whole buffer. -/
theorem inB_whole (t : Fin cfg0.N) : (inB t).IsWhole := hstage0_1 ((cfg0.slots t 1).cast nbuf0_1)
/-- The output's buffer is a whole buffer. -/
theorem outO_whole (t : Fin cfg0.N) : (outO t).IsWhole := hstage0_2 ((cfg0.slots t 2).cast nbuf0_2)
/-- The accumulator's buffer is a whole buffer. -/
theorem sumS_whole : sumS.IsWhole := Memref.isWhole_whole _
/-- The accumulator, as a view. -/
abbrev sumV : View sig .tc .vmem S1024x1408 .f32 := sumS.view
/-- One buffer of the output, as a view. -/
abbrev outV : View sig .tc .vmem S1x1024x1408 .f32 := (Memref.whole cc0_stg2_0 : Memref sig .tc .vmem S1x1024x1408 .f32).view

/-- The last point of a block is the one whose position is 3 modulo 4. -/
theorem isLast_iff : ∀ t : Fin cfg0.N, isLast (grid0.coords t) ↔ t.val % 4 = 3 := by decide +kernel
/-- The third coordinate is zero at a block's first point. -/
theorem first_word : ∀ t : Fin cfg0.N, t.val % 4 = 0 → Scalar.cmpi .eq (BitVec.ofNat 32 (grid0.coords t 2).val) 0#32 = 1#1 := by decide +kernel
/-- A choice whose condition is one takes its first value. -/
theorem pick {α : Type} (w : BitVec 1) (h : w = 1#1) (p q : α) : Scalar.select w p q = p := by
  subst h
  rfl
/-- Away from a block's last point the output is not stored. -/
theorem idle_out : ∀ t : Fin cfg0.N, ¬isLast (grid0.coords t) → cfg0.idle 2 (grid0.coords t) = true := by decide +kernel
/-- Away from a block's last point the output is not written back. -/
theorem kept_out : ∀ t : Fin cfg0.N, ¬isLast (grid0.coords t) → (cfg0.win 2).flush t = false := by decide +kernel
/-- At a block's last point the output is stored. -/
theorem live_out : ∀ t : Fin cfg0.N, isLast (grid0.coords t) → cfg0.idle 2 (grid0.coords t) = false := by decide +kernel

section Pieces

variable (c : Dev nD) (t : Fin cfg0.N) (x : Vec F S2048x1024 .bf16) (y : Vec F S1x2048x1408 .bf16) (z : Vec F S1024x1408 .f32)

/-- The accumulator after a point that is not the last. -/
def sumMid (hl : ¬isLast (grid0.coords t)) : Vec F S1024x1408 .f32 :=
  sumV.read (Elt F) (sumV.writes (Elt F) sumV.junk
    (pointMid c (grid0.coords t) (inA t) (inA_whole t) (inB t) (inB_whole t) (outO t) (outO_whole t) sumS sumS_whole hl x y z).1)

/-- The accumulator after a last point. -/
def sumLast (hl : isLast (grid0.coords t)) : Vec F S1024x1408 .f32 :=
  sumV.read (Elt F) (sumV.writes (Elt F) sumV.junk
    (pointLast c (grid0.coords t) (inA t) (inA_whole t) (inB t) (inB_whole t) (outO t) (outO_whole t) sumS sumS_whole hl x y z).2.1)

/-- The output's block after a last point. -/
def outLast (hl : isLast (grid0.coords t)) : Vec F S1x1024x1408 .f32 :=
  outV.read (Elt F) (outV.writes (Elt F) outV.junk
    (pointLast c (grid0.coords t) (inA t) (inA_whole t) (inB t) (inB_whole t) (outO t) (outO_whole t) sumS sumS_whole hl x y z).1)

/-- The stores of a point that is not the last fill the accumulator. -/
theorem fillMid (hl : ¬isLast (grid0.coords t)) (k : S1024x1408.Idx) :
    ∃ pc ∈ (pointMid c (grid0.coords t) (inA t) (inA_whole t) (inB t) (inB_whole t) (outO t) (outO_whole t) sumS sumS_whole hl x y z).1, k ∈ pc.1.set :=
  View.cover_of_tiledL (pointMid c (grid0.coords t) (inA t) (inA_whole t) (inB t) (inB_whole t) (outO t) (outO_whole t) sumS sumS_whole hl x y z).1
    S256x1408.size (by sl_kernel_rfl) k

/-- The stores of a last point fill the accumulator. -/
theorem fillLast (hl : isLast (grid0.coords t)) (k : S1024x1408.Idx) :
    ∃ pc ∈ (pointLast c (grid0.coords t) (inA t) (inA_whole t) (inB t) (inB_whole t) (outO t) (outO_whole t) sumS sumS_whole hl x y z).2.1, k ∈ pc.1.set :=
  View.cover_of_tiledL (pointLast c (grid0.coords t) (inA t) (inA_whole t) (inB t) (inB_whole t) (outO t) (outO_whole t) sumS sumS_whole hl x y z).2.1
    S256x1408.size (by sl_kernel_rfl) k

/-- The store of a last point fills the output's block. -/
theorem fillOut (hl : isLast (grid0.coords t)) (k : S1x1024x1408.Idx) :
    ∃ pc ∈ (pointLast c (grid0.coords t) (inA t) (inA_whole t) (inB t) (inB_whole t) (outO t) (outO_whole t) sumS sumS_whole hl x y z).1, k ∈ pc.1.set :=
  View.cover_of_wholeMem (pointLast c (grid0.coords t) (inA t) (inA_whole t) (inB t) (inB_whole t) (outO t) (outO_whole t) sumS sumS_whole hl x y z).1
    (by sl_whole_mem) k

/-- A block's first point does not depend on what the accumulator held. -/
theorem sumMid_first (hl : ¬isLast (grid0.coords t)) (h0 : t.val % 4 = 0) (z' : Vec F S1024x1408 .f32) :
    sumMid c t x y z hl = sumMid c t x y z' hl := by
  unfold sumMid pointMid
  dsimp only
  simp only [pick _ (first_word t h0)]

/-- The accumulator after a point. -/
def next : Vec F S1024x1408 .f32 :=
  if hl : isLast (grid0.coords t) then sumLast c t x y z hl else sumMid c t x y z hl

end Pieces

/-- The accumulator before each point. -/
def acc (c : Dev nD) : ℕ → Vec F S1024x1408 .f32
  | 0 => sumV.read (Elt F) sumV.junk
  | n + 1 => if h : n < cfg0.N then next c ⟨n, h⟩ (iblk m c 0 ⟨n, h⟩) (iblk m c 1 ⟨n, h⟩) (acc c n) else acc c n

/-- The accumulator after point `t` in terms of what it held before. -/
theorem acc_succ (c : Dev nD) (t : Fin cfg0.N) : acc m c (t.val + 1) = next c t (iblk m c 0 t) (iblk m c 1 t) (acc m c t.val) := by
  obtain ⟨n, h⟩ := t
  exact dif_pos h

/-- What the output's buffer holds after point `t`, of account only at a block's last point. -/
def out (c : Dev nD) (t : Fin cfg0.N) : Vec F S1x1024x1408 .f32 :=
  if hl : isLast (grid0.coords t) then outLast c t (iblk m c 0 t) (iblk m c 1 t) (acc m c t.val) hl else outV.read (Elt F) outV.junk

/-- What is held between points: the accumulator, known except before a block's first point. -/
def held (c : Dev nD) (n : ℕ) : Asrt F :=
  iprop((∃ z, ⌜n % 4 ≠ 0 → z = acc m c n⌝ ∗ owns (c : Thread nD τ) sumS fullShare z) ∗ (∃ r, prngReg c r))

/-- The run's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out m c t
  Φ t := held m c t.val
  q _ := fullShare
  owed _ := 0

/-- The arrays are those the call finds. -/
theorem data_A (c : Dev nD) (w : Fin cfg0.W) : (data m 0 c).A w = V m c (Pipeline.arrRef spec0 w) := by dsimp only [data]
/-- The first operand's block stays. -/
theorem after_a (c : Dev nD) (t : Fin cfg0.N) : (data m 0 c).after 0 t = iblk m c 0 t := by dsimp only [data]
/-- The second operand's block stays. -/
theorem after_b (c : Dev nD) (t : Fin cfg0.N) : (data m 0 c).after 1 t = iblk m c 1 t := by dsimp only [data]
/-- The output's block after a point. -/
theorem after_o (c : Dev nD) (t : Fin cfg0.N) : (data m 0 c).after 2 t = out m c t := by dsimp only [data]
/-- The first operand's buffer holds its block before a point. -/
theorem before_a (c : Dev nD) (t : Fin cfg0.N) (d) : (data m 0 c).before 0 t d = iblk m c 0 t :=
  before0_0_of m (data m 0 c) (data_A m c 0) (after_a m c) t d
/-- The second operand's buffer holds its block before a point. -/
theorem before_b (c : Dev nD) (t : Fin cfg0.N) (d) : (data m 0 c).before 1 t d = iblk m c 1 t :=
  before0_1_of m (data m 0 c) (data_A m c 1) (after_b m c) t d
/-- What is held before a point. -/
theorem held_start (c : Dev nD) (t : Fin cfg0.N) : (data m 0 c).Φ t.castSucc = held m c t.val := by
  dsimp only [data]
  exact Pipeline.Dat.Φ_castSucc (fun n _ => held m c n) t
/-- What is held after a point. -/
theorem held_end (c : Dev nD) (t : Fin cfg0.N) : (data m 0 c).Φ t.succ = held m c (t.val + 1) := rfl

/-- What the body is given at a point. -/
def given (c : Dev nD) (t : Fin cfg0.N) : Asrt F :=
  iprop((data m 0 c).Φ t.castSucc ∗ (data m 0 c).owesAt () t.castSucc
    ∗ (∃ d, owns (c : Thread nD τ) (inA t) fullShare ((data m 0 c).before 0 t d))
    ∗ (∃ d, owns (c : Thread nD τ) (inB t) fullShare ((data m 0 c).before 1 t d))
    ∗ (∃ d, owns (c : Thread nD τ) (outO t) fullShare ((data m 0 c).before 2 t d)))

/-- What the body gives back at a point. -/
def returned (c : Dev nD) (t : Fin cfg0.N) : Asrt F :=
  iprop((data m 0 c).Φ t.succ ∗ (data m 0 c).owesAt () t.succ
    ∗ (data m 0 c).leavesExact 0 t
    ∗ (data m 0 c).leavesExact 1 t
    ∗ (data m 0 c).leavesExact 2 t)

set_option maxHeartbeats 4800000 in
/-- The body at a point. -/
theorem body_point (c : Dev nD) (t : Fin cfg0.N) :
    given m c t ⊢ wp frame (wpE (defs₀ (F := F)) Variants.none c none) Set.univ (bodyAt0 t) (fun _ => returned m c t) := by
  unfold given returned bodyAt0
  simp only [before_a, before_b]
  rw [show (data m 0 c).owesAt () t.succ = (data m 0 c).owesAt () t.castSucc from rfl, held_start, held_end,
    show (data m 0 c).leavesExact 0 t = owns (c : Thread nD τ) (inA t) fullShare ((data m 0 c).after 0 t) from rfl, after_a,
    show (data m 0 c).leavesExact 1 t = owns (c : Thread nD τ) (inB t) fullShare ((data m 0 c).after 1 t) from rfl, after_b]
  unfold held
  by_cases hl : isLast (grid0.coords t)
  · rw [show (data m 0 c).leavesExact 2 t = owns (c : Thread nD τ) (outO t) fullShare ((data m 0 c).after 2 t) from by
      unfold Dat.leavesExact
      rw [live_out t hl], after_o]
    have hm := (isLast_iff t).mp hl
    iintro ⟨⟨⟨%z, %hz, HS⟩, Hg⟩, Ho, ⟨%d0, H0⟩, ⟨%d1, H1⟩, ⟨%d2, H2⟩⟩
    obtain rfl := hz (by omega)
    iapply ((pointLast c (grid0.coords t) _ _ _ _ _ _ _ _ hl (iblk m c 0 t) (iblk m c 1 t) _).2.2 Set.univ _)
    isplitl [H0]
    · iexact H0
    isplitl [H1]
    · iexact H1
    isplitl [H2]
    · iexists _
      iexact H2
    isplitl [HS]
    · iexact HS
    iintro ⟨H0, H1, ⟨%e2, H2⟩, ⟨%e3, HS⟩⟩
    isplitl [HS Hg]
    · isplitl [HS]
      · iexists (sumLast c t (iblk m c 0 t) (iblk m c 1 t) (acc m c t.val) hl)
        isplitr
        swap
        · unfold owns
          iexists _
          isplitr
          swap
          · iexact HS
          ipureintro
          exact View.read_writes_of_cover _ _ _ _ _ (fillLast c t _ _ _ hl)
        ipureintro
        intro _
        rw [acc_succ, next, dif_pos hl]
      iexact Hg
    isplitl [Ho]
    · iexact Ho
    isplitl [H0]
    · iexact H0
    isplitl [H1]
    · iexact H1
    rw [out, dif_pos hl]
    unfold owns
    iexists _
    isplitr
    swap
    · iexact H2
    ipureintro
    exact View.read_writes_of_cover _ _ _ _ _ (fillOut c t _ _ _ hl)
  · rw [Dat.leavesExact_idle (data m 0 c) 2 t (idle_out t hl) (kept_out t hl)]
    iintro ⟨⟨⟨%z, %hz, HS⟩, Hg⟩, Ho, ⟨%d0, H0⟩, ⟨%d1, H1⟩, ⟨%d2, H2⟩⟩
    iapply ((pointMid c (grid0.coords t) _ _ _ _ _ _ _ _ hl (iblk m c 0 t) (iblk m c 1 t) _).2 _ Set.univ _)
    isplitl [H0]
    · iexact H0
    isplitl [H1]
    · iexact H1
    isplitl [H2]
    · iexact H2
    isplitl [HS]
    · iexact HS
    iintro ⟨H0, H1, H2, ⟨%e3, HS⟩⟩
    isplitl [HS Hg]
    · isplitl [HS]
      · iexists (sumMid c t (iblk m c 0 t) (iblk m c 1 t) z hl)
        isplitr
        swap
        · unfold owns
          iexists _
          isplitr
          swap
          · iexact HS
          ipureintro
          exact View.read_writes_of_cover _ _ _ _ _ (fillMid c t _ _ _ hl)
        ipureintro
        intro _
        rw [acc_succ, next, dif_neg hl]
        by_cases h0 : t.val % 4 = 0
        · exact sumMid_first c t _ _ _ hl h0 _
        · rw [hz h0]
      iexact Hg
    isplitl [Ho]
    · iexact Ho
    isplitl [H0]
    · iexact H0
    isplitl [H1]
    · iexact H1
    iexists _
    iexact H2

/-- The body the pipeline calls at a point is the printed one. -/
theorem body_row (t : Fin cfg0.N) : defs₀ (F := F) .tc cfg0.body (cfg0.bodyArgs t (cfg0.slots t)) = bodyAt0 t := by
  unfold defs₀
  rw [Defs.onTc_tc]

/-- The body at every point. -/
theorem body_all (c : Dev nD) : BodyObligation (data (F := F) m 0 c) (defs₀ (F := F)) Variants.none () Set.univ := fun t => by
  rw [bigSep_W0, bigSep_W0, body_row]
  exact triple_restated (body_point m c t) rfl .rfl fun _ => .rfl

/-- The call's own buffers at anything: the accumulator and the generator's register. -/
theorem own_eq (c : Dev nD) :
    (Pipeline.ΦA spec0 c : Asrt F) = iprop(iprop((∃ d, owns (c : Thread nD τ) sumS fullShare d)) ∗ (∃ r, prngReg c r)) := by
  unfold Pipeline.ΦA
  rw [scopedRest0_eq]
  simp only [sumS, owns_whole]
  rfl

/-- What is held before the first point. -/
theorem held_first (c : Dev nD) : Pipeline.ΦA spec0 c ⊢ (data m 0 c).Φ 0 := by
  rw [show (data m 0 c).Φ 0 = held m c 0 from rfl, own_eq]
  unfold held
  iintro ⟨⟨%d, HS⟩, Hg⟩
  isplitl [HS]
  · iexists d
    isplitr
    · ipureintro
      intro h
      exact absurd rfl h
    iexact HS
  iexact Hg

/-- What is held after the last point. -/
theorem held_last (c : Dev nD) : (data m 0 c).Φ (Fin.last cfg0.N) ⊢ Pipeline.ΦA spec0 c := by
  rw [show (data m 0 c).Φ (Fin.last cfg0.N) = held m c cfg0.N from rfl, own_eq]
  unfold held
  iintro ⟨⟨%z, %hz, HS⟩, Hg⟩
  isplitl [HS]
  · iexists z
    iexact HS
  iexact Hg

set_option backward.isDefEq.respectTransparency.types false in
/-- The whole run: every array ends as the data say and every counter at zero. -/
theorem run_all : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body_all m c).loose) (hshare := fun c => (data m 0 c).share_full fun _ => rfl)
    (howed := fun _ _ => rfl) (V := V m) (hmain := hmain m Variants.none) (hA := data_A m) (hin := held_first m) (hout := held_last m)

/-- The run without the counters. -/
theorem run_arrays : θ_run defs (onTc (τ := τ) (main (F := F))) (s₀ m ρ) (Pipeline.FramePost cfgs (data m) 0 (V m)) :=
  (θ_run defs _ _).mono (fun _ h => h.1) (run_all m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_all m ρ))

/-- The run with the output array named. -/
theorem run_out : θ_run defs (onTc (τ := τ) (main (F := F))) ⟨m, fun _ => 0, ρ⟩ fun r => ∀ c : Dev nD,
      r.2.mem ((c : Thread nD τ).loc main_v4) = (data m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, h.2 c⟩)
    (θ_run_and (run_arrays m ρ) (frame_of m ρ (data m) (data_A m) (run_arrays m ρ)))

end Cert.Kernel4Ideal.Run
end
-- ==== Proof.Frames4.lean ====
module

public import proofs.«01_k».proof.Defs
public import proofs.«01_k».proof.Proof.WupFrame
public import proofs.«01_k».proof.Proof.WupFrameBits
public import proofs.«01_k».proof.Proof.Gen.Reference4Ideal.Run

/-! The accumulated product and its reference run, leave their arguments as they were and end with every counter at zero. -/

@[expose] public section

set_option maxRecDepth 16384

noncomputable section

open Idealize.ShloMosaic Idealize.ShloMosaic.TcCoe Idealize.SL.Sem

namespace Cert.Frames

/-- The kernel runs and ends quiet. -/
theorem kernel4 : Cert.quiescent_Kernel4 := fun m ρ _ => Cert.Kernel4.Run.frame m ρ

/-- The kernel over the extended reals runs and ends quiet. -/
theorem kernel4Ideal : Cert.quiescent_Kernel4Ideal := fun m ρ _ => Cert.Kernel4Ideal.Run.frame m ρ

/-- The reference over the extended reals runs and ends quiet. -/
theorem reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two printed kernels are the same program. -/
theorem preserves4 : Cert.preserves_Kernel4_Kernel4Ideal := trivial

end Cert.Frames
end
-- ==== Proof.WdownRun.lean ====
module

public import proofs.«01_k».proof.Proof.Gen.Kernel5Ideal.Frame

/-! One grid point of the accumulated product, run on any buffers. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.Run

open Cert.Kernel5Ideal Cert.Kernel5Ideal.Gen

variable {F : FTy → Type} [FloatOps F]

/-- The assertions about this program's memory. -/
abbrev Asrt (F : FTy → Type) [FloatOps F] : Type := sProp (MT nD τ sig Unit (Elt F) ℕ (UR sig nD τ) ℕ)

/-- The grid point is the last of its output block. -/
abbrev isLast (i : grid0.Coords) : Prop := k0_cond1 i = 1#1

set_option maxHeartbeats 4000000 in
/-- A point that is not the last of its block: it keeps its inputs and the output buffer and leaves the listed stores in the accumulator. -/
def pointMid (c : Dev nD) (i : grid0.Coords) (a : Memref sig .tc .vmem S2048x1408 .bf16) (ha : a.IsWhole) (b : Memref sig .tc .vmem S2048x1024 .f32) (hb : b.IsWhole)
    (o : Memref sig .tc .vmem S1408x1024 .f32) (ho : o.IsWhole) (s : Memref sig .tc .vmem S1408x1024 .f32) (hs : s.IsWhole) (hl : ¬isLast i)
    (x : Vec F S2048x1408 .bf16) (y : Vec F S2048x1024 .f32) (z : Vec F S1408x1024 .f32) :
    { L : List (View.Piece (Elt F) S1408x1024 .f32) // ∀ (w : Vec F S1408x1024 .f32) (E : Set ℕ) (K : PUnit → Asrt F),
        iprop(owns (c : Thread nD τ) a fullShare x ∗ owns (c : Thread nD τ) b fullShare y ∗ owns (c : Thread nD τ) o fullShare w ∗ owns (c : Thread nD τ) s fullShare z
            ∗ (iprop(owns (c : Thread nD τ) a fullShare x ∗ owns (c : Thread nD τ) b fullShare y ∗ owns (c : Thread nD τ) o fullShare w
                ∗ (∃ f, s.view.loc (c : Thread nD τ) ↦[s.view.set]{fullShare} s.view.writes (Elt F) f L)) -∗ K ⟨⟩))
          ⊢ wp frame (wpE (defs₀ (F := F)) Variants.none c none) E (cc0_mm_d_wdown i a ha b hb o ho s hs) K } := by
  refine ⟨?_, fun w E K => ?run⟩
  case run =>
    unfold cc0_mm_d_wdown
    simp only [k0_part1, k0_part2]
    unfold owns
    iintro ⟨⟨%f0, %e0, H0⟩, ⟨%f1, %e1, H1⟩, ⟨%f2, %e2, H2⟩, ⟨%f3, %e3, H3⟩, Hk⟩
    obtain rfl := ha.eq_unread e0
    obtain rfl := hb.eq_unread e1
    obtain rfl := ho.eq_unread e2
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      isplitr
      · ipureintro
        exact ho.read_unread _
      iexact H2
    iexists _
    iexact H3

set_option maxHeartbeats 4000000 in
/-- The last point of a block: it keeps its inputs and leaves the listed stores in the output buffer and in the accumulator. -/
def pointLast (c : Dev nD) (i : grid0.Coords) (a : Memref sig .tc .vmem S2048x1408 .bf16) (ha : a.IsWhole) (b : Memref sig .tc .vmem S2048x1024 .f32) (hb : b.IsWhole)
    (o : Memref sig .tc .vmem S1408x1024 .f32) (ho : o.IsWhole) (s : Memref sig .tc .vmem S1408x1024 .f32) (hs : s.IsWhole) (hl : isLast i)
    (x : Vec F S2048x1408 .bf16) (y : Vec F S2048x1024 .f32) (z : Vec F S1408x1024 .f32) :
    Σ' M : List (View.Piece (Elt F) S1408x1024 .f32), { L : List (View.Piece (Elt F) S1408x1024 .f32) // ∀ (E : Set ℕ) (K : PUnit → Asrt F),
        iprop(owns (c : Thread nD τ) a fullShare x ∗ owns (c : Thread nD τ) b fullShare y ∗ (∃ w, owns (c : Thread nD τ) o fullShare w) ∗ owns (c : Thread nD τ) s fullShare z
            ∗ (iprop(owns (c : Thread nD τ) a fullShare x ∗ owns (c : Thread nD τ) b fullShare y
                ∗ (∃ f, o.view.loc (c : Thread nD τ) ↦[o.view.set]{fullShare} o.view.writes (Elt F) f M)
                ∗ (∃ f, s.view.loc (c : Thread nD τ) ↦[s.view.set]{fullShare} s.view.writes (Elt F) f L)) -∗ K ⟨⟩))
          ⊢ wp frame (wpE (defs₀ (F := F)) Variants.none c none) E (cc0_mm_d_wdown i a ha b hb o ho s hs) K } := by
  refine ⟨?_, ?_, fun E K => ?run⟩
  case run =>
    unfold cc0_mm_d_wdown
    simp only [k0_part1, k0_part2]
    unfold owns
    iintro ⟨⟨%f0, %e0, H0⟩, ⟨%f1, %e1, H1⟩, ⟨%d2, %f2, -, H2⟩, ⟨%f3, %e3, H3⟩, Hk⟩
    obtain rfl := ha.eq_unread e0
    obtain rfl := hb.eq_unread e1
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      iexact H2
    iexists _
    iexact H3

end Cert.Kernel5Ideal.Run
end
-- ==== Proof.GradLemmas.lean ====
module

public import Idealize.ShloMosaic.Lib.Pipeline.ValueKit
public import Idealize.ShloMosaic.Lib.Pointwise

/-! What the weight gradients share: blocks of rows stored one after the other, and sums over rows in quarters. -/

@[expose] public section

noncomputable section

open Idealize.ShloMosaic Idealize.ShloMosaic.TcCoe Idealize.SL.Sem

namespace Cert.Grad

/-- A matrix shape. -/
abbrev Mat (p q : ℕ) : Shape := ⟨2, ![p, q]⟩

/-- A choice whose condition is one takes its first value. -/
theorem pick {α : Type} (w : BitVec 1) (h : w = 1#1) (p q : α) : Scalar.select w p q = p := by
  subst h
  rfl

/-- A choice whose condition is not one takes its second value. -/
theorem pass {α : Type} (w : BitVec 1) (h : ¬w = 1#1) (p q : α) : Scalar.select w p q = q := if_neg h

/-- A row the last store covers reads that store's payload. -/
theorem canon_hit {p q n : ℕ} (o : ℕ) (h) (v : (Rect.unit (s := Mat p q) ![o, 0] ![n, q] h).shape.Idx → Elt Ideal .f32)
    (L : List (View.Piece (Elt Ideal) (Mat p q) .f32)) (i : Fin p) (r : Fin n) (d : Fin q) (hi : i.val = o + r.val) :
    View.canon (Val := Elt Ideal) (s := Mat p q) (e := .f32) (⟨Rect.unit (s := Mat p q) ![o, 0] ![n, q] h, v⟩ :: L) (ix2 i d)
      = v (ix2 r d) := by
  have e : (ix2 i d : (Mat p q).Idx) = (Rect.unit (s := Mat p q) ![o, 0] ![n, q] h).emb (ix2 r d) := by
    funext a
    apply Fin.ext
    rw [Rect.emb_apply]
    match a with
    | ⟨0, _⟩ => show i.val = o + 1 * r.val; omega
    | ⟨1, _⟩ => show d.val = 0 + 1 * d.val; omega
  rw [e]
  exact View.canon_cons_emb _ _ _ _

/-- A row the last store does not cover reads what the stores before left. -/
theorem canon_miss {p q n : ℕ} (o : ℕ) (h) (v : (Rect.unit (s := Mat p q) ![o, 0] ![n, q] h).shape.Idx → Elt Ideal .f32)
    (L : List (View.Piece (Elt Ideal) (Mat p q) .f32)) (i : Fin p) (d : Fin q) (h1 : i.val < o ∨ o + n ≤ i.val) :
    View.canon (Val := Elt Ideal) (s := Mat p q) (e := .f32) (⟨Rect.unit (s := Mat p q) ![o, 0] ![n, q] h, v⟩ :: L) (ix2 i d)
      = View.canon (Val := Elt Ideal) (s := Mat p q) (e := .f32) L (ix2 i d) := by
  refine View.canon_cons_of_not_mem _ _ fun hm => ?_
  rw [Rect.mem_set_unit] at hm
  have h0 := hm 0
  have e1 : ((ix2 i d : (Mat p q).Idx) 0 : ℕ) = i.val := rfl
  have e2 : (![o, 0] : Fin 2 → ℕ) 0 = o := rfl
  have e3 : (![n, q] : Fin 2 → ℕ) 0 = n := rfl
  rw [e1, e2, e3] at h0
  omega

/-- The columns of the first operand that a store's rows come from. -/
theorem ld_x {k p n : ℕ} (X : Vec Ideal (Mat k p) .bf16) (o : ℕ) (h) (j : Fin k) (i : Fin p) (r : Fin n) (hi : i.val = o + r.val) :
    View.ld X (Rect.unit (s := Mat k p) ![0, o] ![k, n] h) (ix2 j r) = X (ix2 j i) := by
  refine View.ld_unit_apply_of X _ _ _ _ _ fun a => ?_
  match a with
  | ⟨0, _⟩ => show j.val = 0 + j.val; omega
  | ⟨1, _⟩ => show i.val = o + r.val; omega

/-- The rows of the accumulator that a store replaces. -/
theorem ld_z {p q n : ℕ} (X : Vec Ideal (Mat p q) .f32) (o : ℕ) (h) (i : Fin p) (r : Fin n) (d : Fin q) (hi : i.val = o + r.val) :
    View.ld X (Rect.unit (s := Mat p q) ![o, 0] ![n, q] h) (ix2 r d) = X (ix2 i d) := by
  refine View.ld_unit_apply_of X _ _ _ _ _ fun a => ?_
  match a with
  | ⟨0, _⟩ => show i.val = o + r.val; omega
  | ⟨1, _⟩ => show d.val = 0 + d.val; omega

/-- The accumulator read back whole. -/
theorem whole_at {p q : ℕ} (Z : Vec Ideal (Mat p q) .f32) (h) (i : Fin p) (d : Fin q) :
    View.ld Z (Rect.unit (s := Mat p q) ![0, 0] ![p, q] h) (ix2 i d) = Z (ix2 i d) := by
  refine View.ld_unit_apply_of Z _ _ _ _ _ fun a => ?_
  match a with
  | ⟨0, _⟩ => show i.val = 0 + i.val; omega
  | ⟨1, _⟩ => show d.val = 0 + d.val; omega

/-- A sum over 8192 rows is the sum over its four quarters. -/
theorem sum_quarters (f : Fin 8192 → EReal) :
    ∑ j, f j = ∑ s : Fin 4, ∑ k : Fin 2048, f ⟨2048 * (s.val % 4) + k.val, by omega⟩ := by
  rw [Fin.sum_univ_tiles 4 2048 rfl f]
  refine Finset.sum_congr rfl fun s _ => Finset.sum_congr rfl fun t _ => congrArg f (Fin.ext ?_)
  simp only
  omega

end Cert.Grad
end
-- ==== Proof.WdownFrame.lean ====
module

public import proofs.«01_k».proof.Proof.WdownRun
public import proofs.«01_k».proof.Proof.GradLemmas
public import Idealize.ShloMosaic.Lib.Claim

/-! The accumulated product's run: what the accumulator and the output hold point by point. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.Run

open Cert.Kernel5Ideal Cert.Kernel5Ideal.Gen Cert.Grad

variable {F : FTy → Type} [FloatOps F] (m : (ℓ : Loc nD τ sig) → Buf (Elt F) ℓ) (ρ : Dev nD → PrngReg)

/-- The buffer of the first operand's block at a point. -/
abbrev inA (t : Fin cfg0.N) : Memref sig .tc .vmem S2048x1408 .bf16 := win0_0.stage (cfg0.slots t 0)
/-- The buffer of the second operand's block at a point. -/
abbrev inB (t : Fin cfg0.N) : Memref sig .tc .vmem S2048x1024 .f32 := win0_1.stage (cfg0.slots t 1)
/-- The buffer of the output's block at a point. -/
abbrev outO (t : Fin cfg0.N) : Memref sig .tc .vmem S1408x1024 .f32 := win0_2.stage (cfg0.slots t 2)
/-- The accumulator's buffer. -/
abbrev sumS : Memref sig .tc .vmem S1408x1024 .f32 := Memref.whole cc0_scratch0
/-- The first operand's buffer is a whole buffer. -/
theorem inA_whole (t : Fin cfg0.N) : (inA t).IsWhole := hstage0_0 ((cfg0.slots t 0).cast nbuf0_0)
/-- The second operand's buffer is a whole buffer. -/
theorem inB_whole (t : Fin cfg0.N) : (inB t).IsWhole := hstage0_1 ((cfg0.slots t 1).cast nbuf0_1)
/-- The output's buffer is a whole buffer. -/
theorem outO_whole (t : Fin cfg0.N) : (outO t).IsWhole := hstage0_2 ((cfg0.slots t 2).cast nbuf0_2)
/-- The accumulator's buffer is a whole buffer. -/
theorem sumS_whole : sumS.IsWhole := Memref.isWhole_whole _
/-- The accumulator, as a view. -/
abbrev sumV : View sig .tc .vmem S1408x1024 .f32 := sumS.view
/-- One buffer of the output, as a view. -/
abbrev outV : View sig .tc .vmem S1408x1024 .f32 := (Memref.whole cc0_stg2_0 : Memref sig .tc .vmem S1408x1024 .f32).view

/-- The last point of a block is the one whose position is 3 modulo 4. -/
theorem isLast_iff : ∀ t : Fin cfg0.N, isLast (grid0.coords t) ↔ t.val % 4 = 3 := by decide +kernel
/-- The third coordinate is zero at a block's first point. -/
theorem first_word : ∀ t : Fin cfg0.N, t.val % 4 = 0 → Scalar.cmpi .eq (BitVec.ofNat 32 (grid0.coords t 2).val) 0#32 = 1#1 := by decide +kernel
/-- Away from a block's last point the output is not stored. -/
theorem idle_out : ∀ t : Fin cfg0.N, ¬isLast (grid0.coords t) → cfg0.idle 2 (grid0.coords t) = true := by decide +kernel
/-- Away from a block's last point the output is not written back. -/
theorem kept_out : ∀ t : Fin cfg0.N, ¬isLast (grid0.coords t) → (cfg0.win 2).flush t = false := by decide +kernel
/-- At a block's last point the output is stored. -/
theorem live_out : ∀ t : Fin cfg0.N, isLast (grid0.coords t) → cfg0.idle 2 (grid0.coords t) = false := by decide +kernel

section Pieces

variable (c : Dev nD) (t : Fin cfg0.N) (x : Vec F S2048x1408 .bf16) (y : Vec F S2048x1024 .f32) (z : Vec F S1408x1024 .f32)

/-- The accumulator after a point that is not the last. -/
def sumMid (hl : ¬isLast (grid0.coords t)) : Vec F S1408x1024 .f32 :=
  sumV.read (Elt F) (sumV.writes (Elt F) sumV.junk
    (pointMid c (grid0.coords t) (inA t) (inA_whole t) (inB t) (inB_whole t) (outO t) (outO_whole t) sumS sumS_whole hl x y z).1)

/-- The accumulator after a last point. -/
def sumLast (hl : isLast (grid0.coords t)) : Vec F S1408x1024 .f32 :=
  sumV.read (Elt F) (sumV.writes (Elt F) sumV.junk
    (pointLast c (grid0.coords t) (inA t) (inA_whole t) (inB t) (inB_whole t) (outO t) (outO_whole t) sumS sumS_whole hl x y z).2.1)

/-- The output's block after a last point. -/
def outLast (hl : isLast (grid0.coords t)) : Vec F S1408x1024 .f32 :=
  outV.read (Elt F) (outV.writes (Elt F) outV.junk
    (pointLast c (grid0.coords t) (inA t) (inA_whole t) (inB t) (inB_whole t) (outO t) (outO_whole t) sumS sumS_whole hl x y z).1)

/-- The stores of a point that is not the last fill the accumulator. -/
theorem fillMid (hl : ¬isLast (grid0.coords t)) (k : S1408x1024.Idx) :
    ∃ pc ∈ (pointMid c (grid0.coords t) (inA t) (inA_whole t) (inB t) (inB_whole t) (outO t) (outO_whole t) sumS sumS_whole hl x y z).1, k ∈ pc.1.set :=
  View.cover_of_tiledBy (pointMid c (grid0.coords t) (inA t) (inA_whole t) (inB t) (inB_whole t) (outO t) (outO_whole t) sumS sumS_whole hl x y z).1
    S128x1024.size (by sl_kernel_rfl) k

/-- The stores of a last point fill the accumulator. -/
theorem fillLast (hl : isLast (grid0.coords t)) (k : S1408x1024.Idx) :
    ∃ pc ∈ (pointLast c (grid0.coords t) (inA t) (inA_whole t) (inB t) (inB_whole t) (outO t) (outO_whole t) sumS sumS_whole hl x y z).2.1, k ∈ pc.1.set :=
  View.cover_of_tiledBy (pointLast c (grid0.coords t) (inA t) (inA_whole t) (inB t) (inB_whole t) (outO t) (outO_whole t) sumS sumS_whole hl x y z).2.1
    S128x1024.size (by sl_kernel_rfl) k

/-- The store of a last point fills the output's block. -/
theorem fillOut (hl : isLast (grid0.coords t)) (k : S1408x1024.Idx) :
    ∃ pc ∈ (pointLast c (grid0.coords t) (inA t) (inA_whole t) (inB t) (inB_whole t) (outO t) (outO_whole t) sumS sumS_whole hl x y z).1, k ∈ pc.1.set :=
  View.cover_of_wholeMem (pointLast c (grid0.coords t) (inA t) (inA_whole t) (inB t) (inB_whole t) (outO t) (outO_whole t) sumS sumS_whole hl x y z).1
    (by sl_whole_mem) k

/-- A block's first point does not depend on what the accumulator held. -/
theorem sumMid_first (hl : ¬isLast (grid0.coords t)) (h0 : t.val % 4 = 0) (z' : Vec F S1408x1024 .f32) :
    sumMid c t x y z hl = sumMid c t x y z' hl := by
  unfold sumMid pointMid
  dsimp only
  simp only [pick _ (first_word t h0)]

/-- The accumulator after a point. -/
def next : Vec F S1408x1024 .f32 :=
  if hl : isLast (grid0.coords t) then sumLast c t x y z hl else sumMid c t x y z hl

end Pieces

/-- The accumulator before each point. -/
def acc (c : Dev nD) : ℕ → Vec F S1408x1024 .f32
  | 0 => sumV.read (Elt F) sumV.junk
  | n + 1 => if h : n < cfg0.N then next c ⟨n, h⟩ (iblk m c 0 ⟨n, h⟩) (iblk m c 1 ⟨n, h⟩) (acc c n) else acc c n

/-- The accumulator after point `t` in terms of what it held before. -/
theorem acc_succ (c : Dev nD) (t : Fin cfg0.N) : acc m c (t.val + 1) = next c t (iblk m c 0 t) (iblk m c 1 t) (acc m c t.val) := by
  obtain ⟨n, h⟩ := t
  exact dif_pos h

/-- What the output's buffer holds after point `t`, of account only at a block's last point. -/
def out (c : Dev nD) (t : Fin cfg0.N) : Vec F S1408x1024 .f32 :=
  if hl : isLast (grid0.coords t) then outLast c t (iblk m c 0 t) (iblk m c 1 t) (acc m c t.val) hl else outV.read (Elt F) outV.junk

/-- What is held between points: the accumulator, known except before a block's first point. -/
def held (c : Dev nD) (n : ℕ) : Asrt F :=
  iprop((∃ z, ⌜n % 4 ≠ 0 → z = acc m c n⌝ ∗ owns (c : Thread nD τ) sumS fullShare z) ∗ (∃ r, prngReg c r))

/-- The run's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out m c t
  Φ t := held m c t.val
  q _ := fullShare
  owed _ := 0

/-- The arrays are those the call finds. -/
theorem data_A (c : Dev nD) (w : Fin cfg0.W) : (data m 0 c).A w = V m c (Pipeline.arrRef spec0 w) := by dsimp only [data]
/-- The first operand's block stays. -/
theorem after_a (c : Dev nD) (t : Fin cfg0.N) : (data m 0 c).after 0 t = iblk m c 0 t := by dsimp only [data]
/-- The second operand's block stays. -/
theorem after_b (c : Dev nD) (t : Fin cfg0.N) : (data m 0 c).after 1 t = iblk m c 1 t := by dsimp only [data]
/-- The output's block after a point. -/
theorem after_o (c : Dev nD) (t : Fin cfg0.N) : (data m 0 c).after 2 t = out m c t := by dsimp only [data]
/-- The first operand's buffer holds its block before a point. -/
theorem before_a (c : Dev nD) (t : Fin cfg0.N) (d) : (data m 0 c).before 0 t d = iblk m c 0 t :=
  before0_0_of m (data m 0 c) (data_A m c 0) (after_a m c) t d
/-- The second operand's buffer holds its block before a point. -/
theorem before_b (c : Dev nD) (t : Fin cfg0.N) (d) : (data m 0 c).before 1 t d = iblk m c 1 t :=
  before0_1_of m (data m 0 c) (data_A m c 1) (after_b m c) t d
/-- What is held before a point. -/
theorem held_start (c : Dev nD) (t : Fin cfg0.N) : (data m 0 c).Φ t.castSucc = held m c t.val := by
  dsimp only [data]
  exact Pipeline.Dat.Φ_castSucc (fun n _ => held m c n) t
/-- What is held after a point. -/
theorem held_end (c : Dev nD) (t : Fin cfg0.N) : (data m 0 c).Φ t.succ = held m c (t.val + 1) := rfl

/-- What the body is given at a point. -/
def given (c : Dev nD) (t : Fin cfg0.N) : Asrt F :=
  iprop((data m 0 c).Φ t.castSucc ∗ (data m 0 c).owesAt () t.castSucc
    ∗ (∃ d, owns (c : Thread nD τ) (inA t) fullShare ((data m 0 c).before 0 t d))
    ∗ (∃ d, owns (c : Thread nD τ) (inB t) fullShare ((data m 0 c).before 1 t d))
    ∗ (∃ d, owns (c : Thread nD τ) (outO t) fullShare ((data m 0 c).before 2 t d)))

/-- What the body gives back at a point. -/
def returned (c : Dev nD) (t : Fin cfg0.N) : Asrt F :=
  iprop((data m 0 c).Φ t.succ ∗ (data m 0 c).owesAt () t.succ
    ∗ (data m 0 c).leavesExact 0 t
    ∗ (data m 0 c).leavesExact 1 t
    ∗ (data m 0 c).leavesExact 2 t)

set_option maxHeartbeats 4800000 in
/-- The body at a point. -/
theorem body_point (c : Dev nD) (t : Fin cfg0.N) :
    given m c t ⊢ wp frame (wpE (defs₀ (F := F)) Variants.none c none) Set.univ (bodyAt0 t) (fun _ => returned m c t) := by
  unfold given returned bodyAt0
  simp only [before_a, before_b]
  rw [show (data m 0 c).owesAt () t.succ = (data m 0 c).owesAt () t.castSucc from rfl, held_start, held_end,
    show (data m 0 c).leavesExact 0 t = owns (c : Thread nD τ) (inA t) fullShare ((data m 0 c).after 0 t) from rfl, after_a,
    show (data m 0 c).leavesExact 1 t = owns (c : Thread nD τ) (inB t) fullShare ((data m 0 c).after 1 t) from rfl, after_b]
  unfold held
  by_cases hl : isLast (grid0.coords t)
  · rw [show (data m 0 c).leavesExact 2 t = owns (c : Thread nD τ) (outO t) fullShare ((data m 0 c).after 2 t) from by
      unfold Dat.leavesExact
      rw [live_out t hl], after_o]
    have hm := (isLast_iff t).mp hl
    iintro ⟨⟨⟨%z, %hz, HS⟩, Hg⟩, Ho, ⟨%d0, H0⟩, ⟨%d1, H1⟩, ⟨%d2, H2⟩⟩
    obtain rfl := hz (by omega)
    iapply ((pointLast c (grid0.coords t) _ _ _ _ _ _ _ _ hl (iblk m c 0 t) (iblk m c 1 t) _).2.2 Set.univ _)
    isplitl [H0]
    · iexact H0
    isplitl [H1]
    · iexact H1
    isplitl [H2]
    · iexists _
      iexact H2
    isplitl [HS]
    · iexact HS
    iintro ⟨H0, H1, ⟨%e2, H2⟩, ⟨%e3, HS⟩⟩
    isplitl [HS Hg]
    · isplitl [HS]
      · iexists (sumLast c t (iblk m c 0 t) (iblk m c 1 t) (acc m c t.val) hl)
        isplitr
        swap
        · unfold owns
          iexists _
          isplitr
          swap
          · iexact HS
          ipureintro
          exact View.read_writes_of_cover _ _ _ _ _ (fillLast c t _ _ _ hl)
        ipureintro
        intro _
        rw [acc_succ, next, dif_pos hl]
      iexact Hg
    isplitl [Ho]
    · iexact Ho
    isplitl [H0]
    · iexact H0
    isplitl [H1]
    · iexact H1
    rw [out, dif_pos hl]
    unfold owns
    iexists _
    isplitr
    swap
    · iexact H2
    ipureintro
    exact View.read_writes_of_cover _ _ _ _ _ (fillOut c t _ _ _ hl)
  · rw [Dat.leavesExact_idle (data m 0 c) 2 t (idle_out t hl) (kept_out t hl)]
    iintro ⟨⟨⟨%z, %hz, HS⟩, Hg⟩, Ho, ⟨%d0, H0⟩, ⟨%d1, H1⟩, ⟨%d2, H2⟩⟩
    iapply ((pointMid c (grid0.coords t) _ _ _ _ _ _ _ _ hl (iblk m c 0 t) (iblk m c 1 t) _).2 _ Set.univ _)
    isplitl [H0]
    · iexact H0
    isplitl [H1]
    · iexact H1
    isplitl [H2]
    · iexact H2
    isplitl [HS]
    · iexact HS
    iintro ⟨H0, H1, H2, ⟨%e3, HS⟩⟩
    isplitl [HS Hg]
    · isplitl [HS]
      · iexists (sumMid c t (iblk m c 0 t) (iblk m c 1 t) z hl)
        isplitr
        swap
        · unfold owns
          iexists _
          isplitr
          swap
          · iexact HS
          ipureintro
          exact View.read_writes_of_cover _ _ _ _ _ (fillMid c t _ _ _ hl)
        ipureintro
        intro _
        rw [acc_succ, next, dif_neg hl]
        by_cases h0 : t.val % 4 = 0
        · exact sumMid_first c t _ _ _ hl h0 _
        · rw [hz h0]
      iexact Hg
    isplitl [Ho]
    · iexact Ho
    isplitl [H0]
    · iexact H0
    isplitl [H1]
    · iexact H1
    iexists _
    iexact H2

/-- The body the pipeline calls at a point is the printed one. -/
theorem body_row (t : Fin cfg0.N) : defs₀ (F := F) .tc cfg0.body (cfg0.bodyArgs t (cfg0.slots t)) = bodyAt0 t := by
  unfold defs₀
  rw [Defs.onTc_tc]

/-- The body at every point. -/
theorem body_all (c : Dev nD) : BodyObligation (data (F := F) m 0 c) (defs₀ (F := F)) Variants.none () Set.univ := fun t => by
  rw [bigSep_W0, bigSep_W0, body_row]
  exact triple_restated (body_point m c t) rfl .rfl fun _ => .rfl

/-- The call's own buffers at anything: the accumulator and the generator's register. -/
theorem own_eq (c : Dev nD) :
    (Pipeline.ΦA spec0 c : Asrt F) = iprop(iprop((∃ d, owns (c : Thread nD τ) sumS fullShare d)) ∗ (∃ r, prngReg c r)) := by
  unfold Pipeline.ΦA
  rw [scopedRest0_eq]
  simp only [sumS, owns_whole]
  rfl

/-- What is held before the first point. -/
theorem held_first (c : Dev nD) : Pipeline.ΦA spec0 c ⊢ (data m 0 c).Φ 0 := by
  rw [show (data m 0 c).Φ 0 = held m c 0 from rfl, own_eq]
  unfold held
  iintro ⟨⟨%d, HS⟩, Hg⟩
  isplitl [HS]
  · iexists d
    isplitr
    · ipureintro
      intro h
      exact absurd rfl h
    iexact HS
  iexact Hg

/-- What is held after the last point. -/
theorem held_last (c : Dev nD) : (data m 0 c).Φ (Fin.last cfg0.N) ⊢ Pipeline.ΦA spec0 c := by
  rw [show (data m 0 c).Φ (Fin.last cfg0.N) = held m c cfg0.N from rfl, own_eq]
  unfold held
  iintro ⟨⟨%z, %hz, HS⟩, Hg⟩
  isplitl [HS]
  · iexists z
    iexact HS
  iexact Hg

set_option backward.isDefEq.respectTransparency.types false in
/-- The whole run: every array ends as the data say and every counter at zero. -/
theorem run_all : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body_all m c).loose) (hshare := fun c => (data m 0 c).share_full fun _ => rfl)
    (howed := fun _ _ => rfl) (V := V m) (hmain := hmain m Variants.none) (hA := data_A m) (hin := held_first m) (hout := held_last m)

/-- The run without the counters. -/
theorem run_arrays : θ_run defs (onTc (τ := τ) (main (F := F))) (s₀ m ρ) (Pipeline.FramePost cfgs (data m) 0 (V m)) :=
  (θ_run defs _ _).mono (fun _ h => h.1) (run_all m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_all m ρ))

/-- The run with the output array named. -/
theorem run_out : θ_run defs (onTc (τ := τ) (main (F := F))) ⟨m, fun _ => 0, ρ⟩ fun r => ∀ c : Dev nD,
      r.2.mem ((c : Thread nD τ).loc main_v1) = (data m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, h.2 c⟩)
    (θ_run_and (run_arrays m ρ) (frame_of m ρ (data m) (data_A m) (run_arrays m ρ)))

end Cert.Kernel5Ideal.Run
end
-- ==== Proof.Frames5.lean ====
module

public import proofs.«01_k».proof.Defs
public import proofs.«01_k».proof.Proof.WdownFrame
public import proofs.«01_k».proof.Proof.WdownFrameBits
public import proofs.«01_k».proof.Proof.Gen.Reference5Ideal.Run

/-! The call `mm_d_wdown` and its reference run, leave their arguments as they were and end with every counter at zero. -/

@[expose] public section

set_option maxRecDepth 16384

noncomputable section

open Idealize.ShloMosaic Idealize.ShloMosaic.TcCoe Idealize.SL.Sem

namespace Cert.Frames

/-- The kernel runs and ends quiet. -/
theorem kernel5 : Cert.quiescent_Kernel5 := fun m ρ _ => Cert.Kernel5.Run.frame m ρ

/-- The kernel over the extended reals runs and ends quiet. -/
theorem kernel5Ideal : Cert.quiescent_Kernel5Ideal := fun m ρ _ => Cert.Kernel5Ideal.Run.frame m ρ

/-- The reference over the extended reals runs and ends quiet. -/
theorem reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two printed kernels are the same program. -/
theorem preserves5 : Cert.preserves_Kernel5_Kernel5Ideal := trivial

end Cert.Frames
end
-- ==== Proof.WinRun.lean ====
module

public import proofs.«01_k».proof.Proof.Gen.Kernel6Ideal.Frame

/-! One grid point of the accumulated product, run on any buffers. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel6Ideal.Run

open Cert.Kernel6Ideal Cert.Kernel6Ideal.Gen

variable {F : FTy → Type} [FloatOps F]

/-- The assertions about this program's memory. -/
abbrev Asrt (F : FTy → Type) [FloatOps F] : Type := sProp (MT nD τ sig Unit (Elt F) ℕ (UR sig nD τ) ℕ)

/-- The grid point is the last of its output block. -/
abbrev isLast (i : grid0.Coords) : Prop := k0_cond1 i = 1#1

set_option maxHeartbeats 4000000 in
/-- A point that is not the last of its block: it keeps its inputs and the output buffer and leaves the listed stores in the accumulator. -/
def pointMid (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole) (hl : ¬isLast i)
    (x : Vec F S2048x1024 .bf16) (y : Vec F S2048x1024 .bf16) (z : Vec F S1024x1024 .f32) :
    { L : List (View.Piece (Elt F) S1024x1024 .f32) // ∀ (w : Vec F S1024x1024 .f32) (E : Set ℕ) (K : PUnit → Asrt F),
        iprop(owns (c : Thread nD τ) a fullShare x ∗ owns (c : Thread nD τ) b fullShare y ∗ owns (c : Thread nD τ) o fullShare w ∗ owns (c : Thread nD τ) s fullShare z
            ∗ (iprop(owns (c : Thread nD τ) a fullShare x ∗ owns (c : Thread nD τ) b fullShare y ∗ owns (c : Thread nD τ) o fullShare w
                ∗ (∃ f, s.view.loc (c : Thread nD τ) ↦[s.view.set]{fullShare} s.view.writes (Elt F) f L)) -∗ K ⟨⟩))
          ⊢ wp frame (wpE (defs₀ (F := F)) Variants.none c none) E (cc0_mm_d_win i a ha b hb o ho s hs) K } := by
  refine ⟨?_, fun w E K => ?run⟩
  case run =>
    unfold cc0_mm_d_win
    simp only [k0_part1]
    unfold owns
    iintro ⟨⟨%f0, %e0, H0⟩, ⟨%f1, %e1, H1⟩, ⟨%f2, %e2, H2⟩, ⟨%f3, %e3, H3⟩, Hk⟩
    obtain rfl := ha.eq_unread e0
    obtain rfl := hb.eq_unread e1
    obtain rfl := ho.eq_unread e2
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      isplitr
      · ipureintro
        exact ho.read_unread _
      iexact H2
    iexists _
    iexact H3

set_option maxHeartbeats 4000000 in
/-- The last point of a block: it keeps its inputs and leaves the listed stores in the output buffer and in the accumulator. -/
def pointLast (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole) (hl : isLast i)
    (x : Vec F S2048x1024 .bf16) (y : Vec F S2048x1024 .bf16) (z : Vec F S1024x1024 .f32) :
    Σ' M : List (View.Piece (Elt F) S1024x1024 .f32), { L : List (View.Piece (Elt F) S1024x1024 .f32) // ∀ (E : Set ℕ) (K : PUnit → Asrt F),
        iprop(owns (c : Thread nD τ) a fullShare x ∗ owns (c : Thread nD τ) b fullShare y ∗ (∃ w, owns (c : Thread nD τ) o fullShare w) ∗ owns (c : Thread nD τ) s fullShare z
            ∗ (iprop(owns (c : Thread nD τ) a fullShare x ∗ owns (c : Thread nD τ) b fullShare y
                ∗ (∃ f, o.view.loc (c : Thread nD τ) ↦[o.view.set]{fullShare} o.view.writes (Elt F) f M)
                ∗ (∃ f, s.view.loc (c : Thread nD τ) ↦[s.view.set]{fullShare} s.view.writes (Elt F) f L)) -∗ K ⟨⟩))
          ⊢ wp frame (wpE (defs₀ (F := F)) Variants.none c none) E (cc0_mm_d_win i a ha b hb o ho s hs) K } := by
  refine ⟨?_, ?_, fun E K => ?run⟩
  case run =>
    unfold cc0_mm_d_win
    simp only [k0_part1]
    unfold owns
    iintro ⟨⟨%f0, %e0, H0⟩, ⟨%f1, %e1, H1⟩, ⟨%d2, %f2, -, H2⟩, ⟨%f3, %e3, H3⟩, Hk⟩
    obtain rfl := ha.eq_unread e0
    obtain rfl := hb.eq_unread e1
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      iexact H2
    iexists _
    iexact H3

end Cert.Kernel6Ideal.Run
end
-- ==== Proof.WinFrame.lean ====
module

public import proofs.«01_k».proof.Proof.WinRun
public import proofs.«01_k».proof.Proof.GradLemmas
public import Idealize.ShloMosaic.Lib.Claim

/-! The accumulated product's run: what the accumulator and the output hold point by point. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel6Ideal.Run

open Cert.Kernel6Ideal Cert.Kernel6Ideal.Gen Cert.Grad

variable {F : FTy → Type} [FloatOps F] (m : (ℓ : Loc nD τ sig) → Buf (Elt F) ℓ) (ρ : Dev nD → PrngReg)

/-- The buffer of the first operand's block at a point. -/
abbrev inA (t : Fin cfg0.N) : Memref sig .tc .vmem S2048x1024 .bf16 := win0_0.stage (cfg0.slots t 0)
/-- The buffer of the second operand's block at a point. -/
abbrev inB (t : Fin cfg0.N) : Memref sig .tc .vmem S2048x1024 .bf16 := win0_1.stage (cfg0.slots t 1)
/-- The buffer of the output's block at a point. -/
abbrev outO (t : Fin cfg0.N) : Memref sig .tc .vmem S1024x1024 .f32 := win0_2.stage (cfg0.slots t 2)
/-- The accumulator's buffer. -/
abbrev sumS : Memref sig .tc .vmem S1024x1024 .f32 := Memref.whole cc0_scratch0
/-- The first operand's buffer is a whole buffer. -/
theorem inA_whole (t : Fin cfg0.N) : (inA t).IsWhole := hstage0_0 ((cfg0.slots t 0).cast nbuf0_0)
/-- The second operand's buffer is a whole buffer. -/
theorem inB_whole (t : Fin cfg0.N) : (inB t).IsWhole := hstage0_1 ((cfg0.slots t 1).cast nbuf0_1)
/-- The output's buffer is a whole buffer. -/
theorem outO_whole (t : Fin cfg0.N) : (outO t).IsWhole := hstage0_2 ((cfg0.slots t 2).cast nbuf0_2)
/-- The accumulator's buffer is a whole buffer. -/
theorem sumS_whole : sumS.IsWhole := Memref.isWhole_whole _
/-- The accumulator, as a view. -/
abbrev sumV : View sig .tc .vmem S1024x1024 .f32 := sumS.view
/-- One buffer of the output, as a view. -/
abbrev outV : View sig .tc .vmem S1024x1024 .f32 := (Memref.whole cc0_stg2_0 : Memref sig .tc .vmem S1024x1024 .f32).view

/-- The last point of a block is the one whose position is 3 modulo 4. -/
theorem isLast_iff : ∀ t : Fin cfg0.N, isLast (grid0.coords t) ↔ t.val % 4 = 3 := by decide +kernel
/-- The third coordinate is zero at a block's first point. -/
theorem first_word : ∀ t : Fin cfg0.N, t.val % 4 = 0 → Scalar.cmpi .eq (BitVec.ofNat 32 (grid0.coords t 2).val) 0#32 = 1#1 := by decide +kernel
/-- Away from a block's last point the output is not stored. -/
theorem idle_out : ∀ t : Fin cfg0.N, ¬isLast (grid0.coords t) → cfg0.idle 2 (grid0.coords t) = true := by decide +kernel
/-- Away from a block's last point the output is not written back. -/
theorem kept_out : ∀ t : Fin cfg0.N, ¬isLast (grid0.coords t) → (cfg0.win 2).flush t = false := by decide +kernel
/-- At a block's last point the output is stored. -/
theorem live_out : ∀ t : Fin cfg0.N, isLast (grid0.coords t) → cfg0.idle 2 (grid0.coords t) = false := by decide +kernel

section Pieces

variable (c : Dev nD) (t : Fin cfg0.N) (x : Vec F S2048x1024 .bf16) (y : Vec F S2048x1024 .bf16) (z : Vec F S1024x1024 .f32)

/-- The accumulator after a point that is not the last. -/
def sumMid (hl : ¬isLast (grid0.coords t)) : Vec F S1024x1024 .f32 :=
  sumV.read (Elt F) (sumV.writes (Elt F) sumV.junk
    (pointMid c (grid0.coords t) (inA t) (inA_whole t) (inB t) (inB_whole t) (outO t) (outO_whole t) sumS sumS_whole hl x y z).1)

/-- The accumulator after a last point. -/
def sumLast (hl : isLast (grid0.coords t)) : Vec F S1024x1024 .f32 :=
  sumV.read (Elt F) (sumV.writes (Elt F) sumV.junk
    (pointLast c (grid0.coords t) (inA t) (inA_whole t) (inB t) (inB_whole t) (outO t) (outO_whole t) sumS sumS_whole hl x y z).2.1)

/-- The output's block after a last point. -/
def outLast (hl : isLast (grid0.coords t)) : Vec F S1024x1024 .f32 :=
  outV.read (Elt F) (outV.writes (Elt F) outV.junk
    (pointLast c (grid0.coords t) (inA t) (inA_whole t) (inB t) (inB_whole t) (outO t) (outO_whole t) sumS sumS_whole hl x y z).1)

/-- The stores of a point that is not the last fill the accumulator. -/
theorem fillMid (hl : ¬isLast (grid0.coords t)) (k : S1024x1024.Idx) :
    ∃ pc ∈ (pointMid c (grid0.coords t) (inA t) (inA_whole t) (inB t) (inB_whole t) (outO t) (outO_whole t) sumS sumS_whole hl x y z).1, k ∈ pc.1.set :=
  View.cover_of_tiledL (pointMid c (grid0.coords t) (inA t) (inA_whole t) (inB t) (inB_whole t) (outO t) (outO_whole t) sumS sumS_whole hl x y z).1
    S256x1024.size (by sl_kernel_rfl) k

/-- The stores of a last point fill the accumulator. -/
theorem fillLast (hl : isLast (grid0.coords t)) (k : S1024x1024.Idx) :
    ∃ pc ∈ (pointLast c (grid0.coords t) (inA t) (inA_whole t) (inB t) (inB_whole t) (outO t) (outO_whole t) sumS sumS_whole hl x y z).2.1, k ∈ pc.1.set :=
  View.cover_of_tiledL (pointLast c (grid0.coords t) (inA t) (inA_whole t) (inB t) (inB_whole t) (outO t) (outO_whole t) sumS sumS_whole hl x y z).2.1
    S256x1024.size (by sl_kernel_rfl) k

/-- The store of a last point fills the output's block. -/
theorem fillOut (hl : isLast (grid0.coords t)) (k : S1024x1024.Idx) :
    ∃ pc ∈ (pointLast c (grid0.coords t) (inA t) (inA_whole t) (inB t) (inB_whole t) (outO t) (outO_whole t) sumS sumS_whole hl x y z).1, k ∈ pc.1.set :=
  View.cover_of_wholeMem (pointLast c (grid0.coords t) (inA t) (inA_whole t) (inB t) (inB_whole t) (outO t) (outO_whole t) sumS sumS_whole hl x y z).1
    (by sl_whole_mem) k

/-- A block's first point does not depend on what the accumulator held. -/
theorem sumMid_first (hl : ¬isLast (grid0.coords t)) (h0 : t.val % 4 = 0) (z' : Vec F S1024x1024 .f32) :
    sumMid c t x y z hl = sumMid c t x y z' hl := by
  unfold sumMid pointMid
  dsimp only
  simp only [pick _ (first_word t h0)]

/-- The accumulator after a point. -/
def next : Vec F S1024x1024 .f32 :=
  if hl : isLast (grid0.coords t) then sumLast c t x y z hl else sumMid c t x y z hl

end Pieces

/-- The accumulator before each point. -/
def acc (c : Dev nD) : ℕ → Vec F S1024x1024 .f32
  | 0 => sumV.read (Elt F) sumV.junk
  | n + 1 => if h : n < cfg0.N then next c ⟨n, h⟩ (iblk m c 0 ⟨n, h⟩) (iblk m c 1 ⟨n, h⟩) (acc c n) else acc c n

/-- The accumulator after point `t` in terms of what it held before. -/
theorem acc_succ (c : Dev nD) (t : Fin cfg0.N) : acc m c (t.val + 1) = next c t (iblk m c 0 t) (iblk m c 1 t) (acc m c t.val) := by
  obtain ⟨n, h⟩ := t
  exact dif_pos h

/-- What the output's buffer holds after point `t`, of account only at a block's last point. -/
def out (c : Dev nD) (t : Fin cfg0.N) : Vec F S1024x1024 .f32 :=
  if hl : isLast (grid0.coords t) then outLast c t (iblk m c 0 t) (iblk m c 1 t) (acc m c t.val) hl else outV.read (Elt F) outV.junk

/-- What is held between points: the accumulator, known except before a block's first point. -/
def held (c : Dev nD) (n : ℕ) : Asrt F :=
  iprop((∃ z, ⌜n % 4 ≠ 0 → z = acc m c n⌝ ∗ owns (c : Thread nD τ) sumS fullShare z) ∗ (∃ r, prngReg c r))

/-- The run's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out m c t
  Φ t := held m c t.val
  q _ := fullShare
  owed _ := 0

/-- The arrays are those the call finds. -/
theorem data_A (c : Dev nD) (w : Fin cfg0.W) : (data m 0 c).A w = V m c (Pipeline.arrRef spec0 w) := by dsimp only [data]
/-- The first operand's block stays. -/
theorem after_a (c : Dev nD) (t : Fin cfg0.N) : (data m 0 c).after 0 t = iblk m c 0 t := by dsimp only [data]
/-- The second operand's block stays. -/
theorem after_b (c : Dev nD) (t : Fin cfg0.N) : (data m 0 c).after 1 t = iblk m c 1 t := by dsimp only [data]
/-- The output's block after a point. -/
theorem after_o (c : Dev nD) (t : Fin cfg0.N) : (data m 0 c).after 2 t = out m c t := by dsimp only [data]
/-- The first operand's buffer holds its block before a point. -/
theorem before_a (c : Dev nD) (t : Fin cfg0.N) (d) : (data m 0 c).before 0 t d = iblk m c 0 t :=
  before0_0_of m (data m 0 c) (data_A m c 0) (after_a m c) t d
/-- The second operand's buffer holds its block before a point. -/
theorem before_b (c : Dev nD) (t : Fin cfg0.N) (d) : (data m 0 c).before 1 t d = iblk m c 1 t :=
  before0_1_of m (data m 0 c) (data_A m c 1) (after_b m c) t d
/-- What is held before a point. -/
theorem held_start (c : Dev nD) (t : Fin cfg0.N) : (data m 0 c).Φ t.castSucc = held m c t.val := by
  dsimp only [data]
  exact Pipeline.Dat.Φ_castSucc (fun n _ => held m c n) t
/-- What is held after a point. -/
theorem held_end (c : Dev nD) (t : Fin cfg0.N) : (data m 0 c).Φ t.succ = held m c (t.val + 1) := rfl

/-- What the body is given at a point. -/
def given (c : Dev nD) (t : Fin cfg0.N) : Asrt F :=
  iprop((data m 0 c).Φ t.castSucc ∗ (data m 0 c).owesAt () t.castSucc
    ∗ (∃ d, owns (c : Thread nD τ) (inA t) fullShare ((data m 0 c).before 0 t d))
    ∗ (∃ d, owns (c : Thread nD τ) (inB t) fullShare ((data m 0 c).before 1 t d))
    ∗ (∃ d, owns (c : Thread nD τ) (outO t) fullShare ((data m 0 c).before 2 t d)))

/-- What the body gives back at a point. -/
def returned (c : Dev nD) (t : Fin cfg0.N) : Asrt F :=
  iprop((data m 0 c).Φ t.succ ∗ (data m 0 c).owesAt () t.succ
    ∗ (data m 0 c).leavesExact 0 t
    ∗ (data m 0 c).leavesExact 1 t
    ∗ (data m 0 c).leavesExact 2 t)

set_option maxHeartbeats 4800000 in
/-- The body at a point. -/
theorem body_point (c : Dev nD) (t : Fin cfg0.N) :
    given m c t ⊢ wp frame (wpE (defs₀ (F := F)) Variants.none c none) Set.univ (bodyAt0 t) (fun _ => returned m c t) := by
  unfold given returned bodyAt0
  simp only [before_a, before_b]
  rw [show (data m 0 c).owesAt () t.succ = (data m 0 c).owesAt () t.castSucc from rfl, held_start, held_end,
    show (data m 0 c).leavesExact 0 t = owns (c : Thread nD τ) (inA t) fullShare ((data m 0 c).after 0 t) from rfl, after_a,
    show (data m 0 c).leavesExact 1 t = owns (c : Thread nD τ) (inB t) fullShare ((data m 0 c).after 1 t) from rfl, after_b]
  unfold held
  by_cases hl : isLast (grid0.coords t)
  · rw [show (data m 0 c).leavesExact 2 t = owns (c : Thread nD τ) (outO t) fullShare ((data m 0 c).after 2 t) from by
      unfold Dat.leavesExact
      rw [live_out t hl], after_o]
    have hm := (isLast_iff t).mp hl
    iintro ⟨⟨⟨%z, %hz, HS⟩, Hg⟩, Ho, ⟨%d0, H0⟩, ⟨%d1, H1⟩, ⟨%d2, H2⟩⟩
    obtain rfl := hz (by omega)
    iapply ((pointLast c (grid0.coords t) _ _ _ _ _ _ _ _ hl (iblk m c 0 t) (iblk m c 1 t) _).2.2 Set.univ _)
    isplitl [H0]
    · iexact H0
    isplitl [H1]
    · iexact H1
    isplitl [H2]
    · iexists _
      iexact H2
    isplitl [HS]
    · iexact HS
    iintro ⟨H0, H1, ⟨%e2, H2⟩, ⟨%e3, HS⟩⟩
    isplitl [HS Hg]
    · isplitl [HS]
      · iexists (sumLast c t (iblk m c 0 t) (iblk m c 1 t) (acc m c t.val) hl)
        isplitr
        swap
        · unfold owns
          iexists _
          isplitr
          swap
          · iexact HS
          ipureintro
          exact View.read_writes_of_cover _ _ _ _ _ (fillLast c t _ _ _ hl)
        ipureintro
        intro _
        rw [acc_succ, next, dif_pos hl]
      iexact Hg
    isplitl [Ho]
    · iexact Ho
    isplitl [H0]
    · iexact H0
    isplitl [H1]
    · iexact H1
    rw [out, dif_pos hl]
    unfold owns
    iexists _
    isplitr
    swap
    · iexact H2
    ipureintro
    exact View.read_writes_of_cover _ _ _ _ _ (fillOut c t _ _ _ hl)
  · rw [Dat.leavesExact_idle (data m 0 c) 2 t (idle_out t hl) (kept_out t hl)]
    iintro ⟨⟨⟨%z, %hz, HS⟩, Hg⟩, Ho, ⟨%d0, H0⟩, ⟨%d1, H1⟩, ⟨%d2, H2⟩⟩
    iapply ((pointMid c (grid0.coords t) _ _ _ _ _ _ _ _ hl (iblk m c 0 t) (iblk m c 1 t) _).2 _ Set.univ _)
    isplitl [H0]
    · iexact H0
    isplitl [H1]
    · iexact H1
    isplitl [H2]
    · iexact H2
    isplitl [HS]
    · iexact HS
    iintro ⟨H0, H1, H2, ⟨%e3, HS⟩⟩
    isplitl [HS Hg]
    · isplitl [HS]
      · iexists (sumMid c t (iblk m c 0 t) (iblk m c 1 t) z hl)
        isplitr
        swap
        · unfold owns
          iexists _
          isplitr
          swap
          · iexact HS
          ipureintro
          exact View.read_writes_of_cover _ _ _ _ _ (fillMid c t _ _ _ hl)
        ipureintro
        intro _
        rw [acc_succ, next, dif_neg hl]
        by_cases h0 : t.val % 4 = 0
        · exact sumMid_first c t _ _ _ hl h0 _
        · rw [hz h0]
      iexact Hg
    isplitl [Ho]
    · iexact Ho
    isplitl [H0]
    · iexact H0
    isplitl [H1]
    · iexact H1
    iexists _
    iexact H2

/-- The body the pipeline calls at a point is the printed one. -/
theorem body_row (t : Fin cfg0.N) : defs₀ (F := F) .tc cfg0.body (cfg0.bodyArgs t (cfg0.slots t)) = bodyAt0 t := by
  unfold defs₀
  rw [Defs.onTc_tc]

/-- The body at every point. -/
theorem body_all (c : Dev nD) : BodyObligation (data (F := F) m 0 c) (defs₀ (F := F)) Variants.none () Set.univ := fun t => by
  rw [bigSep_W0, bigSep_W0, body_row]
  exact triple_restated (body_point m c t) rfl .rfl fun _ => .rfl

/-- The call's own buffers at anything: the accumulator and the generator's register. -/
theorem own_eq (c : Dev nD) :
    (Pipeline.ΦA spec0 c : Asrt F) = iprop(iprop((∃ d, owns (c : Thread nD τ) sumS fullShare d)) ∗ (∃ r, prngReg c r)) := by
  unfold Pipeline.ΦA
  rw [scopedRest0_eq]
  simp only [sumS, owns_whole]
  rfl

/-- What is held before the first point. -/
theorem held_first (c : Dev nD) : Pipeline.ΦA spec0 c ⊢ (data m 0 c).Φ 0 := by
  rw [show (data m 0 c).Φ 0 = held m c 0 from rfl, own_eq]
  unfold held
  iintro ⟨⟨%d, HS⟩, Hg⟩
  isplitl [HS]
  · iexists d
    isplitr
    · ipureintro
      intro h
      exact absurd rfl h
    iexact HS
  iexact Hg

/-- What is held after the last point. -/
theorem held_last (c : Dev nD) : (data m 0 c).Φ (Fin.last cfg0.N) ⊢ Pipeline.ΦA spec0 c := by
  rw [show (data m 0 c).Φ (Fin.last cfg0.N) = held m c cfg0.N from rfl, own_eq]
  unfold held
  iintro ⟨⟨%z, %hz, HS⟩, Hg⟩
  isplitl [HS]
  · iexists z
    iexact HS
  iexact Hg

set_option backward.isDefEq.respectTransparency.types false in
/-- The whole run: every array ends as the data say and every counter at zero. -/
theorem run_all : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body_all m c).loose) (hshare := fun c => (data m 0 c).share_full fun _ => rfl)
    (howed := fun _ _ => rfl) (V := V m) (hmain := hmain m Variants.none) (hA := data_A m) (hin := held_first m) (hout := held_last m)

/-- The run without the counters. -/
theorem run_arrays : θ_run defs (onTc (τ := τ) (main (F := F))) (s₀ m ρ) (Pipeline.FramePost cfgs (data m) 0 (V m)) :=
  (θ_run defs _ _).mono (fun _ h => h.1) (run_all m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_all m ρ))

/-- The run with the output array named. -/
theorem run_out : θ_run defs (onTc (τ := τ) (main (F := F))) ⟨m, fun _ => 0, ρ⟩ fun r => ∀ c : Dev nD,
      r.2.mem ((c : Thread nD τ).loc main_v2) = (data m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, h.2 c⟩)
    (θ_run_and (run_arrays m ρ) (frame_of m ρ (data m) (data_A m) (run_arrays m ρ)))

end Cert.Kernel6Ideal.Run
end
-- ==== Proof.Frames6.lean ====
module

public import proofs.«01_k».proof.Defs
public import proofs.«01_k».proof.Proof.WinFrame
public import proofs.«01_k».proof.Proof.WinFrameBits
public import proofs.«01_k».proof.Proof.Gen.Reference6Ideal.Run

/-! The call `mm_d_win` and its reference run, leave their arguments as they were and end with every counter at zero. -/

@[expose] public section

set_option maxRecDepth 16384

noncomputable section

open Idealize.ShloMosaic Idealize.ShloMosaic.TcCoe Idealize.SL.Sem

namespace Cert.Frames

/-- The kernel runs and ends quiet. -/
theorem kernel6 : Cert.quiescent_Kernel6 := fun m ρ _ => Cert.Kernel6.Run.frame m ρ

/-- The kernel over the extended reals runs and ends quiet. -/
theorem kernel6Ideal : Cert.quiescent_Kernel6Ideal := fun m ρ _ => Cert.Kernel6Ideal.Run.frame m ρ

/-- The reference over the extended reals runs and ends quiet. -/
theorem reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two printed kernels are the same program. -/
theorem preserves6 : Cert.preserves_Kernel6_Kernel6Ideal := trivial

end Cert.Frames
end
-- ==== Proof.WpgRun.lean ====
module

public import proofs.«01_k».proof.Proof.Gen.Kernel7Ideal.Frame

/-! One grid point of the accumulated product, run on any buffers. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.Run

open Cert.Kernel7Ideal Cert.Kernel7Ideal.Gen

variable {F : FTy → Type} [FloatOps F]

/-- The assertions about this program's memory. -/
abbrev Asrt (F : FTy → Type) [FloatOps F] : Type := sProp (MT nD τ sig Unit (Elt F) ℕ (UR sig nD τ) ℕ)

/-- The grid point is the last of its output block. -/
abbrev isLast (i : grid0.Coords) : Prop := k0_cond1 i = 1#1

set_option maxHeartbeats 4000000 in
/-- A point that is not the last of its block: it keeps its inputs and the output buffer and leaves the listed stores in the accumulator. -/
def pointMid (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole) (hl : ¬isLast i)
    (x : Vec F S2048x1024 .bf16) (y : Vec F S2048x1024 .bf16) (z : Vec F S1024x1024 .f32) :
    { L : List (View.Piece (Elt F) S1024x1024 .f32) // ∀ (w : Vec F S1024x1024 .f32) (E : Set ℕ) (K : PUnit → Asrt F),
        iprop(owns (c : Thread nD τ) a fullShare x ∗ owns (c : Thread nD τ) b fullShare y ∗ owns (c : Thread nD τ) o fullShare w ∗ owns (c : Thread nD τ) s fullShare z
            ∗ (iprop(owns (c : Thread nD τ) a fullShare x ∗ owns (c : Thread nD τ) b fullShare y ∗ owns (c : Thread nD τ) o fullShare w
                ∗ (∃ f, s.view.loc (c : Thread nD τ) ↦[s.view.set]{fullShare} s.view.writes (Elt F) f L)) -∗ K ⟨⟩))
          ⊢ wp frame (wpE (defs₀ (F := F)) Variants.none c none) E (cc0_mm_d_wpg i a ha b hb o ho s hs) K } := by
  refine ⟨?_, fun w E K => ?run⟩
  case run =>
    unfold cc0_mm_d_wpg
    simp only [k0_part1]
    unfold owns
    iintro ⟨⟨%f0, %e0, H0⟩, ⟨%f1, %e1, H1⟩, ⟨%f2, %e2, H2⟩, ⟨%f3, %e3, H3⟩, Hk⟩
    obtain rfl := ha.eq_unread e0
    obtain rfl := hb.eq_unread e1
    obtain rfl := ho.eq_unread e2
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      isplitr
      · ipureintro
        exact ho.read_unread _
      iexact H2
    iexists _
    iexact H3

set_option maxHeartbeats 4000000 in
/-- The last point of a block: it keeps its inputs and leaves the listed stores in the output buffer and in the accumulator. -/
def pointLast (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole) (hl : isLast i)
    (x : Vec F S2048x1024 .bf16) (y : Vec F S2048x1024 .bf16) (z : Vec F S1024x1024 .f32) :
    Σ' M : List (View.Piece (Elt F) S1024x1024 .f32), { L : List (View.Piece (Elt F) S1024x1024 .f32) // ∀ (E : Set ℕ) (K : PUnit → Asrt F),
        iprop(owns (c : Thread nD τ) a fullShare x ∗ owns (c : Thread nD τ) b fullShare y ∗ (∃ w, owns (c : Thread nD τ) o fullShare w) ∗ owns (c : Thread nD τ) s fullShare z
            ∗ (iprop(owns (c : Thread nD τ) a fullShare x ∗ owns (c : Thread nD τ) b fullShare y
                ∗ (∃ f, o.view.loc (c : Thread nD τ) ↦[o.view.set]{fullShare} o.view.writes (Elt F) f M)
                ∗ (∃ f, s.view.loc (c : Thread nD τ) ↦[s.view.set]{fullShare} s.view.writes (Elt F) f L)) -∗ K ⟨⟩))
          ⊢ wp frame (wpE (defs₀ (F := F)) Variants.none c none) E (cc0_mm_d_wpg i a ha b hb o ho s hs) K } := by
  refine ⟨?_, ?_, fun E K => ?run⟩
  case run =>
    unfold cc0_mm_d_wpg
    simp only [k0_part1]
    unfold owns
    iintro ⟨⟨%f0, %e0, H0⟩, ⟨%f1, %e1, H1⟩, ⟨%d2, %f2, -, H2⟩, ⟨%f3, %e3, H3⟩, Hk⟩
    obtain rfl := ha.eq_unread e0
    obtain rfl := hb.eq_unread e1
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      iexact H2
    iexists _
    iexact H3

end Cert.Kernel7Ideal.Run
end
-- ==== Proof.WpgFrame.lean ====
module

public import proofs.«01_k».proof.Proof.WpgRun
public import proofs.«01_k».proof.Proof.GradLemmas
public import Idealize.ShloMosaic.Lib.Claim

/-! The accumulated product's run: what the accumulator and the output hold point by point. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.Run

open Cert.Kernel7Ideal Cert.Kernel7Ideal.Gen Cert.Grad

variable {F : FTy → Type} [FloatOps F] (m : (ℓ : Loc nD τ sig) → Buf (Elt F) ℓ) (ρ : Dev nD → PrngReg)

/-- The buffer of the first operand's block at a point. -/
abbrev inA (t : Fin cfg0.N) : Memref sig .tc .vmem S2048x1024 .bf16 := win0_0.stage (cfg0.slots t 0)
/-- The buffer of the second operand's block at a point. -/
abbrev inB (t : Fin cfg0.N) : Memref sig .tc .vmem S2048x1024 .bf16 := win0_1.stage (cfg0.slots t 1)
/-- The buffer of the output's block at a point. -/
abbrev outO (t : Fin cfg0.N) : Memref sig .tc .vmem S1024x1024 .f32 := win0_2.stage (cfg0.slots t 2)
/-- The accumulator's buffer. -/
abbrev sumS : Memref sig .tc .vmem S1024x1024 .f32 := Memref.whole cc0_scratch0
/-- The first operand's buffer is a whole buffer. -/
theorem inA_whole (t : Fin cfg0.N) : (inA t).IsWhole := hstage0_0 ((cfg0.slots t 0).cast nbuf0_0)
/-- The second operand's buffer is a whole buffer. -/
theorem inB_whole (t : Fin cfg0.N) : (inB t).IsWhole := hstage0_1 ((cfg0.slots t 1).cast nbuf0_1)
/-- The output's buffer is a whole buffer. -/
theorem outO_whole (t : Fin cfg0.N) : (outO t).IsWhole := hstage0_2 ((cfg0.slots t 2).cast nbuf0_2)
/-- The accumulator's buffer is a whole buffer. -/
theorem sumS_whole : sumS.IsWhole := Memref.isWhole_whole _
/-- The accumulator, as a view. -/
abbrev sumV : View sig .tc .vmem S1024x1024 .f32 := sumS.view
/-- One buffer of the output, as a view. -/
abbrev outV : View sig .tc .vmem S1024x1024 .f32 := (Memref.whole cc0_stg2_0 : Memref sig .tc .vmem S1024x1024 .f32).view

/-- The last point of a block is the one whose position is 3 modulo 4. -/
theorem isLast_iff : ∀ t : Fin cfg0.N, isLast (grid0.coords t) ↔ t.val % 4 = 3 := by decide +kernel
/-- The third coordinate is zero at a block's first point. -/
theorem first_word : ∀ t : Fin cfg0.N, t.val % 4 = 0 → Scalar.cmpi .eq (BitVec.ofNat 32 (grid0.coords t 2).val) 0#32 = 1#1 := by decide +kernel
/-- Away from a block's last point the output is not stored. -/
theorem idle_out : ∀ t : Fin cfg0.N, ¬isLast (grid0.coords t) → cfg0.idle 2 (grid0.coords t) = true := by decide +kernel
/-- Away from a block's last point the output is not written back. -/
theorem kept_out : ∀ t : Fin cfg0.N, ¬isLast (grid0.coords t) → (cfg0.win 2).flush t = false := by decide +kernel
/-- At a block's last point the output is stored. -/
theorem live_out : ∀ t : Fin cfg0.N, isLast (grid0.coords t) → cfg0.idle 2 (grid0.coords t) = false := by decide +kernel

section Pieces

variable (c : Dev nD) (t : Fin cfg0.N) (x : Vec F S2048x1024 .bf16) (y : Vec F S2048x1024 .bf16) (z : Vec F S1024x1024 .f32)

/-- The accumulator after a point that is not the last. -/
def sumMid (hl : ¬isLast (grid0.coords t)) : Vec F S1024x1024 .f32 :=
  sumV.read (Elt F) (sumV.writes (Elt F) sumV.junk
    (pointMid c (grid0.coords t) (inA t) (inA_whole t) (inB t) (inB_whole t) (outO t) (outO_whole t) sumS sumS_whole hl x y z).1)

/-- The accumulator after a last point. -/
def sumLast (hl : isLast (grid0.coords t)) : Vec F S1024x1024 .f32 :=
  sumV.read (Elt F) (sumV.writes (Elt F) sumV.junk
    (pointLast c (grid0.coords t) (inA t) (inA_whole t) (inB t) (inB_whole t) (outO t) (outO_whole t) sumS sumS_whole hl x y z).2.1)

/-- The output's block after a last point. -/
def outLast (hl : isLast (grid0.coords t)) : Vec F S1024x1024 .f32 :=
  outV.read (Elt F) (outV.writes (Elt F) outV.junk
    (pointLast c (grid0.coords t) (inA t) (inA_whole t) (inB t) (inB_whole t) (outO t) (outO_whole t) sumS sumS_whole hl x y z).1)

/-- The stores of a point that is not the last fill the accumulator. -/
theorem fillMid (hl : ¬isLast (grid0.coords t)) (k : S1024x1024.Idx) :
    ∃ pc ∈ (pointMid c (grid0.coords t) (inA t) (inA_whole t) (inB t) (inB_whole t) (outO t) (outO_whole t) sumS sumS_whole hl x y z).1, k ∈ pc.1.set :=
  View.cover_of_tiledL (pointMid c (grid0.coords t) (inA t) (inA_whole t) (inB t) (inB_whole t) (outO t) (outO_whole t) sumS sumS_whole hl x y z).1
    S256x1024.size (by sl_kernel_rfl) k

/-- The stores of a last point fill the accumulator. -/
theorem fillLast (hl : isLast (grid0.coords t)) (k : S1024x1024.Idx) :
    ∃ pc ∈ (pointLast c (grid0.coords t) (inA t) (inA_whole t) (inB t) (inB_whole t) (outO t) (outO_whole t) sumS sumS_whole hl x y z).2.1, k ∈ pc.1.set :=
  View.cover_of_tiledL (pointLast c (grid0.coords t) (inA t) (inA_whole t) (inB t) (inB_whole t) (outO t) (outO_whole t) sumS sumS_whole hl x y z).2.1
    S256x1024.size (by sl_kernel_rfl) k

/-- The store of a last point fills the output's block. -/
theorem fillOut (hl : isLast (grid0.coords t)) (k : S1024x1024.Idx) :
    ∃ pc ∈ (pointLast c (grid0.coords t) (inA t) (inA_whole t) (inB t) (inB_whole t) (outO t) (outO_whole t) sumS sumS_whole hl x y z).1, k ∈ pc.1.set :=
  View.cover_of_wholeMem (pointLast c (grid0.coords t) (inA t) (inA_whole t) (inB t) (inB_whole t) (outO t) (outO_whole t) sumS sumS_whole hl x y z).1
    (by sl_whole_mem) k

/-- A block's first point does not depend on what the accumulator held. -/
theorem sumMid_first (hl : ¬isLast (grid0.coords t)) (h0 : t.val % 4 = 0) (z' : Vec F S1024x1024 .f32) :
    sumMid c t x y z hl = sumMid c t x y z' hl := by
  unfold sumMid pointMid
  dsimp only
  simp only [pick _ (first_word t h0)]

/-- The accumulator after a point. -/
def next : Vec F S1024x1024 .f32 :=
  if hl : isLast (grid0.coords t) then sumLast c t x y z hl else sumMid c t x y z hl

end Pieces

/-- The accumulator before each point. -/
def acc (c : Dev nD) : ℕ → Vec F S1024x1024 .f32
  | 0 => sumV.read (Elt F) sumV.junk
  | n + 1 => if h : n < cfg0.N then next c ⟨n, h⟩ (iblk m c 0 ⟨n, h⟩) (iblk m c 1 ⟨n, h⟩) (acc c n) else acc c n

/-- The accumulator after point `t` in terms of what it held before. -/
theorem acc_succ (c : Dev nD) (t : Fin cfg0.N) : acc m c (t.val + 1) = next c t (iblk m c 0 t) (iblk m c 1 t) (acc m c t.val) := by
  obtain ⟨n, h⟩ := t
  exact dif_pos h

/-- What the output's buffer holds after point `t`, of account only at a block's last point. -/
def out (c : Dev nD) (t : Fin cfg0.N) : Vec F S1024x1024 .f32 :=
  if hl : isLast (grid0.coords t) then outLast c t (iblk m c 0 t) (iblk m c 1 t) (acc m c t.val) hl else outV.read (Elt F) outV.junk

/-- What is held between points: the accumulator, known except before a block's first point. -/
def held (c : Dev nD) (n : ℕ) : Asrt F :=
  iprop((∃ z, ⌜n % 4 ≠ 0 → z = acc m c n⌝ ∗ owns (c : Thread nD τ) sumS fullShare z) ∗ (∃ r, prngReg c r))

/-- The run's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out m c t
  Φ t := held m c t.val
  q _ := fullShare
  owed _ := 0

/-- The arrays are those the call finds. -/
theorem data_A (c : Dev nD) (w : Fin cfg0.W) : (data m 0 c).A w = V m c (Pipeline.arrRef spec0 w) := by dsimp only [data]
/-- The first operand's block stays. -/
theorem after_a (c : Dev nD) (t : Fin cfg0.N) : (data m 0 c).after 0 t = iblk m c 0 t := by dsimp only [data]
/-- The second operand's block stays. -/
theorem after_b (c : Dev nD) (t : Fin cfg0.N) : (data m 0 c).after 1 t = iblk m c 1 t := by dsimp only [data]
/-- The output's block after a point. -/
theorem after_o (c : Dev nD) (t : Fin cfg0.N) : (data m 0 c).after 2 t = out m c t := by dsimp only [data]
/-- The first operand's buffer holds its block before a point. -/
theorem before_a (c : Dev nD) (t : Fin cfg0.N) (d) : (data m 0 c).before 0 t d = iblk m c 0 t :=
  before0_0_of m (data m 0 c) (data_A m c 0) (after_a m c) t d
/-- The second operand's buffer holds its block before a point. -/
theorem before_b (c : Dev nD) (t : Fin cfg0.N) (d) : (data m 0 c).before 1 t d = iblk m c 1 t :=
  before0_1_of m (data m 0 c) (data_A m c 1) (after_b m c) t d
/-- What is held before a point. -/
theorem held_start (c : Dev nD) (t : Fin cfg0.N) : (data m 0 c).Φ t.castSucc = held m c t.val := by
  dsimp only [data]
  exact Pipeline.Dat.Φ_castSucc (fun n _ => held m c n) t
/-- What is held after a point. -/
theorem held_end (c : Dev nD) (t : Fin cfg0.N) : (data m 0 c).Φ t.succ = held m c (t.val + 1) := rfl

/-- What the body is given at a point. -/
def given (c : Dev nD) (t : Fin cfg0.N) : Asrt F :=
  iprop((data m 0 c).Φ t.castSucc ∗ (data m 0 c).owesAt () t.castSucc
    ∗ (∃ d, owns (c : Thread nD τ) (inA t) fullShare ((data m 0 c).before 0 t d))
    ∗ (∃ d, owns (c : Thread nD τ) (inB t) fullShare ((data m 0 c).before 1 t d))
    ∗ (∃ d, owns (c : Thread nD τ) (outO t) fullShare ((data m 0 c).before 2 t d)))

/-- What the body gives back at a point. -/
def returned (c : Dev nD) (t : Fin cfg0.N) : Asrt F :=
  iprop((data m 0 c).Φ t.succ ∗ (data m 0 c).owesAt () t.succ
    ∗ (data m 0 c).leavesExact 0 t
    ∗ (data m 0 c).leavesExact 1 t
    ∗ (data m 0 c).leavesExact 2 t)

set_option maxHeartbeats 4800000 in
/-- The body at a point. -/
theorem body_point (c : Dev nD) (t : Fin cfg0.N) :
    given m c t ⊢ wp frame (wpE (defs₀ (F := F)) Variants.none c none) Set.univ (bodyAt0 t) (fun _ => returned m c t) := by
  unfold given returned bodyAt0
  simp only [before_a, before_b]
  rw [show (data m 0 c).owesAt () t.succ = (data m 0 c).owesAt () t.castSucc from rfl, held_start, held_end,
    show (data m 0 c).leavesExact 0 t = owns (c : Thread nD τ) (inA t) fullShare ((data m 0 c).after 0 t) from rfl, after_a,
    show (data m 0 c).leavesExact 1 t = owns (c : Thread nD τ) (inB t) fullShare ((data m 0 c).after 1 t) from rfl, after_b]
  unfold held
  by_cases hl : isLast (grid0.coords t)
  · rw [show (data m 0 c).leavesExact 2 t = owns (c : Thread nD τ) (outO t) fullShare ((data m 0 c).after 2 t) from by
      unfold Dat.leavesExact
      rw [live_out t hl], after_o]
    have hm := (isLast_iff t).mp hl
    iintro ⟨⟨⟨%z, %hz, HS⟩, Hg⟩, Ho, ⟨%d0, H0⟩, ⟨%d1, H1⟩, ⟨%d2, H2⟩⟩
    obtain rfl := hz (by omega)
    iapply ((pointLast c (grid0.coords t) _ _ _ _ _ _ _ _ hl (iblk m c 0 t) (iblk m c 1 t) _).2.2 Set.univ _)
    isplitl [H0]
    · iexact H0
    isplitl [H1]
    · iexact H1
    isplitl [H2]
    · iexists _
      iexact H2
    isplitl [HS]
    · iexact HS
    iintro ⟨H0, H1, ⟨%e2, H2⟩, ⟨%e3, HS⟩⟩
    isplitl [HS Hg]
    · isplitl [HS]
      · iexists (sumLast c t (iblk m c 0 t) (iblk m c 1 t) (acc m c t.val) hl)
        isplitr
        swap
        · unfold owns
          iexists _
          isplitr
          swap
          · iexact HS
          ipureintro
          exact View.read_writes_of_cover _ _ _ _ _ (fillLast c t _ _ _ hl)
        ipureintro
        intro _
        rw [acc_succ, next, dif_pos hl]
      iexact Hg
    isplitl [Ho]
    · iexact Ho
    isplitl [H0]
    · iexact H0
    isplitl [H1]
    · iexact H1
    rw [out, dif_pos hl]
    unfold owns
    iexists _
    isplitr
    swap
    · iexact H2
    ipureintro
    exact View.read_writes_of_cover _ _ _ _ _ (fillOut c t _ _ _ hl)
  · rw [Dat.leavesExact_idle (data m 0 c) 2 t (idle_out t hl) (kept_out t hl)]
    iintro ⟨⟨⟨%z, %hz, HS⟩, Hg⟩, Ho, ⟨%d0, H0⟩, ⟨%d1, H1⟩, ⟨%d2, H2⟩⟩
    iapply ((pointMid c (grid0.coords t) _ _ _ _ _ _ _ _ hl (iblk m c 0 t) (iblk m c 1 t) _).2 _ Set.univ _)
    isplitl [H0]
    · iexact H0
    isplitl [H1]
    · iexact H1
    isplitl [H2]
    · iexact H2
    isplitl [HS]
    · iexact HS
    iintro ⟨H0, H1, H2, ⟨%e3, HS⟩⟩
    isplitl [HS Hg]
    · isplitl [HS]
      · iexists (sumMid c t (iblk m c 0 t) (iblk m c 1 t) z hl)
        isplitr
        swap
        · unfold owns
          iexists _
          isplitr
          swap
          · iexact HS
          ipureintro
          exact View.read_writes_of_cover _ _ _ _ _ (fillMid c t _ _ _ hl)
        ipureintro
        intro _
        rw [acc_succ, next, dif_neg hl]
        by_cases h0 : t.val % 4 = 0
        · exact sumMid_first c t _ _ _ hl h0 _
        · rw [hz h0]
      iexact Hg
    isplitl [Ho]
    · iexact Ho
    isplitl [H0]
    · iexact H0
    isplitl [H1]
    · iexact H1
    iexists _
    iexact H2

/-- The body the pipeline calls at a point is the printed one. -/
theorem body_row (t : Fin cfg0.N) : defs₀ (F := F) .tc cfg0.body (cfg0.bodyArgs t (cfg0.slots t)) = bodyAt0 t := by
  unfold defs₀
  rw [Defs.onTc_tc]

/-- The body at every point. -/
theorem body_all (c : Dev nD) : BodyObligation (data (F := F) m 0 c) (defs₀ (F := F)) Variants.none () Set.univ := fun t => by
  rw [bigSep_W0, bigSep_W0, body_row]
  exact triple_restated (body_point m c t) rfl .rfl fun _ => .rfl

/-- The call's own buffers at anything: the accumulator and the generator's register. -/
theorem own_eq (c : Dev nD) :
    (Pipeline.ΦA spec0 c : Asrt F) = iprop(iprop((∃ d, owns (c : Thread nD τ) sumS fullShare d)) ∗ (∃ r, prngReg c r)) := by
  unfold Pipeline.ΦA
  rw [scopedRest0_eq]
  simp only [sumS, owns_whole]
  rfl

/-- What is held before the first point. -/
theorem held_first (c : Dev nD) : Pipeline.ΦA spec0 c ⊢ (data m 0 c).Φ 0 := by
  rw [show (data m 0 c).Φ 0 = held m c 0 from rfl, own_eq]
  unfold held
  iintro ⟨⟨%d, HS⟩, Hg⟩
  isplitl [HS]
  · iexists d
    isplitr
    · ipureintro
      intro h
      exact absurd rfl h
    iexact HS
  iexact Hg

/-- What is held after the last point. -/
theorem held_last (c : Dev nD) : (data m 0 c).Φ (Fin.last cfg0.N) ⊢ Pipeline.ΦA spec0 c := by
  rw [show (data m 0 c).Φ (Fin.last cfg0.N) = held m c cfg0.N from rfl, own_eq]
  unfold held
  iintro ⟨⟨%z, %hz, HS⟩, Hg⟩
  isplitl [HS]
  · iexists z
    iexact HS
  iexact Hg

set_option backward.isDefEq.respectTransparency.types false in
/-- The whole run: every array ends as the data say and every counter at zero. -/
theorem run_all : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body_all m c).loose) (hshare := fun c => (data m 0 c).share_full fun _ => rfl)
    (howed := fun _ _ => rfl) (V := V m) (hmain := hmain m Variants.none) (hA := data_A m) (hin := held_first m) (hout := held_last m)

/-- The run without the counters. -/
theorem run_arrays : θ_run defs (onTc (τ := τ) (main (F := F))) (s₀ m ρ) (Pipeline.FramePost cfgs (data m) 0 (V m)) :=
  (θ_run defs _ _).mono (fun _ h => h.1) (run_all m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_all m ρ))

/-- The run with the output array named. -/
theorem run_out : θ_run defs (onTc (τ := τ) (main (F := F))) ⟨m, fun _ => 0, ρ⟩ fun r => ∀ c : Dev nD,
      r.2.mem ((c : Thread nD τ).loc main_v2) = (data m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, h.2 c⟩)
    (θ_run_and (run_arrays m ρ) (frame_of m ρ (data m) (data_A m) (run_arrays m ρ)))

end Cert.Kernel7Ideal.Run
end
-- ==== Proof.Frames7.lean ====
module

public import proofs.«01_k».proof.Defs
public import proofs.«01_k».proof.Proof.WpgFrame
public import proofs.«01_k».proof.Proof.WpgFrameBits
public import proofs.«01_k».proof.Proof.Gen.Reference7Ideal.Run

/-! The call `mm_d_wpg` and its reference run, leave their arguments as they were and end with every counter at zero. -/

@[expose] public section

set_option maxRecDepth 16384

noncomputable section

open Idealize.ShloMosaic Idealize.ShloMosaic.TcCoe Idealize.SL.Sem

namespace Cert.Frames

/-- The kernel runs and ends quiet. -/
theorem kernel7 : Cert.quiescent_Kernel7 := fun m ρ _ => Cert.Kernel7.Run.frame m ρ

/-- The kernel over the extended reals runs and ends quiet. -/
theorem kernel7Ideal : Cert.quiescent_Kernel7Ideal := fun m ρ _ => Cert.Kernel7Ideal.Run.frame m ρ

/-- The reference over the extended reals runs and ends quiet. -/
theorem reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two printed kernels are the same program. -/
theorem preserves7 : Cert.preserves_Kernel7_Kernel7Ideal := trivial

end Cert.Frames
end
-- ==== Proof.WoRun.lean ====
module

public import proofs.«01_k».proof.Proof.Gen.Kernel8Ideal.Frame

/-! One grid point of the accumulated product, run on any buffers. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel8Ideal.Run

open Cert.Kernel8Ideal Cert.Kernel8Ideal.Gen

variable {F : FTy → Type} [FloatOps F]

/-- The assertions about this program's memory. -/
abbrev Asrt (F : FTy → Type) [FloatOps F] : Type := sProp (MT nD τ sig Unit (Elt F) ℕ (UR sig nD τ) ℕ)

/-- The grid point is the last of its output block. -/
abbrev isLast (i : grid0.Coords) : Prop := k0_cond1 i = 1#1

set_option maxHeartbeats 4000000 in
/-- A point that is not the last of its block: it keeps its inputs and the output buffer and leaves the listed stores in the accumulator. -/
def pointMid (c : Dev nD) (i : grid0.Coords) (a : Memref sig .tc .vmem S2048x1024 .bf16) (ha : a.IsWhole) (b : Memref sig .tc .vmem S2048x1024 .f32) (hb : b.IsWhole)
    (o : Memref sig .tc .vmem S1024x1024 .f32) (ho : o.IsWhole) (s : Memref sig .tc .vmem S1024x1024 .f32) (hs : s.IsWhole) (hl : ¬isLast i)
    (x : Vec F S2048x1024 .bf16) (y : Vec F S2048x1024 .f32) (z : Vec F S1024x1024 .f32) :
    { L : List (View.Piece (Elt F) S1024x1024 .f32) // ∀ (w : Vec F S1024x1024 .f32) (E : Set ℕ) (K : PUnit → Asrt F),
        iprop(owns (c : Thread nD τ) a fullShare x ∗ owns (c : Thread nD τ) b fullShare y ∗ owns (c : Thread nD τ) o fullShare w ∗ owns (c : Thread nD τ) s fullShare z
            ∗ (iprop(owns (c : Thread nD τ) a fullShare x ∗ owns (c : Thread nD τ) b fullShare y ∗ owns (c : Thread nD τ) o fullShare w
                ∗ (∃ f, s.view.loc (c : Thread nD τ) ↦[s.view.set]{fullShare} s.view.writes (Elt F) f L)) -∗ K ⟨⟩))
          ⊢ wp frame (wpE (defs₀ (F := F)) Variants.none c none) E (cc0_mm_d_wo_att i a ha b hb o ho s hs) K } := by
  refine ⟨?_, fun w E K => ?run⟩
  case run =>
    unfold cc0_mm_d_wo_att
    simp only [k0_part1]
    unfold owns
    iintro ⟨⟨%f0, %e0, H0⟩, ⟨%f1, %e1, H1⟩, ⟨%f2, %e2, H2⟩, ⟨%f3, %e3, H3⟩, Hk⟩
    obtain rfl := ha.eq_unread e0
    obtain rfl := hb.eq_unread e1
    obtain rfl := ho.eq_unread e2
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      isplitr
      · ipureintro
        exact ho.read_unread _
      iexact H2
    iexists _
    iexact H3

set_option maxHeartbeats 4000000 in
/-- The last point of a block: it keeps its inputs and leaves the listed stores in the output buffer and in the accumulator. -/
def pointLast (c : Dev nD) (i : grid0.Coords) (a : Memref sig .tc .vmem S2048x1024 .bf16) (ha : a.IsWhole) (b : Memref sig .tc .vmem S2048x1024 .f32) (hb : b.IsWhole)
    (o : Memref sig .tc .vmem S1024x1024 .f32) (ho : o.IsWhole) (s : Memref sig .tc .vmem S1024x1024 .f32) (hs : s.IsWhole) (hl : isLast i)
    (x : Vec F S2048x1024 .bf16) (y : Vec F S2048x1024 .f32) (z : Vec F S1024x1024 .f32) :
    Σ' M : List (View.Piece (Elt F) S1024x1024 .f32), { L : List (View.Piece (Elt F) S1024x1024 .f32) // ∀ (E : Set ℕ) (K : PUnit → Asrt F),
        iprop(owns (c : Thread nD τ) a fullShare x ∗ owns (c : Thread nD τ) b fullShare y ∗ (∃ w, owns (c : Thread nD τ) o fullShare w) ∗ owns (c : Thread nD τ) s fullShare z
            ∗ (iprop(owns (c : Thread nD τ) a fullShare x ∗ owns (c : Thread nD τ) b fullShare y
                ∗ (∃ f, o.view.loc (c : Thread nD τ) ↦[o.view.set]{fullShare} o.view.writes (Elt F) f M)
                ∗ (∃ f, s.view.loc (c : Thread nD τ) ↦[s.view.set]{fullShare} s.view.writes (Elt F) f L)) -∗ K ⟨⟩))
          ⊢ wp frame (wpE (defs₀ (F := F)) Variants.none c none) E (cc0_mm_d_wo_att i a ha b hb o ho s hs) K } := by
  refine ⟨?_, ?_, fun E K => ?run⟩
  case run =>
    unfold cc0_mm_d_wo_att
    simp only [k0_part1]
    unfold owns
    iintro ⟨⟨%f0, %e0, H0⟩, ⟨%f1, %e1, H1⟩, ⟨%d2, %f2, -, H2⟩, ⟨%f3, %e3, H3⟩, Hk⟩
    obtain rfl := ha.eq_unread e0
    obtain rfl := hb.eq_unread e1
    obtain rfl := hs.eq_unread e3
    sl_exec (disch := sl_exact hl)
    sl_step
    iapply Hk
    isplitl [H0]
    · iexists _
      isplitr
      · ipureintro
        exact ha.read_unread _
      iexact H0
    isplitl [H1]
    · iexists _
      isplitr
      · ipureintro
        exact hb.read_unread _
      iexact H1
    isplitl [H2]
    · iexists _
      iexact H2
    iexists _
    iexact H3

end Cert.Kernel8Ideal.Run
end
-- ==== Proof.WoFrame.lean ====
module

public import proofs.«01_k».proof.Proof.WoRun
public import proofs.«01_k».proof.Proof.GradLemmas
public import Idealize.ShloMosaic.Lib.Claim

/-! The accumulated product's run: what the accumulator and the output hold point by point. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel8Ideal.Run

open Cert.Kernel8Ideal Cert.Kernel8Ideal.Gen Cert.Grad

variable {F : FTy → Type} [FloatOps F] (m : (ℓ : Loc nD τ sig) → Buf (Elt F) ℓ) (ρ : Dev nD → PrngReg)

/-- The buffer of the first operand's block at a point. -/
abbrev inA (t : Fin cfg0.N) : Memref sig .tc .vmem S2048x1024 .bf16 := win0_0.stage (cfg0.slots t 0)
/-- The buffer of the second operand's block at a point. -/
abbrev inB (t : Fin cfg0.N) : Memref sig .tc .vmem S2048x1024 .f32 := win0_1.stage (cfg0.slots t 1)
/-- The buffer of the output's block at a point. -/
abbrev outO (t : Fin cfg0.N) : Memref sig .tc .vmem S1024x1024 .f32 := win0_2.stage (cfg0.slots t 2)
/-- The accumulator's buffer. -/
abbrev sumS : Memref sig .tc .vmem S1024x1024 .f32 := Memref.whole cc0_scratch0
/-- The first operand's buffer is a whole buffer. -/
theorem inA_whole (t : Fin cfg0.N) : (inA t).IsWhole := hstage0_0 ((cfg0.slots t 0).cast nbuf0_0)
/-- The second operand's buffer is a whole buffer. -/
theorem inB_whole (t : Fin cfg0.N) : (inB t).IsWhole := hstage0_1 ((cfg0.slots t 1).cast nbuf0_1)
/-- The output's buffer is a whole buffer. -/
theorem outO_whole (t : Fin cfg0.N) : (outO t).IsWhole := hstage0_2 ((cfg0.slots t 2).cast nbuf0_2)
/-- The accumulator's buffer is a whole buffer. -/
theorem sumS_whole : sumS.IsWhole := Memref.isWhole_whole _
/-- The accumulator, as a view. -/
abbrev sumV : View sig .tc .vmem S1024x1024 .f32 := sumS.view
/-- One buffer of the output, as a view. -/
abbrev outV : View sig .tc .vmem S1024x1024 .f32 := (Memref.whole cc0_stg2_0 : Memref sig .tc .vmem S1024x1024 .f32).view

/-- The last point of a block is the one whose position is 3 modulo 4. -/
theorem isLast_iff : ∀ t : Fin cfg0.N, isLast (grid0.coords t) ↔ t.val % 4 = 3 := by decide +kernel
/-- The third coordinate is zero at a block's first point. -/
theorem first_word : ∀ t : Fin cfg0.N, t.val % 4 = 0 → Scalar.cmpi .eq (BitVec.ofNat 32 (grid0.coords t 2).val) 0#32 = 1#1 := by decide +kernel
/-- Away from a block's last point the output is not stored. -/
theorem idle_out : ∀ t : Fin cfg0.N, ¬isLast (grid0.coords t) → cfg0.idle 2 (grid0.coords t) = true := by decide +kernel
/-- Away from a block's last point the output is not written back. -/
theorem kept_out : ∀ t : Fin cfg0.N, ¬isLast (grid0.coords t) → (cfg0.win 2).flush t = false := by decide +kernel
/-- At a block's last point the output is stored. -/
theorem live_out : ∀ t : Fin cfg0.N, isLast (grid0.coords t) → cfg0.idle 2 (grid0.coords t) = false := by decide +kernel

section Pieces

variable (c : Dev nD) (t : Fin cfg0.N) (x : Vec F S2048x1024 .bf16) (y : Vec F S2048x1024 .f32) (z : Vec F S1024x1024 .f32)

/-- The accumulator after a point that is not the last. -/
def sumMid (hl : ¬isLast (grid0.coords t)) : Vec F S1024x1024 .f32 :=
  sumV.read (Elt F) (sumV.writes (Elt F) sumV.junk
    (pointMid c (grid0.coords t) (inA t) (inA_whole t) (inB t) (inB_whole t) (outO t) (outO_whole t) sumS sumS_whole hl x y z).1)

/-- The accumulator after a last point. -/
def sumLast (hl : isLast (grid0.coords t)) : Vec F S1024x1024 .f32 :=
  sumV.read (Elt F) (sumV.writes (Elt F) sumV.junk
    (pointLast c (grid0.coords t) (inA t) (inA_whole t) (inB t) (inB_whole t) (outO t) (outO_whole t) sumS sumS_whole hl x y z).2.1)

/-- The output's block after a last point. -/
def outLast (hl : isLast (grid0.coords t)) : Vec F S1024x1024 .f32 :=
  outV.read (Elt F) (outV.writes (Elt F) outV.junk
    (pointLast c (grid0.coords t) (inA t) (inA_whole t) (inB t) (inB_whole t) (outO t) (outO_whole t) sumS sumS_whole hl x y z).1)

/-- The stores of a point that is not the last fill the accumulator. -/
theorem fillMid (hl : ¬isLast (grid0.coords t)) (k : S1024x1024.Idx) :
    ∃ pc ∈ (pointMid c (grid0.coords t) (inA t) (inA_whole t) (inB t) (inB_whole t) (outO t) (outO_whole t) sumS sumS_whole hl x y z).1, k ∈ pc.1.set :=
  View.cover_of_tiledL (pointMid c (grid0.coords t) (inA t) (inA_whole t) (inB t) (inB_whole t) (outO t) (outO_whole t) sumS sumS_whole hl x y z).1
    S256x1024.size (by sl_kernel_rfl) k

/-- The stores of a last point fill the accumulator. -/
theorem fillLast (hl : isLast (grid0.coords t)) (k : S1024x1024.Idx) :
    ∃ pc ∈ (pointLast c (grid0.coords t) (inA t) (inA_whole t) (inB t) (inB_whole t) (outO t) (outO_whole t) sumS sumS_whole hl x y z).2.1, k ∈ pc.1.set :=
  View.cover_of_tiledL (pointLast c (grid0.coords t) (inA t) (inA_whole t) (inB t) (inB_whole t) (outO t) (outO_whole t) sumS sumS_whole hl x y z).2.1
    S256x1024.size (by sl_kernel_rfl) k

/-- The store of a last point fills the output's block. -/
theorem fillOut (hl : isLast (grid0.coords t)) (k : S1024x1024.Idx) :
    ∃ pc ∈ (pointLast c (grid0.coords t) (inA t) (inA_whole t) (inB t) (inB_whole t) (outO t) (outO_whole t) sumS sumS_whole hl x y z).1, k ∈ pc.1.set :=
  View.cover_of_wholeMem (pointLast c (grid0.coords t) (inA t) (inA_whole t) (inB t) (inB_whole t) (outO t) (outO_whole t) sumS sumS_whole hl x y z).1
    (by sl_whole_mem) k

/-- A block's first point does not depend on what the accumulator held. -/
theorem sumMid_first (hl : ¬isLast (grid0.coords t)) (h0 : t.val % 4 = 0) (z' : Vec F S1024x1024 .f32) :
    sumMid c t x y z hl = sumMid c t x y z' hl := by
  unfold sumMid pointMid
  dsimp only
  simp only [pick _ (first_word t h0)]

/-- The accumulator after a point. -/
def next : Vec F S1024x1024 .f32 :=
  if hl : isLast (grid0.coords t) then sumLast c t x y z hl else sumMid c t x y z hl

end Pieces

/-- The accumulator before each point. -/
def acc (c : Dev nD) : ℕ → Vec F S1024x1024 .f32
  | 0 => sumV.read (Elt F) sumV.junk
  | n + 1 => if h : n < cfg0.N then next c ⟨n, h⟩ (iblk m c 0 ⟨n, h⟩) (iblk m c 1 ⟨n, h⟩) (acc c n) else acc c n

/-- The accumulator after point `t` in terms of what it held before. -/
theorem acc_succ (c : Dev nD) (t : Fin cfg0.N) : acc m c (t.val + 1) = next c t (iblk m c 0 t) (iblk m c 1 t) (acc m c t.val) := by
  obtain ⟨n, h⟩ := t
  exact dif_pos h

/-- What the output's buffer holds after point `t`, of account only at a block's last point. -/
def out (c : Dev nD) (t : Fin cfg0.N) : Vec F S1024x1024 .f32 :=
  if hl : isLast (grid0.coords t) then outLast c t (iblk m c 0 t) (iblk m c 1 t) (acc m c t.val) hl else outV.read (Elt F) outV.junk

/-- What is held between points: the accumulator, known except before a block's first point. -/
def held (c : Dev nD) (n : ℕ) : Asrt F :=
  iprop((∃ z, ⌜n % 4 ≠ 0 → z = acc m c n⌝ ∗ owns (c : Thread nD τ) sumS fullShare z) ∗ (∃ r, prngReg c r))

/-- The run's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out m c t
  Φ t := held m c t.val
  q _ := fullShare
  owed _ := 0

/-- The arrays are those the call finds. -/
theorem data_A (c : Dev nD) (w : Fin cfg0.W) : (data m 0 c).A w = V m c (Pipeline.arrRef spec0 w) := by dsimp only [data]
/-- The first operand's block stays. -/
theorem after_a (c : Dev nD) (t : Fin cfg0.N) : (data m 0 c).after 0 t = iblk m c 0 t := by dsimp only [data]
/-- The second operand's block stays. -/
theorem after_b (c : Dev nD) (t : Fin cfg0.N) : (data m 0 c).after 1 t = iblk m c 1 t := by dsimp only [data]
/-- The output's block after a point. -/
theorem after_o (c : Dev nD) (t : Fin cfg0.N) : (data m 0 c).after 2 t = out m c t := by dsimp only [data]
/-- The first operand's buffer holds its block before a point. -/
theorem before_a (c : Dev nD) (t : Fin cfg0.N) (d) : (data m 0 c).before 0 t d = iblk m c 0 t :=
  before0_0_of m (data m 0 c) (data_A m c 0) (after_a m c) t d
/-- The second operand's buffer holds its block before a point. -/
theorem before_b (c : Dev nD) (t : Fin cfg0.N) (d) : (data m 0 c).before 1 t d = iblk m c 1 t :=
  before0_1_of m (data m 0 c) (data_A m c 1) (after_b m c) t d
/-- What is held before a point. -/
theorem held_start (c : Dev nD) (t : Fin cfg0.N) : (data m 0 c).Φ t.castSucc = held m c t.val := by
  dsimp only [data]
  exact Pipeline.Dat.Φ_castSucc (fun n _ => held m c n) t
/-- What is held after a point. -/
theorem held_end (c : Dev nD) (t : Fin cfg0.N) : (data m 0 c).Φ t.succ = held m c (t.val + 1) := rfl

/-- What the body is given at a point. -/
def given (c : Dev nD) (t : Fin cfg0.N) : Asrt F :=
  iprop((data m 0 c).Φ t.castSucc ∗ (data m 0 c).owesAt () t.castSucc
    ∗ (∃ d, owns (c : Thread nD τ) (inA t) fullShare ((data m 0 c).before 0 t d))
    ∗ (∃ d, owns (c : Thread nD τ) (inB t) fullShare ((data m 0 c).before 1 t d))
    ∗ (∃ d, owns (c : Thread nD τ) (outO t) fullShare ((data m 0 c).before 2 t d)))

/-- What the body gives back at a point. -/
def returned (c : Dev nD) (t : Fin cfg0.N) : Asrt F :=
  iprop((data m 0 c).Φ t.succ ∗ (data m 0 c).owesAt () t.succ
    ∗ (data m 0 c).leavesExact 0 t
    ∗ (data m 0 c).leavesExact 1 t
    ∗ (data m 0 c).leavesExact 2 t)

set_option maxHeartbeats 4800000 in
/-- The body at a point. -/
theorem body_point (c : Dev nD) (t : Fin cfg0.N) :
    given m c t ⊢ wp frame (wpE (defs₀ (F := F)) Variants.none c none) Set.univ (bodyAt0 t) (fun _ => returned m c t) := by
  unfold given returned bodyAt0
  simp only [before_a, before_b]
  rw [show (data m 0 c).owesAt () t.succ = (data m 0 c).owesAt () t.castSucc from rfl, held_start, held_end,
    show (data m 0 c).leavesExact 0 t = owns (c : Thread nD τ) (inA t) fullShare ((data m 0 c).after 0 t) from rfl, after_a,
    show (data m 0 c).leavesExact 1 t = owns (c : Thread nD τ) (inB t) fullShare ((data m 0 c).after 1 t) from rfl, after_b]
  unfold held
  by_cases hl : isLast (grid0.coords t)
  · rw [show (data m 0 c).leavesExact 2 t = owns (c : Thread nD τ) (outO t) fullShare ((data m 0 c).after 2 t) from by
      unfold Dat.leavesExact
      rw [live_out t hl], after_o]
    have hm := (isLast_iff t).mp hl
    iintro ⟨⟨⟨%z, %hz, HS⟩, Hg⟩, Ho, ⟨%d0, H0⟩, ⟨%d1, H1⟩, ⟨%d2, H2⟩⟩
    obtain rfl := hz (by omega)
    iapply ((pointLast c (grid0.coords t) _ _ _ _ _ _ _ _ hl (iblk m c 0 t) (iblk m c 1 t) _).2.2 Set.univ _)
    isplitl [H0]
    · iexact H0
    isplitl [H1]
    · iexact H1
    isplitl [H2]
    · iexists _
      iexact H2
    isplitl [HS]
    · iexact HS
    iintro ⟨H0, H1, ⟨%e2, H2⟩, ⟨%e3, HS⟩⟩
    isplitl [HS Hg]
    · isplitl [HS]
      · iexists (sumLast c t (iblk m c 0 t) (iblk m c 1 t) (acc m c t.val) hl)
        isplitr
        swap
        · unfold owns
          iexists _
          isplitr
          swap
          · iexact HS
          ipureintro
          exact View.read_writes_of_cover _ _ _ _ _ (fillLast c t _ _ _ hl)
        ipureintro
        intro _
        rw [acc_succ, next, dif_pos hl]
      iexact Hg
    isplitl [Ho]
    · iexact Ho
    isplitl [H0]
    · iexact H0
    isplitl [H1]
    · iexact H1
    rw [out, dif_pos hl]
    unfold owns
    iexists _
    isplitr
    swap
    · iexact H2
    ipureintro
    exact View.read_writes_of_cover _ _ _ _ _ (fillOut c t _ _ _ hl)
  · rw [Dat.leavesExact_idle (data m 0 c) 2 t (idle_out t hl) (kept_out t hl)]
    iintro ⟨⟨⟨%z, %hz, HS⟩, Hg⟩, Ho, ⟨%d0, H0⟩, ⟨%d1, H1⟩, ⟨%d2, H2⟩⟩
    iapply ((pointMid c (grid0.coords t) _ _ _ _ _ _ _ _ hl (iblk m c 0 t) (iblk m c 1 t) _).2 _ Set.univ _)
    isplitl [H0]
    · iexact H0
    isplitl [H1]
    · iexact H1
    isplitl [H2]
    · iexact H2
    isplitl [HS]
    · iexact HS
    iintro ⟨H0, H1, H2, ⟨%e3, HS⟩⟩
    isplitl [HS Hg]
    · isplitl [HS]
      · iexists (sumMid c t (iblk m c 0 t) (iblk m c 1 t) z hl)
        isplitr
        swap
        · unfold owns
          iexists _
          isplitr
          swap
          · iexact HS
          ipureintro
          exact View.read_writes_of_cover _ _ _ _ _ (fillMid c t _ _ _ hl)
        ipureintro
        intro _
        rw [acc_succ, next, dif_neg hl]
        by_cases h0 : t.val % 4 = 0
        · exact sumMid_first c t _ _ _ hl h0 _
        · rw [hz h0]
      iexact Hg
    isplitl [Ho]
    · iexact Ho
    isplitl [H0]
    · iexact H0
    isplitl [H1]
    · iexact H1
    iexists _
    iexact H2

/-- The body the pipeline calls at a point is the printed one. -/
theorem body_row (t : Fin cfg0.N) : defs₀ (F := F) .tc cfg0.body (cfg0.bodyArgs t (cfg0.slots t)) = bodyAt0 t := by
  unfold defs₀
  rw [Defs.onTc_tc]

/-- The body at every point. -/
theorem body_all (c : Dev nD) : BodyObligation (data (F := F) m 0 c) (defs₀ (F := F)) Variants.none () Set.univ := fun t => by
  rw [bigSep_W0, bigSep_W0, body_row]
  exact triple_restated (body_point m c t) rfl .rfl fun _ => .rfl

/-- The call's own buffers at anything: the accumulator and the generator's register. -/
theorem own_eq (c : Dev nD) :
    (Pipeline.ΦA spec0 c : Asrt F) = iprop(iprop((∃ d, owns (c : Thread nD τ) sumS fullShare d)) ∗ (∃ r, prngReg c r)) := by
  unfold Pipeline.ΦA
  rw [scopedRest0_eq]
  simp only [sumS, owns_whole]
  rfl

/-- What is held before the first point. -/
theorem held_first (c : Dev nD) : Pipeline.ΦA spec0 c ⊢ (data m 0 c).Φ 0 := by
  rw [show (data m 0 c).Φ 0 = held m c 0 from rfl, own_eq]
  unfold held
  iintro ⟨⟨%d, HS⟩, Hg⟩
  isplitl [HS]
  · iexists d
    isplitr
    · ipureintro
      intro h
      exact absurd rfl h
    iexact HS
  iexact Hg

/-- What is held after the last point. -/
theorem held_last (c : Dev nD) : (data m 0 c).Φ (Fin.last cfg0.N) ⊢ Pipeline.ΦA spec0 c := by
  rw [show (data m 0 c).Φ (Fin.last cfg0.N) = held m c cfg0.N from rfl, own_eq]
  unfold held
  iintro ⟨⟨%z, %hz, HS⟩, Hg⟩
  isplitl [HS]
  · iexists z
    iexact HS
  iexact Hg

set_option backward.isDefEq.respectTransparency.types false in
/-- The whole run: every array ends as the data say and every counter at zero. -/
theorem run_all : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body_all m c).loose) (hshare := fun c => (data m 0 c).share_full fun _ => rfl)
    (howed := fun _ _ => rfl) (V := V m) (hmain := hmain m Variants.none) (hA := data_A m) (hin := held_first m) (hout := held_last m)

/-- The run without the counters. -/
theorem run_arrays : θ_run defs (onTc (τ := τ) (main (F := F))) (s₀ m ρ) (Pipeline.FramePost cfgs (data m) 0 (V m)) :=
  (θ_run defs _ _).mono (fun _ h => h.1) (run_all m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_all m ρ))

/-- The run with the output array named. -/
theorem run_out : θ_run defs (onTc (τ := τ) (main (F := F))) ⟨m, fun _ => 0, ρ⟩ fun r => ∀ c : Dev nD,
      r.2.mem ((c : Thread nD τ).loc main_v1) = (data m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, h.2 c⟩)
    (θ_run_and (run_arrays m ρ) (frame_of m ρ (data m) (data_A m) (run_arrays m ρ)))

end Cert.Kernel8Ideal.Run
end
-- ==== Proof.Frames8.lean ====
module

public import proofs.«01_k».proof.Defs
public import proofs.«01_k».proof.Proof.WoFrame
public import proofs.«01_k».proof.Proof.WoFrameBits
public import proofs.«01_k».proof.Proof.Gen.Reference8Ideal.Run

/-! The call `mm_d_wo_att` and its reference run, leave their arguments as they were and end with every counter at zero. -/

@[expose] public section

set_option maxRecDepth 16384

noncomputable section

open Idealize.ShloMosaic Idealize.ShloMosaic.TcCoe Idealize.SL.Sem

namespace Cert.Frames

/-- The kernel runs and ends quiet. -/
theorem kernel8 : Cert.quiescent_Kernel8 := fun m ρ _ => Cert.Kernel8.Run.frame m ρ

/-- The kernel over the extended reals runs and ends quiet. -/
theorem kernel8Ideal : Cert.quiescent_Kernel8Ideal := fun m ρ _ => Cert.Kernel8Ideal.Run.frame m ρ

/-- The reference over the extended reals runs and ends quiet. -/
theorem reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two printed kernels are the same program. -/
theorem preserves8 : Cert.preserves_Kernel8_Kernel8Ideal := trivial

end Cert.Frames
end
-- ==== Proof.Frames9.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run

/-! The in-projection's product with the RMS-norm backward and its reference run, leave their arguments as they were and end with every
counter at zero. -/

@[expose] public section

set_option maxRecDepth 16384

noncomputable section

open Idealize.ShloMosaic Idealize.ShloMosaic.TcCoe Idealize.SL.Sem

namespace Cert.Frames

/-- The kernel runs and ends quiet. -/
theorem kernel9 : Cert.quiescent_Kernel9 := fun m ρ _ => Cert.Kernel9.Gen.frame m ρ

/-- The kernel over the extended reals runs and ends quiet. -/
theorem kernel9Ideal : Cert.quiescent_Kernel9Ideal := fun m ρ _ => Cert.Kernel9Ideal.Gen.frame m ρ

/-- The reference over the extended reals runs and ends quiet. -/
theorem reference9Ideal : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The two printed kernels are the same program. -/
theorem preserves9 : Cert.preserves_Kernel9_Kernel9Ideal := trivial

end Cert.Frames
end
-- ==== Proof.Frames10.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run

/-! The embedding gate's product with the RMS-norm backward and its reference run, leave their arguments as they were and end with every
counter at zero. -/

@[expose] public section

set_option maxRecDepth 16384

noncomputable section

open Idealize.ShloMosaic Idealize.ShloMosaic.TcCoe Idealize.SL.Sem

namespace Cert.Frames

/-- The kernel runs and ends quiet. -/
theorem kernel10 : Cert.quiescent_Kernel10 := fun m ρ _ => Cert.Kernel10.Gen.frame m ρ

/-- The kernel over the extended reals runs and ends quiet. -/
theorem kernel10Ideal : Cert.quiescent_Kernel10Ideal := fun m ρ _ => Cert.Kernel10Ideal.Gen.frame m ρ

/-- The reference over the extended reals runs and ends quiet. -/
theorem reference10Ideal : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The two printed kernels are the same program. -/
theorem preserves10 : Cert.preserves_Kernel10_Kernel10Ideal := trivial

end Cert.Frames
end
-- ==== Proof.Host.lean ====
module

public import proofs.«01_k».proof.Proof.Body

/-! What the host code hands the call: each array as a function of the program's arguments, read entry by entry. -/

@[expose] public section

set_option maxRecDepth 16384

noncomputable section

open Idealize.ShloMosaic Idealize.ShloMosaic.TcCoe Idealize.SL.Sem

namespace Cert.KernelIdeal.Host

open Cert.KernelIdeal Cert.KernelIdeal.Gen

section Arrays

variable (a0 : FVec Ideal S8192x8x64 .f32) (a1 : FVec Ideal S8192x8x32 .f32) (a2 : FVec Ideal S8192x8x64 .f32)
  (a3 : FVec Ideal S8192x32 .f32) (a4 : FVec Ideal S8192x8x64 .f32) (a5 : FVec Ideal S8192x512 .f32)

/-- The scaled queries, each head padded to 128 lanes. -/
def queries : FVec Ideal S8192x1024 .bf16 :=
  truncf .bf16 (shapeCast S8192x1024 (pad S8192x8x128 ![0, 0, 0] ![0, 0, 32] ![0, 0, 0]
    (mulf (concatenate S8192x8x96 2 [⟨S8192x8x64, a0⟩, ⟨S8192x8x32, a1⟩] concatenates_S8192x8x64_S8192x8x32_S8192x8x96_d2)
      (broadcastInDim S8192x8x96 ![] bcast_S_S8192x8x96 (constant S_ .f32 0x3DD105EC#32)))
    (sitofp .f32 (constantI S_ 32 0#32)) pads_S8192x8x96_S8192x8x128_000_000_0320 h_S_) shapeCasts_S8192x8x128_S8192x1024)
    bitsLt_bf16_f32

/-- The keys, the shared part beside each head's own, padded to 128 lanes. -/
def keys : FVec Ideal S8192x1024 .bf16 :=
  truncf .bf16 (shapeCast S8192x1024 (pad S8192x8x128 ![0, 0, 0] ![0, 0, 32] ![0, 0, 0]
    (concatenate S8192x8x96 2 [⟨S8192x8x64, a2⟩, ⟨S8192x8x32, broadcastInDim S8192x8x32 ![0, 1, 2] bcast_S8192x1x32_S8192x8x32_0_1_2
      (broadcastInDim S8192x1x32 ![0, 2] bcast_S8192x32_S8192x1x32_0_2 a3)⟩] concatenates_S8192x8x64_S8192x8x32_S8192x8x96_d2)
    (sitofp .f32 (constantI S_ 32 0#32)) pads_S8192x8x96_S8192x8x128_000_000_0320 h_S_) shapeCasts_S8192x8x128_S8192x1024)
    bitsLt_bf16_f32

/-- The values, each head followed by a lane of ones and padded to 128 lanes. -/
def values : FVec Ideal S8192x1024 .bf16 :=
  truncf .bf16 (shapeCast S8192x1024 (concatenate S8192x8x128 2 [⟨S8192x8x64, a4⟩,
      ⟨S8192x8x1, broadcastInDim S8192x8x1 ![] bcast_S_S8192x8x1 (constant (F := Ideal) S_ .f32 0x3F800000#32)⟩,
      ⟨S8192x8x63, broadcastInDim S8192x8x63 ![] bcast_S_S8192x8x63 (constant (F := Ideal) S_ .f32 0x00000000#32)⟩]
      concatenates_S8192x8x64_S8192x8x1_S8192x8x63_S8192x8x128_d2) shapeCasts_S8192x8x128_S8192x1024)
    bitsLt_bf16_f32

/-- The cotangents, each head padded to 128 lanes. -/
def cots : FVec Ideal S8192x1024 .bf16 :=
  truncf .bf16 (shapeCast S8192x1024 (pad S8192x8x128 ![0, 0, 0] ![0, 0, 64] ![0, 0, 0]
    (shapeCast S8192x8x64 a5 shapeCasts_S8192x512_S8192x8x64)
    (sitofp .f32 (constantI S_ 32 0#32)) pads_S8192x8x64_S8192x8x128_000_000_0640 h_S_) shapeCasts_S8192x8x128_S8192x1024)
    bitsLt_bf16_f32

/-- The scores. -/
def scores : FVec Ideal S8x8192x8192 .f32 :=
  mulf (addf (Host.dotGeneral dot_S8192x8x64_S8192x8x64_S8x8192x8192_2_2_0_0_1_1 none a0 a2)
      (transpose S8x8192x8192 [2, 1, 0] (Host.dotGeneral dot_S8192x32_S8192x8x32_S8192x8192x8_1_2_0_01_n_n none a3 a1)
        transposes_S8192x8192x8_S8x8192x8192_2_1_0))
    (broadcastInDim S8x8192x8192 ![] bcast_S_S8x8192x8192 (constant S_ .f32 0x3DD105EC#32))

/-- Each row's largest score. -/
def rowMax : FVec Ideal S8x8192x1 .f32 :=
  broadcastInDim S8x8192x1 ![0, 1] bcast_S8x8192_S8x8192x1_0_1
    (Host.reduce FloatOps.maximumf (scores a0 a1 a2 a3) (constant S_ .f32 0xFF800000#32) reducesTo_S8x8192x8192_S8x8192_d2 h_S_)

/-- The exponentials of the scores less their row's largest. -/
def expos : FVec Ideal S8x8192x8192 .f32 :=
  Host.exp (subf (scores a0 a1 a2 a3)
    (broadcastInDim S8x8192x8192 ![0, 1, 2] bcast_S8x8192x1_S8x8192x8192_0_1_2 (rowMax a0 a1 a2 a3)))

/-- Each row's sum of exponentials. -/
def rowSum : FVec Ideal S8x8192x1 .f32 :=
  broadcastInDim S8x8192x1 ![0, 1] bcast_S8x8192_S8x8192x1_0_1
    (Host.reduceAdd (expos a0 a1 a2 a3) (constant S_ .f32 0x00000000#32) reducesTo_S8x8192x8192_S8x8192_d2 h_S_)

/-- Each row's log-sum-exp. -/
def lses : FVec Ideal S8x8192x1 .f32 := addf (rowMax a0 a1 a2 a3) (Host.log (rowSum a0 a1 a2 a3))

/-- The attention's outputs. -/
def outs : FVec Ideal S8192x8x64 .f32 :=
  transpose S8192x8x64 [2, 0, 1] (Host.dotGeneral dot_S8192x8x64_S8x8192x8192_S8x64x8192_0_2_2_1_1_0 none a4
    (Host.divf (expos a0 a1 a2 a3)
      (broadcastInDim S8x8192x8192 ![0, 1, 2] bcast_S8x8192x1_S8x8192x8192_0_1_2 (rowSum a0 a1 a2 a3))))
    transposes_S8x64x8192_S8192x8x64_2_0_1

/-- Each row's cotangent times its output. -/
def deltas : FVec Ideal S8x8192x1 .f32 :=
  broadcastInDim S8x8192x1 ![0, 1] bcast_S8x8192_S8x8192x1_0_1
    (transpose S8x8192 [1, 0] (Host.reduceAdd (mulf (shapeCast S8192x8x64 a5 shapeCasts_S8192x512_S8192x8x64) (outs a0 a1 a2 a3 a4))
      (constant S_ .f32 0x00000000#32) reducesTo_S8192x8x64_S8192x8_d2 h_S_) transposes_S8192x8_S8x8192_1_0)

end Arrays

variable (m : (ℓ : Loc nD τ sig) → Buf (Elt Ideal) ℓ)

/-- The call's queries. -/
theorem v40 (c : Dev nD) : V m c main_v40 = queries (m ((c : Thread nD τ).loc main_arg0)) (m ((c : Thread nD τ).loc main_arg1)) := by
  simp only [V, List.flatten_cons, List.flatten_nil, List.append_nil, List.cons_append, List.nil_append, hostOps0, hostOps0_1, hostOps0_2, hostOps0_3, hostOps0_4, hostOps0_5, hostOps0_6]
  after_results
  simp -implicitDefEqProofs only [StableHlo.TRef.toBuf, StableHlo.TRef.ofBuf, cast_cast, cast_eq]
  rfl

/-- The call's keys. -/
theorem v41 (c : Dev nD) : V m c main_v41 = keys (m ((c : Thread nD τ).loc main_arg2)) (m ((c : Thread nD τ).loc main_arg3)) := by
  simp only [V, List.flatten_cons, List.flatten_nil, List.append_nil, List.cons_append, List.nil_append, hostOps0, hostOps0_1, hostOps0_2, hostOps0_3, hostOps0_4, hostOps0_5, hostOps0_6]
  after_results
  simp -implicitDefEqProofs only [StableHlo.TRef.toBuf, StableHlo.TRef.ofBuf, cast_cast, cast_eq]
  rfl

/-- The call's cotangents. -/
theorem v43 (c : Dev nD) : V m c main_v43 = cots (m ((c : Thread nD τ).loc main_arg5)) := by
  simp only [V, List.flatten_cons, List.flatten_nil, List.append_nil, List.cons_append, List.nil_append, hostOps0, hostOps0_1, hostOps0_2, hostOps0_3, hostOps0_4, hostOps0_5, hostOps0_6]
  after_results
  simp -implicitDefEqProofs only [StableHlo.TRef.toBuf, StableHlo.TRef.ofBuf, cast_cast, cast_eq]
  rfl

/-- The call's log-sum-exps. -/
theorem v14 (c : Dev nD) : V m c main_v14 = lses (m ((c : Thread nD τ).loc main_arg0)) (m ((c : Thread nD τ).loc main_arg1)) (m ((c : Thread nD τ).loc main_arg2)) (m ((c : Thread nD τ).loc main_arg3)) := by
  simp only [V, List.flatten_cons, List.flatten_nil, List.append_nil, List.cons_append, List.nil_append, hostOps0, hostOps0_1, hostOps0_2, hostOps0_3, hostOps0_4, hostOps0_5, hostOps0_6]
  after_results
  rfl

/-- The call's deltas. -/
theorem v23 (c : Dev nD) : V m c main_v23 = deltas (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  simp only [V, List.flatten_cons, List.flatten_nil, List.append_nil, List.cons_append, List.nil_append, hostOps0, hostOps0_1, hostOps0_2, hostOps0_3, hostOps0_4, hostOps0_5, hostOps0_6]
  after_results
  rfl

/-- The call's transposed queries. -/
theorem v44 (c : Dev nD) : V m c main_v44 = transpose S1024x8192 [1, 0] (queries (m ((c : Thread nD τ).loc main_arg0)) (m ((c : Thread nD τ).loc main_arg1))) transposes_S8192x1024_S1024x8192_1_0 := by
  simp only [V, List.flatten_cons, List.flatten_nil, List.append_nil, List.cons_append, List.nil_append, hostOps0, hostOps0_1, hostOps0_2, hostOps0_3, hostOps0_4, hostOps0_5, hostOps0_6]
  after_results
  simp -implicitDefEqProofs only [StableHlo.TRef.toBuf, StableHlo.TRef.ofBuf, cast_cast, cast_eq]
  rfl

/-- The call's transposed cotangents. -/
theorem v45 (c : Dev nD) : V m c main_v45 = transpose S1024x8192 [1, 0] (cots (m ((c : Thread nD τ).loc main_arg5))) transposes_S8192x1024_S1024x8192_1_0 := by
  simp only [V, List.flatten_cons, List.flatten_nil, List.append_nil, List.cons_append, List.nil_append, hostOps0, hostOps0_1, hostOps0_2, hostOps0_3, hostOps0_4, hostOps0_5, hostOps0_6]
  after_results
  simp -implicitDefEqProofs only [StableHlo.TRef.toBuf, StableHlo.TRef.ofBuf, cast_cast, cast_eq]
  rfl

/-- Joined arrays are equal when their parts are. -/
theorem concat_congr (x x' : FVec Ideal S8192x8x64 .f32) (y y' : FVec Ideal S8192x8x1 .f32) (z z' : FVec Ideal S8192x8x63 .f32)
    (hx : x = x') (hy : y = y') (hz : z = z') :
    truncf .bf16 (shapeCast S8192x1024 (concatenate S8192x8x128 2 [⟨S8192x8x64, x⟩, ⟨S8192x8x1, y⟩, ⟨S8192x8x63, z⟩]
      concatenates_S8192x8x64_S8192x8x1_S8192x8x63_S8192x8x128_d2) shapeCasts_S8192x8x128_S8192x1024) bitsLt_bf16_f32
    = truncf .bf16 (shapeCast S8192x1024 (concatenate S8192x8x128 2 [⟨S8192x8x64, x'⟩, ⟨S8192x8x1, y'⟩, ⟨S8192x8x63, z'⟩]
      concatenates_S8192x8x64_S8192x8x1_S8192x8x63_S8192x8x128_d2) shapeCasts_S8192x8x128_S8192x1024) bitsLt_bf16_f32 := by
  subst hx hy hz; rfl

/-- The call's values. -/
theorem v42 (c : Dev nD) : V m c main_v42 = values (m ((c : Thread nD τ).loc main_arg4)) := by
  simp only [V, List.flatten_cons, List.flatten_nil, List.append_nil, List.cons_append, List.nil_append, hostOps0, hostOps0_1, hostOps0_2, hostOps0_3, hostOps0_4, hostOps0_5, hostOps0_6]
  after_results
  refine concat_congr _ _ _ _ _ _ ?_ ?_ ?_
  all_goals after_results
  all_goals rfl

end Cert.KernelIdeal.Host
end
-- ==== Proof.Final.lean ====
module

public import proofs.«01_k».proof.Proof.Body

/-! The three result arrays of the call, as sums over the arrays the host code hands it. -/

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Body

variable (m : (ℓ : Loc nD τ sig) → Buf (Elt Ideal) ℓ)

/-- Lane `l` of head `h` in a row of eight padded heads. -/
abbrev lane (h : Fin 8) (l : Fin 128) : Fin 1024 := ⟨128 * h.val + l.val, by omega⟩

/-- What the host code hands the call: the scaled queries, padded to 128 lanes a head. -/
abbrev Q (c : Dev nD) : Vec Ideal S8192x1024 .bf16 := V m c main_v40
/-- What the host code hands the call: the scaled queries, transposed. -/
abbrev QT (c : Dev nD) : Vec Ideal S1024x8192 .bf16 := V m c main_v44
/-- What the host code hands the call: the cotangents, padded to 128 lanes a head. -/
abbrev O (c : Dev nD) : Vec Ideal S8192x1024 .bf16 := V m c main_v43
/-- What the host code hands the call: the cotangents, transposed. -/
abbrev OT (c : Dev nD) : Vec Ideal S1024x8192 .bf16 := V m c main_v45
/-- What the host code hands the call: the log-sum-exp of each row of scores. -/
abbrev L (c : Dev nD) : Vec Ideal S8x8192x1 .f32 := V m c main_v14
/-- What the host code hands the call: each row's cotangent times its output. -/
abbrev D (c : Dev nD) : Vec Ideal S8x8192x1 .f32 := V m c main_v23
/-- What the host code hands the call: the keys, padded to 128 lanes a head. -/
abbrev K (c : Dev nD) : Vec Ideal S8192x1024 .bf16 := V m c main_v41
/-- What the host code hands the call: the values, padded to 128 lanes a head. -/
abbrev W (c : Dev nD) : Vec Ideal S8192x1024 .bf16 := V m c main_v42

/-- The softmax weight of key `j` for query `i` in head `h`. -/
def weight (c : Dev nD) (h : Fin 8) (i j : Fin 8192) : EReal :=
  Ideal.exp (∑ l : Fin 128, Q m c (ix2 i (lane h l)) * K m c (ix2 j (lane h l)) - L m c (ix3 h i 0))

/-- The gradient of the score of key `j` for query `i` in head `h`. -/
def grad (c : Dev nD) (h : Fin 8) (i j : Fin 8192) : EReal :=
  weight m c h i j * (∑ l : Fin 128, O m c (ix2 i (lane h l)) * W m c (ix2 j (lane h l)) - D m c (ix3 h i 0))

/-- The blocks the windows read and write at each grid point. -/
theorem idx : ∀ t : Fin cfg0.N,
    win0_0.index t = ![0, t.val / 8] ∧ win0_1.index t = ![t.val / 8, 0] ∧ win0_2.index t = ![0, t.val / 8]
    ∧ win0_3.index t = ![t.val / 8, 0] ∧ win0_4.index t = ![t.val / 8, 0, 0] ∧ win0_5.index t = ![t.val / 8, 0, 0]
    ∧ win0_6.index t = ![t.val % 8, t.val / 8] ∧ win0_7.index t = ![t.val % 8, t.val / 8]
    ∧ win0_8.index t = ![0, t.val / 8] ∧ win0_9.index t = ![t.val % 8, t.val / 8]
    ∧ win0_10.index t = ![t.val % 8, t.val / 8] :=
  (by decide +kernel : ∀ t : Fin grid0.N, _)

/-- The head of a grid point. -/
abbrev head (t : Fin cfg0.N) : Fin 8 := ⟨t.val / 8, by have : t.val < 64 := t.isLt; omega⟩
/-- The `j`-th key of a grid point. -/
abbrev key (t : Fin cfg0.N) (j : Fin 1024) : Fin 8192 := ⟨1024 * (t.val % 8) + j.val, by omega⟩

/-- Where window 0's block lies in its array. -/
theorem q_emb (c : Dev nD) (X : (b : Ref sig .tc) → Buf (Elt Ideal) ((c : Thread nD τ).loc b)) (t : Fin cfg0.N) (i : Fin 8192) (l : Fin 128) :
    View.read (Elt Ideal) ((cfg0.win 0).blk t).view (X (Pipeline.arrRef spec0 0)) (ix2 i l) = X main_v40 (ix2 i (lane (head t) l)) := by
  blk_simp
  refine congrArg (show Vec Ideal S8192x1024 .bf16 from X main_v40) ?_
  blk_ext [idx t]
/-- Window 0's block, read in its array. -/
theorem q_at (c : Dev nD) (t : Fin cfg0.N) (i : Fin 8192) (l : Fin 128) : qB m c t (ix2 i l) = Q m c (ix2 i (lane (head t) l)) := by
  exact q_emb c (V m c) t i l
/-- Where window 1's block lies in its array. -/
theorem qt_emb (c : Dev nD) (X : (b : Ref sig .tc) → Buf (Elt Ideal) ((c : Thread nD τ).loc b)) (t : Fin cfg0.N) (i : Fin 8192) (l : Fin 128) :
    View.read (Elt Ideal) ((cfg0.win 1).blk t).view (X (Pipeline.arrRef spec0 1)) (ix2 l i) = X main_v44 (ix2 (lane (head t) l) i) := by
  blk_simp
  refine congrArg (show Vec Ideal S1024x8192 .bf16 from X main_v44) ?_
  blk_ext [idx t]
/-- Window 1's block, read in its array. -/
theorem qt_at (c : Dev nD) (t : Fin cfg0.N) (i : Fin 8192) (l : Fin 128) : qtB m c t (ix2 l i) = QT m c (ix2 (lane (head t) l) i) := by
  exact qt_emb c (V m c) t i l
/-- Where window 2's block lies in its array. -/
theorem o_emb (c : Dev nD) (X : (b : Ref sig .tc) → Buf (Elt Ideal) ((c : Thread nD τ).loc b)) (t : Fin cfg0.N) (i : Fin 8192) (l : Fin 128) :
    View.read (Elt Ideal) ((cfg0.win 2).blk t).view (X (Pipeline.arrRef spec0 2)) (ix2 i l) = X main_v43 (ix2 i (lane (head t) l)) := by
  blk_simp
  refine congrArg (show Vec Ideal S8192x1024 .bf16 from X main_v43) ?_
  blk_ext [idx t]
/-- Window 2's block, read in its array. -/
theorem o_at (c : Dev nD) (t : Fin cfg0.N) (i : Fin 8192) (l : Fin 128) : oB m c t (ix2 i l) = O m c (ix2 i (lane (head t) l)) := by
  exact o_emb c (V m c) t i l
/-- Where window 3's block lies in its array. -/
theorem ot_emb (c : Dev nD) (X : (b : Ref sig .tc) → Buf (Elt Ideal) ((c : Thread nD τ).loc b)) (t : Fin cfg0.N) (i : Fin 8192) (l : Fin 128) :
    View.read (Elt Ideal) ((cfg0.win 3).blk t).view (X (Pipeline.arrRef spec0 3)) (ix2 l i) = X main_v45 (ix2 (lane (head t) l) i) := by
  blk_simp
  refine congrArg (show Vec Ideal S1024x8192 .bf16 from X main_v45) ?_
  blk_ext [idx t]
/-- Window 3's block, read in its array. -/
theorem ot_at (c : Dev nD) (t : Fin cfg0.N) (i : Fin 8192) (l : Fin 128) : otB m c t (ix2 l i) = OT m c (ix2 (lane (head t) l) i) := by
  exact ot_emb c (V m c) t i l
/-- Where window 4's block lies in its array. -/
theorem l_emb (c : Dev nD) (X : (b : Ref sig .tc) → Buf (Elt Ideal) ((c : Thread nD τ).loc b)) (t : Fin cfg0.N) (i : Fin 8192) :
    View.read (Elt Ideal) ((cfg0.win 4).blk t).view (X (Pipeline.arrRef spec0 4)) (ix3 0 i 0) = X main_v14 (ix3 (head t) i 0) := by
  blk_simp
  refine congrArg (show Vec Ideal S8x8192x1 .f32 from X main_v14) ?_
  blk_ext [idx t]
/-- Window 4's block, read in its array. -/
theorem l_at (c : Dev nD) (t : Fin cfg0.N) (i : Fin 8192) : lB m c t (ix3 0 i 0) = L m c (ix3 (head t) i 0) := by
  exact l_emb c (V m c) t i
/-- Where window 5's block lies in its array. -/
theorem e_emb (c : Dev nD) (X : (b : Ref sig .tc) → Buf (Elt Ideal) ((c : Thread nD τ).loc b)) (t : Fin cfg0.N) (i : Fin 8192) :
    View.read (Elt Ideal) ((cfg0.win 5).blk t).view (X (Pipeline.arrRef spec0 5)) (ix3 0 i 0) = X main_v23 (ix3 (head t) i 0) := by
  blk_simp
  refine congrArg (show Vec Ideal S8x8192x1 .f32 from X main_v23) ?_
  blk_ext [idx t]
/-- Window 5's block, read in its array. -/
theorem e_at (c : Dev nD) (t : Fin cfg0.N) (i : Fin 8192) : eB m c t (ix3 0 i 0) = D m c (ix3 (head t) i 0) := by
  exact e_emb c (V m c) t i
/-- Where window 6's block lies in its array. -/
theorem k_emb (c : Dev nD) (X : (b : Ref sig .tc) → Buf (Elt Ideal) ((c : Thread nD τ).loc b)) (t : Fin cfg0.N) (j : Fin 1024) (l : Fin 128) :
    View.read (Elt Ideal) ((cfg0.win 6).blk t).view (X (Pipeline.arrRef spec0 6)) (ix2 j l) = X main_v41 (ix2 (key t j) (lane (head t) l)) := by
  blk_simp
  refine congrArg (show Vec Ideal S8192x1024 .bf16 from X main_v41) ?_
  blk_ext [idx t]
/-- Window 6's block, read in its array. -/
theorem k_at (c : Dev nD) (t : Fin cfg0.N) (j : Fin 1024) (l : Fin 128) : kB m c t (ix2 j l) = K m c (ix2 (key t j) (lane (head t) l)) := by
  exact k_emb c (V m c) t j l
/-- Where window 7's block lies in its array. -/
theorem v_emb (c : Dev nD) (X : (b : Ref sig .tc) → Buf (Elt Ideal) ((c : Thread nD τ).loc b)) (t : Fin cfg0.N) (j : Fin 1024) (l : Fin 128) :
    View.read (Elt Ideal) ((cfg0.win 7).blk t).view (X (Pipeline.arrRef spec0 7)) (ix2 j l) = X main_v42 (ix2 (key t j) (lane (head t) l)) := by
  blk_simp
  refine congrArg (show Vec Ideal S8192x1024 .bf16 from X main_v42) ?_
  blk_ext [idx t]
/-- Window 7's block, read in its array. -/
theorem v_at (c : Dev nD) (t : Fin cfg0.N) (j : Fin 1024) (l : Fin 128) : vB m c t (ix2 j l) = W m c (ix2 (key t j) (lane (head t) l)) := by
  exact v_emb c (V m c) t j l

/-- A grid point's weights are the arrays' weights at its head and keys. -/
theorem prob_at (c : Dev nD) (t : Fin cfg0.N) (i : Fin 8192) (j : Fin 1024) :
    prob (qB m c t) (lB m c t) (kB m c t) i j = weight m c (head t) i (key t j) := by
  unfold prob weight
  rw [l_at]
  refine congrArg (fun x => Ideal.exp (x - _)) (Finset.sum_congr rfl fun l _ => ?_)
  rw [q_at, k_at]

/-- A grid point's score gradients are the arrays' score gradients at its head and keys. -/
theorem dscore_at (c : Dev nD) (t : Fin cfg0.N) (i : Fin 8192) (j : Fin 1024) :
    dscore (qB m c t) (oB m c t) (lB m c t) (eB m c t) (kB m c t) (vB m c t) i j = grad m c (head t) i (key t j) := by
  unfold dscore grad
  rw [prob_at, e_at]
  refine congrArg (fun x => _ * (x - _)) (Finset.sum_congr rfl fun l _ => ?_)
  rw [o_at, v_at]

/-- One key block's share of a query gradient. -/
def share (c : Dev nD) (h : Fin 8) (i : Fin 8192) (d : Fin 128) (b : Fin 8) : EReal :=
  ∑ j : Fin 1024, grad m c h i ⟨1024 * b.val + j.val, by omega⟩ * K m c (ix2 ⟨1024 * b.val + j.val, by omega⟩ (lane h d))

/-- The share of the key block that grid point holds. -/
theorem share_at (c : Dev nD) (t : Fin cfg0.N) (i : Fin 8192) (d : Fin 128) :
    ∑ j : Fin 1024, dscore (qB m c t) (oB m c t) (lB m c t) (eB m c t) (kB m c t) (vB m c t) i j * kB m c t (ix2 j d)
      = share m c (head t) i d ⟨t.val % 8, by omega⟩ := by
  unfold share
  exact Finset.sum_congr rfl fun j _ => by rw [dscore_at, k_at]

/-- The contents after a point depend on the point's number only. -/
theorem outs_congr (c : Dev nD) (i : Fin 8192) (d : Fin 128) (n n' : ℕ) (hn : n < cfg0.N) (hn' : n' < cfg0.N) (h : n = n') :
    (outsAt0 m c n hn).1 (ix2 i d) = (outsAt0 m c n' hn').1 (ix2 i d) := by
  subst h; rfl

/-- A sum over 8192 keys is the sum over its eight blocks of 1024 keys. -/
theorem sum_blocks (f : Fin 8192 → EReal) :
    ∑ j, f j = ∑ s : Fin 8, ∑ t : Fin 1024, f ⟨1024 * s.val + t.val, by omega⟩ := by
  rw [Fin.sum_univ_tiles 8 1024 rfl f]
  refine Finset.sum_congr rfl fun s _ => Finset.sum_congr rfl fun t _ => congrArg f (Fin.ext ?_)
  simp only
  omega

/-- Before the last grid point of a head the query gradients are the sum of the shares so far. -/
theorem dq_partial (c : Dev nD) (h : Fin 8) (i : Fin 8192) (d : Fin 128) : ∀ (b : ℕ) (hb : b < 7) (ht : 8 * h.val + b < cfg0.N),
    (outsAt0 m c (8 * h.val + b) ht).1 (ix2 i d) = ∑ s : Fin (b + 1), share m c h i d ⟨s.val, by omega⟩
  | 0, hb, ht => by
    have e := dq_first m c ⟨8 * h.val + 0, ht⟩ (by simp only; omega) (by simp only; omega) i d
    rw [share_at] at e
    refine e.trans ?_
    rw [Fin.sum_univ_one]
    exact congrArg₂ (share m c · i d ·) (Fin.ext (by simp only [head]; omega)) (Fin.ext (by simp only [Fin.val_zero]; omega))
  | b + 1, hb, ht => by
    have e := dq_mid m c ⟨8 * h.val + (b + 1), ht⟩ (by simp only; omega) (by simp only; omega) i d
    rw [share_at] at e
    refine e.trans ?_
    rw [Fin.sum_univ_castSucc]
    refine Ideal.add_congr ?_ ?_
    · exact (outs_congr m c i d (8 * h.val + (b + 1) - 1) (8 * h.val + b) _ (Nat.lt_of_succ_lt ht) (by omega)).trans
        (dq_partial c h i d b (by omega) (Nat.lt_of_succ_lt ht))
    · exact congrArg₂ (share m c · i d ·) (Fin.ext (by simp only [head]; omega)) (Fin.ext (by simp only [Fin.val_last]; omega))

/-- At the last grid point of a head the query gradients are the scaled sum of all eight shares. -/
theorem dq_head (c : Dev nD) (t : Fin cfg0.N) (ht : t.val % 8 = 7) (i : Fin 8192) (d : Fin 128) :
    (outsAt0 m c t.val t.isLt).1 (ix2 i d)
      = (∑ j : Fin 8192, grad m c (head t) i j * K m c (ix2 j (lane (head t) d))) * Ideal.ofBits .f32 0x3DD105EC#32 := by
  have hlt : t.val < 64 := t.isLt
  have e := dq_last m c t (by omega) ht i d
  rw [share_at] at e
  have hp : 8 * (head t).val + 6 < cfg0.N := lt_of_lt_of_eq (show 8 * (t.val / 8) + 6 < 64 by omega) rfl
  have p := dq_partial m c (head t) i d 6 (by omega) hp
  have q := (outs_congr m c i d (t.val - 1) (8 * (head t).val + 6) (Nat.lt_of_le_of_lt (Nat.sub_le _ _) t.isLt) hp
    (show t.val - 1 = 8 * (t.val / 8) + 6 by omega)).trans p
  refine e.trans (congrArg (· * _) ?_)
  refine (Ideal.add_congr q rfl).trans ?_
  have r : ∑ s : Fin 8, share m c (head t) i d s
      = ∑ s : Fin 7, share m c (head t) i d ⟨s.val, by omega⟩ + share m c (head t) i d ⟨t.val % 8, by omega⟩ := by
    rw [Fin.sum_univ_castSucc]
    exact Ideal.add_congr rfl (congrArg (share m c (head t) i d) (Fin.ext (by simp only [Fin.val_last]; omega)))
  refine r.symm.trans ?_
  rw [sum_blocks]
  exact Finset.sum_congr rfl fun s _ => rfl

/-! ## The result arrays -/

/-- The head a lane of the padded row lies in. -/
abbrev headOf (l : Fin 1024) : Fin 8 := ⟨l.val / 128, by omega⟩

/-- The call's query gradients. -/
def DQ (c : Dev nD) : Vec Ideal S8192x1024 .f32 := fun y =>
  (∑ j : Fin 8192, grad m c (headOf (y 1)) (y 0) j * K m c (ix2 j (y 1))) * Ideal.ofBits .f32 0x3DD105EC#32
/-- The call's key gradients. -/
def DK (c : Dev nD) : Vec Ideal S8192x1024 .f32 := fun y =>
  ∑ i : Fin 8192, QT m c (ix2 (y 1) i) * grad m c (headOf (y 1)) i (y 0)
/-- The call's value gradients. -/
def DV (c : Dev nD) : Vec Ideal S8192x1024 .f32 := fun y =>
  ∑ i : Fin 8192, OT m c (ix2 (y 1) i) * weight m c (headOf (y 1)) i (y 0)

/-- The head of a lane of a head. -/
theorem head_lane (h : Fin 8) (d : Fin 128) : headOf (lane h d) = h := Fin.ext (by simp only [headOf, lane]; omega)

/-- Where a query-gradient block lies in its array. -/
theorem dq_emb (t : Fin cfg0.N) (i : Fin 8192) (d : Fin 128) :
    (win0_8.blk t).view.emb (ix2 i d) = (ix2 (i) (lane (head t) d) : S8192x1024.Idx) := by
  blk_ext [idx t]

/-- The query-gradient array of the call. -/
theorem dq_final (c : Dev nD) : (dats m 0 c).arrAt 8 cfg0.N = DQ m c := by
  refine (dats m 0 c).arrAt_eq_of_covers 8 _ (by decide +kernel) fun t hf y => ?_
  blk_simp
  rw [after0_8]
  idx_vars y
  refine (dq_head m c t ((flush0_8 t).mp hf) y0 y1).trans (Eq.trans ?_ (congrArg (DQ m c) (dq_emb t y0 y1)).symm)
  show _ = (∑ j : Fin 8192, grad m c (headOf (lane (head t) y1)) y0 j * K m c (ix2 j (lane (head t) y1))) * Ideal.ofBits .f32 0x3DD105EC#32
  rw [head_lane]

/-- Where a key-gradient block lies in its array. -/
theorem dk_emb (t : Fin cfg0.N) (j : Fin 1024) (d : Fin 128) :
    (win0_9.blk t).view.emb (ix2 j d) = (ix2 (key t j) (lane (head t) d) : S8192x1024.Idx) := by
  blk_ext [idx t]

/-- The key-gradient array of the call. -/
theorem dk_final (c : Dev nD) : (dats m 0 c).arrAt 9 cfg0.N = DK m c := by
  refine (dats m 0 c).arrAt_eq_of_covers 9 _ (by decide +kernel) fun t hf y => ?_
  blk_simp
  rw [after0_9]
  idx_vars y
  refine (dk_block m c t (ix2 y0 y1)).trans (Eq.trans ?_ (congrArg (DK m c) (dk_emb t y0 y1)).symm)
  show _ = ∑ i : Fin 8192, QT m c (ix2 (lane (head t) y1) i) * grad m c (headOf (lane (head t) y1)) i (key t y0)
  rw [head_lane]
  exact Finset.sum_congr rfl fun i _ => Ideal.mul_congr (qt_at m c t i y1) (dscore_at m c t i y0)

/-- Where a value-gradient block lies in its array. -/
theorem dv_emb (t : Fin cfg0.N) (j : Fin 1024) (d : Fin 128) :
    (win0_10.blk t).view.emb (ix2 j d) = (ix2 (key t j) (lane (head t) d) : S8192x1024.Idx) := by
  blk_ext [idx t]

/-- The value-gradient array of the call. -/
theorem dv_final (c : Dev nD) : (dats m 0 c).arrAt 10 cfg0.N = DV m c := by
  refine (dats m 0 c).arrAt_eq_of_covers 10 _ (by decide +kernel) fun t hf y => ?_
  blk_simp
  rw [after0_10]
  idx_vars y
  refine (dv_block m c t (ix2 y0 y1)).trans (Eq.trans ?_ (congrArg (DV m c) (dv_emb t y0 y1)).symm)
  show _ = ∑ i : Fin 8192, OT m c (ix2 (lane (head t) y1) i) * weight m c (headOf (lane (head t) y1)) i (key t y0)
  rw [head_lane]
  exact Finset.sum_congr rfl fun i _ => Ideal.mul_congr (ot_at m c t i y1) (prob_at m c t i y0)

end Cert.KernelIdeal.Final

end
-- ==== Proof.Reads.lean ====
module

public import proofs.«01_k».proof.Proof.Host
public import proofs.«01_k».proof.Proof.Final
public import proofs.«01_k».proof.Proof.Math

/-! The arrays handed to the call, read entry by entry, when the program's arguments are real. -/

@[expose] public section

set_option maxRecDepth 16384

noncomputable section

open Idealize.ShloMosaic Idealize.ShloMosaic.TcCoe Idealize.SL.Sem

namespace Cert.KernelIdeal.Host

open Cert.KernelIdeal Cert.KernelIdeal.Gen Cert.KernelIdeal.Final Cert.Attn

variable {a0 : FVec Ideal S8192x8x64 .f32} {a1 : FVec Ideal S8192x8x32 .f32} {a2 : FVec Ideal S8192x8x64 .f32}
  {a3 : FVec Ideal S8192x32 .f32} {a4 : FVec Ideal S8192x8x64 .f32} {a5 : FVec Ideal S8192x512 .f32}
  {r0 : Fin 8192 → Fin 8 → Fin 64 → ℝ} {r1 : Fin 8192 → Fin 8 → Fin 32 → ℝ} {r2 : Fin 8192 → Fin 8 → Fin 64 → ℝ}
  {r3 : Fin 8192 → Fin 32 → ℝ} {r4 r5 : Fin 8192 → Fin 8 → Fin 64 → ℝ}

/-- The integer zero converted is the real zero. -/
theorem pad_zero : (FloatOps.sitofp (F := Ideal) .f32 0#32) = (0 : EReal) := by
  simp [FloatOps.sitofp]

/-- A sum with a logarithm, entry by entry. -/
theorem addf_log_at (X Y : FVec Ideal S8x8192x1 .f32) (i : S8x8192x1.Idx) : addf X (Host.log Y) i = X i + Ideal.log (Y i) := rfl

/-- A padded query, entry by entry. -/
theorem queries_at (a0 : FVec Ideal S8192x8x64 .f32) (a1 : FVec Ideal S8192x8x32 .f32) (i : Fin 8192) (h : Fin 8) (l : Fin 128) :
    queries a0 a1 (ix2 i (lane h l)) = if h1 : l.val < 96 then (if h2 : l.val < 64 then a0 (ix3 i h ⟨l, h2⟩) else a1 (ix3 i h ⟨l - 64, by omega⟩))
      * Ideal.ofBits .f32 0x3DD105EC#32 else 0 := by
  pointwise [queries, lane]
  exact dite_congr rfl (fun _ => rfl) (fun _ => pad_zero)

/-- A padded key, entry by entry. -/
theorem keys_at (a2 : FVec Ideal S8192x8x64 .f32) (a3 : FVec Ideal S8192x32 .f32) (i : Fin 8192) (h : Fin 8) (l : Fin 128) :
    keys a2 a3 (ix2 i (lane h l)) = if h1 : l.val < 96 then (if h2 : l.val < 64 then a2 (ix3 i h ⟨l, h2⟩) else a3 (ix2 i ⟨l - 64, by omega⟩))
      else 0 := by
  pointwise [keys, lane]
  exact dite_congr rfl (fun _ => rfl) (fun _ => pad_zero)

/-- A padded output gradient, entry by entry. -/
theorem cots_at (a5 : FVec Ideal S8192x512 .f32) (i : Fin 8192) (h : Fin 8) (l : Fin 128) :
    cots a5 (ix2 i (lane h l)) = if h1 : l.val < 64 then a5 (ix2 i ⟨h * 64 + l, by omega⟩) else 0 := by
  pointwise [cots, lane]
  exact dite_congr rfl (fun _ => rfl) (fun _ => pad_zero)

/-- A padded value, entry by entry. -/
theorem values_at (a4 : FVec Ideal S8192x8x64 .f32) (i : Fin 8192) (h : Fin 8) (l : Fin 128) :
    values a4 (ix2 i (lane h l)) = if h1 : l.val < 64 then a4 (ix3 i h ⟨l, h1⟩) else if h : l.val - 64 < 1 then 1 else 0 := by
  pointwise [values, lane]

/-- A score of the host lines is a scaled dot product. -/
theorem scores_at (a0 : FVec Ideal S8192x8x64 .f32) (a1 : FVec Ideal S8192x8x32 .f32) (a2 : FVec Ideal S8192x8x64 .f32) (a3 : FVec Ideal S8192x32 .f32)
    (h : Fin 8) (i j : Fin 8192) :
    scores a0 a1 a2 a3 (ix3 h i j)
      = (∑ x : Fin 64, a0 (ix3 i h x) * a2 (ix3 j h x) + ∑ x : Fin 32, a3 (ix2 j x) * a1 (ix3 i h x)) * Ideal.ofBits .f32 0x3DD105EC#32 := by
  pointwise [scores]

/-- The maximum of a row of scores. -/
theorem rowMax_at (a0 : FVec Ideal S8192x8x64 .f32) (a1 : FVec Ideal S8192x8x32 .f32) (a2 : FVec Ideal S8192x8x64 .f32) (a3 : FVec Ideal S8192x32 .f32)
    (h : Fin 8) (i : Fin 8192) :
    rowMax a0 a1 a2 a3 (ix3 h i 0)
      = Finset.fold max (Ideal.ofBits .f32 0xFF800000#32) (fun x : Fin 8192 => scores a0 a1 a2 a3 (ix3 h i x)) Finset.univ := by
  pointwise [rowMax]

/-- The exponential of a score less its row maximum. -/
theorem expos_at (a0 : FVec Ideal S8192x8x64 .f32) (a1 : FVec Ideal S8192x8x32 .f32) (a2 : FVec Ideal S8192x8x64 .f32) (a3 : FVec Ideal S8192x32 .f32)
    (h : Fin 8) (i j : Fin 8192) :
    expos a0 a1 a2 a3 (ix3 h i j) = Ideal.exp (scores a0 a1 a2 a3 (ix3 h i j) - rowMax a0 a1 a2 a3 (ix3 h i 0)) := by
  pointwise [expos]

/-- The sum of a row of exponentials. -/
theorem rowSum_at (a0 : FVec Ideal S8192x8x64 .f32) (a1 : FVec Ideal S8192x8x32 .f32) (a2 : FVec Ideal S8192x8x64 .f32) (a3 : FVec Ideal S8192x32 .f32)
    (h : Fin 8) (i : Fin 8192) :
    rowSum a0 a1 a2 a3 (ix3 h i 0) = ∑ x : Fin 8192, expos a0 a1 a2 a3 (ix3 h i x) := by
  generalize he : expos a0 a1 a2 a3 = E
  pointwise [rowSum, he]

/-- The logarithm of a row sum with the maximum added back. -/
theorem lses_at (a0 : FVec Ideal S8192x8x64 .f32) (a1 : FVec Ideal S8192x8x32 .f32) (a2 : FVec Ideal S8192x8x64 .f32) (a3 : FVec Ideal S8192x32 .f32)
    (h : Fin 8) (i : Fin 8192) :
    lses a0 a1 a2 a3 (ix3 h i 0) = rowMax a0 a1 a2 a3 (ix3 h i 0) + Ideal.log (rowSum a0 a1 a2 a3 (ix3 h i 0)) := by
  unfold lses
  exact addf_log_at _ _ _

/-- An attention output of the host lines. -/
theorem outs_at (a0 : FVec Ideal S8192x8x64 .f32) (a1 : FVec Ideal S8192x8x32 .f32) (a2 : FVec Ideal S8192x8x64 .f32) (a3 : FVec Ideal S8192x32 .f32)
    (a4 : FVec Ideal S8192x8x64 .f32) (h : Fin 8) (i : Fin 8192) (d : Fin 64) :
    outs a0 a1 a2 a3 a4 (ix3 i h d)
      = ∑ x : Fin 8192, a4 (ix3 x h d) * Ideal.div (expos a0 a1 a2 a3 (ix3 h i x)) (rowSum a0 a1 a2 a3 (ix3 h i 0)) := by
  pointwise [outs]

/-- The dot product of an output gradient and an output. -/
theorem deltas_at (a0 : FVec Ideal S8192x8x64 .f32) (a1 : FVec Ideal S8192x8x32 .f32) (a2 : FVec Ideal S8192x8x64 .f32) (a3 : FVec Ideal S8192x32 .f32)
    (a4 : FVec Ideal S8192x8x64 .f32) (a5 : FVec Ideal S8192x512 .f32) (h : Fin 8) (i : Fin 8192) :
    deltas a0 a1 a2 a3 a4 a5 (ix3 h i 0)
      = ∑ x : Fin 64, a5 (ix2 i ⟨h * 64 + x, by omega⟩) * outs a0 a1 a2 a3 a4 (ix3 i h x) := by
  pointwise [deltas]

end Cert.KernelIdeal.Host
end
-- ==== Proof.Attn.lean ====
module

public import proofs.«01_k».proof.Proof.Reads

/-! What the call computes when the program's arguments are real. -/

@[expose] public section

set_option maxRecDepth 16384

noncomputable section

open Idealize.ShloMosaic Idealize.ShloMosaic.TcCoe Idealize.SL.Sem

namespace Cert.KernelIdeal.Host

open Cert.KernelIdeal Cert.KernelIdeal.Gen Cert.KernelIdeal.Final Cert.Attn

/-- A transposed array, entry by entry. -/
theorem transposed_at (X : FVec Ideal S8192x1024 .bf16) (l : Fin 1024) (i : Fin 8192) :
    transpose S1024x8192 [1, 0] X transposes_S8192x1024_S1024x8192_1_0 (ix2 l i) = X (ix2 i l) := by
  pointwise []

section Real

variable {a0 : FVec Ideal S8192x8x64 .f32} {a1 : FVec Ideal S8192x8x32 .f32} {a2 : FVec Ideal S8192x8x64 .f32}
  {a3 : FVec Ideal S8192x32 .f32} {a4 : FVec Ideal S8192x8x64 .f32} {a5 : FVec Ideal S8192x512 .f32}
  {r0 : Fin 8192 → Fin 8 → Fin 64 → ℝ} {r1 : Fin 8192 → Fin 8 → Fin 32 → ℝ} {r2 : Fin 8192 → Fin 8 → Fin 64 → ℝ}
  {r3 : Fin 8192 → Fin 32 → ℝ} {r4 r5 : Fin 8192 → Fin 8 → Fin 64 → ℝ}
  (h0 : ∀ i h d, a0 (ix3 i h d) = (r0 i h d : EReal)) (h1 : ∀ i h d, a1 (ix3 i h d) = (r1 i h d : EReal))
  (h2 : ∀ i h d, a2 (ix3 i h d) = (r2 i h d : EReal)) (h3 : ∀ i d, a3 (ix2 i d) = (r3 i d : EReal))
  (h4 : ∀ i h d, a4 (ix3 i h d) = (r4 i h d : EReal))
  (h5 : ∀ (i : Fin 8192) (h : Fin 8) (d : Fin 64), a5 (ix2 i ⟨h * 64 + d, Cert.Attn.wide h d⟩) = (r5 i h d : EReal))

include h0 h1 in
/-- The padded queries are real. -/
theorem queries_real (i : Fin 8192) (h : Fin 8) (l : Fin 128) :
    queries a0 a1 (ix2 i (lane h l)) = ((lanes (r0 i h) (r1 i h) l * κ : ℝ) : EReal) := by
  rw [queries_at]
  simp only [lanes]
  split_ifs
  · rw [h0, scale_eq, ← EReal.coe_mul]
  · rw [h1, scale_eq, ← EReal.coe_mul]
  · rw [zero_mul, EReal.coe_zero]

include h2 h3 in
/-- The padded keys are real. -/
theorem keys_real (i : Fin 8192) (h : Fin 8) (l : Fin 128) :
    keys a2 a3 (ix2 i (lane h l)) = ((lanes (r2 i h) (r3 i) l : ℝ) : EReal) := by
  rw [keys_at]
  simp only [lanes]
  split_ifs
  · rw [h2]
  · rw [h3]
  · rw [EReal.coe_zero]

include h5 in
/-- The padded output gradients are real. -/
theorem cots_real (i : Fin 8192) (h : Fin 8) (l : Fin 128) :
    cots a5 (ix2 i (lane h l)) = ((lanes64 (r5 i h) l : ℝ) : EReal) := by
  rw [cots_at]
  simp only [lanes64]
  split_ifs with hl
  · exact h5 i h ⟨l, hl⟩
  · rw [EReal.coe_zero]

/-- A head's values followed by a one and zeros. -/
def ones (u : Fin 64 → ℝ) (l : Fin 128) : ℝ := if h : l.val < 64 then u ⟨l, h⟩ else if l.val - 64 < 1 then 1 else 0

include h4 in
/-- The padded values are real. -/
theorem values_real (i : Fin 8192) (h : Fin 8) (l : Fin 128) :
    values a4 (ix2 i (lane h l)) = ((ones (r4 i h) l : ℝ) : EReal) := by
  rw [values_at]
  simp only [ones]
  split_ifs
  · rw [h4]
  · rw [EReal.coe_one]
  · rw [EReal.coe_zero]

include h0 h1 h2 h3 in
/-- The scores are real. -/
theorem scores_real (h : Fin 8) (i j : Fin 8192) :
    scores a0 a1 a2 a3 (ix3 h i j) = (score r0 r1 r2 r3 h i j : EReal) := by
  rw [scores_at, scale_eq]
  simp only [score, EReal.coe_mul, EReal.coe_add, coe_sum, h0, h1, h2, h3]
  simp only [mul_comm]

include h0 h1 h2 h3 in
/-- The row maxima are real. -/
theorem rowMax_real (h : Fin 8) (i : Fin 8192) : ∃ M : ℝ, rowMax a0 a1 a2 a3 (ix3 h i 0) = (M : EReal) := by
  rw [rowMax_at, bottom_eq]
  simp only [scores_real h0 h1 h2 h3]
  exact fold_max_real _ ⟨0, Finset.mem_univ _⟩ _

section Shift

variable {h : Fin 8} {i : Fin 8192} {M : ℝ} (hM : rowMax a0 a1 a2 a3 (ix3 h i 0) = (M : EReal))

include h0 h1 h2 h3 hM

/-- The exponentials are real. -/
theorem expos_real (j : Fin 8192) :
    expos a0 a1 a2 a3 (ix3 h i j) = (Real.exp (score r0 r1 r2 r3 h i j - M) : EReal) := by
  rw [expos_at, hM, scores_real h0 h1 h2 h3, ← EReal.coe_sub, Ideal.exp_coe]

/-- The row sums are real. -/
theorem rowSum_real :
    rowSum a0 a1 a2 a3 (ix3 h i 0) = ((∑ x, Real.exp (score r0 r1 r2 r3 h i x - M) : ℝ) : EReal) := by
  rw [rowSum_at, coe_sum]
  exact Finset.sum_congr rfl fun x _ => expos_real h0 h1 h2 h3 hM x

/-- The logarithms are real. -/
theorem lses_real :
    lses a0 a1 a2 a3 (ix3 h i 0) = ((M + Real.log (∑ x, Real.exp (score r0 r1 r2 r3 h i x - M)) : ℝ) : EReal) := by
  rw [lses_at, hM, rowSum_real h0 h1 h2 h3 hM, Ideal.log_coe, if_neg (not_le.mpr (total_pos _ M)), EReal.coe_add]

end Shift

include h0 h1 h2 h3 h4 in
/-- The attention outputs are real. -/
theorem outs_real (h : Fin 8) (i : Fin 8192) (d : Fin 64) :
    outs a0 a1 a2 a3 a4 (ix3 i h d) = ((∑ j, r4 j h d * prob r0 r1 r2 r3 h i j : ℝ) : EReal) := by
  obtain ⟨M, hM⟩ := rowMax_real h0 h1 h2 h3 h i
  rw [outs_at, coe_sum]
  refine Finset.sum_congr rfl fun x _ => ?_
  rw [h4, expos_real h0 h1 h2 h3 hM, rowSum_real h0 h1 h2 h3 hM, Ideal.div_coe (total_pos _ M).ne', ← EReal.coe_mul, ← EReal.coe_mul,
    mul_one_div, softmax_shift]
  rfl

include h0 h1 h2 h3 h4 h5 in
/-- The dot products of gradients and outputs are real. -/
theorem deltas_real (h : Fin 8) (i : Fin 8192) :
    deltas a0 a1 a2 a3 a4 a5 (ix3 h i 0) = ((∑ j, prob r0 r1 r2 r3 h i j * dprob r4 r5 h i j : ℝ) : EReal) := by
  rw [deltas_at, ← delta_eq, coe_sum]
  refine Finset.sum_congr rfl fun x _ => ?_
  rw [outs_real h0 h1 h2 h3 h4, h5, EReal.coe_mul]

include h0 h1 h2 h3 in
/-- A weight the call recomputes is the softmax weight. -/
theorem weight_real (h : Fin 8) (i j : Fin 8192) :
    Ideal.exp (∑ l : Fin 128, queries a0 a1 (ix2 i (lane h l)) * keys a2 a3 (ix2 j (lane h l)) - lses a0 a1 a2 a3 (ix3 h i 0))
      = (prob r0 r1 r2 r3 h i j : EReal) := by
  obtain ⟨M, hM⟩ := rowMax_real h0 h1 h2 h3 h i
  have e : ∑ l : Fin 128, queries a0 a1 (ix2 i (lane h l)) * keys a2 a3 (ix2 j (lane h l)) = (score r0 r1 r2 r3 h i j : EReal) := by
    rw [score, ← lanes_mul, coe_sum]
    refine Finset.sum_congr rfl fun l _ => ?_
    rw [queries_real h0 h1, keys_real h2 h3, ← EReal.coe_mul]
  rw [e, lses_real h0 h1 h2 h3 hM, ← EReal.coe_sub, Ideal.exp_coe, softmax_lse]
  rfl

include h0 h1 h2 h3 h4 h5 in
/-- A score gradient of the call is that of the softmax. -/
theorem grad_real (h : Fin 8) (i j : Fin 8192) :
    (prob r0 r1 r2 r3 h i j : EReal) * (∑ l : Fin 128, cots a5 (ix2 i (lane h l)) * values a4 (ix2 j (lane h l)) - deltas a0 a1 a2 a3 a4 a5 (ix3 h i 0))
      = (Cert.Attn.grad r0 r1 r2 r3 r4 r5 h i j : EReal) := by
  have e : ∑ l : Fin 128, cots a5 (ix2 i (lane h l)) * values a4 (ix2 j (lane h l)) = (dprob r4 r5 h i j : EReal) := by
    rw [dprob, ← lanes64_mul (r5 i h) (r4 j h) (ones (r4 j h)) (fun d => by simp only [ones, d.isLt, dite_true]), coe_sum]
    refine Finset.sum_congr rfl fun l _ => ?_
    rw [cots_real h5, values_real h4, EReal.coe_mul]
  rw [e, deltas_real h0 h1 h2 h3 h4 h5, ← EReal.coe_sub, ← EReal.coe_mul]
  rfl

end Real

section Call

variable {m : (ℓ : Loc nD τ sig) → Buf (Elt Ideal) ℓ} {c : Dev nD}
  {r0 : Fin 8192 → Fin 8 → Fin 64 → ℝ} {r1 : Fin 8192 → Fin 8 → Fin 32 → ℝ} {r2 : Fin 8192 → Fin 8 → Fin 64 → ℝ}
  {r3 : Fin 8192 → Fin 32 → ℝ} {r4 r5 : Fin 8192 → Fin 8 → Fin 64 → ℝ}

variable (m c) in
/-- The program's first argument: the queries' own parts. -/
abbrev arg0 : FVec Ideal S8192x8x64 .f32 := m ((c : Thread nD τ).loc main_arg0)
variable (m c) in
/-- The program's second argument: the queries' rotary parts. -/
abbrev arg1 : FVec Ideal S8192x8x32 .f32 := m ((c : Thread nD τ).loc main_arg1)
variable (m c) in
/-- The program's third argument: the keys' own parts. -/
abbrev arg2 : FVec Ideal S8192x8x64 .f32 := m ((c : Thread nD τ).loc main_arg2)
variable (m c) in
/-- The program's fourth argument: the shared rotary key. -/
abbrev arg3 : FVec Ideal S8192x32 .f32 := m ((c : Thread nD τ).loc main_arg3)
variable (m c) in
/-- The program's fifth argument: the values. -/
abbrev arg4 : FVec Ideal S8192x8x64 .f32 := m ((c : Thread nD τ).loc main_arg4)
variable (m c) in
/-- The program's sixth argument: the output's cotangent. -/
abbrev arg5 : FVec Ideal S8192x512 .f32 := m ((c : Thread nD τ).loc main_arg5)

variable (m c)

/-- The call's queries. -/
theorem Q_eq : Q m c = queries (arg0 m c) (arg1 m c) := v40 m c
/-- The call's keys. -/
theorem K_eq : K m c = keys (arg2 m c) (arg3 m c) := v41 m c
/-- The call's values. -/
theorem W_eq : W m c = values (arg4 m c) := v42 m c
/-- The call's cotangents. -/
theorem O_eq : O m c = cots (arg5 m c) := v43 m c
/-- The call's log-sum-exps. -/
theorem L_eq : L m c = lses (arg0 m c) (arg1 m c) (arg2 m c) (arg3 m c) := v14 m c
/-- The call's deltas. -/
theorem D_eq : D m c = deltas (arg0 m c) (arg1 m c) (arg2 m c) (arg3 m c) (arg4 m c) (arg5 m c) := v23 m c
/-- The call's transposed queries. -/
theorem QT_eq : QT m c = transpose S1024x8192 [1, 0] (queries (arg0 m c) (arg1 m c)) transposes_S8192x1024_S1024x8192_1_0 := v44 m c
/-- The call's transposed cotangents. -/
theorem OT_eq : OT m c = transpose S1024x8192 [1, 0] (cots (arg5 m c)) transposes_S8192x1024_S1024x8192_1_0 := v45 m c

variable {m c}

variable (h0 : ∀ i h d, arg0 m c (ix3 i h d) = (r0 i h d : EReal)) (h1 : ∀ i h d, arg1 m c (ix3 i h d) = (r1 i h d : EReal))
  (h2 : ∀ i h d, arg2 m c (ix3 i h d) = (r2 i h d : EReal)) (h3 : ∀ i d, arg3 m c (ix2 i d) = (r3 i d : EReal))
  (h4 : ∀ i h d, arg4 m c (ix3 i h d) = (r4 i h d : EReal))
  (h5 : ∀ (i : Fin 8192) (h : Fin 8) (d : Fin 64), arg5 m c (ix2 i ⟨h * 64 + d, Cert.Attn.wide h d⟩) = (r5 i h d : EReal))

include h0 h1 h2 h3 in
/-- The call's weights are the attention's probabilities. -/
theorem weight_eq (h : Fin 8) (i j : Fin 8192) : weight m c h i j = (prob r0 r1 r2 r3 h i j : EReal) := by
  refine Eq.trans ?_ (weight_real h0 h1 h2 h3 h i j)
  unfold weight
  rw [Q_eq, K_eq, L_eq]

include h0 h1 h2 h3 h4 h5 in
/-- The call's score gradients are the attention's. -/
theorem grad_eq (h : Fin 8) (i j : Fin 8192) :
    Final.grad m c h i j = (Cert.Attn.grad r0 r1 r2 r3 r4 r5 h i j : EReal) := by
  refine Eq.trans ?_ (grad_real h0 h1 h2 h3 h4 h5 h i j)
  unfold Final.grad
  rw [weight_eq h0 h1 h2 h3, O_eq, W_eq, D_eq]

include h0 h1 h2 h3 h4 h5 in
/-- The call's query gradients are the attention's. -/
theorem DQ_real (i : Fin 8192) (h : Fin 8) (l : Fin 128) :
    DQ m c (ix2 i (lane h l)) = (dq r0 r1 r2 r3 r4 r5 i h l : EReal) := by
  rw [← dq_eq, EReal.coe_mul, coe_sum]
  show (∑ j : Fin 8192, Final.grad m c (headOf (lane h l)) i j * K m c (ix2 j (lane h l))) * Ideal.ofBits .f32 0x3DD105EC#32 = _
  rw [scale_eq, head_lane]
  refine congrArg (· * _) (Finset.sum_congr rfl fun j _ => ?_)
  rw [grad_eq h0 h1 h2 h3 h4 h5, K_eq, keys_real h2 h3, EReal.coe_mul]

include h0 h1 h2 h3 h4 h5 in
/-- The call's key gradients are the attention's. -/
theorem DK_real (j : Fin 8192) (h : Fin 8) (l : Fin 128) :
    DK m c (ix2 j (lane h l)) = (dk r0 r1 r2 r3 r4 r5 j h l : EReal) := by
  rw [← dk_eq, coe_sum]
  show (∑ i : Fin 8192, QT m c (ix2 (lane h l) i) * Final.grad m c (headOf (lane h l)) i j) = _
  rw [head_lane]
  refine Finset.sum_congr rfl fun i _ => ?_
  rw [grad_eq h0 h1 h2 h3 h4 h5, QT_eq, transposed_at, queries_real h0 h1, ← EReal.coe_mul]

include h0 h1 h2 h3 h5 in
/-- The call's value gradients are the attention's. -/
theorem DV_real (j : Fin 8192) (h : Fin 8) (l : Fin 128) :
    DV m c (ix2 j (lane h l)) = (dv r0 r1 r2 r3 r5 j h l : EReal) := by
  rw [← dv_eq, coe_sum]
  show (∑ i : Fin 8192, OT m c (ix2 (lane h l) i) * weight m c (headOf (lane h l)) i j) = _
  rw [head_lane]
  refine Finset.sum_congr rfl fun i _ => ?_
  rw [weight_eq h0 h1 h2 h3, OT_eq, transposed_at, cots_real h5, EReal.coe_mul]

end Call

end Cert.KernelIdeal.Host
end
-- ==== Proof.Ref.lean ====
module

public import proofs.«01_k».proof.Proof.Gen.ReferenceIdeal.Read
public import proofs.«01_k».proof.Proof.Math

/-! The reference, one array at a time, when its arguments are real. -/

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

variable (x0 : FVec Ideal S8192x8x64 .f32) (x1 : FVec Ideal S8192x8x32 .f32) (x2 : FVec Ideal S8192x8x64 .f32)
  (x3 : FVec Ideal S8192x32 .f32) (x4 : FVec Ideal S8192x8x64 .f32) (x5 : FVec Ideal S8192x512 .f32)

/-- The integer zero converted is the real zero. -/
theorem pad_zero : (FloatOps.sitofp (F := Ideal) .f32 0#32) = (0 : EReal) := by
  simp [FloatOps.sitofp]

/-- The own part of a score. -/
theorem own_at (h : Fin 8) (i j : Fin 8192) :
    val_main_v2 (F := Ideal) x0 x2 (ix3 h i j) = ∑ x : Fin 64, x0 (ix3 i h x) * x2 (ix3 j h x) := by
  pointwise [val_main_v2]

/-- The rotary part of a score. -/
theorem rope_at (h : Fin 8) (i j : Fin 8192) :
    val_main_v3 (F := Ideal) x1 x3 (ix3 h i j) = ∑ x : Fin 32, x1 (ix3 i h x) * x3 (ix2 j x) := by
  pointwise [val_main_v3, val_main_v1, val_main_v0]

/-- A scaled score. -/
theorem score_at (h : Fin 8) (i j : Fin 8192) :
    val_main_v6 (F := Ideal) x0 x1 x2 x3 (ix3 h i j) = (val_main_v2 (F := Ideal) x0 x2 (ix3 h i j) + val_main_v3 (F := Ideal) x1 x3 (ix3 h i j)) * Ideal.ofBits .f32 0x3DD105EC#32 := by
  rw [val_main_v6_apply, val_main_v4_apply, val_main_v5_apply, val_main_cst_apply]
  exact Eq.refl _

/-- A row's largest score, folded from below. -/
theorem top_at (h : Fin 8) (i : Fin 8192) :
    val_main_v7 (F := Ideal) x0 x1 x2 x3 (ix2 h i) = Finset.fold max (Ideal.ofBits .f32 0xFF800000#32) (fun x : Fin 8192 => val_main_v6 (F := Ideal) x0 x1 x2 x3 (ix3 h i x)) Finset.univ := by
  unfold val_main_v7 val_main_cst_0
  generalize val_main_v6 (F := Ideal) x0 x1 x2 x3 = Y0
  pointwise []

/-- A row's largest score. -/
theorem max_at (h : Fin 8) (i : Fin 8192) :
    val_main_v14 (F := Ideal) x0 x1 x2 x3 (ix2 h i) = max (Ideal.ofBits .f32 0xFF800000#32) (val_main_v7 (F := Ideal) x0 x1 x2 x3 (ix2 h i)) := by
  rw [val_main_v14_apply, val_main_v13_apply, val_main_cst_2_apply, Ideal.maximumf_def]
  exact Eq.refl _

/-- A shifted exponential. -/
theorem exp_at (h : Fin 8) (i j : Fin 8192) :
    val_main_v27 (F := Ideal) x0 x1 x2 x3 (ix3 h i j) = Ideal.exp (val_main_v6 (F := Ideal) x0 x1 x2 x3 (ix3 h i j) - val_main_v14 (F := Ideal) x0 x1 x2 x3 (ix2 h i)) := by
  unfold val_main_v27 val_main_v26 val_main_v25 val_main_v24
  generalize val_main_v6 (F := Ideal) x0 x1 x2 x3 = Y0
  generalize val_main_v14 (F := Ideal) x0 x1 x2 x3 = Y1
  pointwise []

/-- A row's sum of exponentials. -/
theorem sum_at (h : Fin 8) (i : Fin 8192) :
    val_main_v28 (F := Ideal) x0 x1 x2 x3 (ix2 h i) = ∑ x : Fin 8192, val_main_v27 (F := Ideal) x0 x1 x2 x3 (ix3 h i x) := by
  unfold val_main_v28 val_main_cst_8
  generalize val_main_v27 (F := Ideal) x0 x1 x2 x3 = Y0
  pointwise []

/-- A probability. -/
theorem prob_at (h : Fin 8) (i j : Fin 8192) :
    val_main_v31 (F := Ideal) x0 x1 x2 x3 (ix3 h i j) = Ideal.div (val_main_v27 (F := Ideal) x0 x1 x2 x3 (ix3 h i j)) (val_main_v28 (F := Ideal) x0 x1 x2 x3 (ix2 h i)) := by
  unfold val_main_v31 val_main_v30 val_main_v29
  generalize val_main_v27 (F := Ideal) x0 x1 x2 x3 = Y0
  generalize val_main_v28 (F := Ideal) x0 x1 x2 x3 = Y1
  pointwise []

/-- The reciprocal of a row's sum squared. -/
theorem inv_at (h : Fin 8) (i : Fin 8192) :
    val_main_v34 (F := Ideal) x0 x1 x2 x3 (ix3 h i 0) = Ideal.div 1 (val_main_v28 (F := Ideal) x0 x1 x2 x3 (ix2 h i) * val_main_v28 (F := Ideal) x0 x1 x2 x3 (ix2 h i)) := by
  unfold val_main_v34 val_main_v33 val_main_cst_9 val_main_v32 val_main_v29
  generalize val_main_v28 (F := Ideal) x0 x1 x2 x3 = Y0
  pointwise []

/-- The gradient of a probability. -/
theorem dprob_at (h : Fin 8) (i j : Fin 8192) :
    val_main_v40 (F := Ideal) x4 x5 (ix3 h i j) = ∑ x : Fin 64, x5 (ix2 i ⟨h * 64 + x, by omega⟩) * x4 (ix3 j h x) := by
  pointwise [val_main_v40, val_main_v39, val_main_v38]

/-- A row's inner product, negated. -/
theorem inner_at (h : Fin 8) (i : Fin 8192) :
    val_main_v48 (F := Ideal) x0 x1 x2 x3 x4 x5 (ix3 h i 0) = -(∑ x : Fin 8192, val_main_v40 (F := Ideal) x4 x5 (ix3 h i x) * val_main_v34 (F := Ideal) x0 x1 x2 x3 (ix3 h i 0) * val_main_v27 (F := Ideal) x0 x1 x2 x3 (ix3 h i x)) := by
  unfold val_main_v48 val_main_v47 val_main_v46 val_main_v45 val_main_v44 val_main_v43 val_main_cst_10
  generalize val_main_v40 (F := Ideal) x4 x5 = Y0
  generalize val_main_v34 (F := Ideal) x0 x1 x2 x3 = Y1
  generalize val_main_v27 (F := Ideal) x0 x1 x2 x3 = Y2
  pointwise []

/-- The gradient of a score before its scale. -/
theorem dscore_at (h : Fin 8) (i j : Fin 8192) :
    val_main_v56 (F := Ideal) x0 x1 x2 x3 x4 x5 (ix3 h i j) = (Ideal.div (val_main_v40 (F := Ideal) x4 x5 (ix3 h i j)) (val_main_v28 (F := Ideal) x0 x1 x2 x3 (ix2 h i)) + val_main_v48 (F := Ideal) x0 x1 x2 x3 x4 x5 (ix3 h i 0)) * val_main_v27 (F := Ideal) x0 x1 x2 x3 (ix3 h i j) * Ideal.ofBits .f32 0x3DD105EC#32 := by
  unfold val_main_v56 val_main_v55 val_main_cst_12 val_main_v54 val_main_v53 val_main_v52 val_main_v51 val_main_cst_11 val_main_v50 val_main_v49 val_main_v29
  generalize val_main_v40 (F := Ideal) x4 x5 = Y0
  generalize val_main_v28 (F := Ideal) x0 x1 x2 x3 = Y1
  generalize val_main_v48 (F := Ideal) x0 x1 x2 x3 x4 x5 = Y2
  generalize val_main_v27 (F := Ideal) x0 x1 x2 x3 = Y3
  pointwise []
  rw [Fin.sum_univ_one]

/-- The gradient of the queries. -/
theorem dq_at (i : Fin 8192) (h : Fin 8) (l : Fin 128) :
    val_main_v67 (F := Ideal) x0 x1 x2 x3 x4 x5 (ix2 i ⟨128 * h.val + l.val, by omega⟩) = if h1 : l.val < 96 then (if h2 : l.val < 64 then ∑ j : Fin 8192, val_main_v56 (F := Ideal) x0 x1 x2 x3 x4 x5 (ix3 h i j) * x2 (ix3 j h ⟨l, h2⟩)
      else ∑ j : Fin 8192, val_main_v56 (F := Ideal) x0 x1 x2 x3 x4 x5 (ix3 h i j) * x3 (ix2 j ⟨l - 64, by omega⟩)) else 0 := by
  unfold val_main_v67 val_main_v66 val_main_call0_v0 val_main_c val_main_v65 val_main_v64 val_main_v63 val_main_v60 val_main_v59 val_main_v1 val_main_v0
  generalize val_main_v56 (F := Ideal) x0 x1 x2 x3 x4 x5 = Y0
  pointwise []
  exact dite_congr rfl (fun _ => rfl) (fun _ => pad_zero)

/-- The gradient of the keys. -/
theorem dk_at (j : Fin 8192) (h : Fin 8) (l : Fin 128) :
    val_main_v70 (F := Ideal) x0 x1 x2 x3 x4 x5 (ix2 j ⟨128 * h.val + l.val, by omega⟩) = if h1 : l.val < 96 then (if h2 : l.val < 64 then ∑ i : Fin 8192, val_main_v56 (F := Ideal) x0 x1 x2 x3 x4 x5 (ix3 h i j) * x0 (ix3 i h ⟨l, h2⟩)
      else ∑ i : Fin 8192, val_main_v56 (F := Ideal) x0 x1 x2 x3 x4 x5 (ix3 h i j) * x1 (ix3 i h ⟨l - 64, by omega⟩)) else 0 := by
  unfold val_main_v70 val_main_v69 val_main_call1_v0 val_main_c_13 val_main_v68 val_main_v62 val_main_v61 val_main_v58 val_main_v57
  generalize val_main_v56 (F := Ideal) x0 x1 x2 x3 x4 x5 = Y0
  pointwise []
  exact dite_congr rfl (fun _ => rfl) (fun _ => pad_zero)

/-- The gradient of the values. -/
theorem dv_at (j : Fin 8192) (h : Fin 8) (l : Fin 128) :
    val_main_v72 (F := Ideal) x0 x1 x2 x3 x5 (ix2 j ⟨128 * h.val + l.val, by omega⟩) = if h1 : l.val < 64 then ∑ i : Fin 8192, x5 (ix2 i ⟨h * 64 + l, by omega⟩) * val_main_v31 (F := Ideal) x0 x1 x2 x3 (ix3 h i j) else 0 := by
  unfold val_main_v72 val_main_v71 val_main_call2_v0 val_main_c_14 val_main_v42 val_main_v41 val_main_v39 val_main_v38
  generalize val_main_v31 (F := Ideal) x0 x1 x2 x3 = Y0
  pointwise []
  exact dite_congr rfl (fun _ => rfl) (fun _ => pad_zero)

section Real

variable {x0 x1 x2 x3 x4 x5}
  {r0 : Fin 8192 → Fin 8 → Fin 64 → ℝ} {r1 : Fin 8192 → Fin 8 → Fin 32 → ℝ} {r2 : Fin 8192 → Fin 8 → Fin 64 → ℝ}
  {r3 : Fin 8192 → Fin 32 → ℝ} {r4 r5 : Fin 8192 → Fin 8 → Fin 64 → ℝ}
  (h0 : ∀ i h d, x0 (ix3 i h d) = (r0 i h d : EReal)) (h1 : ∀ i h d, x1 (ix3 i h d) = (r1 i h d : EReal))
  (h2 : ∀ i h d, x2 (ix3 i h d) = (r2 i h d : EReal)) (h3 : ∀ i d, x3 (ix2 i d) = (r3 i d : EReal))
  (h4 : ∀ i h d, x4 (ix3 i h d) = (r4 i h d : EReal))
  (h5 : ∀ (i : Fin 8192) (h : Fin 8) (d : Fin 64), x5 (ix2 i ⟨h * 64 + d, Cert.Attn.wide h d⟩) = (r5 i h d : EReal))

include h0 h1 h2 h3 in
/-- The scores are real. -/
theorem score_real (h : Fin 8) (i j : Fin 8192) :
    val_main_v6 (F := Ideal) x0 x1 x2 x3 (ix3 h i j) = (score r0 r1 r2 r3 h i j : EReal) := by
  rw [score_at, own_at, rope_at, scale_eq]
  simp only [score, EReal.coe_mul, EReal.coe_add, coe_sum, h0, h1, h2, h3]

include h0 h1 h2 h3 in
/-- A row's largest score is real. -/
theorem max_real (h : Fin 8) (i : Fin 8192) : ∃ M : ℝ, val_main_v14 (F := Ideal) x0 x1 x2 x3 (ix2 h i) = (M : EReal) := by
  rw [max_at, top_at, bottom_eq, max_bot_left]
  simp only [score_real h0 h1 h2 h3]
  exact fold_max_real _ ⟨0, Finset.mem_univ _⟩ _

section Shift

variable {h : Fin 8} {i : Fin 8192} {M : ℝ} (hM : val_main_v14 (F := Ideal) x0 x1 x2 x3 (ix2 h i) = (M : EReal))

include h0 h1 h2 h3 hM

/-- The shifted exponentials are real. -/
theorem exp_real (j : Fin 8192) :
    val_main_v27 (F := Ideal) x0 x1 x2 x3 (ix3 h i j) = (Real.exp (score r0 r1 r2 r3 h i j - M) : EReal) := by
  rw [exp_at, hM, score_real h0 h1 h2 h3, ← EReal.coe_sub, Ideal.exp_coe]

/-- A row's sum of exponentials is real. -/
theorem sum_real :
    val_main_v28 (F := Ideal) x0 x1 x2 x3 (ix2 h i) = ((∑ x, Real.exp (score r0 r1 r2 r3 h i x - M) : ℝ) : EReal) := by
  rw [sum_at, coe_sum]
  exact Finset.sum_congr rfl fun x _ => exp_real h0 h1 h2 h3 hM x

end Shift

include h0 h1 h2 h3 in
/-- The probabilities are the softmax of the scores. -/
theorem prob_real (h : Fin 8) (i j : Fin 8192) :
    val_main_v31 (F := Ideal) x0 x1 x2 x3 (ix3 h i j) = (prob r0 r1 r2 r3 h i j : EReal) := by
  obtain ⟨M, hM⟩ := max_real h0 h1 h2 h3 h i
  rw [prob_at, exp_real h0 h1 h2 h3 hM, sum_real h0 h1 h2 h3 hM, Ideal.div_coe (total_pos _ M).ne', ← EReal.coe_mul, mul_one_div, softmax_shift]
  rfl

include h4 h5 in
/-- The probabilities' gradients are real. -/
theorem dprob_real (h : Fin 8) (i j : Fin 8192) :
    val_main_v40 (F := Ideal) x4 x5 (ix3 h i j) = (dprob r4 r5 h i j : EReal) := by
  rw [dprob_at, dprob, coe_sum]
  refine Finset.sum_congr rfl fun x _ => ?_
  rw [h5, h4, EReal.coe_mul]

include h0 h1 h2 h3 h4 h5 in
/-- The scores' gradients are the softmax's, scaled. -/
theorem dscore_real (h : Fin 8) (i j : Fin 8192) :
    val_main_v56 (F := Ideal) x0 x1 x2 x3 x4 x5 (ix3 h i j) = ((grad r0 r1 r2 r3 r4 r5 h i j * κ : ℝ) : EReal) := by
  obtain ⟨M, hM⟩ := max_real h0 h1 h2 h3 h i
  have hL := (total_pos (score r0 r1 r2 r3 h i) M).ne'
  have hi : val_main_v34 (F := Ideal) x0 x1 x2 x3 (ix3 h i 0)
      = ((1 / ((∑ x, Real.exp (score r0 r1 r2 r3 h i x - M)) * ∑ x, Real.exp (score r0 r1 r2 r3 h i x - M)) : ℝ) : EReal) := by
    rw [inv_at, sum_real h0 h1 h2 h3 hM, ← EReal.coe_mul, Ideal.div_coe (mul_ne_zero hL hL), one_mul]
  have hn : val_main_v48 (F := Ideal) x0 x1 x2 x3 x4 x5 (ix3 h i 0)
      = ((-(∑ x, dprob r4 r5 h i x * (1 / ((∑ x, Real.exp (score r0 r1 r2 r3 h i x - M)) * ∑ x, Real.exp (score r0 r1 r2 r3 h i x - M)))
          * Real.exp (score r0 r1 r2 r3 h i x - M)) : ℝ) : EReal) := by
    rw [inner_at, EReal.coe_neg, coe_sum]
    refine congrArg Neg.neg (Finset.sum_congr rfl fun x _ => ?_)
    rw [hi, dprob_real h4 h5, exp_real h0 h1 h2 h3 hM, ← EReal.coe_mul, ← EReal.coe_mul]
  rw [dscore_at, hn, dprob_real h4 h5, exp_real h0 h1 h2 h3 hM, sum_real h0 h1 h2 h3 hM, Ideal.div_coe hL, scale_eq, ← EReal.coe_mul,
    ← EReal.coe_add, ← EReal.coe_mul, ← EReal.coe_mul, mul_one_div, dscore_quot]
  rfl

include h0 h1 h2 h3 h4 h5 in
/-- The reference's query gradients are the attention's. -/
theorem dq_real (i : Fin 8192) (h : Fin 8) (l : Fin 128) :
    val_main_v67 (F := Ideal) x0 x1 x2 x3 x4 x5 (ix2 i ⟨128 * h.val + l.val, by omega⟩) = (dq r0 r1 r2 r3 r4 r5 i h l : EReal) := by
  rw [dq_at]
  simp only [dq, lanes]
  split_ifs
  · rw [coe_sum]
    refine Finset.sum_congr rfl fun x _ => ?_
    rw [dscore_real h0 h1 h2 h3 h4 h5, h2, ← EReal.coe_mul]
  · rw [coe_sum]
    refine Finset.sum_congr rfl fun x _ => ?_
    rw [dscore_real h0 h1 h2 h3 h4 h5, h3, ← EReal.coe_mul]
  · rw [EReal.coe_zero]

include h0 h1 h2 h3 h4 h5 in
/-- The reference's key gradients are the attention's. -/
theorem dk_real (j : Fin 8192) (h : Fin 8) (l : Fin 128) :
    val_main_v70 (F := Ideal) x0 x1 x2 x3 x4 x5 (ix2 j ⟨128 * h.val + l.val, by omega⟩) = (dk r0 r1 r2 r3 r4 r5 j h l : EReal) := by
  rw [dk_at]
  simp only [dk, lanes]
  split_ifs
  · rw [coe_sum]
    refine Finset.sum_congr rfl fun x _ => ?_
    rw [dscore_real h0 h1 h2 h3 h4 h5, h0, ← EReal.coe_mul]
  · rw [coe_sum]
    refine Finset.sum_congr rfl fun x _ => ?_
    rw [dscore_real h0 h1 h2 h3 h4 h5, h1, ← EReal.coe_mul]
  · rw [EReal.coe_zero]

include h0 h1 h2 h3 h5 in
/-- The reference's value gradients are the attention's. -/
theorem dv_real (j : Fin 8192) (h : Fin 8) (l : Fin 128) :
    val_main_v72 (F := Ideal) x0 x1 x2 x3 x5 (ix2 j ⟨128 * h.val + l.val, by omega⟩) = (dv r0 r1 r2 r3 r5 j h l : EReal) := by
  rw [dv_at]
  simp only [dv, lanes64]
  split_ifs with hl
  · rw [coe_sum]
    refine Finset.sum_congr rfl fun x _ => ?_
    rw [prob_real h0 h1 h2 h3, EReal.coe_mul]
    exact congrArg (· * _) (h5 x h ⟨l, hl⟩)
  · rw [EReal.coe_zero]

end Real

end Cert.ReferenceIdeal.Attn
end
-- ==== Proof.Value.lean ====
module

public import proofs.«01_k».proof.Defs
public import proofs.«01_k».proof.Proof.Attn
public import proofs.«01_k».proof.Proof.Ref
public import proofs.«01_k».proof.Proof.Finite
public import proofs.«01_k».proof.Proof.Gen.KernelIdeal.Value

/-! The call's gradients are the reference's. -/

@[expose] public section

set_option maxRecDepth 16384

noncomputable section

open Idealize.ShloMosaic Idealize.ShloMosaic.TcCoe Idealize.SL.Sem

namespace Cert.Agree

open Cert.KernelIdeal Cert.KernelIdeal.Gen Cert.KernelIdeal.Final Cert.KernelIdeal.Host Cert.ReferenceIdeal.Read

/-- Two padded arrays are equal when they are at every row, head and lane. -/
theorem ext_lane {A B : FVec Ideal S8192x1024 .f32} (h : ∀ (i : Fin 8192) (g : Fin 8) (l : Fin 128), A (ix2 i (lane g l)) = B (ix2 i (lane g l))) :
    A = B := by
  funext y
  have e : y = ix2 (y 0) (lane (headOf (y 1)) ⟨(y 1).val % 128, Nat.mod_lt _ (by omega)⟩) := by
    funext a
    match a with
    | ⟨0, _⟩ => rfl
    | ⟨1, _⟩ => exact Fin.ext (by simp only [lane, headOf]; exact (Nat.div_add_mod _ _).symm)
  rw [e]
  exact h _ _ _

variable {m : (ℓ : Loc nD τ sig) → Buf (Elt Ideal) ℓ} [Cert.Pre_finite.Facts] (hpre : Cert.Pre_KernelIdeal_finite m) (c : Dev nD)

include hpre

/-- The query gradients agree. -/
theorem dq : val_main_v67 (F := Ideal) (arg0 m c) (arg1 m c) (arg2 m c) (arg3 m c) (arg4 m c) (arg5 m c) = DQ m c := by
  obtain ⟨h0, h1, h2, h3, h4, h5⟩ := Cert.Pre_finite.reals _ _ _ _ _ _ (hpre c)
  choose r0 h0 using h0
  choose r1 h1 using h1
  choose r2 h2 using h2
  choose r3 h3 using h3
  choose r4 h4 using h4
  choose r5 h5 using h5
  refine ext_lane fun i h l => ?_
  exact (Cert.ReferenceIdeal.Attn.dq_real (fun i h d => h0 (ix3 i h d)) (fun i h d => h1 (ix3 i h d)) (fun i h d => h2 (ix3 i h d))
      (fun i d => h3 (ix2 i d)) (fun i h d => h4 (ix3 i h d)) (fun i h d => h5 (ix2 i ⟨h * 64 + d, Cert.Attn.wide h d⟩)) i h l).trans
    (DQ_real (fun i h d => h0 (ix3 i h d)) (fun i h d => h1 (ix3 i h d)) (fun i h d => h2 (ix3 i h d))
      (fun i d => h3 (ix2 i d)) (fun i h d => h4 (ix3 i h d)) (fun i h d => h5 (ix2 i ⟨h * 64 + d, Cert.Attn.wide h d⟩)) i h l).symm

/-- The key gradients agree. -/
theorem dk : val_main_v70 (F := Ideal) (arg0 m c) (arg1 m c) (arg2 m c) (arg3 m c) (arg4 m c) (arg5 m c) = DK m c := by
  obtain ⟨h0, h1, h2, h3, h4, h5⟩ := Cert.Pre_finite.reals _ _ _ _ _ _ (hpre c)
  choose r0 h0 using h0
  choose r1 h1 using h1
  choose r2 h2 using h2
  choose r3 h3 using h3
  choose r4 h4 using h4
  choose r5 h5 using h5
  refine ext_lane fun i h l => ?_
  exact (Cert.ReferenceIdeal.Attn.dk_real (fun i h d => h0 (ix3 i h d)) (fun i h d => h1 (ix3 i h d)) (fun i h d => h2 (ix3 i h d))
      (fun i d => h3 (ix2 i d)) (fun i h d => h4 (ix3 i h d)) (fun i h d => h5 (ix2 i ⟨h * 64 + d, Cert.Attn.wide h d⟩)) i h l).trans
    (DK_real (fun i h d => h0 (ix3 i h d)) (fun i h d => h1 (ix3 i h d)) (fun i h d => h2 (ix3 i h d))
      (fun i d => h3 (ix2 i d)) (fun i h d => h4 (ix3 i h d)) (fun i h d => h5 (ix2 i ⟨h * 64 + d, Cert.Attn.wide h d⟩)) i h l).symm

/-- The value gradients agree. -/
theorem dv : val_main_v72 (F := Ideal) (arg0 m c) (arg1 m c) (arg2 m c) (arg3 m c) (arg5 m c) = DV m c := by
  obtain ⟨h0, h1, h2, h3, h4, h5⟩ := Cert.Pre_finite.reals _ _ _ _ _ _ (hpre c)
  choose r0 h0 using h0
  choose r1 h1 using h1
  choose r2 h2 using h2
  choose r3 h3 using h3
  choose r4 h4 using h4
  choose r5 h5 using h5
  refine ext_lane fun i h l => ?_
  exact (Cert.ReferenceIdeal.Attn.dv_real (fun i h d => h0 (ix3 i h d)) (fun i h d => h1 (ix3 i h d)) (fun i h d => h2 (ix3 i h d))
      (fun i d => h3 (ix2 i d)) (fun i h d => h5 (ix2 i ⟨h * 64 + d, Cert.Attn.wide h d⟩)) i h l).trans
    (DV_real (fun i h d => h0 (ix3 i h d)) (fun i h d => h1 (ix3 i h d)) (fun i h d => h2 (ix3 i h d))
      (fun i d => h3 (ix2 i d)) (fun i h d => h5 (ix2 i ⟨h * 64 + d, Cert.Attn.wide h d⟩)) i h l).symm

omit hpre in
/-- The value claim: the call's three arrays are the gradients of softmax attention. -/
theorem algebraic : Cert.algebraic_KernelIdeal_ReferenceIdeal_pre_finite := by
  intro m g m' g' hpre hagree
  refine ⟨fun c => DQ m c, fun c => DK m c, fun c => DV m c, ?_, ?_⟩
  · refine (θ_run _ _ _).mono (fun r h c => ?_) (Cert.KernelIdeal.Value.run_blocks m g)
    obtain ⟨e0, e1, e2, k⟩ := h c
    exact ⟨e0.trans (dq_final m c), e1.trans (dk_final m c), e2.trans (dv_final m c), k⟩
  · refine (θ_run _ _ _).mono (fun r h c => ?_) (Cert.ReferenceIdeal.Value.run (F := Ideal) m' g')
    obtain ⟨e0, e1, e2, k⟩ := h c
    obtain ⟨k0, k1, k2, k3, k4, k5⟩ := hagree c
    refine ⟨e0.trans ((val_main_v67_eq m' c).trans ?_), e1.trans ((val_main_v70_eq m' c).trans ?_), e2.trans ((val_main_v72_eq _ _ _ _ _).trans ?_), k⟩
    · rw [k0, k1, k2, k3, k4, k5]
      exact dq hpre c
    · rw [k0, k1, k2, k3, k4, k5]
      exact dk hpre c
    · rw [k0, k1, k2, k3, k5]
      exact dv hpre c

end Cert.Agree
end
-- ==== Proof.FlashPay.lean ====
module

public import proofs.«01_k».proof.Proof.Gen.Kernel2Ideal.Value
public import Idealize.ShloMosaic.Lib.Pipeline.ValueKit
public import Idealize.ShloMosaic.Lib.Pointwise

/-! The forward attention call's straight-line body as a chain of equal steps, each reading one block of 1024 keys and values. -/

@[expose] public section

set_option maxRecDepth 16384

noncomputable section

open Idealize.ShloMosaic Idealize.ShloMosaic.TcCoe Idealize.SL.Sem

namespace Cert.Kernel2Ideal.Body

open Cert.Kernel2Ideal Cert.Kernel2Ideal.Gen

/-- The running maxima after `n` blocks of keys. -/
def mx (q : FVec Ideal S1024x128 .bf16) (K : ℕ → Vec Ideal S1024x128 .bf16) : ℕ → FVec Ideal S1024x1 .f32
  | 0 => k0_pay32
  | n + 1 => k0_pay26 q (mx q K n) (K n)

/-- The weighted sums of the values after `n` blocks of keys. -/
def ac (q : FVec Ideal S1024x128 .bf16) (K W : ℕ → Vec Ideal S1024x128 .bf16) : ℕ → FVec Ideal S1024x128 .f32
  | 0 => k0_pay33
  | n + 1 => k0_pay27 q (mx q K n) (ac q K W n) (K n) (W n)

/-- The outputs after eight blocks of keys. -/
def outO (q : FVec Ideal S1024x128 .bf16) (K W : ℕ → Vec Ideal S1024x128 .bf16) : FVec Ideal S1024x128 .bf16 :=
  k0_pay29 q (mx q K 7) (ac q K W 7) (K 7) (W 7)

/-- The log-sum-exps after eight blocks of keys. -/
def outL (q : FVec Ideal S1024x128 .bf16) (K W : ℕ → Vec Ideal S1024x128 .bf16) : FVec Ideal S1x1024x1 .f32 :=
  k0_pay30 q (mx q K 7) (ac q K W 7) (K 7) (W 7)

section Steps

variable (q : FVec Ideal S1024x128 .bf16) (r k k' v v' : Vec Ideal S1024x128 .bf16) (M : FVec Ideal S1024x1 .f32) (A : FVec Ideal S1024x128 .f32)

/-- The first maximum is a step. -/
theorem p8 : k0_pay8 r k = k0_pay26 (k0_pay5 r) k0_pay32 k := rfl
/-- The first sum is a step. -/
theorem p9 : k0_pay9 r k v = k0_pay27 (k0_pay5 r) k0_pay32 k0_pay33 k v := rfl
/-- The second maximum is a step. -/
theorem p11 : k0_pay11 r k k' = k0_pay26 (k0_pay5 r) (k0_pay8 r k) k' := rfl
/-- The third maximum is a step. -/
theorem p13 : k0_pay13 q M k = k0_pay26 q M k := rfl
/-- The second and third sums are steps. -/
theorem p14 : k0_pay14 (k0_pay5 r) M A (k0_pay10 r k) (k0_pay26 (k0_pay5 r) M k) v k' v'
    = k0_pay27 (k0_pay5 r) (k0_pay26 (k0_pay5 r) M k) (k0_pay27 (k0_pay5 r) M A k v) k' v' := rfl
/-- The fourth and fifth maxima are steps. -/
theorem p18 : k0_pay18 q M (k0_pay15 q k) k' = k0_pay26 q (k0_pay26 q M k) k' := rfl
/-- The fourth and fifth sums are steps. -/
theorem p19 : k0_pay19 q M A (k0_pay15 q k) v k' v' = k0_pay27 q (k0_pay26 q M k) (k0_pay27 q M A k v) k' v' := rfl
/-- The sixth and seventh maxima are steps. -/
theorem p23 : k0_pay23 q M k k' = k0_pay26 q (k0_pay26 q M k) k' := rfl
/-- The sixth and seventh sums are steps. -/
theorem p24 : k0_pay24 q M A k v k' v' = k0_pay27 q (k0_pay26 q M k) (k0_pay27 q M A k v) k' v' := rfl
/-- In the second half, the first two maxima are steps. -/
theorem p37 : k0_pay37 q M k k' = k0_pay26 q (k0_pay26 q M k) k' := rfl
/-- In the second half, the first two sums are steps. -/
theorem p38 : k0_pay38 q M A k v k' v' = k0_pay27 q (k0_pay26 q M k) (k0_pay27 q M A k v) k' v' := rfl

/-- A sum of the values rescaled to the next maximum. -/
def scaled : FVec Ideal S1024x128 .f32 :=
  mulf (broadcastTo S1024x128 (exp (subf M (k0_pay26 q M k))) broadcasts_S1024x1_S1024x128) A

/-- In the second half, the third and fourth maxima are steps. -/
theorem p42 : k0_pay42 q M k k' = k0_pay26 q (k0_pay26 q M k) k' := rfl
/-- In the second half, the fifth and sixth maxima are steps. -/
theorem p49 : k0_pay49 q M k k' = k0_pay26 q (k0_pay26 q M k) k' := rfl
/-- In the second half, the seventh and eighth maxima are steps. -/
theorem p56 : k0_pay56 q M k k' = k0_pay26 q (k0_pay26 q M k) k' := rfl
/-- In the second half, the third sum, rescaled. -/
theorem p44 : k0_pay44 q M A k v k' = scaled q k' (k0_pay26 q M k) (k0_pay27 q M A k v) := rfl
/-- In the second half, the fourth and fifth sums, rescaled. -/
theorem p51 (k2 v2 k3 : Vec Ideal S1024x128 .bf16) :
    k0_pay51 q (k0_pay26 q (k0_pay26 q M k) k') (k0_pay43 q M k k') (scaled q k' (k0_pay26 q M k) A) (k0_pay45 v')
      (constant S1024x128 .f32 0x00000000#32) k2 v2 k3
    = scaled q k3 (k0_pay26 q (k0_pay26 q (k0_pay26 q M k) k') k2)
        (k0_pay27 q (k0_pay26 q (k0_pay26 q M k) k') (k0_pay27 q (k0_pay26 q M k) A k' v') k2 v2) := rfl
/-- In the second half, the sixth and seventh sums are steps. -/
theorem p54 (k2 v2 : Vec Ideal S1024x128 .bf16) :
    k0_pay54 q (k0_pay26 q (k0_pay26 q M k) k') (k0_pay50 q M k k') (scaled q k' (k0_pay26 q M k) A) v' k2 v2
    = k0_pay27 q (k0_pay26 q (k0_pay26 q M k) k') (k0_pay27 q (k0_pay26 q M k) A k' v') k2 v2 := rfl
/-- In the second half, the outputs. -/
theorem p3 : k0_pay3 A (k0_pay57 q M k k') (k0_pay58 q M k k') v = k0_pay29 q (k0_pay26 q M k) A k' v := rfl
/-- In the second half, the log-sum-exps. -/
theorem p4 : k0_pay4 A (k0_pay26 q (k0_pay26 q M k) k') (k0_pay57 q M k k') (k0_pay58 q M k k') v = k0_pay30 q (k0_pay26 q M k) A k' v := rfl

/-- The queries of the first half, entry by entry. -/
theorem p5_at (i : Fin 1024) (l : Fin 128) : k0_pay5 r (ix2 i l) = r (ix2 i l) := by
  pointwise [k0_pay5]

/-- A score. -/
theorem score_at (i j : Fin 1024) : k0_pay25 q k (ix2 i j) = ∑ l : Fin 128, q (ix2 i l) * k (ix2 j l) := by
  pointwise [k0_pay25]

/-- A maximum after a step. -/
theorem max_at (i : Fin 1024) : k0_pay26 q M k (ix2 i 0)
    = max (M (ix2 i 0)) (Finset.fold max (Ideal.ofBits .f32 0xFF800000#32) (fun j : Fin 1024 => ∑ l : Fin 128, q (ix2 i l) * k (ix2 j l)) Finset.univ) := by
  have h := score_at q k
  unfold k0_pay26
  generalize k0_pay25 q k = Y at *
  pointwise []
  simp only [h]

/-- A sum of the values after a step. -/
theorem sum_at (i : Fin 1024) (d : Fin 128) : k0_pay27 q M A k v (ix2 i d)
    = Ideal.exp (M (ix2 i 0) - k0_pay26 q M k (ix2 i 0)) * A (ix2 i d)
      + ∑ j : Fin 1024, Ideal.exp (∑ l : Fin 128, q (ix2 i l) * k (ix2 j l) - k0_pay26 q M k (ix2 i 0)) * v (ix2 j d) := by
  have h := score_at q k
  unfold k0_pay27
  generalize k0_pay25 q k = Y at *
  generalize k0_pay26 q M k = Z at *
  pointwise []
  simp only [h]

/-- An output. -/
theorem out_at (i : Fin 1024) (d : Fin 128) : k0_pay29 q M A k v (ix2 i d)
    = Ideal.div (k0_pay27 q M A k v (ix2 i d)) (k0_pay27 q M A k v (ix2 i 64)) := by
  unfold k0_pay29 k0_pay28
  generalize k0_pay27 q M A k v = Y
  pointwise []

/-- A log-sum-exp. -/
theorem lse_at (i : Fin 1024) : k0_pay30 q M A k v (ix3 0 i 0)
    = k0_pay26 q M k (ix2 i 0) + Ideal.log (k0_pay27 q M A k v (ix2 i 64)) := by
  unfold k0_pay30 k0_pay28
  generalize k0_pay27 q M A k v = Y
  generalize k0_pay26 q M k = Z
  pointwise []

/-- The maxima start from below. -/
theorem low_at (i : Fin 1024) : (k0_pay32 (F := Ideal)) (ix2 i 0) = Ideal.ofBits .f32 0xFF800000#32 := by
  pointwise [k0_pay32]

/-- The sums start from zero. -/
theorem zero_at (i : Fin 1024) (d : Fin 128) : (k0_pay33 (F := Ideal)) (ix2 i d) = 0 := by
  pointwise [k0_pay33]

end Steps

end Cert.Kernel2Ideal.Body

end
-- ==== Proof.FlashBody.lean ====
module

public import proofs.«01_k».proof.Proof.FlashPay

/-! What one grid point of the forward attention call leaves in its two output blocks. -/

@[expose] public section

set_option maxRecDepth 16384

noncomputable section

open Idealize.ShloMosaic Idealize.ShloMosaic.TcCoe Idealize.SL.Sem

namespace Cert.Kernel2Ideal.Body

open Cert.Kernel2Ideal Cert.Kernel2Ideal.Gen

/-- A block of 1024 rows of a head's keys or values. -/
def rows (X : Vec Ideal S8192x128 .bf16) (n : ℕ) : Vec Ideal S1024x128 .bf16 := fun y =>
  X (ix2 ⟨(1024 * n + (y 0).val) % 8192, Nat.mod_lt _ (by norm_num)⟩ (y 1))

/-- A block of 1024 rows of a grid point's queries. -/
def half (X : Vec Ideal S2048x128 .bf16) (n : ℕ) : Vec Ideal S1024x128 .bf16 := fun y =>
  X (ix2 ⟨(1024 * n + (y 0).val) % 2048, Nat.mod_lt _ (by norm_num)⟩ (y 1))

/-- A block of keys or values, read. -/
theorem ld_rows (X : Vec Ideal S8192x128 .bf16) (o n : ℕ) (ho : o = 1024 * n) (hn : n < 8) (h) :
    View.ld X (Rect.unit ![o, 0] ![1024, 128] h) = rows X n := by
  subst ho
  funext y
  idx_vars y
  have b : y0.val < 1024 := y0.isLt
  refine View.ld_unit_apply_of X _ _ h _ _ (fun a => ?_)
  match a with
  | ⟨0, _⟩ => show (1024 * n + y0.val) % 8192 = 1024 * n + y0.val; omega
  | ⟨1, _⟩ => show y1.val = 0 + y1.val; omega

/-- A block of queries, read. -/
theorem ld_half (X : Vec Ideal S2048x128 .bf16) (o n : ℕ) (ho : o = 1024 * n) (hn : n < 2) (h) :
    View.ld X (Rect.unit ![o, 0] ![1024, 128] h) = half X n := by
  subst ho
  funext y
  idx_vars y
  have b : y0.val < 1024 := y0.isLt
  refine View.ld_unit_apply_of X _ _ h _ _ (fun a => ?_)
  match a with
  | ⟨0, _⟩ => show (1024 * n + y0.val) % 2048 = 1024 * n + y0.val; omega
  | ⟨1, _⟩ => show y1.val = 0 + y1.val; omega

/-- A row the last store covers reads that store's payload. -/
theorem hit (o : ℕ) (h) (p : (Rect.unit (s := S2048x128) ![o, 0] ![1024, 128] h).shape.Idx → Elt Ideal .bf16)
    (L : List (View.Piece (Elt Ideal) S2048x128 .bf16)) (i : Fin 2048) (r : Fin 1024) (d : Fin 128) (hi : i.val = o + r.val) :
    View.canon (Val := Elt Ideal) (s := S2048x128) (e := .bf16) (⟨Rect.unit (s := S2048x128) ![o, 0] ![1024, 128] h, p⟩ :: L) (ix2 i d)
      = p (ix2 r d) := by
  have e : (ix2 i d : S2048x128.Idx) = (Rect.unit (s := S2048x128) ![o, 0] ![1024, 128] h).emb (ix2 r d) := by
    funext a
    apply Fin.ext
    rw [Rect.emb_apply]
    match a with
    | ⟨0, _⟩ => show i.val = o + 1 * r.val; omega
    | ⟨1, _⟩ => show d.val = 0 + 1 * d.val; omega
  rw [e]
  exact View.canon_cons_emb _ _ _ _

/-- A row the last store does not cover reads what the stores before left. -/
theorem miss (o : ℕ) (h) (p : (Rect.unit (s := S2048x128) ![o, 0] ![1024, 128] h).shape.Idx → Elt Ideal .bf16)
    (L : List (View.Piece (Elt Ideal) S2048x128 .bf16)) (i : Fin 2048) (d : Fin 128) (h1 : i.val < o ∨ o + 1024 ≤ i.val) :
    View.canon (Val := Elt Ideal) (s := S2048x128) (e := .bf16) (⟨Rect.unit (s := S2048x128) ![o, 0] ![1024, 128] h, p⟩ :: L) (ix2 i d)
      = View.canon (Val := Elt Ideal) (s := S2048x128) (e := .bf16) L (ix2 i d) := by
  refine View.canon_cons_of_not_mem _ _ fun hm => ?_
  rw [Rect.mem_set_unit] at hm
  have h0 := hm 0
  have e1 : ((ix2 i d : S2048x128.Idx) 0 : ℕ) = i.val := rfl
  have e2 : (![o, 0] : Fin 2 → ℕ) 0 = o := rfl
  have e3 : (![1024, 128] : Fin 2 → ℕ) 0 = 1024 := rfl
  rw [e1, e2, e3] at h0
  omega

/-- A row the last store of log-sum-exps covers reads that store's payload. -/
theorem hitL (o : ℕ) (h) (p : (Rect.unit (s := S1x2048x1) ![0, o, 0] ![1, 1024, 1] h).shape.Idx → Elt Ideal .f32)
    (L : List (View.Piece (Elt Ideal) S1x2048x1 .f32)) (i : Fin 2048) (r : Fin 1024) (hi : i.val = o + r.val) :
    View.canon (Val := Elt Ideal) (s := S1x2048x1) (e := .f32) (⟨Rect.unit (s := S1x2048x1) ![0, o, 0] ![1, 1024, 1] h, p⟩ :: L) (ix3 0 i 0)
      = p (ix3 0 r 0) := by
  have e : (ix3 0 i 0 : S1x2048x1.Idx) = (Rect.unit (s := S1x2048x1) ![0, o, 0] ![1, 1024, 1] h).emb (ix3 0 r 0) := by
    funext a
    apply Fin.ext
    rw [Rect.emb_apply]
    match a with
    | ⟨0, _⟩ => rfl
    | ⟨1, _⟩ => show i.val = o + 1 * r.val; omega
    | ⟨2, _⟩ => rfl
  rw [e]
  exact View.canon_cons_emb _ _ _ _

/-- A row the last store of log-sum-exps does not cover reads what the stores before left. -/
theorem missL (o : ℕ) (h) (p : (Rect.unit (s := S1x2048x1) ![0, o, 0] ![1, 1024, 1] h).shape.Idx → Elt Ideal .f32)
    (L : List (View.Piece (Elt Ideal) S1x2048x1 .f32)) (i : Fin 2048) (h1 : i.val < o ∨ o + 1024 ≤ i.val) :
    View.canon (Val := Elt Ideal) (s := S1x2048x1) (e := .f32) (⟨Rect.unit (s := S1x2048x1) ![0, o, 0] ![1, 1024, 1] h, p⟩ :: L) (ix3 0 i 0)
      = View.canon (Val := Elt Ideal) (s := S1x2048x1) (e := .f32) L (ix3 0 i 0) := by
  refine View.canon_cons_of_not_mem _ _ fun hm => ?_
  rw [Rect.mem_set_unit] at hm
  have h0 := hm 1
  have e1 : ((ix3 0 i 0 : S1x2048x1.Idx) 1 : ℕ) = i.val := rfl
  have e2 : (![0, o, 0] : Fin 3 → ℕ) 1 = o := rfl
  have e3 : (![1, 1024, 1] : Fin 3 → ℕ) 1 = 1024 := rfl
  rw [e1, e2, e3] at h0
  omega

section Chains

variable (r : Vec Ideal S1024x128 .bf16) (K W : ℕ → Vec Ideal S1024x128 .bf16)
  (k0 k1 k2 k3 k4 k5 k6 k7 w0 w1 w2 w3 w4 w5 w6 w7 : Vec Ideal S1024x128 .bf16)
  (hk0 : k0 = K 0) (hk1 : k1 = K 1) (hk2 : k2 = K 2) (hk3 : k3 = K 3) (hk4 : k4 = K 4) (hk5 : k5 = K 5) (hk6 : k6 = K 6) (hk7 : k7 = K 7)
    (hw0 : w0 = W 0) (hw1 : w1 = W 1) (hw2 : w2 = W 2) (hw3 : w3 = W 3) (hw4 : w4 = W 4) (hw5 : w5 = W 5) (hw6 : w6 = W 6) (hw7 : w7 = W 7)

include hk0 hk1 hk2 hk3 hk4 hk5 hk6 hk7 hw0 hw1 hw2 hw3 hw4 hw5 hw6 hw7

/-- The outputs of a grid point's first 1024 queries. -/
theorem firstO :
    k0_pay29 (k0_pay5 r) (k0_pay23 (k0_pay5 r) (k0_pay18 (k0_pay5 r) (k0_pay13 (k0_pay5 r) (k0_pay11 r k0 k1) k2) (k0_pay15 (k0_pay5 r) k3) k4) k5 k6) (k0_pay24 (k0_pay5 r) (k0_pay18 (k0_pay5 r) (k0_pay13 (k0_pay5 r) (k0_pay11 r k0 k1) k2) (k0_pay15 (k0_pay5 r) k3) k4) (k0_pay19 (k0_pay5 r) (k0_pay13 (k0_pay5 r) (k0_pay11 r k0 k1) k2) (k0_pay14 (k0_pay5 r) (k0_pay8 r k0) (k0_pay9 r k0 w0) (k0_pay10 r k1) (k0_pay11 r k0 k1) w1 k2 w2) (k0_pay15 (k0_pay5 r) k3) w3 k4 w4) k5 w5 k6 w6) k7 w7
    = outO (k0_pay5 r) K W := by
  subst hk0 hk1 hk2 hk3 hk4 hk5 hk6 hk7 hw0 hw1 hw2 hw3 hw4 hw5 hw6 hw7
  simp only [p8, p9, p11, p13, p14, p18, p19, p23, p24]
  rfl

/-- The log-sum-exps of a grid point's first 1024 queries. -/
theorem firstL :
    k0_pay30 (k0_pay5 r) (k0_pay23 (k0_pay5 r) (k0_pay18 (k0_pay5 r) (k0_pay13 (k0_pay5 r) (k0_pay11 r k0 k1) k2) (k0_pay15 (k0_pay5 r) k3) k4) k5 k6) (k0_pay24 (k0_pay5 r) (k0_pay18 (k0_pay5 r) (k0_pay13 (k0_pay5 r) (k0_pay11 r k0 k1) k2) (k0_pay15 (k0_pay5 r) k3) k4) (k0_pay19 (k0_pay5 r) (k0_pay13 (k0_pay5 r) (k0_pay11 r k0 k1) k2) (k0_pay14 (k0_pay5 r) (k0_pay8 r k0) (k0_pay9 r k0 w0) (k0_pay10 r k1) (k0_pay11 r k0 k1) w1 k2 w2) (k0_pay15 (k0_pay5 r) k3) w3 k4 w4) k5 w5 k6 w6) k7 w7
    = outL (k0_pay5 r) K W := by
  subst hk0 hk1 hk2 hk3 hk4 hk5 hk6 hk7 hw0 hw1 hw2 hw3 hw4 hw5 hw6 hw7
  simp only [p8, p9, p11, p13, p14, p18, p19, p23, p24]
  rfl

/-- The outputs of a grid point's last 1024 queries. -/
theorem secondO :
    k0_pay3 (k0_pay54 (k0_pay31 r) (k0_pay49 (k0_pay31 r) (k0_pay42 (k0_pay31 r) (k0_pay37 (k0_pay31 r) k0_pay32 k0 k1) k2 k3) k4 k5) (k0_pay50 (k0_pay31 r) (k0_pay42 (k0_pay31 r) (k0_pay37 (k0_pay31 r) k0_pay32 k0 k1) k2 k3) k4 k5) (k0_pay51 (k0_pay31 r) (k0_pay42 (k0_pay31 r) (k0_pay37 (k0_pay31 r) k0_pay32 k0 k1) k2 k3) (k0_pay43 (k0_pay31 r) (k0_pay37 (k0_pay31 r) k0_pay32 k0 k1) k2 k3) (k0_pay44 (k0_pay31 r) (k0_pay37 (k0_pay31 r) k0_pay32 k0 k1) (k0_pay38 (k0_pay31 r) k0_pay32 k0_pay33 k0 w0 k1 w1) k2 w2 k3) (k0_pay45 w3) (constant S1024x128 .f32 0x00000000#32) k4 w4 k5) w5 k6 w6) (k0_pay57 (k0_pay31 r) (k0_pay49 (k0_pay31 r) (k0_pay42 (k0_pay31 r) (k0_pay37 (k0_pay31 r) k0_pay32 k0 k1) k2 k3) k4 k5) k6 k7) (k0_pay58 (k0_pay31 r) (k0_pay49 (k0_pay31 r) (k0_pay42 (k0_pay31 r) (k0_pay37 (k0_pay31 r) k0_pay32 k0 k1) k2 k3) k4 k5) k6 k7) w7
    = outO (k0_pay31 r) K W := by
  subst hk0 hk1 hk2 hk3 hk4 hk5 hk6 hk7 hw0 hw1 hw2 hw3 hw4 hw5 hw6 hw7
  simp only [p37, p38, p42, p44, p49, p51, p54, p56, p3, p4]
  rfl

/-- The log-sum-exps of a grid point's last 1024 queries. -/
theorem secondL :
    k0_pay4 (k0_pay54 (k0_pay31 r) (k0_pay49 (k0_pay31 r) (k0_pay42 (k0_pay31 r) (k0_pay37 (k0_pay31 r) k0_pay32 k0 k1) k2 k3) k4 k5) (k0_pay50 (k0_pay31 r) (k0_pay42 (k0_pay31 r) (k0_pay37 (k0_pay31 r) k0_pay32 k0 k1) k2 k3) k4 k5) (k0_pay51 (k0_pay31 r) (k0_pay42 (k0_pay31 r) (k0_pay37 (k0_pay31 r) k0_pay32 k0 k1) k2 k3) (k0_pay43 (k0_pay31 r) (k0_pay37 (k0_pay31 r) k0_pay32 k0 k1) k2 k3) (k0_pay44 (k0_pay31 r) (k0_pay37 (k0_pay31 r) k0_pay32 k0 k1) (k0_pay38 (k0_pay31 r) k0_pay32 k0_pay33 k0 w0 k1 w1) k2 w2 k3) (k0_pay45 w3) (constant S1024x128 .f32 0x00000000#32) k4 w4 k5) w5 k6 w6) (k0_pay56 (k0_pay31 r) (k0_pay49 (k0_pay31 r) (k0_pay42 (k0_pay31 r) (k0_pay37 (k0_pay31 r) k0_pay32 k0 k1) k2 k3) k4 k5) k6 k7) (k0_pay57 (k0_pay31 r) (k0_pay49 (k0_pay31 r) (k0_pay42 (k0_pay31 r) (k0_pay37 (k0_pay31 r) k0_pay32 k0 k1) k2 k3) k4 k5) k6 k7) (k0_pay58 (k0_pay31 r) (k0_pay49 (k0_pay31 r) (k0_pay42 (k0_pay31 r) (k0_pay37 (k0_pay31 r) k0_pay32 k0 k1) k2 k3) k4 k5) k6 k7) w7
    = outL (k0_pay31 r) K W := by
  subst hk0 hk1 hk2 hk3 hk4 hk5 hk6 hk7 hw0 hw1 hw2 hw3 hw4 hw5 hw6 hw7
  simp only [p37, p38, p42, p44, p49, p51, p54, p56, p3, p4]
  rfl

end Chains

variable (m : (ℓ : Loc nD τ sig) → Buf (Elt Ideal) ℓ)

/-- What a grid point reads: its queries. -/
abbrev qB (c : Dev nD) (t : Fin cfg0.N) : Vec Ideal S2048x128 .bf16 := iblk m c 0 t
/-- What a grid point reads: its head's keys. -/
abbrev kB (c : Dev nD) (t : Fin cfg0.N) : Vec Ideal S8192x128 .bf16 := iblk m c 1 t
/-- What a grid point reads: its head's values. -/
abbrev vB (c : Dev nD) (t : Fin cfg0.N) : Vec Ideal S8192x128 .bf16 := iblk m c 2 t

/-- A grid point's outputs. -/
theorem o_block (c : Dev nD) (t : Fin cfg0.N) (i : Fin 2048) (b : Fin 2) (r : Fin 1024) (hi : i.val = 1024 * b.val + r.val) (d : Fin 128) :
    (outsAt0 m c t).1 (ix2 i d) = outO (k0_pay5 (half (qB m c t) b)) (rows (kB m c t)) (rows (vB m c t)) (ix2 r d) := by
  simp only [outsAt0]
  frame_out
  match b, hi with
  | ⟨0, _⟩, hi =>
    simp only [Nat.mul_zero, Nat.zero_add] at hi
    refine (miss 1024 _ _ _ i d (by omega)).trans ?_
    refine (hit 0 _ _ _ i r d (by omega)).trans ?_
    rw [ld_half (qB m c t) 0 0 rfl (by norm_num)]
    exact congrFun (firstO _ (rows (kB m c t)) (rows (vB m c t)) _ _ _ _ _ _ _ _ _ _ _ _ _ _ _ _
      (ld_rows (kB m c t) 0 0 rfl (by norm_num) _) (ld_rows (kB m c t) 1024 1 rfl (by norm_num) _) (ld_rows (kB m c t) 2048 2 rfl (by norm_num) _) (ld_rows (kB m c t) 3072 3 rfl (by norm_num) _) (ld_rows (kB m c t) 4096 4 rfl (by norm_num) _) (ld_rows (kB m c t) 5120 5 rfl (by norm_num) _) (ld_rows (kB m c t) 6144 6 rfl (by norm_num) _) (ld_rows (kB m c t) 7168 7 rfl (by norm_num) _)
      (ld_rows (vB m c t) 0 0 rfl (by norm_num) _) (ld_rows (vB m c t) 1024 1 rfl (by norm_num) _) (ld_rows (vB m c t) 2048 2 rfl (by norm_num) _) (ld_rows (vB m c t) 3072 3 rfl (by norm_num) _) (ld_rows (vB m c t) 4096 4 rfl (by norm_num) _) (ld_rows (vB m c t) 5120 5 rfl (by norm_num) _) (ld_rows (vB m c t) 6144 6 rfl (by norm_num) _) (ld_rows (vB m c t) 7168 7 rfl (by norm_num) _)) _
  | ⟨1, _⟩, hi =>
    refine (hit 1024 _ _ _ i r d (by omega)).trans ?_
    rw [ld_half (qB m c t) 1024 1 rfl (by norm_num)]
    exact congrFun (secondO _ (rows (kB m c t)) (rows (vB m c t)) _ _ _ _ _ _ _ _ _ _ _ _ _ _ _ _
      (ld_rows (kB m c t) 0 0 rfl (by norm_num) _) (ld_rows (kB m c t) 1024 1 rfl (by norm_num) _) (ld_rows (kB m c t) 2048 2 rfl (by norm_num) _) (ld_rows (kB m c t) 3072 3 rfl (by norm_num) _) (ld_rows (kB m c t) 4096 4 rfl (by norm_num) _) (ld_rows (kB m c t) 5120 5 rfl (by norm_num) _) (ld_rows (kB m c t) 6144 6 rfl (by norm_num) _) (ld_rows (kB m c t) 7168 7 rfl (by norm_num) _)
      (ld_rows (vB m c t) 0 0 rfl (by norm_num) _) (ld_rows (vB m c t) 1024 1 rfl (by norm_num) _) (ld_rows (vB m c t) 2048 2 rfl (by norm_num) _) (ld_rows (vB m c t) 3072 3 rfl (by norm_num) _) (ld_rows (vB m c t) 4096 4 rfl (by norm_num) _) (ld_rows (vB m c t) 5120 5 rfl (by norm_num) _) (ld_rows (vB m c t) 6144 6 rfl (by norm_num) _) (ld_rows (vB m c t) 7168 7 rfl (by norm_num) _)) _

/-- A grid point's log-sum-exps. -/
theorem l_block (c : Dev nD) (t : Fin cfg0.N) (i : Fin 2048) (b : Fin 2) (r : Fin 1024) (hi : i.val = 1024 * b.val + r.val) :
    (outsAt0 m c t).2 (ix3 0 i 0) = outL (k0_pay5 (half (qB m c t) b)) (rows (kB m c t)) (rows (vB m c t)) (ix3 0 r 0) := by
  simp only [outsAt0]
  frame_out
  match b, hi with
  | ⟨0, _⟩, hi =>
    simp only [Nat.mul_zero, Nat.zero_add] at hi
    refine (missL 1024 _ _ _ i (by omega)).trans ?_
    refine (hitL 0 _ _ _ i r (by omega)).trans ?_
    rw [ld_half (qB m c t) 0 0 rfl (by norm_num)]
    exact congrFun (firstL _ (rows (kB m c t)) (rows (vB m c t)) _ _ _ _ _ _ _ _ _ _ _ _ _ _ _ _
      (ld_rows (kB m c t) 0 0 rfl (by norm_num) _) (ld_rows (kB m c t) 1024 1 rfl (by norm_num) _) (ld_rows (kB m c t) 2048 2 rfl (by norm_num) _) (ld_rows (kB m c t) 3072 3 rfl (by norm_num) _) (ld_rows (kB m c t) 4096 4 rfl (by norm_num) _) (ld_rows (kB m c t) 5120 5 rfl (by norm_num) _) (ld_rows (kB m c t) 6144 6 rfl (by norm_num) _) (ld_rows (kB m c t) 7168 7 rfl (by norm_num) _)
      (ld_rows (vB m c t) 0 0 rfl (by norm_num) _) (ld_rows (vB m c t) 1024 1 rfl (by norm_num) _) (ld_rows (vB m c t) 2048 2 rfl (by norm_num) _) (ld_rows (vB m c t) 3072 3 rfl (by norm_num) _) (ld_rows (vB m c t) 4096 4 rfl (by norm_num) _) (ld_rows (vB m c t) 5120 5 rfl (by norm_num) _) (ld_rows (vB m c t) 6144 6 rfl (by norm_num) _) (ld_rows (vB m c t) 7168 7 rfl (by norm_num) _)) _
  | ⟨1, _⟩, hi =>
    refine (hitL 1024 _ _ _ i r (by omega)).trans ?_
    rw [ld_half (qB m c t) 1024 1 rfl (by norm_num)]
    exact congrFun (secondL _ (rows (kB m c t)) (rows (vB m c t)) _ _ _ _ _ _ _ _ _ _ _ _ _ _ _ _
      (ld_rows (kB m c t) 0 0 rfl (by norm_num) _) (ld_rows (kB m c t) 1024 1 rfl (by norm_num) _) (ld_rows (kB m c t) 2048 2 rfl (by norm_num) _) (ld_rows (kB m c t) 3072 3 rfl (by norm_num) _) (ld_rows (kB m c t) 4096 4 rfl (by norm_num) _) (ld_rows (kB m c t) 5120 5 rfl (by norm_num) _) (ld_rows (kB m c t) 6144 6 rfl (by norm_num) _) (ld_rows (kB m c t) 7168 7 rfl (by norm_num) _)
      (ld_rows (vB m c t) 0 0 rfl (by norm_num) _) (ld_rows (vB m c t) 1024 1 rfl (by norm_num) _) (ld_rows (vB m c t) 2048 2 rfl (by norm_num) _) (ld_rows (vB m c t) 3072 3 rfl (by norm_num) _) (ld_rows (vB m c t) 4096 4 rfl (by norm_num) _) (ld_rows (vB m c t) 5120 5 rfl (by norm_num) _) (ld_rows (vB m c t) 6144 6 rfl (by norm_num) _) (ld_rows (vB m c t) 7168 7 rfl (by norm_num) _)) _

end Cert.Kernel2Ideal.Body

end
-- ==== Proof.FlashMath.lean ====
module

public import proofs.«01_k».proof.Proof.Math

/-! Softmax of one row of scores, taken block by block with a running maximum. -/

@[expose] public section

set_option maxRecDepth 16384

noncomputable section

open Idealize.ShloMosaic Idealize.ShloMosaic.TcCoe Idealize.SL.Sem

namespace Cert.Flash

variable (s v : ℕ → Fin 1024 → EReal)

/-- The running maximum after `n` blocks. -/
def top : ℕ → EReal
  | 0 => ⊥
  | n + 1 => max (top n) (Finset.fold max ⊥ (s n) Finset.univ)

/-- The running weighted sum after `n` blocks. -/
def acc : ℕ → EReal
  | 0 => 0
  | n + 1 => Ideal.exp (top s n - top s (n + 1)) * acc n + ∑ j, Ideal.exp (s n j - top s (n + 1)) * v n j

variable {s v} {σ : ℕ → Fin 1024 → ℝ} (hs : ∀ n j, s n j = (σ n j : EReal))

/-- A nonnegative real times a finite sum is the sum of the products. -/
theorem mul_sum {ι : Type} (c : ℝ) (hc : 0 ≤ c) (u : Finset ι) (f : ι → EReal) : (c : EReal) * ∑ i ∈ u, f i = ∑ i ∈ u, (c : EReal) * f i := by
  classical
  induction u using Finset.induction_on with
  | empty => simp
  | insert a u ha ih =>
    rw [Finset.sum_insert ha, Finset.sum_insert ha,
      EReal.left_distrib_of_nonneg_of_ne_top (EReal.coe_nonneg.mpr hc) (EReal.coe_ne_top c), ih]

include hs in
/-- The running maximum is real after the first block. -/
theorem top_real : ∀ n, ∃ M : ℝ, top s (n + 1) = (M : EReal)
  | 0 => by
    obtain ⟨M, hM⟩ := Cert.Attn.fold_max_real (Finset.univ : Finset (Fin 1024)) ⟨0, Finset.mem_univ _⟩ (σ 0)
    refine ⟨M, ?_⟩
    simp only [top, funext (hs 0), hM, bot_le, max_eq_right]
  | n + 1 => by
    obtain ⟨M, hM⟩ := Cert.Attn.fold_max_real (Finset.univ : Finset (Fin 1024)) ⟨0, Finset.mem_univ _⟩ (σ (n + 1))
    obtain ⟨L, hL⟩ := top_real n
    refine ⟨max L M, ?_⟩
    rw [top, hL, funext (hs (n + 1)), hM, EReal.coe_strictMono.monotone.map_max]

include hs in
/-- The weighted sum over one block, in real weights. -/
theorem block_real (n : ℕ) (M : ℝ) :
    ∑ j, Ideal.exp (s n j - (M : EReal)) * v n j = ∑ j, (Real.exp (σ n j - M) : EReal) * v n j := by
  refine Finset.sum_congr rfl fun j _ => ?_
  rw [hs, ← EReal.coe_sub, Ideal.exp_coe]

include hs in
/-- The running weighted sum is the sum over the blocks so far, shifted by the running maximum. -/
theorem acc_real : ∀ (n : ℕ) (M : ℝ), top s (n + 1) = (M : EReal) →
    acc s v (n + 1) = ∑ t ∈ Finset.range (n + 1), ∑ j, (Real.exp (σ t j - M) : EReal) * v t j
  | 0, M, hM => by
    rw [acc, hM, block_real hs, acc, mul_zero, zero_add, Finset.sum_range_one]
  | n + 1, M, hM => by
    obtain ⟨L, hL⟩ := top_real hs n
    rw [acc, hM, hL, acc_real n L hL, block_real hs, ← EReal.coe_sub, Ideal.exp_coe, Finset.sum_range_succ _ (n + 1),
      mul_sum _ (Real.exp_pos _).le]
    refine Ideal.add_congr (Finset.sum_congr rfl fun t _ => ?_) rfl
    rw [mul_sum _ (Real.exp_pos _).le]
    refine Finset.sum_congr rfl fun j _ => ?_
    rw [← mul_assoc, ← EReal.coe_mul, ← Real.exp_add, show L - M + (σ t j - L) = σ t j - M by ring]

/-- A sum over eight blocks of 1024 is the sum over 8192. -/
theorem sum_blocks (f : Fin 8192 → EReal) (g : ℕ → Fin 1024 → EReal) (h : ∀ (n : ℕ) (j : Fin 1024) (hn : 1024 * n + j.val < 8192), g n j = f ⟨1024 * n + j.val, hn⟩) :
    ∑ t ∈ Finset.range 8, ∑ j, g t j = ∑ i, f i := by
  rw [Fin.sum_univ_tiles 8 1024 rfl f, Finset.sum_range]
  refine Finset.sum_congr rfl fun t _ => Finset.sum_congr rfl fun j _ => ?_
  rw [h t.val j (by omega)]
  refine congrArg f (Fin.ext ?_)
  simp only
  omega

include hs in
/-- The weighted sum after the last block. -/
theorem acc_last {S : Fin 8192 → ℝ} {N : Fin 8192 → EReal}
    (hS : ∀ (n : ℕ) (j : Fin 1024) (hn : 1024 * n + j.val < 8192), σ n j = S ⟨1024 * n + j.val, hn⟩)
    (hN : ∀ (n : ℕ) (j : Fin 1024) (hn : 1024 * n + j.val < 8192), v n j = N ⟨1024 * n + j.val, hn⟩)
    (M : ℝ) (hM : top s 8 = (M : EReal)) :
    acc s v 8 = ∑ i, (Real.exp (S i - M) : EReal) * N i := by
  rw [acc_real hs 7 M hM]
  exact sum_blocks (fun i => (Real.exp (S i - M) : EReal) * N i) _ fun n j hn => by rw [hS n j hn, hN n j hn]

/-- A sum of real weights is real. -/
theorem ones_real (S : Fin 8192 → ℝ) (M : ℝ) :
    ∑ i, (Real.exp (S i - M) : EReal) * 1 = ((∑ i, Real.exp (S i - M) : ℝ) : EReal) := by
  simp only [mul_one, Cert.Attn.coe_sum]

/-- A quotient of a weighted sum by the sum of the weights is the softmax average. -/
theorem quotient (S : Fin 8192 → ℝ) (N : Fin 8192 → EReal) (M : ℝ) :
    Ideal.div (∑ i, (Real.exp (S i - M) : EReal) * N i) ((∑ i, Real.exp (S i - M) : ℝ) : EReal)
      = ∑ i, N i * (Cert.Attn.softmax S i : EReal) := by
  have hL := Cert.Attn.total_pos S M
  rw [Ideal.div_coe hL.ne', mul_comm, mul_sum _ (one_div_pos.mpr hL).le]
  refine Finset.sum_congr rfl fun i _ => ?_
  rw [← mul_assoc, ← EReal.coe_mul, ← Cert.Attn.softmax_shift S M, one_div_mul_eq_div, mul_comm]

/-- A shifted log-sum-exp is the log-sum-exp. -/
theorem lse_shift (S : Fin 8192 → ℝ) (M : ℝ) :
    M + Real.log (∑ i, Real.exp (S i - M)) = Real.log (∑ i, Real.exp (S i)) := by
  have e : ∑ i, Real.exp (S i) = Real.exp M * ∑ i, Real.exp (S i - M) := by
    rw [Finset.mul_sum]
    refine Finset.sum_congr rfl fun i _ => ?_
    rw [← Real.exp_add]
    congr 1
    ring
  rw [e, Real.log_mul (Real.exp_ne_zero M) (Cert.Attn.total_pos S M).ne', Real.log_exp]

/-- The softmax weights sum to one. -/
theorem softmax_sum (S : Fin 8192 → ℝ) : ∑ i, Cert.Attn.softmax S i = 1 := by
  unfold Cert.Attn.softmax
  rw [← Finset.sum_div]
  exact div_self (Finset.sum_pos (fun x _ => Real.exp_pos _) ⟨0, Finset.mem_univ _⟩).ne'

end Cert.Flash

end
-- ==== Proof.FlashRow.lean ====
module

public import proofs.«01_k».proof.Proof.FlashBody
public import proofs.«01_k».proof.Proof.FlashMath

/-! One row of queries against eight blocks of keys and values, when its scores are real. -/

@[expose] public section

set_option maxRecDepth 16384

noncomputable section

open Idealize.ShloMosaic Idealize.ShloMosaic.TcCoe Idealize.SL.Sem

namespace Cert.Kernel2Ideal.Body

open Cert.Kernel2Ideal Cert.Kernel2Ideal.Gen

/-- The `j`-th key of the `n`-th block. -/
abbrev nth (n : ℕ) (j : Fin 1024) : Fin 8192 := ⟨(1024 * n + j.val) % 8192, Nat.mod_lt _ (by norm_num)⟩

variable (q : FVec Ideal S1024x128 .bf16) (K W : ℕ → Vec Ideal S1024x128 .bf16) (r : Fin 1024)

/-- A row's scores against a block of keys. -/
def dots (n : ℕ) (j : Fin 1024) : EReal := ∑ l : Fin 128, q (ix2 r l) * K n (ix2 j l)
/-- A lane of a block of values. -/
def vals (d : Fin 128) (n : ℕ) (j : Fin 1024) : EReal := W n (ix2 j d)

/-- The running maximum of a row. -/
theorem mx_at : ∀ n, mx q K n (ix2 r 0) = Cert.Flash.top (dots q K r) n
  | 0 => (low_at r).trans Cert.Attn.bottom_eq
  | n + 1 => by
    refine (max_at q (K n) (mx q K n) r).trans ?_
    rw [mx_at n, Cert.Attn.bottom_eq]
    rfl

/-- The running weighted sum of a row. -/
theorem ac_at (d : Fin 128) : ∀ n, ac q K W n (ix2 r d) = Cert.Flash.acc (dots q K r) (vals W d) n
  | 0 => zero_at r d
  | n + 1 => by
    have e := mx_at q K r (n + 1)
    refine (sum_at q (K n) (W n) (mx q K n) (ac q K W n) r d).trans ?_
    rw [ac_at d n, mx_at q K r n, show k0_pay26 q (mx q K n) (K n) = mx q K (n + 1) from rfl, e]
    rfl

/-- A row's output is a quotient of weighted sums. -/
theorem outO_at (d : Fin 128) : outO q K W (ix2 r d)
    = Ideal.div (Cert.Flash.acc (dots q K r) (vals W d) 8) (Cert.Flash.acc (dots q K r) (vals W 64) 8) := by
  refine (out_at q (K 7) (W 7) (mx q K 7) (ac q K W 7) r d).trans ?_
  rw [show k0_pay27 q (mx q K 7) (ac q K W 7) (K 7) (W 7) = ac q K W 8 from rfl, ac_at, ac_at]

/-- A row's log-sum-exp is its maximum and the logarithm of its weights' sum. -/
theorem outL_at : outL q K W (ix3 0 r 0)
    = Cert.Flash.top (dots q K r) 8 + Ideal.log (Cert.Flash.acc (dots q K r) (vals W 64) 8) := by
  refine (lse_at q (K 7) (W 7) (mx q K 7) (ac q K W 7) r).trans ?_
  rw [show k0_pay27 q (mx q K 7) (ac q K W 7) (K 7) (W 7) = ac q K W 8 from rfl, ac_at,
    show k0_pay26 q (mx q K 7) (K 7) = mx q K 8 from rfl, mx_at]

variable {q K W r} {S : Fin 8192 → ℝ} {N : Fin 128 → Fin 8192 → EReal}
  (hs : ∀ n j, ∑ l : Fin 128, q (ix2 r l) * K n (ix2 j l) = (S (nth n j) : EReal))
  (hv : ∀ n j d, W n (ix2 j d) = N d (nth n j)) (h64 : ∀ j, N 64 j = 1)

/-- Below 8192 keys the number of a key is its block's start and its place. -/
theorem nth_eq (n : ℕ) (j : Fin 1024) (hn : 1024 * n + j.val < 8192) : nth n j = ⟨1024 * n + j.val, hn⟩ :=
  Fin.ext (Nat.mod_eq_of_lt hn)

include hs hv in
/-- A row's weighted sum of a lane of values. -/
theorem acc_row (d : Fin 128) (M : ℝ) (hM : Cert.Flash.top (dots q K r) 8 = (M : EReal)) :
    Cert.Flash.acc (dots q K r) (vals W d) 8 = ∑ i, (Real.exp (S i - M) : EReal) * N d i :=
  Cert.Flash.acc_last (σ := fun n j => S (nth n j)) (fun n j => hs n j) (fun n j hn => congrArg S (nth_eq n j hn))
    (fun n j hn => (hv n j d).trans (congrArg (N d) (nth_eq n j hn))) M hM

include hs hv h64

/-- A row's weights sum to a real. -/
theorem acc_ones (M : ℝ) (hM : Cert.Flash.top (dots q K r) 8 = (M : EReal)) :
    Cert.Flash.acc (dots q K r) (vals W 64) 8 = ((∑ i, Real.exp (S i - M) : ℝ) : EReal) := by
  rw [acc_row hs hv 64 M hM, ← Cert.Flash.ones_real]
  exact Finset.sum_congr rfl fun i _ => Ideal.mul_congr rfl (h64 i)

/-- A row's output is the softmax average of the values. -/
theorem row_out (d : Fin 128) : outO q K W (ix2 r d) = ∑ i, N d i * (Cert.Attn.softmax S i : EReal) := by
  obtain ⟨M, hM⟩ := Cert.Flash.top_real (s := dots q K r) (σ := fun n j => S (nth n j)) (fun n j => hs n j) 7
  rw [outO_at, acc_row hs hv d M hM, acc_ones hs hv h64 M hM, Cert.Flash.quotient]

/-- A row's log-sum-exp is that of its scores. -/
theorem row_lse : outL q K W (ix3 0 r 0) = (Real.log (∑ i, Real.exp (S i)) : EReal) := by
  obtain ⟨M, hM⟩ := Cert.Flash.top_real (s := dots q K r) (σ := fun n j => S (nth n j)) (fun n j => hs n j) 7
  rw [outL_at, acc_ones hs hv h64 M hM, Ideal.log_coe, if_neg (not_le.mpr (Cert.Attn.total_pos S M))]
  refine (Ideal.add_congr hM rfl).trans ?_
  rw [← EReal.coe_add, Cert.Flash.lse_shift]

end Cert.Kernel2Ideal.Body

end
-- ==== Proof.FlashFinal.lean ====
module

public import proofs.«01_k».proof.Proof.FlashRow
public import proofs.«01_k».proof.Proof.Attn

/-! The two result arrays of the forward attention call, as functions of the program's arguments. -/

@[expose] public section

set_option maxRecDepth 16384

noncomputable section

open Idealize.ShloMosaic Idealize.ShloMosaic.TcCoe Idealize.SL.Sem

namespace Cert.Kernel2Ideal.Final

open Cert.Kernel2Ideal Cert.Kernel2Ideal.Gen Cert.Kernel2Ideal.Body
open Cert.KernelIdeal.Host (queries keys values concat_congr queries_real keys_real values_at)
open Cert.KernelIdeal.Final (lane)

variable (m : (ℓ : Loc nD τ sig) → Buf (Elt Ideal) ℓ)

/-- The queries' own part. -/
abbrev arg0 (c : Dev nD) : FVec Ideal S8192x8x64 .f32 := m ((c : Thread nD τ).loc main_arg0)
/-- The queries' rotary part. -/
abbrev arg1 (c : Dev nD) : FVec Ideal S8192x8x32 .f32 := m ((c : Thread nD τ).loc main_arg1)
/-- The keys' own part. -/
abbrev arg2 (c : Dev nD) : FVec Ideal S8192x8x64 .f32 := m ((c : Thread nD τ).loc main_arg2)
/-- The keys' rotary part. -/
abbrev arg3 (c : Dev nD) : FVec Ideal S8192x32 .f32 := m ((c : Thread nD τ).loc main_arg3)
/-- The values. -/
abbrev arg4 (c : Dev nD) : FVec Ideal S8192x8x64 .f32 := m ((c : Thread nD τ).loc main_arg4)

/-- The call's queries. -/
theorem v14 (c : Dev nD) : V m c main_v14 = queries (arg0 m c) (arg1 m c) := by
  simp only [V, List.flatten_cons, List.flatten_nil, List.append_nil, List.cons_append, List.nil_append, hostOps0, hostOps0_1, hostOps0_2, hostOps0_3, hostOps0_4]
  after_results
  simp -implicitDefEqProofs only [StableHlo.TRef.toBuf, StableHlo.TRef.ofBuf, cast_cast, cast_eq]
  rfl

/-- The call's keys. -/
theorem v15 (c : Dev nD) : V m c main_v15 = keys (arg2 m c) (arg3 m c) := by
  simp only [V, List.flatten_cons, List.flatten_nil, List.append_nil, List.cons_append, List.nil_append, hostOps0, hostOps0_1, hostOps0_2, hostOps0_3, hostOps0_4]
  after_results
  simp -implicitDefEqProofs only [StableHlo.TRef.toBuf, StableHlo.TRef.ofBuf, cast_cast, cast_eq]
  rfl

/-- The call's values. -/
theorem v16 (c : Dev nD) : V m c main_v16 = values (arg4 m c) := by
  simp only [V, List.flatten_cons, List.flatten_nil, List.append_nil, List.cons_append, List.nil_append, hostOps0, hostOps0_1, hostOps0_2, hostOps0_3, hostOps0_4]
  after_results
  refine concat_congr _ _ _ _ _ _ ?_ ?_ ?_
  all_goals after_results
  all_goals rfl

/-- The blocks the windows read and write at each grid point. -/
theorem idx : ∀ t : Fin cfg0.N,
    win0_0.index t = ![t.val % 4, t.val / 4] ∧ win0_1.index t = ![0, t.val / 4] ∧ win0_2.index t = ![0, t.val / 4]
    ∧ win0_3.index t = ![t.val % 4, t.val / 4] ∧ win0_4.index t = ![t.val / 4, t.val % 4, 0] :=
  (by decide +kernel : ∀ t : Fin grid0.N, _)

/-- The head of a grid point. -/
abbrev head (t : Fin cfg0.N) : Fin 8 := ⟨t.val / 4, by have : t.val < 32 := t.isLt; omega⟩
/-- The `i`-th query of a grid point. -/
abbrev row (t : Fin cfg0.N) (i : Fin 2048) : Fin 8192 := ⟨2048 * (t.val % 4) + i.val, by omega⟩

/-- Where window 0's block lies in its array. -/
theorem q_emb (c : Dev nD) (X : (b : Ref sig .tc) → Buf (Elt Ideal) ((c : Thread nD τ).loc b)) (t : Fin cfg0.N) (i : Fin 2048) (l : Fin 128) :
    View.read (Elt Ideal) ((cfg0.win 0).blk t).view (X (Pipeline.arrRef spec0 0)) (ix2 i l) = X main_v14 (ix2 (row t i) (lane (head t) l)) := by
  blk_simp
  refine congrArg (show Vec Ideal S8192x1024 .bf16 from X main_v14) ?_
  blk_ext [idx t]
/-- Window 0's block, read in its array. -/
theorem q_at (c : Dev nD) (t : Fin cfg0.N) (i : Fin 2048) (l : Fin 128) :
    qB m c t (ix2 i l) = queries (arg0 m c) (arg1 m c) (ix2 (row t i) (lane (head t) l)) := by
  exact (q_emb c (V m c) t i l).trans (congrFun (v14 m c) _)

/-- Where window 1's block lies in its array. -/
theorem k_emb (c : Dev nD) (X : (b : Ref sig .tc) → Buf (Elt Ideal) ((c : Thread nD τ).loc b)) (t : Fin cfg0.N) (j : Fin 8192) (l : Fin 128) :
    View.read (Elt Ideal) ((cfg0.win 1).blk t).view (X (Pipeline.arrRef spec0 1)) (ix2 j l) = X main_v15 (ix2 j (lane (head t) l)) := by
  blk_simp
  refine congrArg (show Vec Ideal S8192x1024 .bf16 from X main_v15) ?_
  blk_ext [idx t]
/-- Window 1's block, read in its array. -/
theorem k_at (c : Dev nD) (t : Fin cfg0.N) (j : Fin 8192) (l : Fin 128) :
    kB m c t (ix2 j l) = keys (arg2 m c) (arg3 m c) (ix2 j (lane (head t) l)) := by
  exact (k_emb c (V m c) t j l).trans (congrFun (v15 m c) _)

/-- Where window 2's block lies in its array. -/
theorem v_emb (c : Dev nD) (X : (b : Ref sig .tc) → Buf (Elt Ideal) ((c : Thread nD τ).loc b)) (t : Fin cfg0.N) (j : Fin 8192) (l : Fin 128) :
    View.read (Elt Ideal) ((cfg0.win 2).blk t).view (X (Pipeline.arrRef spec0 2)) (ix2 j l) = X main_v16 (ix2 j (lane (head t) l)) := by
  blk_simp
  refine congrArg (show Vec Ideal S8192x1024 .bf16 from X main_v16) ?_
  blk_ext [idx t]
/-- Window 2's block, read in its array. -/
theorem v_at (c : Dev nD) (t : Fin cfg0.N) (j : Fin 8192) (l : Fin 128) :
    vB m c t (ix2 j l) = values (arg4 m c) (ix2 j (lane (head t) l)) := by
  exact (v_emb c (V m c) t j l).trans (congrFun (v16 m c) _)

section Real

variable {m} {c : Dev nD}
  {r0 : Fin 8192 → Fin 8 → Fin 64 → ℝ} {r1 : Fin 8192 → Fin 8 → Fin 32 → ℝ} {r2 : Fin 8192 → Fin 8 → Fin 64 → ℝ}
  {r3 : Fin 8192 → Fin 32 → ℝ}
  (h0 : ∀ i h d, arg0 m c (ix3 i h d) = (r0 i h d : EReal)) (h1 : ∀ i h d, arg1 m c (ix3 i h d) = (r1 i h d : EReal))
  (h2 : ∀ i h d, arg2 m c (ix3 i h d) = (r2 i h d : EReal)) (h3 : ∀ i d, arg3 m c (ix2 i d) = (r3 i d : EReal))
  (t : Fin cfg0.N) (i : Fin 2048) (b : Fin 2) (r : Fin 1024) (hi : i.val = 1024 * b.val + r.val)

include h0 h1 h2 h3 hi in
/-- A grid point's scores. -/
theorem dots_real (n : ℕ) (j : Fin 1024) :
    ∑ l : Fin 128, k0_pay5 (half (qB m c t) b) (ix2 r l) * rows (kB m c t) n (ix2 j l)
      = (Cert.Attn.score r0 r1 r2 r3 (head t) (row t i) (nth n j) : EReal) := by
  have e : (⟨(1024 * b.val + r.val) % 2048, Nat.mod_lt _ (by norm_num)⟩ : Fin 2048) = i := Fin.ext (by simp only; omega)
  rw [Cert.Attn.score, ← Cert.Attn.lanes_mul, Cert.Attn.coe_sum]
  refine Finset.sum_congr rfl fun l _ => ?_
  rw [EReal.coe_mul]
  refine Ideal.mul_congr ?_ ?_
  · refine (p5_at _ r l).trans ?_
    refine Eq.trans ?_ (queries_real h0 h1 (row t i) (head t) l)
    refine Eq.trans ?_ (q_at m c t i l)
    exact congrArg (fun x => qB m c t (ix2 x l)) e
  · exact (k_at m c t (nth n j) l).trans (keys_real h2 h3 (nth n j) (head t) l)

/-- A grid point's values. -/
theorem vals_at (n : ℕ) (j : Fin 1024) (d : Fin 128) :
    rows (vB m c t) n (ix2 j d) = values (arg4 m c) (ix2 (nth n j) (lane (head t) d)) :=
  v_at m c t (nth n j) d

/-- Lane 64 of the values is one. -/
theorem ones_at (h : Fin 8) (j : Fin 8192) : values (arg4 m c) (ix2 j (lane h 64)) = 1 :=
  values_at (arg4 m c) j h 64

include h0 h1 h2 h3 hi in
/-- A grid point's outputs are softmax averages. -/
theorem o_real (d : Fin 128) : (outsAt0 m c t).1 (ix2 i d)
    = ∑ j, values (arg4 m c) (ix2 j (lane (head t) d)) * (Cert.Attn.softmax (Cert.Attn.score r0 r1 r2 r3 (head t) (row t i)) j : EReal) := by
  refine (o_block m c t i b r hi d).trans ?_
  exact row_out (S := Cert.Attn.score r0 r1 r2 r3 (head t) (row t i)) (N := fun d j => values (arg4 m c) (ix2 j (lane (head t) d)))
    (dots_real h0 h1 h2 h3 t i b r hi) (vals_at t) (ones_at (head t)) d

include h0 h1 h2 h3 hi in
/-- A grid point's log-sum-exps. -/
theorem l_real : (outsAt0 m c t).2 (ix3 0 i 0)
    = (Real.log (∑ j, Real.exp (Cert.Attn.score r0 r1 r2 r3 (head t) (row t i) j)) : EReal) := by
  refine (l_block m c t i b r hi).trans ?_
  exact row_lse (S := Cert.Attn.score r0 r1 r2 r3 (head t) (row t i)) (N := fun d j => values (arg4 m c) (ix2 j (lane (head t) d)))
    (dots_real h0 h1 h2 h3 t i b r hi) (vals_at t) (ones_at (head t))

/-- A query of a grid point lies in one of its two halves. -/
theorem halves (i : Fin 2048) : ∃ (b : Fin 2) (r : Fin 1024), i.val = 1024 * b.val + r.val :=
  ⟨⟨i.val / 1024, by omega⟩, ⟨i.val % 1024, by omega⟩, by simp only; omega⟩

/-- Where an output block lies in its array. -/
theorem o_emb (t : Fin cfg0.N) (i : Fin 2048) (d : Fin 128) :
    (win0_3.blk t).view.emb (ix2 i d) = (ix2 (row t i) (lane (head t) d) : S8192x1024.Idx) := by
  blk_ext [idx t]

/-- Where a log-sum-exp block lies in its array. -/
theorem l_emb (t : Fin cfg0.N) (i : Fin 2048) :
    (win0_4.blk t).view.emb (ix3 0 i 0) = (ix3 (head t) (row t i) 0 : S8x8192x1.Idx) := by
  blk_ext [idx t]

include h0 h1 h2 h3 in
/-- The output array of the call is any array of softmax averages. -/
theorem o_final (X : Vec Ideal S8192x1024 .bf16)
    (hX : ∀ (i : Fin 8192) (h : Fin 8) (d : Fin 128), X (ix2 i (lane h d))
      = ∑ j, values (arg4 m c) (ix2 j (lane h d)) * (Cert.Attn.softmax (Cert.Attn.score r0 r1 r2 r3 h i) j : EReal)) :
    (dats m 0 c).arrAt 3 cfg0.N = X := by
  refine (dats m 0 c).arrAt_eq_of_covers 3 _ (by decide +kernel) fun t hf y => ?_
  blk_simp
  rw [after0_3]
  idx_vars y
  obtain ⟨b, r, hi⟩ := halves y0
  refine (o_real h0 h1 h2 h3 t y0 b r hi y1).trans (Eq.trans ?_ (congrArg X (o_emb t y0 y1)).symm)
  exact (hX _ _ _).symm

include h0 h1 h2 h3 in
/-- The log-sum-exp array of the call is any array of log-sum-exps. -/
theorem l_final (X : Vec Ideal S8x8192x1 .f32)
    (hX : ∀ (h : Fin 8) (i : Fin 8192), X (ix3 h i 0) = (Real.log (∑ j, Real.exp (Cert.Attn.score r0 r1 r2 r3 h i j)) : EReal)) :
    (dats m 0 c).arrAt 4 cfg0.N = X := by
  refine (dats m 0 c).arrAt_eq_of_covers 4 _ (by decide +kernel) fun t hf y => ?_
  blk_simp
  rw [after0_4]
  idx_vars y
  obtain ⟨b, r, hi⟩ := halves y1
  have z0 : y0 = 0 := Subsingleton.elim _ _
  have z2 : y2 = 0 := Subsingleton.elim _ _
  subst z0 z2
  refine (l_real h0 h1 h2 h3 t y1 b r hi).trans (Eq.trans ?_ (congrArg X (l_emb t y1)).symm)
  exact (hX _ _).symm

end Real

end Cert.Kernel2Ideal.Final

end
-- ==== Proof.FlashRef.lean ====
module

public import proofs.«01_k».proof.Proof.Gen.Reference2Ideal.Read
public import proofs.«01_k».proof.Proof.Math

/-! The forward reference, one array at a time, when its queries and keys are real. -/

@[expose] public section

set_option maxRecDepth 16384

noncomputable section

open Idealize.ShloMosaic Idealize.ShloMosaic.TcCoe Idealize.SL.Sem

namespace Cert.Reference2Ideal.Attn

open Cert.Reference2Ideal Cert.Reference2Ideal.Gen Cert.Reference2Ideal.Read Cert.Attn

variable (x0 : FVec Ideal S8192x8x64 .f32) (x1 : FVec Ideal S8192x8x32 .f32) (x2 : FVec Ideal S8192x8x64 .f32)
  (x3 : FVec Ideal S8192x32 .f32) (x4 : FVec Ideal S8192x8x64 .f32)

/-- The own part of a score. -/
theorem own_at (h : Fin 8) (i j : Fin 8192) :
    val_main_v0 (F := Ideal) x0 x2 (ix3 h i j) = ∑ x : Fin 64, x0 (ix3 i h x) * x2 (ix3 j h x) := by
  pointwise [val_main_v0]

/-- The rotary part of a score. -/
theorem rope_at (h : Fin 8) (i j : Fin 8192) :
    val_main_v2 (F := Ideal) x1 x3 (ix3 h i j) = ∑ x : Fin 32, x3 (ix2 j x) * x1 (ix3 i h x) := by
  pointwise [val_main_v2, val_main_v1]

/-- A scaled score. -/
theorem score_at (h : Fin 8) (i j : Fin 8192) :
    val_main_v5 (F := Ideal) x0 x1 x2 x3 (ix3 h i j) = (val_main_v0 (F := Ideal) x0 x2 (ix3 h i j) + val_main_v2 (F := Ideal) x1 x3 (ix3 h i j)) * Ideal.ofBits .f32 0x3DD105EC#32 := by
  rw [val_main_v5_apply, val_main_v3_apply, val_main_v4_apply, val_main_cst_apply]
  exact Eq.refl _

/-- A row's largest score, folded from below. -/
theorem top_at (h : Fin 8) (i : Fin 8192) :
    val_main_v6 (F := Ideal) x0 x1 x2 x3 (ix2 h i) = Finset.fold max (Ideal.ofBits .f32 0xFF800000#32) (fun x : Fin 8192 => val_main_v5 (F := Ideal) x0 x1 x2 x3 (ix3 h i x)) Finset.univ := by
  unfold val_main_v6 val_main_cst_0
  generalize val_main_v5 (F := Ideal) x0 x1 x2 x3 = Y0
  pointwise []

/-- A row's largest score. -/
theorem max_at (h : Fin 8) (i : Fin 8192) :
    val_main_v8 (F := Ideal) x0 x1 x2 x3 (ix2 h i) = max (Ideal.ofBits .f32 0xFF800000#32) (val_main_v6 (F := Ideal) x0 x1 x2 x3 (ix2 h i)) := by
  rw [val_main_v8_apply, val_main_v7_apply, val_main_cst_1_apply, Ideal.maximumf_def]
  exact Eq.refl _

/-- A shifted exponential. -/
theorem exp_at (h : Fin 8) (i j : Fin 8192) :
    val_main_v12 (F := Ideal) x0 x1 x2 x3 (ix3 h i j) = Ideal.exp (val_main_v5 (F := Ideal) x0 x1 x2 x3 (ix3 h i j) - val_main_v8 (F := Ideal) x0 x1 x2 x3 (ix2 h i)) := by
  unfold val_main_v12 val_main_v11 val_main_v10 val_main_v9
  generalize val_main_v5 (F := Ideal) x0 x1 x2 x3 = Y0
  generalize val_main_v8 (F := Ideal) x0 x1 x2 x3 = Y1
  pointwise []

/-- A row's sum of shifted exponentials. -/
theorem sum_at (h : Fin 8) (i : Fin 8192) :
    val_main_v13 (F := Ideal) x0 x1 x2 x3 (ix2 h i) = ∑ x : Fin 8192, val_main_v12 (F := Ideal) x0 x1 x2 x3 (ix3 h i x) := by
  unfold val_main_v13 val_main_cst_2
  generalize val_main_v12 (F := Ideal) x0 x1 x2 x3 = Y0
  pointwise []

/-- A probability. -/
theorem prob_at (h : Fin 8) (i j : Fin 8192) :
    val_main_v16 (F := Ideal) x0 x1 x2 x3 (ix3 h i j) = Ideal.div (val_main_v12 (F := Ideal) x0 x1 x2 x3 (ix3 h i j)) (val_main_v13 (F := Ideal) x0 x1 x2 x3 (ix2 h i)) := by
  unfold val_main_v16 val_main_v15 val_main_v14
  generalize val_main_v12 (F := Ideal) x0 x1 x2 x3 = Y0
  generalize val_main_v13 (F := Ideal) x0 x1 x2 x3 = Y1
  pointwise []

/-- An output, followed by a one and zeros. -/
theorem out_at (i : Fin 8192) (h : Fin 8) (l : Fin 128) :
    val_main_v23 (F := Ideal) x0 x1 x2 x3 x4 (ix2 i ⟨128 * h.val + l.val, by omega⟩)
      = if h1 : l.val < 64 then ∑ j : Fin 8192, x4 (ix3 j h ⟨l, h1⟩) * val_main_v16 (F := Ideal) x0 x1 x2 x3 (ix3 h i j)
        else if h2 : l.val - 64 < 1 then 1 else 0 := by
  unfold val_main_v23 val_main_v22 val_main_v21 val_main_v20 val_main_v19 val_main_v18 val_main_v17 val_main_cst_3 val_main_cst_4
  generalize val_main_v16 (F := Ideal) x0 x1 x2 x3 = Y0
  pointwise []

/-- An exponential. -/
theorem raw_at (h : Fin 8) (i j : Fin 8192) :
    val_main_v24 (F := Ideal) x0 x1 x2 x3 (ix3 h i j) = Ideal.exp (val_main_v5 (F := Ideal) x0 x1 x2 x3 (ix3 h i j)) := by
  unfold val_main_v24
  generalize val_main_v5 (F := Ideal) x0 x1 x2 x3 = Y0
  pointwise []

/-- A row's sum of exponentials. -/
theorem total_at (h : Fin 8) (i : Fin 8192) :
    val_main_v26 (F := Ideal) x0 x1 x2 x3 (ix3 h i 0) = ∑ x : Fin 8192, val_main_v24 (F := Ideal) x0 x1 x2 x3 (ix3 h i x) := by
  unfold val_main_v26 val_main_v25 val_main_cst_5
  generalize val_main_v24 (F := Ideal) x0 x1 x2 x3 = Y0
  pointwise []

/-- A row's log-sum-exp. -/
theorem lse_at (h : Fin 8) (i : Fin 8192) :
    val_main_v27 (F := Ideal) x0 x1 x2 x3 (ix3 h i 0) = Ideal.log (val_main_v26 (F := Ideal) x0 x1 x2 x3 (ix3 h i 0)) := by
  rw [val_main_v27_apply]
  exact Eq.refl _

section Real

variable {x0 x1 x2 x3}
  {r0 : Fin 8192 → Fin 8 → Fin 64 → ℝ} {r1 : Fin 8192 → Fin 8 → Fin 32 → ℝ} {r2 : Fin 8192 → Fin 8 → Fin 64 → ℝ}
  {r3 : Fin 8192 → Fin 32 → ℝ}
  (h0 : ∀ i h d, x0 (ix3 i h d) = (r0 i h d : EReal)) (h1 : ∀ i h d, x1 (ix3 i h d) = (r1 i h d : EReal))
  (h2 : ∀ i h d, x2 (ix3 i h d) = (r2 i h d : EReal)) (h3 : ∀ i d, x3 (ix2 i d) = (r3 i d : EReal))

include h0 h1 h2 h3

/-- The scores are real. -/
theorem score_real (h : Fin 8) (i j : Fin 8192) :
    val_main_v5 (F := Ideal) x0 x1 x2 x3 (ix3 h i j) = (score r0 r1 r2 r3 h i j : EReal) := by
  rw [score_at, own_at, rope_at, scale_eq]
  simp only [score, EReal.coe_mul, EReal.coe_add, coe_sum, h0, h1, h2, h3]
  simp only [mul_comm]
  exact mul_comm _ _

/-- A row's largest score is real. -/
theorem max_real (h : Fin 8) (i : Fin 8192) : ∃ M : ℝ, val_main_v8 (F := Ideal) x0 x1 x2 x3 (ix2 h i) = (M : EReal) := by
  rw [max_at, top_at, bottom_eq, max_bot_left]
  simp only [score_real h0 h1 h2 h3]
  exact fold_max_real _ ⟨0, Finset.mem_univ _⟩ _

/-- The probabilities are the softmax of the scores. -/
theorem prob_real (h : Fin 8) (i j : Fin 8192) :
    val_main_v16 (F := Ideal) x0 x1 x2 x3 (ix3 h i j) = (softmax (score r0 r1 r2 r3 h i) j : EReal) := by
  obtain ⟨M, hM⟩ := max_real h0 h1 h2 h3 h i
  have e : ∀ j, val_main_v12 (F := Ideal) x0 x1 x2 x3 (ix3 h i j) = (Real.exp (score r0 r1 r2 r3 h i j - M) : EReal) := fun j => by
    rw [exp_at, hM, score_real h0 h1 h2 h3, ← EReal.coe_sub, Ideal.exp_coe]
  have z : val_main_v13 (F := Ideal) x0 x1 x2 x3 (ix2 h i) = ((∑ x, Real.exp (score r0 r1 r2 r3 h i x - M) : ℝ) : EReal) := by
    rw [sum_at, coe_sum]
    exact Finset.sum_congr rfl fun x _ => e x
  rw [prob_at, e, z, Ideal.div_coe (total_pos _ M).ne', ← EReal.coe_mul, mul_one_div, softmax_shift]

/-- The log-sum-exps are real. -/
theorem lse_real (h : Fin 8) (i : Fin 8192) :
    val_main_v27 (F := Ideal) x0 x1 x2 x3 (ix3 h i 0) = (Real.log (∑ j, Real.exp (score r0 r1 r2 r3 h i j)) : EReal) := by
  have z : val_main_v26 (F := Ideal) x0 x1 x2 x3 (ix3 h i 0) = ((∑ x, Real.exp (score r0 r1 r2 r3 h i x) : ℝ) : EReal) := by
    rw [total_at, coe_sum]
    refine Finset.sum_congr rfl fun x _ => ?_
    rw [raw_at, score_real h0 h1 h2 h3, Ideal.exp_coe]
  have p : 0 < ∑ x, Real.exp (score r0 r1 r2 r3 h i x) := Finset.sum_pos (fun x _ => Real.exp_pos _) ⟨0, Finset.mem_univ _⟩
  rw [lse_at, z, Ideal.log_coe, if_neg (not_le.mpr p)]

end Real

end Cert.Reference2Ideal.Attn

end
-- ==== Proof.Finite2.lean ====
module

public import proofs.«01_k».proof.Pre_finite2
public import proofs.«01_k».proof.Proof.Finite

/-! What the forward precondition says: every entry of the queries and the keys is a real number. -/

@[expose] public section

set_option maxRecDepth 16384

noncomputable section

open Idealize.ShloMosaic Idealize.ShloMosaic.TcCoe Idealize.SL.Sem

namespace Cert.Pre_finite2

/-- The side conditions of the precondition's operations. -/
theorem facts : Facts where
  bcast_S_S8192x8x64 := by decide
  reducesTo_S8192x8x64_S_d0_1_2 := by decide
  h_S_ := by decide
  bcast_S_S8192x8x32 := by decide
  reducesTo_S8192x8x32_S_d0_1_2 := by decide
  bcast_S_S8192x32 := by decide
  reducesTo_S8192x32_S_d0_1 := by decide

/-- Under the precondition every entry of the queries and the keys is real. -/
theorem reals [Facts] (x0 : FVec Ideal S8192x8x64 .f32) (x1 : FVec Ideal S8192x8x32 .f32) (x2 : FVec Ideal S8192x8x64 .f32)
    (x3 : FVec Ideal S8192x32 .f32) (x4 : FVec Ideal S8192x8x64 .f32) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h' := congrFun h (Shape.Idx.first (s := S_) Facts.h_S_)
  simp only [fn, fn_part1, andi_apply, IntOp.andi_eq_one] at h'
  obtain ⟨⟨⟨h0, h1⟩, h2⟩, h3⟩ := h'
  exact ⟨Cert.Pre_finite.real_of_all x0 _ _ _ _ h0, Cert.Pre_finite.real_of_all x1 _ _ _ _ h1,
    Cert.Pre_finite.real_of_all x2 _ _ _ _ h2, Cert.Pre_finite.real_of_all x3 _ _ _ _ h3⟩

end Cert.Pre_finite2
end
-- ==== Proof.FlashValue.lean ====
module

public import proofs.«01_k».proof.Defs
public import proofs.«01_k».proof.Proof.FlashFinal
public import proofs.«01_k».proof.Proof.FlashRef
public import proofs.«01_k».proof.Proof.Finite2
public import proofs.«01_k».proof.Proof.Gen.Kernel2Ideal.Value
public import proofs.«01_k».proof.Proof.Gen.Reference2Ideal.Run

/-! The forward attention call's outputs and log-sum-exps are the reference's. -/

@[expose] public section

set_option maxRecDepth 16384

noncomputable section

open Idealize.ShloMosaic Idealize.ShloMosaic.TcCoe Idealize.SL.Sem

namespace Cert.Flash

open Cert.Kernel2Ideal Cert.Kernel2Ideal.Gen Cert.Kernel2Ideal.Final Cert.Reference2Ideal.Read
open Cert.KernelIdeal.Host (values values_at)
open Cert.KernelIdeal.Final (lane)

/-- A sum of ones times the softmax weights is one. -/
theorem ones_sum (S : Fin 8192 → ℝ) : ∑ j, (1 : EReal) * (Cert.Attn.softmax S j : EReal) = 1 := by
  simp only [one_mul]
  rw [← Cert.Attn.coe_sum, softmax_sum, EReal.coe_one]

variable {m : (ℓ : Loc nD τ sig) → Buf (Elt Ideal) ℓ} {c : Dev nD}

section Real

variable {r0 : Fin 8192 → Fin 8 → Fin 64 → ℝ} {r1 : Fin 8192 → Fin 8 → Fin 32 → ℝ} {r2 : Fin 8192 → Fin 8 → Fin 64 → ℝ}
  {r3 : Fin 8192 → Fin 32 → ℝ}
  (h0 : ∀ i h d, arg0 m c (ix3 i h d) = (r0 i h d : EReal)) (h1 : ∀ i h d, arg1 m c (ix3 i h d) = (r1 i h d : EReal))
  (h2 : ∀ i h d, arg2 m c (ix3 i h d) = (r2 i h d : EReal)) (h3 : ∀ i d, arg3 m c (ix2 i d) = (r3 i d : EReal))

include h0 h1 h2 h3 in
/-- The reference's outputs are softmax averages of the padded values. -/
theorem o_ref (i : Fin 8192) (h : Fin 8) (l : Fin 128) :
    val_main_v23 (F := Ideal) (arg0 m c) (arg1 m c) (arg2 m c) (arg3 m c) (arg4 m c) (ix2 i (lane h l))
      = ∑ j, values (arg4 m c) (ix2 j (lane h l)) * (Cert.Attn.softmax (Cert.Attn.score r0 r1 r2 r3 h i) j : EReal) := by
  refine (Cert.Reference2Ideal.Attn.out_at _ _ _ _ _ i h l).trans ?_
  simp only [values_at]
  split_ifs with a b
  · exact Finset.sum_congr rfl fun j _ => Ideal.mul_congr rfl (Cert.Reference2Ideal.Attn.prob_real h0 h1 h2 h3 h i j)
  · exact (ones_sum _).symm
  · simp only [zero_mul, Finset.sum_const_zero]

end Real

variable [Cert.Pre_finite2.Facts] (hpre : Cert.Pre_Kernel2Ideal_finite2 m) (c : Dev nD)

include hpre

/-- The outputs agree. -/
theorem o : (dats m 0 c).arrAt 3 cfg0.N = val_main_v23 (F := Ideal) (arg0 m c) (arg1 m c) (arg2 m c) (arg3 m c) (arg4 m c) := by
  obtain ⟨h0, h1, h2, h3⟩ := Cert.Pre_finite2.reals _ _ _ _ _ (hpre c)
  choose r0 h0 using h0
  choose r1 h1 using h1
  choose r2 h2 using h2
  choose r3 h3 using h3
  exact o_final (fun i h d => h0 (ix3 i h d)) (fun i h d => h1 (ix3 i h d)) (fun i h d => h2 (ix3 i h d)) (fun i d => h3 (ix2 i d)) _
    (o_ref (fun i h d => h0 (ix3 i h d)) (fun i h d => h1 (ix3 i h d)) (fun i h d => h2 (ix3 i h d)) (fun i d => h3 (ix2 i d)))

/-- The log-sum-exps agree. -/
theorem l : (dats m 0 c).arrAt 4 cfg0.N = val_main_v27 (F := Ideal) (arg0 m c) (arg1 m c) (arg2 m c) (arg3 m c) := by
  obtain ⟨h0, h1, h2, h3⟩ := Cert.Pre_finite2.reals _ _ _ _ _ (hpre c)
  choose r0 h0 using h0
  choose r1 h1 using h1
  choose r2 h2 using h2
  choose r3 h3 using h3
  exact l_final (fun i h d => h0 (ix3 i h d)) (fun i h d => h1 (ix3 i h d)) (fun i h d => h2 (ix3 i h d)) (fun i d => h3 (ix2 i d)) _
    (Cert.Reference2Ideal.Attn.lse_real (fun i h d => h0 (ix3 i h d)) (fun i h d => h1 (ix3 i h d)) (fun i h d => h2 (ix3 i h d)) (fun i d => h3 (ix2 i d)))

omit hpre in
/-- The value claim: the call's two arrays are the attention outputs and the log-sum-exps. -/
theorem algebraic : Cert.algebraic_Kernel2Ideal_Reference2Ideal_pre_finite2 := by
  intro m g m' g' hpre hagree
  refine ⟨fun c => val_main_v23 (F := Ideal) (arg0 m c) (arg1 m c) (arg2 m c) (arg3 m c) (arg4 m c),
    fun c => val_main_v27 (F := Ideal) (arg0 m c) (arg1 m c) (arg2 m c) (arg3 m c), ?_, ?_⟩
  · refine (θ_run _ _ _).mono (fun r h c => ?_) (Cert.Kernel2Ideal.Value.run_blocks m g)
    obtain ⟨e0, e1, k⟩ := h c
    exact ⟨e0.trans (o hpre c), e1.trans (l hpre c), k⟩
  · refine (θ_run _ _ _).mono (fun r h c => ?_) (Cert.Reference2Ideal.Value.run (F := Ideal) m' g')
    obtain ⟨e0, e1, k⟩ := h c
    obtain ⟨k0, k1, k2, k3, k4⟩ := hagree c
    refine ⟨e0.trans ((val_main_v23_eq _ _ _ _ _).trans ?_), e1.trans ((val_main_v27_eq _ _ _ _).trans ?_), k⟩
    · rw [k0, k1, k2, k3, k4]
    · rw [k0, k1, k2, k3]

end Cert.Flash
end
-- ==== Proof.NormPay.lean ====
module

public import proofs.«01_k».proof.Proof.Gen.Kernel3Ideal.Value
public import Idealize.ShloMosaic.Lib.Pipeline.ValueKit
public import Idealize.ShloMosaic.Lib.Pointwise

/-! What one grid point of the product with the RMS-norm backward leaves in its two output blocks.

A grid point holds 512 rows of the cotangent, in two halves of 2816 columns, the whole weight, the same 512 rows of the
norm's input and of the residual cotangent, and the norm's gain. -/

@[expose] public section

set_option maxRecDepth 16384

noncomputable section

open Idealize.ShloMosaic Idealize.ShloMosaic.TcCoe Idealize.SL.Sem

namespace Cert.Kernel3Ideal.Body

open Cert.Kernel3Ideal Cert.Kernel3Ideal.Gen

/-- The cotangent of the norm's output: both halves of the cotangent times the weight. -/
def hy (a b : Vec Ideal S1x512x2816 .bf16) (w : Vec Ideal S1024x5632 .bf16) (i : Fin 512) (d : Fin 1024) : EReal :=
  ∑ k : Fin 2816, a (ix3 0 i k) * w (ix2 d ⟨k.val, by omega⟩) + ∑ k : Fin 2816, b (ix3 0 i k) * w (ix2 d ⟨2816 + k.val, by omega⟩)

/-- The reciprocal root mean square of a row. -/
def rs (x : Vec Ideal S512x1024 .f32) (i : Fin 512) : EReal :=
  Ideal.rsqrt (Ideal.div (∑ e : Fin 1024, x (ix2 i e) * x (ix2 i e)) (Ideal.ofBits .f32 0x44800000#32) + Ideal.ofBits .f32 0x358637BD#32)

/-- A row's mean of the scaled cotangent times the normalised row. -/
def mean (a b : Vec Ideal S1x512x2816 .bf16) (w : Vec Ideal S1024x5632 .bf16) (x : Vec Ideal S512x1024 .f32)
    (g : Vec Ideal S1x1024 .f32) (i : Fin 512) : EReal :=
  Ideal.div (∑ e : Fin 1024, hy a b w i e * g (ix2 0 e) * (x (ix2 i e) * rs x i)) (Ideal.ofBits .f32 0x44800000#32)

/-- A row's gradient of the norm's input, with the residual cotangent added. -/
def dx (a b : Vec Ideal S1x512x2816 .bf16) (w : Vec Ideal S1024x5632 .bf16) (x r : Vec Ideal S512x1024 .f32)
    (g : Vec Ideal S1x1024 .f32) (i : Fin 512) (d : Fin 1024) : EReal :=
  rs x i * (hy a b w i d * g (ix2 0 d) - x (ix2 i d) * rs x i * mean a b w x g i) + r (ix2 i d)

/-- A row's share of the gain's gradient. -/
def dg (a b : Vec Ideal S1x512x2816 .bf16) (w : Vec Ideal S1024x5632 .bf16) (x : Vec Ideal S512x1024 .f32)
    (i : Fin 512) (d : Fin 1024) : EReal :=
  hy a b w i d * (x (ix2 i d) * rs x i)

/-- A sum over 512 rows is the sum of its two halves. -/
theorem sum_rows (f : Fin 512 → EReal) :
    ∑ j, f j = ∑ t : Fin 256, f ⟨t.val, by omega⟩ + ∑ t : Fin 256, f ⟨256 + t.val, by omega⟩ := by
  have h := Fin.sum_univ_tiles 2 256 (by norm_num) f
  rw [Fin.sum_univ_two] at h
  rw [h]
  have e : ∀ (n : ℕ) (hn : n < 512) (n' : ℕ) (hn' : n' < 512), n = n' → f ⟨n, hn⟩ = f ⟨n', hn'⟩ := by
    intro n hn n' hn' h'; subst h'; rfl
  congr 1
  all_goals exact Finset.sum_congr rfl fun t _ => e _ _ _ _ (by simp <;> omega)

/-! ## The body's arrays, entry by entry, over any blocks read -/

/-- The cotangent of the norm's output for 256 rows. -/
def hyP (w w' : Vec Ideal S1024x2816 .bf16) (a b : Vec Ideal S1x256x2816 .bf16) (r : Fin 256) (d : Fin 1024) : EReal :=
  ∑ k : Fin 2816, a (ix3 0 r k) * w (ix2 d k) + ∑ k : Fin 2816, b (ix3 0 r k) * w' (ix2 d k)

/-- The reciprocal root mean square of one of 256 rows. -/
def rsP (x : Vec Ideal S256x1024 .f32) (r : Fin 256) : EReal :=
  Ideal.rsqrt (Ideal.div (∑ e : Fin 1024, x (ix2 r e) * x (ix2 r e)) (Ideal.ofBits .f32 0x44800000#32) + Ideal.ofBits .f32 0x358637BD#32)

/-- The first rows' cotangent. -/
theorem pay5_at (w w' a b) (r : Fin 256) (d : Fin 1024) : k0_pay5 (F := Ideal) w w' a b (ix2 r d) = hyP w w' a b r d := by
  pointwise [k0_pay5, k0_pay3, k0_pay4, hyP]

/-- The last rows' cotangent. -/
theorem pay11_at (w w' a b) (r : Fin 256) (d : Fin 1024) : k0_pay11 (F := Ideal) (k0_pay3 w) (k0_pay4 w') a b (ix2 r d) = hyP w w' a b r d := by
  pointwise [k0_pay11, k0_pay3, k0_pay4, hyP]

/-- The first rows' reciprocal root mean squares. -/
theorem pay6_at (x) (r : Fin 256) : k0_pay6 (F := Ideal) x (ix2 r 0) = rsP x r := by
  pointwise [k0_pay6, rsP]

/-- The last rows' reciprocal root mean squares. -/
theorem pay12_at (x) (r : Fin 256) : k0_pay12 (F := Ideal) x (ix2 r 0) = rsP x r := by
  pointwise [k0_pay12, rsP]

/-- The first rows, normalised. -/
theorem pay7_at (x) (r : Fin 256) (d : Fin 1024) : k0_pay7 (F := Ideal) x (ix2 r d) = x (ix2 r d) * rsP x r := by
  rw [← pay6_at]
  unfold k0_pay7
  generalize k0_pay6 (F := Ideal) x = Y
  pointwise []

/-- The last rows, normalised. -/
theorem pay13_at (x) (r : Fin 256) (d : Fin 1024) : k0_pay13 (F := Ideal) x (ix2 r d) = x (ix2 r d) * rsP x r := by
  rw [← pay12_at]
  unfold k0_pay13
  generalize k0_pay12 (F := Ideal) x = Y
  pointwise []

/-- The gradient of the norm's input for 256 rows. -/
def dxP (g : Vec Ideal S1x1024 .f32) (w w' : Vec Ideal S1024x2816 .bf16) (a b : Vec Ideal S1x256x2816 .bf16)
    (x q : Vec Ideal S256x1024 .f32) (r : Fin 256) (d : Fin 1024) : EReal :=
  rsP x r * (hyP w w' a b r d * g (ix2 0 d) - x (ix2 r d) * rsP x r
    * Ideal.div (∑ e : Fin 1024, hyP w w' a b r e * g (ix2 0 e) * (x (ix2 r e) * rsP x r)) (Ideal.ofBits .f32 0x44800000#32)) + q (ix2 r d)

/-- The first rows' gradient of the norm's input. -/
theorem pay9_at (g w w' a b x q) (r : Fin 256) (d : Fin 1024) :
    k0_pay9 (F := Ideal) q (k0_pay8 g w w' a b x) (ix2 r d) = dxP g w w' a b x q r d := by
  have hY := pay5_at w w' a b
  have hZ := pay7_at x
  have hR := pay6_at x
  unfold dxP k0_pay9 k0_pay8
  generalize k0_pay5 (F := Ideal) w w' a b = Y at *
  generalize k0_pay7 (F := Ideal) x = Z at *
  generalize k0_pay6 (F := Ideal) x = R at *
  pointwise []
  simp only [hY, hZ, hR]

/-- The last rows' gradient of the norm's input. -/
theorem pay15_at (g w w' a b x q) (r : Fin 256) (d : Fin 1024) :
    k0_pay15 (F := Ideal) g (k0_pay3 w) (k0_pay4 w') a b x q (ix2 r d) = dxP g w w' a b x q r d := by
  have hY := pay11_at w w' a b
  have hZ := pay13_at x
  have hR := pay12_at x
  unfold dxP k0_pay15
  generalize k0_pay11 (F := Ideal) (k0_pay3 w) (k0_pay4 w') a b = Y at *
  generalize k0_pay13 (F := Ideal) x = Z at *
  generalize k0_pay12 (F := Ideal) x = R at *
  pointwise []
  simp only [hY, hZ, hR]

/-- The gain's gradient after a grid point: what stood there plus the point's rows. -/
theorem pay2_at (w w' a b x a' b' x') (v : Vec Ideal S1x1024 .f32) (d : Fin 1024) :
    k0_pay2 (F := Ideal) (k0_pay10 (k0_pay5 w w' a b) (k0_pay7 x)) (k0_pay14 (k0_pay3 w) (k0_pay4 w') a' b' x') v (ix2 0 d)
      = v (ix2 0 d) + (∑ r : Fin 256, hyP w w' a b r d * (x (ix2 r d) * rsP x r) + ∑ r : Fin 256, hyP w w' a' b' r d * (x' (ix2 r d) * rsP x' r)) := by
  have hY := pay5_at w w' a b
  have hZ := pay7_at x
  have hY' := pay11_at w w' a' b'
  have hZ' := pay13_at x'
  unfold k0_pay2 k0_pay10 k0_pay14
  generalize k0_pay5 (F := Ideal) w w' a b = Y at *
  generalize k0_pay7 (F := Ideal) x = Z at *
  generalize k0_pay11 (F := Ideal) (k0_pay3 w) (k0_pay4 w') a' b' = Y' at *
  generalize k0_pay13 (F := Ideal) x' = Z' at *
  pointwise []
  simp only [hY, hZ, hY', hZ']

/-- The zeros the gain's gradient starts from. -/
theorem zeros_apply (d : Fin 1024) : k0_pay1 (F := Ideal) (ix2 0 d) = 0 := by
  pointwise [k0_pay1]

/-! ## The blocks read, row by row -/

/-- Rows of the norm's input read from a block. -/
theorem ld_x (X : Vec Ideal S512x1024 .f32) (o : ℕ) (h) (i : Fin 512) (r : Fin 256) (d : Fin 1024) (hi : i.val = o + r.val) :
    View.ld X (Rect.unit (s := S512x1024) ![o, 0] ![256, 1024] h) (ix2 r d) = X (ix2 i d) := by
  refine View.ld_unit_apply_of X _ _ _ _ _ fun a => ?_
  match a with
  | ⟨0, _⟩ => show i.val = o + r.val; omega
  | ⟨1, _⟩ => show d.val = 0 + d.val; omega

/-- Rows of a half of the cotangent read from a block. -/
theorem ld_a (X : Vec Ideal S1x512x2816 .bf16) (o : ℕ) (h) (i : Fin 512) (r : Fin 256) (k : Fin 2816) (hi : i.val = o + r.val) :
    View.ld X (Rect.unit (s := S1x512x2816) ![0, o, 0] ![1, 256, 2816] h) (ix3 0 r k) = X (ix3 0 i k) := by
  refine View.ld_unit_apply_of X _ _ _ _ _ fun a => ?_
  match a with
  | ⟨0, _⟩ => rfl
  | ⟨1, _⟩ => show i.val = o + r.val; omega
  | ⟨2, _⟩ => show k.val = 0 + k.val; omega

/-- The first columns of the weight. -/
theorem ld_w (X : Vec Ideal S1024x5632 .bf16) (h) (d : Fin 1024) (k : Fin 2816) :
    View.ld X (Rect.unit (s := S1024x5632) ![0, 0] ![1024, 2816] h) (ix2 d k) = X (ix2 d ⟨k.val, by omega⟩) := by
  refine View.ld_unit_apply_of X _ _ _ _ _ fun a => ?_
  match a with
  | ⟨0, _⟩ => show d.val = 0 + d.val; omega
  | ⟨1, _⟩ => show k.val = 0 + k.val; omega

/-- The last columns of the weight. -/
theorem ld_w' (X : Vec Ideal S1024x5632 .bf16) (h) (d : Fin 1024) (k : Fin 2816) :
    View.ld X (Rect.unit (s := S1024x5632) ![0, 2816] ![1024, 2816] h) (ix2 d k) = X (ix2 d ⟨2816 + k.val, by omega⟩) := by
  refine View.ld_unit_apply_of X _ _ _ _ _ fun a => ?_
  match a with
  | ⟨0, _⟩ => show d.val = 0 + d.val; omega
  | ⟨1, _⟩ => show 2816 + k.val = 2816 + k.val; rfl

/-- The rows' cotangent is the block's. -/
theorem hyP_eq (A B : Vec Ideal S1x512x2816 .bf16) (W : Vec Ideal S1024x5632 .bf16) (o : ℕ) (hw hw' ha) (i : Fin 512) (r : Fin 256) (d : Fin 1024)
    (hi : i.val = o + r.val) :
    hyP (View.ld W (Rect.unit (s := S1024x5632) ![0, 0] ![1024, 2816] hw)) (View.ld W (Rect.unit (s := S1024x5632) ![0, 2816] ![1024, 2816] hw'))
        (View.ld A (Rect.unit (s := S1x512x2816) ![0, o, 0] ![1, 256, 2816] ha)) (View.ld B (Rect.unit (s := S1x512x2816) ![0, o, 0] ![1, 256, 2816] ha)) r d
      = hy A B W i d := by
  unfold hyP hy
  refine Ideal.add_congr (Finset.sum_congr rfl fun k _ => ?_) (Finset.sum_congr rfl fun k _ => ?_)
  · exact Ideal.mul_congr (ld_a A o ha i r k hi) (ld_w W hw d k)
  · exact Ideal.mul_congr (ld_a B o ha i r k hi) (ld_w' W hw' d k)

/-- The rows' reciprocal root mean square is the block's. -/
theorem rsP_eq (X : Vec Ideal S512x1024 .f32) (o : ℕ) (hx) (i : Fin 512) (r : Fin 256) (hi : i.val = o + r.val) :
    rsP (View.ld X (Rect.unit (s := S512x1024) ![o, 0] ![256, 1024] hx)) r = rs X i := by
  unfold rsP rs
  have e : ∑ e : Fin 1024, View.ld X (Rect.unit (s := S512x1024) ![o, 0] ![256, 1024] hx) (ix2 r e) * View.ld X (Rect.unit (s := S512x1024) ![o, 0] ![256, 1024] hx) (ix2 r e)
      = ∑ e : Fin 1024, X (ix2 i e) * X (ix2 i e) :=
    Finset.sum_congr rfl fun e _ => Ideal.mul_congr (ld_x X o hx i r e hi) (ld_x X o hx i r e hi)
  exact congrArg (fun s => Ideal.rsqrt (Ideal.div s _ + _)) e

/-- The rows' gradient of the norm's input is the block's. -/
theorem dxP_eq (A B : Vec Ideal S1x512x2816 .bf16) (W : Vec Ideal S1024x5632 .bf16) (X Q : Vec Ideal S512x1024 .f32) (g : Vec Ideal S1x1024 .f32)
    (o : ℕ) (hw hw' ha hx) (i : Fin 512) (r : Fin 256) (d : Fin 1024) (hi : i.val = o + r.val) :
    dxP g (View.ld W (Rect.unit (s := S1024x5632) ![0, 0] ![1024, 2816] hw)) (View.ld W (Rect.unit (s := S1024x5632) ![0, 2816] ![1024, 2816] hw'))
        (View.ld A (Rect.unit (s := S1x512x2816) ![0, o, 0] ![1, 256, 2816] ha)) (View.ld B (Rect.unit (s := S1x512x2816) ![0, o, 0] ![1, 256, 2816] ha))
        (View.ld X (Rect.unit (s := S512x1024) ![o, 0] ![256, 1024] hx)) (View.ld Q (Rect.unit (s := S512x1024) ![o, 0] ![256, 1024] hx)) r d
      = dx A B W X Q g i d := by
  have e1 := fun e => hyP_eq A B W o hw hw' ha i r e hi
  have e2 := fun e => ld_x X o hx i r e hi
  have e3 := rsP_eq X o hx i r hi
  have e4 := ld_x Q o hx i r d hi
  unfold dxP dx mean
  have e : ∀ e : Fin 1024, _ := fun e => Ideal.mul_congr (Ideal.mul_congr (e1 e) (rfl : g (ix2 0 e) = g (ix2 0 e))) (Ideal.mul_congr (e2 e) e3)
  refine Ideal.add_congr (Ideal.mul_congr e3 ?_) e4
  refine congrArg₂ (· - ·) (Ideal.mul_congr (e1 d) rfl) (Ideal.mul_congr (Ideal.mul_congr (e2 d) e3) ?_)
  exact congrArg (Ideal.div · _) (Finset.sum_congr rfl fun k _ => e k)

/-- The rows' share of the gain's gradient is the block's. -/
theorem dgP_eq (A B : Vec Ideal S1x512x2816 .bf16) (W : Vec Ideal S1024x5632 .bf16) (X : Vec Ideal S512x1024 .f32)
    (o : ℕ) (hw hw' ha hx) (i : Fin 512) (r : Fin 256) (d : Fin 1024) (hi : i.val = o + r.val) :
    hyP (View.ld W (Rect.unit (s := S1024x5632) ![0, 0] ![1024, 2816] hw)) (View.ld W (Rect.unit (s := S1024x5632) ![0, 2816] ![1024, 2816] hw'))
        (View.ld A (Rect.unit (s := S1x512x2816) ![0, o, 0] ![1, 256, 2816] ha)) (View.ld B (Rect.unit (s := S1x512x2816) ![0, o, 0] ![1, 256, 2816] ha)) r d
      * (View.ld X (Rect.unit (s := S512x1024) ![o, 0] ![256, 1024] hx) (ix2 r d) * rsP (View.ld X (Rect.unit (s := S512x1024) ![o, 0] ![256, 1024] hx)) r)
      = dg A B W X i d :=
  Ideal.mul_congr (hyP_eq A B W o hw hw' ha i r d hi) (Ideal.mul_congr (ld_x X o hx i r d hi) (rsP_eq X o hx i r hi))

end Cert.Kernel3Ideal.Body

end
-- ==== Proof.NormBody.lean ====
module

public import proofs.«01_k».proof.Proof.NormPay

/-! What one grid point of the product with the RMS-norm backward leaves in its two output blocks. -/

@[expose] public section

set_option maxRecDepth 16384

noncomputable section

open Idealize.ShloMosaic Idealize.ShloMosaic.TcCoe Idealize.SL.Sem

namespace Cert.Kernel3Ideal.Body

open Cert.Kernel3Ideal Cert.Kernel3Ideal.Gen

/-- A row the last store covers reads that store's payload. -/
theorem canon_hit (o : ℕ) (h) (p : (Rect.unit (s := S512x1024) ![o, 0] ![256, 1024] h).shape.Idx → Elt Ideal .f32)
    (L : List (View.Piece (Elt Ideal) S512x1024 .f32)) (i : Fin 512) (r : Fin 256) (d : Fin 1024) (hi : i.val = o + r.val) :
    View.canon (Val := Elt Ideal) (s := S512x1024) (e := .f32) (⟨Rect.unit (s := S512x1024) ![o, 0] ![256, 1024] h, p⟩ :: L) (ix2 i d)
      = p (ix2 r d) := by
  have e : (ix2 i d : S512x1024.Idx) = (Rect.unit (s := S512x1024) ![o, 0] ![256, 1024] h).emb (ix2 r d) := by
    funext a
    apply Fin.ext
    rw [Rect.emb_apply]
    match a with
    | ⟨0, _⟩ => show i.val = o + 1 * r.val; omega
    | ⟨1, _⟩ => show d.val = 0 + 1 * d.val; omega
  rw [e]
  exact View.canon_cons_emb _ _ _ _

/-- A row the last store does not cover reads what the stores before left. -/
theorem canon_miss (o : ℕ) (h) (p : (Rect.unit (s := S512x1024) ![o, 0] ![256, 1024] h).shape.Idx → Elt Ideal .f32)
    (L : List (View.Piece (Elt Ideal) S512x1024 .f32)) (i : Fin 512) (d : Fin 1024) (h1 : i.val < o ∨ o + 256 ≤ i.val) :
    View.canon (Val := Elt Ideal) (s := S512x1024) (e := .f32) (⟨Rect.unit (s := S512x1024) ![o, 0] ![256, 1024] h, p⟩ :: L) (ix2 i d)
      = View.canon (Val := Elt Ideal) (s := S512x1024) (e := .f32) L (ix2 i d) := by
  refine View.canon_cons_of_not_mem _ _ fun hm => ?_
  rw [Rect.mem_set_unit] at hm
  have h0 := hm 0
  have e1 : ((ix2 i d : S512x1024.Idx) 0 : ℕ) = i.val := rfl
  have e2 : (![o, 0] : Fin 2 → ℕ) 0 = o := rfl
  have e3 : (![256, 1024] : Fin 2 → ℕ) 0 = 256 := rfl
  rw [e1, e2, e3] at h0
  omega

variable (m : (ℓ : Loc nD τ sig) → Buf (Elt Ideal) ℓ)

/-- What a grid point reads: the first half of the cotangent's columns. -/
abbrev aB (c : Dev nD) (t : Fin cfg0.N) : Vec Ideal S1x512x2816 .bf16 := iblk m c 0 t
/-- What a grid point reads: the second half of the cotangent's columns. -/
abbrev bB (c : Dev nD) (t : Fin cfg0.N) : Vec Ideal S1x512x2816 .bf16 := iblk m c 1 t
/-- What a grid point reads: the weight. -/
abbrev wB (c : Dev nD) (t : Fin cfg0.N) : Vec Ideal S1024x5632 .bf16 := iblk m c 2 t
/-- What a grid point reads: the norm's input. -/
abbrev xB (c : Dev nD) (t : Fin cfg0.N) : Vec Ideal S512x1024 .f32 := iblk m c 3 t
/-- What a grid point reads: the residual cotangent. -/
abbrev rB (c : Dev nD) (t : Fin cfg0.N) : Vec Ideal S512x1024 .f32 := iblk m c 4 t
/-- What a grid point reads: the gain. -/
abbrev gB (c : Dev nD) (t : Fin cfg0.N) : Vec Ideal S1x1024 .f32 := iblk m c 5 t

/-- The two row chunks. -/
theorem chunk_cases (i : Fin 512) : ∃ r : Fin 256, i.val = 0 + r.val ∨ i.val = 256 + r.val :=
  ⟨⟨i.val % 256, by omega⟩, by have := i.isLt; simp only; omega⟩

/-- A grid point's rows of the input's gradient. -/
theorem dx_block (c : Dev nD) (t : Fin cfg0.N) (i : Fin 512) (d : Fin 1024) :
    (outsAt0 m c t.val t.isLt).1 (ix2 i d)
      = dx (aB m c t) (bB m c t) (wB m c t) (xB m c t) (rB m c t) (gB m c t) i d := by
  obtain ⟨r, hr⟩ := chunk_cases i
  rcases Nat.lt_or_ge (t.val % 16) 1 with hlo | hlo
  · rw [outsAt0_A m c t (by omega)]
    frame_out
    rcases hr with hr | hr
    · refine (canon_miss _ _ _ _ i d (by omega)).trans ?_
      refine (canon_hit _ _ _ _ i r d (by omega)).trans ?_
      refine (pay9_at _ _ _ _ _ _ _ r d).trans ?_
      exact dxP_eq _ _ _ _ _ _ 0 _ _ _ _ i r d hr
    · refine (canon_hit _ _ _ _ i r d (by omega)).trans ?_
      refine (pay15_at _ _ _ _ _ _ _ r d).trans ?_
      exact dxP_eq _ _ _ _ _ _ 256 _ _ _ _ i r d hr
  · rw [outsAt0_B m c t (by omega)]
    frame_out
    rcases hr with hr | hr
    · refine (canon_miss _ _ _ _ i d (by omega)).trans ?_
      refine (canon_hit _ _ _ _ i r d (by omega)).trans ?_
      refine (pay9_at _ _ _ _ _ _ _ r d).trans ?_
      exact dxP_eq _ _ _ _ _ _ 0 _ _ _ _ i r d hr
    · refine (canon_hit _ _ _ _ i r d (by omega)).trans ?_
      refine (pay15_at _ _ _ _ _ _ _ r d).trans ?_
      exact dxP_eq _ _ _ _ _ _ 256 _ _ _ _ i r d hr

/-- The first grid point leaves its rows' share of the gain's gradient. -/
theorem dg_first (c : Dev nD) (t : Fin cfg0.N) (h0 : t.val % 16 = 0) (d : Fin 1024) :
    (outsAt0 m c t.val t.isLt).2 (ix2 0 d) = ∑ i : Fin 512, dg (aB m c t) (bB m c t) (wB m c t) (xB m c t) i d := by
  rw [sum_rows, ← zero_add (∑ t : Fin 256, _ + _), outsAt0_A m c t h0]
  frame_out
  refine (pay2_at _ _ _ _ _ _ _ _ _ d).trans ?_
  refine Ideal.add_congr ?_ (Ideal.add_congr (Finset.sum_congr rfl fun r _ => ?_) (Finset.sum_congr rfl fun r _ => ?_))
  · exact zeros_apply d
  · exact dgP_eq _ _ _ _ 0 _ _ _ _ _ r d (by simp only; omega)
  · exact dgP_eq _ _ _ _ 256 _ _ _ _ _ r d rfl

/-- A later grid point adds its rows' share to the gain's gradient. -/
theorem dg_next (c : Dev nD) (t : Fin cfg0.N) (h0 : ¬t.val % 16 = 0) (d : Fin 1024) :
    (outsAt0 m c t.val t.isLt).2 (ix2 0 d)
      = (outsAt0 m c (t.val - 1) (Nat.lt_of_le_of_lt (Nat.sub_le _ _) t.isLt)).2 (ix2 0 d)
        + ∑ i : Fin 512, dg (aB m c t) (bB m c t) (wB m c t) (xB m c t) i d := by
  rw [sum_rows, outsAt0_B m c t h0]
  frame_out
  refine (pay2_at _ _ _ _ _ _ _ _ _ d).trans ?_
  refine Ideal.add_congr ?_ (Ideal.add_congr (Finset.sum_congr rfl fun r _ => ?_) (Finset.sum_congr rfl fun r _ => ?_))
  · rfl
  · exact dgP_eq _ _ _ _ 0 _ _ _ _ _ r d (by simp only; omega)
  · exact dgP_eq _ _ _ _ 256 _ _ _ _ _ r d rfl

end Cert.Kernel3Ideal.Body

end
-- ==== Proof.NormMath.lean ====
module

public import proofs.«01_k».proof.Proof.Math

/-! The gradient of an RMS norm's row over the reals: the closed form is the chain rule's sum. -/

@[expose] public section

set_option maxRecDepth 16384

noncomputable section

open Idealize.ShloMosaic Idealize.ShloMosaic.TcCoe Idealize.SL.Sem

namespace Cert.Norm

open Cert.Attn

/-- The small number added to a row's mean square. -/
def ε : ℝ := 8796093 / 8796093022208

/-- The length of a row, as the programs write it. -/
abbrev len : EReal := Ideal.ofBits .f32 0x44800000#32
/-- The small number added to a row's mean square, as the programs write it. -/
abbrev eps : EReal := Ideal.ofBits .f32 0x358637BD#32
/-- Minus one half, as the programs write it. -/
abbrev mhalf : EReal := Ideal.ofBits .f32 0xBF000000#32

/-- The length of a row is 1024. -/
theorem len_eq : len = ((1024 : ℝ) : EReal) := by
  simp [len, Ideal.ofBits, Ideal.ieee, -EReal.coe_mul]; norm_num

/-- The small number is the real one. -/
theorem eps_eq : eps = (ε : EReal) := by
  simp [ε, eps, Ideal.ofBits, Ideal.ieee, -EReal.coe_mul]; norm_num

/-- Minus one half is the real one. -/
theorem mhalf_eq : mhalf = ((-1 / 2 : ℝ) : EReal) := by
  simp [mhalf, Ideal.ofBits, Ideal.ieee, -EReal.coe_mul]; norm_num

/-- The small number is positive. -/
theorem ε_pos : 0 < ε := by norm_num [ε]

/-- A row's mean square plus the small number. -/
def var (x : Fin 1024 → EReal) : EReal := Ideal.div (∑ e, x e * x e) len + eps

/-- The reciprocal root mean square of a row. -/
def rs (x : Fin 1024 → EReal) : EReal := Ideal.rsqrt (var x)

/-- The closed form: the scaled cotangent less the normalised row times its mean with it, plus the residual cotangent. -/
def closed (x y g : Fin 1024 → EReal) (r : EReal) (d : Fin 1024) : EReal :=
  rs x * (y d * g d - x d * rs x * Ideal.div (∑ e, y e * g e * (x e * rs x)) len) + r

/-- The chain rule's coefficient of the row: the gradient of its mean square. -/
def coef (x y g : Fin 1024 → EReal) : EReal :=
  Ideal.div ((∑ e, x e * (y e * g e)) * (mhalf * Ideal.div (rs x) (var x))) len

/-- The chain rule's sum. -/
def chain (x y g : Fin 1024 → EReal) (r : EReal) (d : Fin 1024) : EReal :=
  r + y d * g d * rs x + x d * coef x y g + coef x y g * x d

/-- A row's mean square plus the small number is infinite, or real and positive. -/
theorem var_cases (x : Fin 1024 → EReal) : var x = ⊤ ∨ ∃ V : ℝ, 0 < V ∧ var x = (V : EReal) := by
  have h : 0 < var x := by
    unfold var
    rw [len_eq, eps_eq, Ideal.div_coe (by norm_num)]
    have h1 : (0 : EReal) ≤ ∑ e, x e * x e := Finset.sum_nonneg fun e _ => by
      rcases le_total 0 (x e) with h | h
      · exact mul_nonneg h h
      · have h' : 0 ≤ -x e := by simpa using h
        simpa using mul_nonneg h' h'
    have h2 : (0 : EReal) ≤ (∑ e, x e * x e) * ((1 / 1024 : ℝ) : EReal) :=
      mul_nonneg h1 (by exact_mod_cast (by norm_num : (0 : ℝ) ≤ 1 / 1024))
    exact lt_of_lt_of_le (b := (ε : EReal)) (by exact_mod_cast ε_pos) (le_add_of_nonneg_left h2)
  generalize var x = v at h
  induction v with
  | bot => simp at h
  | coe V => exact .inr ⟨V, by exact_mod_cast h, rfl⟩
  | top => exact .inl rfl

/-- The reciprocal root of a positive real. -/
theorem rsqrt_real (V : ℝ) (h : 0 < V) : Ideal.rsqrt (V : EReal) = (((Real.sqrt V)⁻¹ : ℝ) : EReal) := by
  rw [Ideal.rsqrt_coe, if_neg (not_lt.mpr h.le), if_neg h.ne']

/-- A positive real factor goes through a sum. -/
theorem mul_sum (q : ℝ) (h : 0 < q) (f : Fin 1024 → EReal) : (∑ e, f e) * (q : EReal) = ∑ e, f e * (q : EReal) := by
  have h0 : (0 : EReal) ≤ (q : EReal) := by exact_mod_cast h.le
  have hs : ∀ s : Finset (Fin 1024), (∑ e ∈ s, f e) * (q : EReal) = ∑ e ∈ s, f e * (q : EReal) := by
    intro s
    induction s using Finset.induction_on with
    | empty => simp
    | insert a s ha ih => rw [Finset.sum_insert ha, Finset.sum_insert ha, ← ih, EReal.right_distrib_of_nonneg_of_ne_top h0 (EReal.coe_ne_top q)]
  exact hs _

/-- Two negative halves of a multiple make its negative. -/
theorem halves_neg (T : EReal) (K : ℝ) (h : 0 < K) :
    T * ((-(K / 2) : ℝ) : EReal) + T * ((-(K / 2) : ℝ) : EReal) = -(T * (K : EReal)) := by
  induction T with
  | bot => rw [EReal.bot_mul_coe_of_neg (by linarith), EReal.bot_mul_coe_of_pos h]; rfl
  | top => rw [EReal.top_mul_coe_of_neg (by linarith), EReal.top_mul_coe_of_pos h]; rfl
  | coe t =>
    simp only [← EReal.coe_mul, ← EReal.coe_add, ← EReal.coe_neg]
    exact congrArg _ (by ring)

/-- On every row the closed form is the chain rule's sum. -/
theorem closed_eq (x y g : Fin 1024 → EReal) (r : EReal) (d : Fin 1024) : closed x y g r d = chain x y g r d := by
  rcases var_cases x with e | ⟨V, hV, e⟩
  · have z : Ideal.div (0 : EReal) ⊤ = 0 := by unfold Ideal.div; simp
    have z' : Ideal.div (0 : EReal) len = 0 := by rw [len_eq, Ideal.div_coe (by norm_num)]; simp
    have z'' : Ideal.rsqrt ⊤ = 0 := rfl
    unfold closed chain coef rs
    rw [e]
    simp only [z'', z, z', mul_zero, zero_mul, zero_add, add_zero]
  · unfold closed chain coef rs
    rw [e, rsqrt_real V hV, len_eq, mhalf_eq, Ideal.div_coe hV.ne', Ideal.div_coe (by norm_num), Ideal.div_coe (by norm_num)]
    have hs : (Real.sqrt V)⁻¹ * (1 / V) = (Real.sqrt V)⁻¹ * (Real.sqrt V)⁻¹ * (Real.sqrt V)⁻¹ := by
      have h := Real.mul_self_sqrt hV.le
      have hp := (Real.sqrt_pos.mpr hV).ne'
      field_simp
      rw [sq, h]
    have hq : 0 < (Real.sqrt V)⁻¹ := inv_pos.mpr (Real.sqrt_pos.mpr hV)
    generalize (Real.sqrt V)⁻¹ = q at hs hq ⊢
    have s1 : ∑ e, y e * g e * (x e * (q : EReal)) = (∑ e, x e * (y e * g e)) * (q : EReal) := by
      rw [mul_sum q hq]
      exact Finset.sum_congr rfl fun e _ => by rw [← mul_assoc, mul_comm (y e * g e)]
    rw [s1]
    generalize ∑ e, x e * (y e * g e) = S
    generalize y d * g d = w
    generalize x d = u
    have h0 : (0 : EReal) ≤ (q : EReal) := by exact_mod_cast hq.le
    have c1 : (q : EReal) * (w - u * (q : EReal) * (S * (q : EReal) * ((1 / 1024 : ℝ) : EReal)))
        = (q : EReal) * w + -(u * S * ((q * q * q * (1 / 1024) : ℝ) : EReal)) := by
      rw [sub_eq_add_neg, mul_comm (q : EReal) (_ + _), EReal.right_distrib_of_nonneg_of_ne_top h0 (EReal.coe_ne_top q), mul_comm w, EReal.neg_mul]
      refine congrArg (fun z => (q : EReal) * w + -z) ?_
      simp only [EReal.coe_mul]
      ac_rfl
    have c2 : S * (((-1 / 2 : ℝ) : EReal) * ((q : EReal) * ((1 / V : ℝ) : EReal))) * ((1 / 1024 : ℝ) : EReal)
        = S * ((-(q * q * q * (1 / 1024) / 2) : ℝ) : EReal) := by
      rw [mul_assoc]
      simp only [← EReal.coe_mul]
      rw [hs]
      exact congrArg (fun z : ℝ => S * (z : EReal)) (by ring)
    have k : 0 < q * q * q * (1 / 1024) := by positivity
    generalize q * q * q * (1 / 1024) = K at c1 c2 k
    rw [c1, c2]
    rw [add_assoc (r + w * (q : EReal)), mul_comm (S * _) u, ← mul_assoc, halves_neg _ K k, mul_comm w, add_comm r, add_assoc, add_assoc, add_comm r]

end Cert.Norm
end
-- ==== Proof.NormFinal.lean ====
module

public import proofs.«01_k».proof.Proof.NormBody
public import proofs.«01_k».proof.Proof.NormMath

/-! The two result arrays of the product with the RMS-norm backward, as functions of the program's arguments. -/

@[expose] public section

set_option maxRecDepth 16384

noncomputable section

open Idealize.ShloMosaic Idealize.ShloMosaic.TcCoe Idealize.SL.Sem

namespace Cert.Kernel3Ideal.Final

open Cert.Kernel3Ideal Cert.Kernel3Ideal.Gen Cert.Kernel3Ideal.Body

variable (m : (ℓ : Loc nD τ sig) → Buf (Elt Ideal) ℓ)

/-- The norm's input. -/
abbrev arg0 (c : Dev nD) : FVec Ideal S8192x1024 .f32 := m ((c : Thread nD τ).loc main_arg0)
/-- The gain. -/
abbrev arg1 (c : Dev nD) : FVec Ideal S1x1024 .f32 := m ((c : Thread nD τ).loc main_arg1)
/-- The weight. -/
abbrev arg2 (c : Dev nD) : FVec Ideal S1024x5632 .f32 := m ((c : Thread nD τ).loc main_arg2)
/-- The residual cotangent. -/
abbrev arg3 (c : Dev nD) : FVec Ideal S8192x1024 .f32 := m ((c : Thread nD τ).loc main_arg3)
/-- The product's cotangent. -/
abbrev arg4 (c : Dev nD) : FVec Ideal S8192x5632 .f32 := m ((c : Thread nD τ).loc main_arg4)

/-- The two halves of the cotangent's columns, one above the other. -/
def halves (a4 : FVec Ideal S8192x5632 .f32) : FVec Ideal S2x8192x2816 .bf16 :=
  truncf .bf16 (transpose S2x8192x2816 [1, 0, 2] (shapeCast S8192x2x2816 a4 shapeCasts_S8192x5632_S8192x2x2816)
    transposes_S8192x2x2816_S2x8192x2816_1_0_2) bitsLt_bf16_f32

/-- The call's cotangent. -/
theorem v2 (c : Dev nD) : V m c main_v2 = halves (arg4 m c) := by
  simp only [V, List.flatten_cons, List.flatten_nil, List.append_nil, List.cons_append, List.nil_append, hostOps0]
  after_results
  rfl

/-- The call's weight. -/
theorem v3 (c : Dev nD) : V m c main_v3 = (truncf .bf16 (arg2 m c) bitsLt_bf16_f32 : FVec Ideal S1024x5632 .bf16) := by
  simp only [V, List.flatten_cons, List.flatten_nil, List.append_nil, List.cons_append, List.nil_append, hostOps0]
  after_results

/-- The first half, entry by entry. -/
theorem lo_at (a4 : FVec Ideal S8192x5632 .f32) (i : Fin 8192) (k : Fin 2816) :
    halves a4 (ix3 0 i k) = a4 (ix2 i ⟨k.val, by omega⟩) := by
  pointwise [halves]

/-- The second half, entry by entry. -/
theorem hi_at (a4 : FVec Ideal S8192x5632 .f32) (i : Fin 8192) (k : Fin 2816) :
    halves a4 (ix3 1 i k) = a4 (ix2 i ⟨2816 + k.val, by omega⟩) := by
  pointwise [halves]

/-- The blocks the windows read and write at each grid point. -/
theorem idx : ∀ t : Fin cfg0.N,
    win0_0.index t = ![0, t.val, 0] ∧ win0_1.index t = ![1, t.val, 0] ∧ win0_2.index t = ![0, 0]
    ∧ win0_3.index t = ![t.val, 0] ∧ win0_4.index t = ![t.val, 0] ∧ win0_5.index t = ![0, 0]
    ∧ win0_6.index t = ![t.val, 0] ∧ win0_7.index t = ![0, 0] :=
  (by decide +kernel : ∀ t : Fin grid0.N, _)

/-- The `i`-th row of a grid point. -/
abbrev row (t : Fin cfg0.N) (i : Fin 512) : Fin 8192 := ⟨512 * t.val + i.val, by have : t.val < 16 := t.isLt; omega⟩

/-- Where window 0's block lies in its array. -/
theorem a_emb (c : Dev nD) (X : (b : Ref sig .tc) → Buf (Elt Ideal) ((c : Thread nD τ).loc b)) (t : Fin cfg0.N) (i : Fin 512) (k : Fin 2816) :
    View.read (Elt Ideal) ((cfg0.win 0).blk t).view (X (Pipeline.arrRef spec0 0)) (ix3 0 i k) = X main_v2 (ix3 0 (row t i) k) := by
  blk_simp
  refine congrArg (show Vec Ideal S2x8192x2816 .bf16 from X main_v2) ?_
  blk_ext [idx t]
/-- Window 0's block, read in its array. -/
theorem a_at (c : Dev nD) (t : Fin cfg0.N) (i : Fin 512) (k : Fin 2816) : aB m c t (ix3 0 i k) = arg4 m c (ix2 (row t i) ⟨k.val, by omega⟩) := by
  exact (a_emb c (V m c) t i k).trans ((congrFun (v2 m c) _).trans (lo_at _ _ _))

/-- Where window 1's block lies in its array. -/
theorem b_emb (c : Dev nD) (X : (b : Ref sig .tc) → Buf (Elt Ideal) ((c : Thread nD τ).loc b)) (t : Fin cfg0.N) (i : Fin 512) (k : Fin 2816) :
    View.read (Elt Ideal) ((cfg0.win 1).blk t).view (X (Pipeline.arrRef spec0 1)) (ix3 0 i k) = X main_v2 (ix3 1 (row t i) k) := by
  blk_simp
  refine congrArg (show Vec Ideal S2x8192x2816 .bf16 from X main_v2) ?_
  blk_ext [idx t]
/-- Window 1's block, read in its array. -/
theorem b_at (c : Dev nD) (t : Fin cfg0.N) (i : Fin 512) (k : Fin 2816) : bB m c t (ix3 0 i k) = arg4 m c (ix2 (row t i) ⟨2816 + k.val, by omega⟩) := by
  exact (b_emb c (V m c) t i k).trans ((congrFun (v2 m c) _).trans (hi_at _ _ _))

/-- Where window 2's block lies in its array. -/
theorem w_emb (c : Dev nD) (X : (b : Ref sig .tc) → Buf (Elt Ideal) ((c : Thread nD τ).loc b)) (t : Fin cfg0.N) (d : Fin 1024) (k : Fin 5632) :
    View.read (Elt Ideal) ((cfg0.win 2).blk t).view (X (Pipeline.arrRef spec0 2)) (ix2 d k) = X main_v3 (ix2 d k) := by
  blk_simp
  refine congrArg (show Vec Ideal S1024x5632 .bf16 from X main_v3) ?_
  blk_ext [idx t]
/-- Window 2's block, read in its array. -/
theorem w_at (c : Dev nD) (t : Fin cfg0.N) (d : Fin 1024) (k : Fin 5632) : wB m c t (ix2 d k) = arg2 m c (ix2 d k) := by
  exact (w_emb c (V m c) t d k).trans (congrFun (v3 m c) _)

/-- Where window 3's block lies in its array. -/
theorem x_emb (c : Dev nD) (X : (b : Ref sig .tc) → Buf (Elt Ideal) ((c : Thread nD τ).loc b)) (t : Fin cfg0.N) (i : Fin 512) (d : Fin 1024) :
    View.read (Elt Ideal) ((cfg0.win 3).blk t).view (X (Pipeline.arrRef spec0 3)) (ix2 i d) = X main_arg0 (ix2 (row t i) d) := by
  blk_simp
  refine congrArg (show Vec Ideal S8192x1024 .f32 from X main_arg0) ?_
  blk_ext [idx t]
/-- Window 3's block, read in its array. -/
theorem x_at (c : Dev nD) (t : Fin cfg0.N) (i : Fin 512) (d : Fin 1024) : xB m c t (ix2 i d) = arg0 m c (ix2 (row t i) d) := by
  exact (x_emb c (V m c) t i d).trans (congrFun (V_main_arg0 m c) _)

/-- Where window 4's block lies in its array. -/
theorem r_emb (c : Dev nD) (X : (b : Ref sig .tc) → Buf (Elt Ideal) ((c : Thread nD τ).loc b)) (t : Fin cfg0.N) (i : Fin 512) (d : Fin 1024) :
    View.read (Elt Ideal) ((cfg0.win 4).blk t).view (X (Pipeline.arrRef spec0 4)) (ix2 i d) = X main_arg3 (ix2 (row t i) d) := by
  blk_simp
  refine congrArg (show Vec Ideal S8192x1024 .f32 from X main_arg3) ?_
  blk_ext [idx t]
/-- Window 4's block, read in its array. -/
theorem r_at (c : Dev nD) (t : Fin cfg0.N) (i : Fin 512) (d : Fin 1024) : rB m c t (ix2 i d) = arg3 m c (ix2 (row t i) d) := by
  exact (r_emb c (V m c) t i d).trans (congrFun (V_main_arg3 m c) _)

/-- Where window 5's block lies in its array. -/
theorem g_emb (c : Dev nD) (X : (b : Ref sig .tc) → Buf (Elt Ideal) ((c : Thread nD τ).loc b)) (t : Fin cfg0.N) (d : Fin 1024) :
    View.read (Elt Ideal) ((cfg0.win 5).blk t).view (X (Pipeline.arrRef spec0 5)) (ix2 0 d) = X main_arg1 (ix2 0 d) := by
  blk_simp
  refine congrArg (show Vec Ideal S1x1024 .f32 from X main_arg1) ?_
  blk_ext [idx t]
/-- Window 5's block, read in its array. -/
theorem g_at (c : Dev nD) (t : Fin cfg0.N) (d : Fin 1024) : gB m c t (ix2 0 d) = arg1 m c (ix2 0 d) := by
  exact (g_emb c (V m c) t d).trans (congrFun (V_main_arg1 m c) _)

/-- A sum over 5632 columns is the sum over its two halves. -/
theorem sum_halves (f : Fin 5632 → EReal) :
    ∑ k, f k = ∑ t : Fin 2816, f ⟨t.val, by omega⟩ + ∑ t : Fin 2816, f ⟨2816 + t.val, by omega⟩ := by
  have h := Fin.sum_univ_tiles 2 2816 (by norm_num) f
  rw [Fin.sum_univ_two] at h
  rw [h]
  have e : ∀ (n : ℕ) (hn : n < 5632) (n' : ℕ) (hn' : n' < 5632), n = n' → f ⟨n, hn⟩ = f ⟨n', hn'⟩ := by
    intro n hn n' hn' h'; subst h'; rfl
  refine Ideal.add_congr ?_ ?_
  all_goals exact Finset.sum_congr rfl fun t _ => e _ _ _ _ (by simp <;> omega)

/-- A row of the norm's input. -/
abbrev xRow (c : Dev nD) (i : Fin 8192) : Fin 1024 → EReal := fun e => arg0 m c (ix2 i e)
/-- A row of the cotangent of the norm's output. -/
abbrev yRow (c : Dev nD) (i : Fin 8192) : Fin 1024 → EReal := fun e => ∑ k : Fin 5632, arg4 m c (ix2 i k) * arg2 m c (ix2 e k)
/-- The gain's row. -/
abbrev gRow (c : Dev nD) : Fin 1024 → EReal := fun e => arg1 m c (ix2 0 e)

/-- A grid point's cotangent of the norm's output. -/
theorem hy_at (c : Dev nD) (t : Fin cfg0.N) (i : Fin 512) (d : Fin 1024) :
    hy (aB m c t) (bB m c t) (wB m c t) i d = yRow m c (row t i) d := by
  refine Eq.trans ?_ (sum_halves (fun k => arg4 m c (ix2 (row t i) k) * arg2 m c (ix2 d k))).symm
  unfold hy
  refine Ideal.add_congr (Finset.sum_congr rfl fun k _ => ?_) (Finset.sum_congr rfl fun k _ => ?_)
  · exact Ideal.mul_congr (a_at m c t i k) (w_at m c t d _)
  · exact Ideal.mul_congr (b_at m c t i k) (w_at m c t d _)

/-- A grid point's reciprocal root mean square. -/
theorem rs_at (c : Dev nD) (t : Fin cfg0.N) (i : Fin 512) : rs (xB m c t) i = Cert.Norm.rs (xRow m c (row t i)) := by
  unfold rs Cert.Norm.rs Cert.Norm.var
  have e : ∑ e : Fin 1024, xB m c t (ix2 i e) * xB m c t (ix2 i e) = ∑ e, xRow m c (row t i) e * xRow m c (row t i) e :=
    Finset.sum_congr rfl fun e _ => Ideal.mul_congr (x_at m c t i e) (x_at m c t i e)
  rw [e]

/-- A grid point's rows of the input's gradient. -/
theorem dx_at (c : Dev nD) (t : Fin cfg0.N) (i : Fin 512) (d : Fin 1024) :
    dx (aB m c t) (bB m c t) (wB m c t) (xB m c t) (rB m c t) (gB m c t) i d
      = Cert.Norm.closed (xRow m c (row t i)) (yRow m c (row t i)) (gRow m c) (arg3 m c (ix2 (row t i) d)) d := by
  unfold dx mean Cert.Norm.closed
  rw [rs_at, hy_at, g_at, x_at, r_at]
  have e : ∑ e : Fin 1024, hy (aB m c t) (bB m c t) (wB m c t) i e * gB m c t (ix2 0 e) * (xB m c t (ix2 i e) * Cert.Norm.rs (xRow m c (row t i)))
      = ∑ e, yRow m c (row t i) e * gRow m c e * (xRow m c (row t i) e * Cert.Norm.rs (xRow m c (row t i))) :=
    Finset.sum_congr rfl fun e _ => Ideal.mul_congr (Ideal.mul_congr (hy_at m c t i e) (g_at m c t e)) (Ideal.mul_congr (x_at m c t i e) rfl)
  rw [e]

/-- The call's gradient of the norm's input. -/
def DX (c : Dev nD) : Vec Ideal S8192x1024 .f32 := fun y =>
  Cert.Norm.closed (xRow m c (y 0)) (yRow m c (y 0)) (gRow m c) (arg3 m c (ix2 (y 0) (y 1))) (y 1)

/-- One row's share of the gain's gradient. -/
def gain (c : Dev nD) (d : Fin 1024) (i : Fin 8192) : EReal :=
  yRow m c i d * (xRow m c i d * Cert.Norm.rs (xRow m c i))

/-- The call's gradient of the gain. -/
def DG (c : Dev nD) : Vec Ideal S1x1024 .f32 := fun y => ∑ i : Fin 8192, gain m c (y 1) i

/-- A grid point's rows' share of the gain's gradient. -/
theorem dg_at (c : Dev nD) (t : Fin cfg0.N) (d : Fin 1024) :
    ∑ i : Fin 512, dg (aB m c t) (bB m c t) (wB m c t) (xB m c t) i d = ∑ i : Fin 512, gain m c d (row t i) := by
  refine Finset.sum_congr rfl fun i _ => ?_
  unfold dg gain
  rw [rs_at, hy_at, x_at]

/-- The contents after a point depend on the point's number only. -/
theorem outs_congr (c : Dev nD) (d : Fin 1024) (n n' : ℕ) (hn : n < cfg0.N) (hn' : n' < cfg0.N) (h : n = n') :
    (outsAt0 m c n hn).2 (ix2 0 d) = (outsAt0 m c n' hn').2 (ix2 0 d) := by
  subst h; rfl

/-- After a grid point the gain's gradient is the sum over the rows so far. -/
theorem dg_partial (c : Dev nD) (d : Fin 1024) : ∀ (b : ℕ) (hb : b < 16) (ht : b < cfg0.N),
    (outsAt0 m c b ht).2 (ix2 0 d) = ∑ s : Fin (b + 1), ∑ i : Fin 512, gain m c d ⟨512 * s.val + i.val, by omega⟩
  | 0, hb, ht => by
    have e := dg_first m c ⟨0, ht⟩ (by simp only) d
    rw [dg_at] at e
    refine e.trans ?_
    rw [Fin.sum_univ_one]
    exact Finset.sum_congr rfl fun i _ => congrArg (gain m c d) (Fin.ext (by simp only [row, Fin.val_zero]))
  | b + 1, hb, ht => by
    have e := dg_next m c ⟨b + 1, ht⟩ (by simp only; omega) d
    rw [dg_at] at e
    refine e.trans ?_
    refine Eq.trans ?_ (Fin.sum_univ_castSucc _).symm
    refine Ideal.add_congr ?_ ?_
    · exact (outs_congr m c d (b + 1 - 1) b _ (Nat.lt_of_succ_lt ht) (by omega)).trans
        (dg_partial c d b (by omega) (Nat.lt_of_succ_lt ht))
    · exact Finset.sum_congr rfl fun i _ => congrArg (gain m c d) (Fin.ext (by simp only [row, Fin.val_last]))

/-- A sum over 8192 rows is the sum over its sixteen blocks of 512 rows. -/
theorem sum_blocks (f : Fin 8192 → EReal) :
    ∑ j, f j = ∑ s : Fin 16, ∑ t : Fin 512, f ⟨512 * s.val + t.val, by omega⟩ := by
  rw [Fin.sum_univ_tiles 16 512 rfl f]
  refine Finset.sum_congr rfl fun s _ => Finset.sum_congr rfl fun t _ => congrArg f (Fin.ext ?_)
  simp only
  omega

/-- Where an input-gradient block lies in its array. -/
theorem dx_emb (t : Fin cfg0.N) (i : Fin 512) (d : Fin 1024) :
    (win0_6.blk t).view.emb (ix2 i d) = (ix2 (row t i) d : S8192x1024.Idx) := by
  blk_ext [idx t]

/-- The input-gradient array of the call. -/
theorem dx_final (c : Dev nD) : (dats m 0 c).arrAt 6 cfg0.N = DX m c := by
  refine (dats m 0 c).arrAt_eq_of_covers 6 _ (by decide +kernel) fun t hf y => ?_
  blk_simp
  rw [after0_6]
  idx_vars y
  refine (dx_block m c t y0 y1).trans (Eq.trans ?_ (congrArg (DX m c) (dx_emb t y0 y1)).symm)
  exact dx_at m c t y0 y1

/-- Where the gain-gradient block lies in its array. -/
theorem dg_emb (t : Fin cfg0.N) (d : Fin 1024) :
    (win0_7.blk t).view.emb (ix2 0 d) = (ix2 0 d : S1x1024.Idx) := by
  blk_ext [idx t]

/-- The gain-gradient array of the call. -/
theorem dg_final (c : Dev nD) : (dats m 0 c).arrAt 7 cfg0.N = DG m c := by
  refine (dats m 0 c).arrAt_eq_of_covers 7 _ (by decide +kernel) fun t hf y => ?_
  blk_simp
  rw [after0_7]
  idx_vars y
  have h15 : t.val = 15 := by
    have h := (flush0_7 t).mp hf
    have : t.val < 16 := t.isLt
    omega
  have z : y0 = 0 := Subsingleton.elim _ _
  subst z
  refine Eq.trans ?_ (congrArg (DG m c) (dg_emb t y1)).symm
  refine (outs_congr m c y1 t.val 15 t.isLt (by decide) h15).trans ?_
  refine (dg_partial m c y1 15 (by omega) (by decide)).trans ?_
  exact (sum_blocks (gain m c y1)).symm

end Cert.Kernel3Ideal.Final

end
-- ==== Proof.NormRef.lean ====
module

public import proofs.«01_k».proof.Proof.Gen.Reference3Ideal.Read
public import Idealize.ShloMosaic.Lib.Pointwise
public import proofs.«01_k».proof.Proof.NormMath

/-! The reference of the product with the RMS-norm backward, one array at a time. -/

@[expose] public section

set_option maxRecDepth 16384

noncomputable section

open Idealize.ShloMosaic Idealize.ShloMosaic.TcCoe Idealize.SL.Sem

namespace Cert.Reference3Ideal.Norm

open Cert.Reference3Ideal Cert.Reference3Ideal.Gen Cert.Reference3Ideal.Read Cert.Norm

variable (x0 : FVec Ideal S8192x1024 .f32) (x1 : FVec Ideal S1x1024 .f32) (x2 : FVec Ideal S1024x5632 .f32)
  (x3 : FVec Ideal S8192x1024 .f32) (x4 : FVec Ideal S8192x5632 .f32)

/-- A row's mean square plus the small number. -/
theorem var_at (i : Fin 8192) : val_main_v7 (F := Ideal) x0 (ix2 i 0) = var (fun e => x0 (ix2 i e)) := by
  unfold var
  pointwise [val_main_v7, val_main_v6, val_main_v5, val_main_v4, val_main_v3, val_main_v2, val_main_v1, val_main_cst, val_main_cst_0, val_main_cst_1]

/-- A row's reciprocal root mean square. -/
theorem rs_at (i : Fin 8192) : val_main_v8 (F := Ideal) x0 (ix2 i 0) = rs (fun e => x0 (ix2 i e)) := by
  rw [val_main_v8_apply, Ideal.hostUnary_rsqrt_def, var_at]
  exact Eq.refl _

/-- The cotangent of the norm's output. -/
theorem hy_at (i : Fin 8192) (d : Fin 1024) :
    val_main_v18 (F := Ideal) x2 x4 (ix2 i d) = ∑ k : Fin 5632, x4 (ix2 i k) * x2 (ix2 d k) := by
  pointwise [val_main_v18]

/-- The cotangent of the norm's output times the gain. -/
theorem scaled_at (i : Fin 8192) (d : Fin 1024) :
    val_main_v23 (F := Ideal) x1 x2 x4 (ix2 i d) = val_main_v18 (F := Ideal) x2 x4 (ix2 i d) * x1 (ix2 0 d) := by
  unfold val_main_v23 val_main_v22 val_main_v14 val_main_v0
  generalize val_main_v18 (F := Ideal) x2 x4 = Y0
  pointwise []

/-- The chain rule's coefficient of a row. -/
theorem coef_at (i : Fin 8192) (d : Fin 1024) :
    val_main_v35 (F := Ideal) x0 x1 x2 x4 (ix2 i d)
      = Ideal.div ((∑ e : Fin 1024, x0 (ix2 i e) * val_main_v23 (F := Ideal) x1 x2 x4 (ix2 i e))
          * (mhalf * Ideal.div (val_main_v8 (F := Ideal) x0 (ix2 i 0)) (val_main_v7 (F := Ideal) x0 (ix2 i 0)))) len := by
  unfold val_main_v35 val_main_v34 val_main_cst_7 val_main_v33 val_main_v32 val_main_cst_6 val_main_v31 val_main_v27 val_main_v26 val_main_cst_5 val_main_v25 val_main_v11 val_main_v10 val_main_cst_2 val_main_v9
  generalize val_main_v23 (F := Ideal) x1 x2 x4 = Y0
  generalize val_main_v8 (F := Ideal) x0 = Y1
  generalize val_main_v7 (F := Ideal) x0 = Y2
  pointwise []
  rw [Fin.sum_univ_one]

/-- The input's gradient. -/
theorem sum_at (i : Fin 8192) (d : Fin 1024) :
    val_main_v39 (F := Ideal) x0 x1 x2 x3 x4 (ix2 i d)
      = x3 (ix2 i d) + val_main_v23 (F := Ideal) x1 x2 x4 (ix2 i d) * val_main_v8 (F := Ideal) x0 (ix2 i 0)
        + x0 (ix2 i d) * val_main_v35 (F := Ideal) x0 x1 x2 x4 (ix2 i d)
        + val_main_v35 (F := Ideal) x0 x1 x2 x4 (ix2 i d) * x0 (ix2 i d) := by
  unfold val_main_v39 val_main_v38 val_main_v37 val_main_v36 val_main_v30 val_main_v29 val_main_v28
  generalize val_main_v23 (F := Ideal) x1 x2 x4 = Y0
  generalize val_main_v8 (F := Ideal) x0 = Y1
  generalize val_main_v35 (F := Ideal) x0 x1 x2 x4 = Y2
  pointwise []

/-- The input's gradient is the chain rule's sum. -/
theorem dx_at (i : Fin 8192) (d : Fin 1024) :
    val_main_v39 (F := Ideal) x0 x1 x2 x3 x4 (ix2 i d)
      = chain (fun e => x0 (ix2 i e)) (fun e => ∑ k : Fin 5632, x4 (ix2 i k) * x2 (ix2 e k)) (fun e => x1 (ix2 0 e)) (x3 (ix2 i d)) d := by
  unfold chain coef
  rw [sum_at, coef_at, rs_at, var_at, scaled_at, hy_at]
  have e : (∑ e : Fin 1024, x0 (ix2 i e) * val_main_v23 (F := Ideal) x1 x2 x4 (ix2 i e))
      = ∑ e : Fin 1024, x0 (ix2 i e) * ((∑ k : Fin 5632, x4 (ix2 i k) * x2 (ix2 e k)) * x1 (ix2 0 e)) :=
    Finset.sum_congr rfl fun e _ => by rw [scaled_at, hy_at]
  rw [e]

/-- The gain's gradient. -/
theorem dg_at (d : Fin 1024) :
    val_main_v40 (F := Ideal) x0 x2 x4 (ix2 0 d)
      = ∑ i : Fin 8192, x0 (ix2 i d) * val_main_v8 (F := Ideal) x0 (ix2 i 0) * val_main_v18 (F := Ideal) x2 x4 (ix2 i d) := by
  unfold val_main_v40 val_main_v24 val_main_cst_4 val_main_v21 val_main_v20 val_main_cst_3 val_main_v19 val_main_v13 val_main_v12
  generalize val_main_v18 (F := Ideal) x2 x4 = Y0
  generalize val_main_v8 (F := Ideal) x0 = Y1
  pointwise []
  rw [Fin.sum_univ_one]

/-- The gain's gradient is the rows' sum of cotangent times normalised row. -/
theorem gain_at (d : Fin 1024) :
    val_main_v40 (F := Ideal) x0 x2 x4 (ix2 0 d)
      = ∑ i : Fin 8192, (∑ k : Fin 5632, x4 (ix2 i k) * x2 (ix2 d k)) * (x0 (ix2 i d) * rs (fun e => x0 (ix2 i e))) := by
  rw [dg_at]
  exact Finset.sum_congr rfl fun i _ => by rw [rs_at, hy_at, mul_comm]

end Cert.Reference3Ideal.Norm
end
-- ==== Proof.NormValue.lean ====
module

public import proofs.«01_k».proof.Defs
public import proofs.«01_k».proof.Proof.NormFinal
public import proofs.«01_k».proof.Proof.NormRef
public import proofs.«01_k».proof.Proof.Gen.Kernel3Ideal.Value
public import proofs.«01_k».proof.Proof.Gen.Reference3Ideal.Run

/-! The call's gradients of the norm's input and gain are the reference's, on every input. -/

@[expose] public section

set_option maxRecDepth 16384

noncomputable section

open Idealize.ShloMosaic Idealize.ShloMosaic.TcCoe Idealize.SL.Sem

namespace Cert.Norm

open Cert.Kernel3Ideal Cert.Kernel3Ideal.Gen Cert.Kernel3Ideal.Final Cert.Reference3Ideal.Read

variable (m : (ℓ : Loc nD τ sig) → Buf (Elt Ideal) ℓ) (c : Dev nD)

/-- The input's gradients agree. -/
theorem dx : val_main_v39 (F := Ideal) (arg0 m c) (arg1 m c) (arg2 m c) (arg3 m c) (arg4 m c) = DX m c := by
  funext y
  idx_vars y
  refine (Cert.Reference3Ideal.Norm.dx_at _ _ _ _ _ y0 y1).trans ?_
  exact (closed_eq _ _ _ _ y1).symm

/-- The gain's gradients agree. -/
theorem dg : val_main_v40 (F := Ideal) (arg0 m c) (arg2 m c) (arg4 m c) = DG m c := by
  funext y
  idx_vars y
  have z : y0 = 0 := Subsingleton.elim _ _
  subst z
  exact Cert.Reference3Ideal.Norm.gain_at _ _ _ y1

/-- The value claim: the call's two arrays are the gradients of the residual stream and the gain. -/
theorem algebraic : Cert.algebraic_Kernel3Ideal_Reference3Ideal := by
  intro m g m' g' hpre hagree
  refine ⟨fun c => DX m c, fun c => DG m c, ?_, ?_⟩
  · refine (θ_run _ _ _).mono (fun r h c => ?_) (Cert.Kernel3Ideal.Value.run_blocks m g)
    obtain ⟨e0, e1, k⟩ := h c
    exact ⟨e0.trans (dx_final m c), e1.trans (dg_final m c), k⟩
  · refine (θ_run _ _ _).mono (fun r h c => ?_) (Cert.Reference3Ideal.Value.run (F := Ideal) m' g')
    obtain ⟨e0, e1, k⟩ := h c
    obtain ⟨k0, k1, k2, k3, k4⟩ := hagree c
    refine ⟨e0.trans ((val_main_v39_eq m' c).trans ?_), e1.trans ((val_main_v40_eq _ _ _).trans ?_), k⟩
    · rw [k0, k1, k2, k3, k4]
      exact dx m c
    · rw [k0, k2, k4]
      exact dg m c

end Cert.Norm
end
-- ==== Proof.WupBody.lean ====
module

public import proofs.«01_k».proof.Proof.WupFrame
public import Idealize.ShloMosaic.Lib.Pipeline.ValueKit
public import Idealize.ShloMosaic.Lib.Pointwise

/-! What one grid point of the accumulated product leaves in the accumulator and in its output block. -/

@[expose] public section

set_option maxRecDepth 16384

noncomputable section

open Idealize.ShloMosaic Idealize.ShloMosaic.TcCoe Idealize.SL.Sem

namespace Cert.Kernel4Ideal.Body

open Cert.Kernel4Ideal Cert.Kernel4Ideal.Gen Cert.Kernel4Ideal.Run

/-- A row the last store covers reads that store's payload. -/
theorem canon_hit (o : ℕ) (h) (p : (Rect.unit (s := S1024x1408) ![o, 0] ![256, 1408] h).shape.Idx → Elt Ideal .f32)
    (L : List (View.Piece (Elt Ideal) S1024x1408 .f32)) (i : Fin 1024) (r : Fin 256) (d : Fin 1408) (hi : i.val = o + r.val) :
    View.canon (Val := Elt Ideal) (s := S1024x1408) (e := .f32) (⟨Rect.unit (s := S1024x1408) ![o, 0] ![256, 1408] h, p⟩ :: L) (ix2 i d)
      = p (ix2 r d) := by
  have e : (ix2 i d : S1024x1408.Idx) = (Rect.unit (s := S1024x1408) ![o, 0] ![256, 1408] h).emb (ix2 r d) := by
    funext a
    apply Fin.ext
    rw [Rect.emb_apply]
    match a with
    | ⟨0, _⟩ => show i.val = o + 1 * r.val; omega
    | ⟨1, _⟩ => show d.val = 0 + 1 * d.val; omega
  rw [e]
  exact View.canon_cons_emb _ _ _ _

/-- A row the last store does not cover reads what the stores before left. -/
theorem canon_miss (o : ℕ) (h) (p : (Rect.unit (s := S1024x1408) ![o, 0] ![256, 1408] h).shape.Idx → Elt Ideal .f32)
    (L : List (View.Piece (Elt Ideal) S1024x1408 .f32)) (i : Fin 1024) (d : Fin 1408) (h1 : i.val < o ∨ o + 256 ≤ i.val) :
    View.canon (Val := Elt Ideal) (s := S1024x1408) (e := .f32) (⟨Rect.unit (s := S1024x1408) ![o, 0] ![256, 1408] h, p⟩ :: L) (ix2 i d)
      = View.canon (Val := Elt Ideal) (s := S1024x1408) (e := .f32) L (ix2 i d) := by
  refine View.canon_cons_of_not_mem _ _ fun hm => ?_
  rw [Rect.mem_set_unit] at hm
  have h0 := hm 0
  have e1 : ((ix2 i d : S1024x1408.Idx) 0 : ℕ) = i.val := rfl
  have e2 : (![o, 0] : Fin 2 → ℕ) 0 = o := rfl
  have e3 : (![256, 1408] : Fin 2 → ℕ) 0 = 256 := rfl
  rw [e1, e2, e3] at h0
  omega

/-- The share of one grid point's 2048 rows in an entry of the product. -/
def share (x : Vec Ideal S2048x1024 .bf16) (y : Vec Ideal S1x2048x1408 .bf16) (i : Fin 1024) (d : Fin 1408) : EReal :=
  ∑ k : Fin 2048, x (ix2 k i) * y (ix3 0 k d)

/-- The columns of the first operand that a store's rows come from. -/
theorem ld_x (X : Vec Ideal S2048x1024 .bf16) (o : ℕ) (h) (k : Fin 2048) (i : Fin 1024) (r : Fin 256) (hi : i.val = o + r.val) :
    View.ld X (Rect.unit (s := S2048x1024) ![0, o] ![2048, 256] h) (ix2 k r) = X (ix2 k i) := by
  refine View.ld_unit_apply_of X _ _ _ _ _ fun a => ?_
  match a with
  | ⟨0, _⟩ => show k.val = 0 + k.val; omega
  | ⟨1, _⟩ => show i.val = o + r.val; omega

/-- The rows of the accumulator that a store replaces. -/
theorem ld_z (X : Vec Ideal S1024x1408 .f32) (o : ℕ) (h) (i : Fin 1024) (r : Fin 256) (d : Fin 1408) (hi : i.val = o + r.val) :
    View.ld X (Rect.unit (s := S1024x1408) ![o, 0] ![256, 1408] h) (ix2 r d) = X (ix2 i d) := by
  refine View.ld_unit_apply_of X _ _ _ _ _ fun a => ?_
  match a with
  | ⟨0, _⟩ => show i.val = o + r.val; omega
  | ⟨1, _⟩ => show d.val = 0 + d.val; omega

/-- The product of 256 columns, entry by entry. -/
theorem prod_at (X : Vec Ideal S2048x256 .bf16) (Y : Vec Ideal S1x2048x1408 .bf16) (h h') (r : Fin 256) (d : Fin 1408) :
    matmul (F := Ideal) (φ₁ := .bf16) (φ₂ := .bf16) dot_S2048x256_S2048x1408_S256x1408_0_0_1_1_n_n none (shapeCast S2048x256 X h) (shapeCast S2048x1408 Y h') (constant S256x1408 .f32 0#32) (ix2 r d)
      = ∑ k : Fin 2048, X (ix2 k r) * Y (ix3 0 k d) := by
  pointwise []

/-- The choice a store's rows make, entry by entry. -/
theorem choice_at (w : BitVec 1) (M Z : FVec Ideal S256x1408 .f32) (h) (j : S256x1408.Idx) :
    shapeCast S256x1408 (Scalar.select w M (addf Z M)) h j = Scalar.select w (M j) (Z j + M j) := by
  idx_vars j
  by_cases e : w = 1#1
  · rw [pick _ e, pick _ e]
    pointwise []
  · have n : ∀ {α : Type} (p q : α), Scalar.select w p q = q := fun p q => if_neg e
    rw [n, n]
    pointwise []

/-- An entry one store leaves in the accumulator. -/
theorem stored_at (w : BitVec 1) (x : Vec Ideal S2048x1024 .bf16) (y : Vec Ideal S1x2048x1408 .bf16) (z : Vec Ideal S1024x1408 .f32)
    (o : ℕ) (h1 h2 h3 h4 h5) (i : Fin 1024) (r : Fin 256) (d : Fin 1408) (hi : i.val = o + r.val) :
    shapeCast S256x1408 (Scalar.select w
        (matmul (F := Ideal) (φ₁ := .bf16) (φ₂ := .bf16) dot_S2048x256_S2048x1408_S256x1408_0_0_1_1_n_n none
          (shapeCast S2048x256 (View.ld x (Rect.unit (s := S2048x1024) ![0, o] ![2048, 256] h1)) h2) (shapeCast S2048x1408 y h3) (constant S256x1408 .f32 0#32))
        (addf (View.ld z (Rect.unit (s := S1024x1408) ![o, 0] ![256, 1408] h4))
          (matmul (F := Ideal) (φ₁ := .bf16) (φ₂ := .bf16) dot_S2048x256_S2048x1408_S256x1408_0_0_1_1_n_n none
            (shapeCast S2048x256 (View.ld x (Rect.unit (s := S2048x1024) ![0, o] ![2048, 256] h1)) h2) (shapeCast S2048x1408 y h3) (constant S256x1408 .f32 0#32)))) h5 (ix2 r d)
      = Scalar.select w (share x y i d) (z (ix2 i d) + share x y i d) := by
  have e : ∑ k : Fin 2048, View.ld x (Rect.unit (s := S2048x1024) ![0, o] ![2048, 256] h1) (ix2 k r) * y (ix3 0 k d) = share x y i d :=
    Finset.sum_congr rfl fun k _ => Ideal.mul_congr (ld_x x o h1 k i r hi) rfl
  refine (choice_at w _ _ h5 (ix2 r d)).trans ?_
  rw [prod_at, e, ld_z z o h4 i r d hi]

/-- The four row pieces. -/
theorem piece_cases (i : Fin 1024) : ∃ r : Fin 256, i.val = 0 + r.val ∨ i.val = 256 + r.val ∨ i.val = 512 + r.val ∨ i.val = 768 + r.val :=
  ⟨⟨i.val % 256, by omega⟩, by have := i.isLt; simp only; omega⟩

section Blocks

variable (c : Dev nD) (t : Fin cfg0.N) (x : Vec Ideal S2048x1024 .bf16) (y : Vec Ideal S1x2048x1408 .bf16) (z : Vec Ideal S1024x1408 .f32)

/-- Whether a point is its block's first. -/
abbrev first : BitVec 1 := Scalar.cmpi .eq (BitVec.ofNat 32 (grid0.coords t 2).val) 0#32

/-- The accumulator reads as what it was given. -/
theorem held_read : View.read (Elt Ideal) (View.whole cc0_scratch0) (sumS_whole.unread z) = z := sumS_whole.read_unread z

/-- The accumulator after a point that is not the last. -/
theorem mid_at (hl) (i : Fin 1024) (d : Fin 1408) :
    sumMid c t x y z hl (ix2 i d) = Scalar.select (first t) (share x y i d) (z (ix2 i d) + share x y i d) := by
  unfold sumMid
  frame_out
  rw [held_read]
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

/-- The accumulator seen as a block of the output. -/
theorem as_block (Z : Vec Ideal S1024x1408 .f32) (h') (i : Fin 1024) (d : Fin 1408) :
    shapeCast S1x1024x1408 Z h' (ix3 0 i d) = Z (ix2 i d) := by
  pointwise []

/-- The accumulator read back whole. -/
theorem whole_at (Z : Vec Ideal S1024x1408 .f32) (h) (i : Fin 1024) (d : Fin 1408) :
    View.ld Z (Rect.unit (s := S1024x1408) ![0, 0] ![1024, 1408] h) (ix2 i d) = Z (ix2 i d) := by
  refine View.ld_unit_apply_of Z _ _ _ _ _ fun a => ?_
  match a with
  | ⟨0, _⟩ => show i.val = 0 + i.val; omega
  | ⟨1, _⟩ => show d.val = 0 + d.val; omega

/-- The output's block after a last point. -/
theorem last_at (hl) (i : Fin 1024) (d : Fin 1408) :
    outLast c t x y z hl (ix3 0 i d) = Scalar.select (first t) (share x y i d) (z (ix2 i d) + share x y i d) := by
  unfold outLast
  frame_out
  rw [held_read, View.readCov_eq_canon']
  refine (as_block _ _ i d).trans ((whole_at _ _ i d).trans ?_)
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

end Blocks

end Cert.Kernel4Ideal.Body

end
-- ==== Proof.WupFinal.lean ====
module

public import proofs.«01_k».proof.Proof.WupBody

/-! The result array of the accumulated product, as a function of the program's arguments. -/

@[expose] public section

set_option maxRecDepth 16384

noncomputable section

open Idealize.ShloMosaic Idealize.ShloMosaic.TcCoe Idealize.SL.Sem

namespace Cert.Kernel4Ideal.Final

open Cert.Kernel4Ideal Cert.Kernel4Ideal.Gen Cert.Kernel4Ideal.Run Cert.Kernel4Ideal.Body

variable (m : (ℓ : Loc nD τ sig) → Buf (Elt Ideal) ℓ)

/-- The product's left factor in the forward pass. -/
abbrev arg0 (c : Dev nD) : FVec Ideal S8192x1024 .f32 := m ((c : Thread nD τ).loc main_arg0)
/-- The product's cotangent. -/
abbrev arg1 (c : Dev nD) : FVec Ideal S8192x5632 .f32 := m ((c : Thread nD τ).loc main_arg1)

/-- The two halves of the cotangent's columns, one above the other. -/
def halves (a : FVec Ideal S8192x5632 .f32) : FVec Ideal S2x8192x2816 .bf16 :=
  truncf .bf16 (transpose S2x8192x2816 [1, 0, 2] (shapeCast S8192x2x2816 a shapeCasts_S8192x5632_S8192x2x2816)
    transposes_S8192x2x2816_S2x8192x2816_1_0_2) bitsLt_bf16_f32

/-- The call's cotangent. -/
theorem v2 (c : Dev nD) : V m c main_v2 = halves (arg1 m c) := by
  simp only [V, List.flatten_cons, List.flatten_nil, List.append_nil, List.cons_append, List.nil_append, hostOps0]
  after_results
  rfl

/-- The call's left factor. -/
theorem v3 (c : Dev nD) : V m c main_v3 = (truncf .bf16 (arg0 m c) bitsLt_bf16_f32 : FVec Ideal S8192x1024 .bf16) := by
  simp only [V, List.flatten_cons, List.flatten_nil, List.append_nil, List.cons_append, List.nil_append, hostOps0]
  after_results

/-- The halves, entry by entry. -/
theorem halves_at (a : FVec Ideal S8192x5632 .f32) (p : Fin 2) (i : Fin 8192) (k : Fin 2816) :
    halves a (ix3 p i k) = a (ix2 i ⟨2816 * p.val + k.val, by omega⟩) := by
  match p with
  | ⟨0, _⟩ =>
    refine Eq.trans (b := a (ix2 i ⟨k.val, by omega⟩)) ?_ (congrArg (fun q => a (ix2 i q)) (Fin.ext (by simp only; omega)))
    pointwise [halves]
  | ⟨1, _⟩ =>
    refine Eq.trans (b := a (ix2 i ⟨2816 + k.val, by omega⟩)) ?_ (congrArg (fun q => a (ix2 i q)) (Fin.ext (by simp only <;> omega)))
    pointwise [halves]

/-- The blocks the windows read and write at each grid point. -/
theorem idx : ∀ t : Fin cfg0.N,
    win0_0.index t = ![t.val % 4, 0] ∧ win0_1.index t = ![t.val / 8, t.val % 4, t.val / 4 % 2] ∧ win0_2.index t = ![t.val / 4, 0, 0] :=
  (by decide +kernel : ∀ t : Fin grid0.N, _)

/-- The `k`-th row of a grid point. -/
abbrev row (t : Fin cfg0.N) (k : Fin 2048) : Fin 8192 := ⟨2048 * (t.val % 4) + k.val, by omega⟩
/-- The `d`-th column of a grid point. -/
abbrev col (t : Fin cfg0.N) (d : Fin 1408) : Fin 5632 := ⟨1408 * (t.val / 4) + d.val, by have : t.val < 16 := t.isLt; omega⟩

/-- Where the first operand's block lies in its array. -/
theorem a_emb (c : Dev nD) (X : (b : Ref sig .tc) → Buf (Elt Ideal) ((c : Thread nD τ).loc b)) (t : Fin cfg0.N) (k : Fin 2048) (i : Fin 1024) :
    View.read (Elt Ideal) ((cfg0.win 0).blk t).view (X (Pipeline.arrRef spec0 0)) (ix2 k i) = X main_v3 (ix2 (row t k) i) := by
  blk_simp
  refine congrArg (show Vec Ideal S8192x1024 .bf16 from X main_v3) ?_
  blk_ext [idx t]
/-- The first operand's block, read in its array. -/
theorem a_at (c : Dev nD) (t : Fin cfg0.N) (k : Fin 2048) (i : Fin 1024) :
    (show Vec Ideal S2048x1024 .bf16 from iblk m c 0 t) (ix2 k i) = arg0 m c (ix2 (row t k) i) :=
  (a_emb c (V m c) t k i).trans (congrFun (v3 m c) _)

/-- Where the second operand's block lies in its array. -/
theorem b_emb (c : Dev nD) (X : (b : Ref sig .tc) → Buf (Elt Ideal) ((c : Thread nD τ).loc b)) (t : Fin cfg0.N) (k : Fin 2048) (d : Fin 1408) :
    View.read (Elt Ideal) ((cfg0.win 1).blk t).view (X (Pipeline.arrRef spec0 1)) (ix3 0 k d)
      = X main_v2 (ix3 ⟨t.val / 8, by have : t.val < 16 := t.isLt; omega⟩ (row t k) ⟨1408 * (t.val / 4 % 2) + d.val, by omega⟩) := by
  blk_simp
  refine congrArg (show Vec Ideal S2x8192x2816 .bf16 from X main_v2) ?_
  blk_ext [idx t]
/-- The second operand's block, read in its array. -/
theorem b_at (c : Dev nD) (t : Fin cfg0.N) (k : Fin 2048) (d : Fin 1408) :
    (show Vec Ideal S1x2048x1408 .bf16 from iblk m c 1 t) (ix3 0 k d) = arg1 m c (ix2 (row t k) (col t d)) := by
  refine (b_emb c (V m c) t k d).trans ((congrFun (v2 m c) _).trans ((halves_at _ _ _ _).trans ?_))
  exact congrArg (fun q => arg1 m c (ix2 (row t k) q)) (Fin.ext (by simp only; omega))

/-- One row's share of an entry of the product. -/
def term (c : Dev nD) (i : Fin 1024) (e : Fin 5632) (r : Fin 8192) : EReal := arg0 m c (ix2 r i) * arg1 m c (ix2 r e)

/-- The share of a grid point's rows in an entry of the product. -/
theorem share_at (c : Dev nD) (t : Fin cfg0.N) (i : Fin 1024) (d : Fin 1408) :
    share (iblk m c 0 t) (iblk m c 1 t) i d = ∑ k : Fin 2048, term m c i (col t d) (row t k) :=
  Finset.sum_congr rfl fun k _ => Ideal.mul_congr (a_at m c t k i) (b_at m c t k d)

/-- The share of one quarter of the rows in an entry of the product. -/
def quarter (c : Dev nD) (i : Fin 1024) (e : Fin 5632) (s : ℕ) : EReal :=
  ∑ k : Fin 2048, term m c i e ⟨2048 * (s % 4) + k.val, by omega⟩

/-- The share of a grid point's rows is its quarter's. -/
theorem share_eq (c : Dev nD) (t : Fin cfg0.N) (i : Fin 1024) (d : Fin 1408) (b k : ℕ) (hb : b < 4) (hk : k < 4) (ht : t.val = 4 * b + k) :
    share (iblk m c 0 t) (iblk m c 1 t) i d = quarter m c i ⟨1408 * b + d.val, by omega⟩ k := by
  rw [share_at]
  unfold quarter
  have e : col t d = ⟨1408 * b + d.val, by omega⟩ := Fin.ext (by simp only; omega)
  rw [e]
  exact Finset.sum_congr rfl fun k' _ => congrArg (term m c i _) (Fin.ext (by simp only; omega))

/-- A later point of a block is not its first. -/
theorem later_word : ∀ t : Fin cfg0.N, t.val % 4 ≠ 0 → ¬first t = 1#1 := by decide +kernel

/-- A choice whose condition is not one takes its second value. -/
theorem pass {α : Type} (w : BitVec 1) (h : ¬w = 1#1) (p q : α) : Scalar.select w p q = q := if_neg h

/-- Within a block the accumulator holds the sum of the quarters so far. -/
theorem acc_partial (c : Dev nD) (i : Fin 1024) (d : Fin 1408) (b : ℕ) (hb : b < 4) : ∀ k : ℕ, k < 3 →
    acc m c (4 * b + k + 1) (ix2 i d) = ∑ s : Fin (k + 1), quarter m c i ⟨1408 * b + d.val, by omega⟩ s.val
  | 0, _ => by
    have hN : 4 * b + 0 < cfg0.N := (by omega : 4 * b + 0 < 16)
    have hl : ¬isLast (grid0.coords ⟨4 * b + 0, hN⟩) := fun h => by
      have := (isLast_iff ⟨4 * b + 0, hN⟩).mp h
      simp only at this
      omega
    refine (congrFun (acc_succ m c ⟨4 * b + 0, hN⟩) _).trans ?_
    rw [next, dif_neg hl]
    refine (mid_at c _ _ _ _ hl i d).trans ?_
    rw [pick _ (first_word _ (by simp only; omega)), share_eq m c _ i d b 0 hb (by omega) rfl, Fin.sum_univ_one]
    rfl
  | k + 1, hk => by
    have hN : 4 * b + (k + 1) < cfg0.N := (by omega : 4 * b + (k + 1) < 16)
    have hl : ¬isLast (grid0.coords ⟨4 * b + (k + 1), hN⟩) := fun h => by
      have := (isLast_iff ⟨4 * b + (k + 1), hN⟩).mp h
      simp only at this
      omega
    refine (congrFun (acc_succ m c ⟨4 * b + (k + 1), hN⟩) _).trans ?_
    rw [next, dif_neg hl]
    refine (mid_at c _ _ _ _ hl i d).trans ?_
    rw [pass _ (later_word _ (by simp only; omega)), share_eq m c _ i d b (k + 1) hb (by omega) rfl]
    refine Eq.trans ?_ (Fin.sum_univ_castSucc _).symm
    exact Ideal.add_congr (acc_partial c i d b hb k (by omega)) rfl

/-- A sum over 8192 rows is the sum over its four quarters. -/
theorem sum_quarters (f : Fin 8192 → EReal) :
    ∑ j, f j = ∑ s : Fin 4, ∑ k : Fin 2048, f ⟨2048 * (s.val % 4) + k.val, by omega⟩ := by
  rw [Fin.sum_univ_tiles 4 2048 rfl f]
  refine Finset.sum_congr rfl fun s _ => Finset.sum_congr rfl fun t _ => congrArg f (Fin.ext ?_)
  simp only
  omega

/-- The call's result: the gradient of the weight, its four blocks of columns one above the other. -/
def DW (c : Dev nD) : Vec Ideal S4x1024x1408 .f32 := fun y =>
  ∑ r : Fin 8192, term m c (y 1) ⟨1408 * (y 0).val + (y 2).val, by
    have h0 : (y 0).val < 4 := (y 0).isLt
    have h2 : (y 2).val < 1408 := (y 2).isLt
    omega⟩ r

/-- A block's last point leaves the sum over all the rows. -/
theorem out_at (c : Dev nD) (t : Fin cfg0.N) (h3 : t.val % 4 = 3) (i : Fin 1024) (d : Fin 1408) :
    out m c t (ix3 0 i d) = ∑ r : Fin 8192, term m c i (col t d) r := by
  have hl := (isLast_iff t).mpr h3
  have ht : t.val < 16 := t.isLt
  rw [out, dif_pos hl]
  refine (last_at c t _ _ _ hl i d).trans ?_
  have e : t.val = 4 * (t.val / 4) + 2 + 1 := by omega
  rw [pass _ (later_word _ (by omega)), share_eq m c t i d (t.val / 4) 3 (by omega) (by omega) (by omega),
    congrFun (congrArg (acc m c) e) _, acc_partial m c i d (t.val / 4) (by omega) 2 (by omega), sum_quarters]
  exact (Fin.sum_univ_castSucc (n := 3) (fun s => quarter m c i (col t d) s.val)).symm

/-- Where an output block lies in its array. -/
theorem o_emb (t : Fin cfg0.N) (i : Fin 1024) (d : Fin 1408) :
    (win0_2.blk t).view.emb (ix3 0 i d) = (ix3 ⟨t.val / 4, by have : t.val < 16 := t.isLt; omega⟩ i d : S4x1024x1408.Idx) := by
  blk_ext [idx t]

/-- The result array of the call. -/
theorem final (c : Dev nD) : (data m 0 c).arrAt 2 cfg0.N = DW m c := by
  refine (data m 0 c).arrAt_eq_of_covers 2 _ (by decide +kernel) fun t hf y => ?_
  blk_simp
  rw [after_o]
  idx_vars y
  have h3 : t.val % 4 = 3 := (flush0_2 t).mp hf
  have z : y0 = 0 := Subsingleton.elim _ _
  subst z
  refine (out_at m c t h3 y1 y2).trans (Eq.trans ?_ (congrArg (DW m c) (o_emb t y1 y2)).symm)
  rfl

end Cert.Kernel4Ideal.Final

end
-- ==== Proof.WupValue.lean ====
module

public import proofs.«01_k».proof.Defs
public import proofs.«01_k».proof.Proof.WupFinal
public import proofs.«01_k».proof.Proof.Gen.Reference4Ideal.Read
public import proofs.«01_k».proof.Proof.Gen.Reference4Ideal.Run

/-! The call's gradient of the weight is the reference's, on every input. -/

@[expose] public section

set_option maxRecDepth 16384

noncomputable section

open Idealize.ShloMosaic Idealize.ShloMosaic.TcCoe Idealize.SL.Sem

namespace Cert.Wup

open Cert.Kernel4Ideal Cert.Kernel4Ideal.Gen Cert.Kernel4Ideal.Final Cert.Reference4Ideal.Read

/-- The reference's gradient of the weight, entry by entry. -/
theorem grad_at (x0 : FVec Ideal S8192x1024 .f32) (x1 : FVec Ideal S8192x5632 .f32) (i : Fin 1024) (e : Fin 5632) :
    val_main_v3 (F := Ideal) x0 x1 (ix2 i e) = ∑ r : Fin 8192, x1 (ix2 r e) * x0 (ix2 r i) := by
  pointwise [val_main_v3, val_main_v2]

/-- The reference's four blocks of columns, entry by entry. -/
theorem blocks_at (x0 : FVec Ideal S8192x1024 .f32) (x1 : FVec Ideal S8192x5632 .f32) (b : Fin 4) (i : Fin 1024) (d : Fin 1408) :
    val_main_v5 (F := Ideal) x0 x1 (ix3 b i d) = ∑ r : Fin 8192, x1 (ix2 r ⟨1408 * b.val + d.val, by omega⟩) * x0 (ix2 r i) := by
  rw [val_main_v5_apply, val_main_v4_apply, ← grad_at]
  refine congrArg (val_main_v3 (F := Ideal) x0 x1) (funext fun a => Fin.ext ?_)
  match a with
  | ⟨0, _⟩ => show ((i.val * 4 + b.val) * 1408 + d.val) / 5632 = i.val; omega
  | ⟨1, _⟩ => show ((i.val * 4 + b.val) * 1408 + d.val) % 5632 = 1408 * b.val + d.val; omega

/-- The gradients agree. -/
theorem dw (m : (ℓ : Loc nD τ sig) → Buf (Elt Ideal) ℓ) (c : Dev nD) : val_main_v5 (F := Ideal) (arg0 m c) (arg1 m c) = DW m c := by
  funext y
  idx_vars y
  refine (blocks_at _ _ y0 y1 y2).trans ?_
  exact Finset.sum_congr rfl fun r _ => mul_comm _ _

/-- The value claim: the call's array is the gradient of the weight. -/
theorem algebraic : Cert.algebraic_Kernel4Ideal_Reference4Ideal := by
  intro m g m' g' hpre hagree
  refine ⟨fun c => DW m c, ?_, ?_⟩
  · refine (θ_run _ _ _).mono (fun r h c => ?_) (Cert.Kernel4Ideal.Run.run_out m g)
    obtain ⟨e0, k⟩ := h c
    exact ⟨e0.trans (final m c), k⟩
  · refine (θ_run _ _ _).mono (fun r h c => ?_) (Cert.Reference4Ideal.Value.run (F := Ideal) m' g')
    obtain ⟨e0, k⟩ := h c
    obtain ⟨k0, k1⟩ := hagree c
    refine ⟨e0.trans ((val_main_v5_eq _ _).trans ?_), k⟩
    rw [k0, k1]
    exact dw m c

end Cert.Wup
end
-- ==== Proof.WdownBody.lean ====
module

public import proofs.«01_k».proof.Proof.WdownFrame

/-! What one grid point of the call `mm_d_wdown` leaves in the accumulator and in its output block. -/

@[expose] public section

set_option maxRecDepth 16384

noncomputable section

open Idealize.ShloMosaic Idealize.ShloMosaic.TcCoe Idealize.SL.Sem

namespace Cert.Kernel5Ideal.Body

open Cert.Kernel5Ideal Cert.Kernel5Ideal.Gen Cert.Kernel5Ideal.Run Cert.Grad

/-- The share of one grid point's 2048 rows in an entry of the product. -/
def share (x : Vec Ideal S2048x1408 .bf16) (y : Vec Ideal S2048x1024 .f32) (i : Fin 1408) (d : Fin 1024) : EReal :=
  ∑ k : Fin 2048, x (ix2 k i) * y (ix2 k d)

/-- The product of 256 columns, entry by entry. -/
theorem prod_at (X : Vec Ideal S2048x256 .bf16) (Y : Vec Ideal S2048x1024 .f32) (h h') (r : Fin 256) (d : Fin 1024) :
    matmul (F := Ideal) (φ₁ := .bf16) (φ₂ := .bf16) dot_S2048x256_S2048x1024_S256x1024_0_0_1_1_n_n none (shapeCast S2048x256 X h) (truncf (φ := .f32) .bf16 Y h') (constant S256x1024 .f32 0#32) (ix2 r d)
      = ∑ k : Fin 2048, X (ix2 k r) * Y (ix2 k d) := by
  pointwise []

/-- The choice that 256 rows of a store make, entry by entry. -/
theorem choice_at (w : BitVec 1) (M Z : FVec Ideal S256x1024 .f32) (h) (j : S256x1024.Idx) :
    shapeCast S256x1024 (Scalar.select w M (addf Z M)) h j = Scalar.select w (M j) (Z j + M j) := by
  idx_vars j
  by_cases e : w = 1#1
  · rw [pick _ e, pick _ e]
    pointwise []
  · rw [pass _ e, pass _ e]
    pointwise []

/-- An entry one store of 256 rows leaves in the accumulator. -/
theorem stored_at (w : BitVec 1) (x : Vec Ideal S2048x1408 .bf16) (y : Vec Ideal S2048x1024 .f32) (z : Vec Ideal S1408x1024 .f32)
    (o : ℕ) (h1 h2 h3 h4 h5) (i : Fin 1408) (r : Fin 256) (d : Fin 1024) (hi : i.val = o + r.val) :
    shapeCast S256x1024 (Scalar.select w
        (matmul (F := Ideal) (φ₁ := .bf16) (φ₂ := .bf16) dot_S2048x256_S2048x1024_S256x1024_0_0_1_1_n_n none (shapeCast S2048x256 (View.ld x (Rect.unit (s := S2048x1408) ![0, o] ![2048, 256] h1)) h2) (truncf (φ := .f32) .bf16 y h3) (constant S256x1024 .f32 0#32))
        (addf (View.ld z (Rect.unit (s := S1408x1024) ![o, 0] ![256, 1024] h4))
          (matmul (F := Ideal) (φ₁ := .bf16) (φ₂ := .bf16) dot_S2048x256_S2048x1024_S256x1024_0_0_1_1_n_n none (shapeCast S2048x256 (View.ld x (Rect.unit (s := S2048x1408) ![0, o] ![2048, 256] h1)) h2) (truncf (φ := .f32) .bf16 y h3) (constant S256x1024 .f32 0#32)))) h5 (ix2 r d)
      = Scalar.select w (share x y i d) (z (ix2 i d) + share x y i d) := by
  have e : ∑ k : Fin 2048, View.ld x (Rect.unit (s := S2048x1408) ![0, o] ![2048, 256] h1) (ix2 k r) * y (ix2 k d) = share x y i d :=
    Finset.sum_congr rfl fun k _ => Ideal.mul_congr (ld_x x o h1 k i r hi) rfl
  refine (choice_at w _ _ h5 (ix2 r d)).trans ?_
  rw [prod_at, e, ld_z z o h4 i r d hi]

/-- The product of 128 columns, entry by entry. -/
theorem prod_at_last (X : Vec Ideal S2048x128 .bf16) (Y : Vec Ideal S2048x1024 .f32) (h h') (r : Fin 128) (d : Fin 1024) :
    matmul (F := Ideal) (φ₁ := .bf16) (φ₂ := .bf16) dot_S2048x128_S2048x1024_S128x1024_0_0_1_1_n_n none (shapeCast S2048x128 X h) (truncf (φ := .f32) .bf16 Y h') (constant S128x1024 .f32 0#32) (ix2 r d)
      = ∑ k : Fin 2048, X (ix2 k r) * Y (ix2 k d) := by
  pointwise []

/-- The choice that 128 rows of a store make, entry by entry. -/
theorem choice_at_last (w : BitVec 1) (M Z : FVec Ideal S128x1024 .f32) (h) (j : S128x1024.Idx) :
    shapeCast S128x1024 (Scalar.select w M (addf Z M)) h j = Scalar.select w (M j) (Z j + M j) := by
  idx_vars j
  by_cases e : w = 1#1
  · rw [pick _ e, pick _ e]
    pointwise []
  · rw [pass _ e, pass _ e]
    pointwise []

/-- An entry one store of 128 rows leaves in the accumulator. -/
theorem stored_at_last (w : BitVec 1) (x : Vec Ideal S2048x1408 .bf16) (y : Vec Ideal S2048x1024 .f32) (z : Vec Ideal S1408x1024 .f32)
    (o : ℕ) (h1 h2 h3 h4 h5) (i : Fin 1408) (r : Fin 128) (d : Fin 1024) (hi : i.val = o + r.val) :
    shapeCast S128x1024 (Scalar.select w
        (matmul (F := Ideal) (φ₁ := .bf16) (φ₂ := .bf16) dot_S2048x128_S2048x1024_S128x1024_0_0_1_1_n_n none (shapeCast S2048x128 (View.ld x (Rect.unit (s := S2048x1408) ![0, o] ![2048, 128] h1)) h2) (truncf (φ := .f32) .bf16 y h3) (constant S128x1024 .f32 0#32))
        (addf (View.ld z (Rect.unit (s := S1408x1024) ![o, 0] ![128, 1024] h4))
          (matmul (F := Ideal) (φ₁ := .bf16) (φ₂ := .bf16) dot_S2048x128_S2048x1024_S128x1024_0_0_1_1_n_n none (shapeCast S2048x128 (View.ld x (Rect.unit (s := S2048x1408) ![0, o] ![2048, 128] h1)) h2) (truncf (φ := .f32) .bf16 y h3) (constant S128x1024 .f32 0#32)))) h5 (ix2 r d)
      = Scalar.select w (share x y i d) (z (ix2 i d) + share x y i d) := by
  have e : ∑ k : Fin 2048, View.ld x (Rect.unit (s := S2048x1408) ![0, o] ![2048, 128] h1) (ix2 k r) * y (ix2 k d) = share x y i d :=
    Finset.sum_congr rfl fun k _ => Ideal.mul_congr (ld_x x o h1 k i r hi) rfl
  refine (choice_at_last w _ _ h5 (ix2 r d)).trans ?_
  rw [prod_at_last, e, ld_z z o h4 i r d hi]

/-- The row pieces. -/
theorem piece_cases (i : Fin 1408) : (∃ r : Fin 256, i.val = 0 + r.val ∨ i.val = 256 + r.val ∨ i.val = 512 + r.val ∨ i.val = 768 + r.val ∨ i.val = 1024 + r.val) ∨ ∃ r : Fin 128, i.val = 1280 + r.val := by
  by_cases h : i.val < 1280
  · exact .inl ⟨⟨i.val % 256, by omega⟩, by simp only; omega⟩
  · exact .inr ⟨⟨i.val - 1280, by omega⟩, by simp only; omega⟩

section Blocks

variable (c : Dev nD) (t : Fin cfg0.N) (x : Vec Ideal S2048x1408 .bf16) (y : Vec Ideal S2048x1024 .f32) (z : Vec Ideal S1408x1024 .f32)

/-- Whether a point is its block's first. -/
abbrev first : BitVec 1 := Scalar.cmpi .eq (BitVec.ofNat 32 (grid0.coords t 2).val) 0#32

/-- The accumulator reads as what it was given. -/
theorem held_read : View.read (Elt Ideal) (View.whole cc0_scratch0) (sumS_whole.unread z) = z := sumS_whole.read_unread z

/-- The accumulator after a point that is not the last. -/
theorem mid_at (hl) (i : Fin 1408) (d : Fin 1024) :
    sumMid c t x y z hl (ix2 i d) = Scalar.select (first t) (share x y i d) (z (ix2 i d) + share x y i d) := by
  unfold sumMid
  frame_out
  rw [held_read]
  obtain ⟨r, hr | hr | hr | hr | hr⟩ | ⟨r, hr⟩ := piece_cases i
  · refine (canon_miss _ _ _ _ i d (by omega)).trans ((canon_miss _ _ _ _ i d (by omega)).trans ((canon_miss _ _ _ _ i d (by omega)).trans ((canon_miss _ _ _ _ i d (by omega)).trans ((canon_miss _ _ _ _ i d (by omega)).trans ?_))))
    exact (canon_hit _ _ _ _ i r d hr).trans (stored_at _ x y z _ _ _ _ _ _ i r d hr)
  · refine (canon_miss _ _ _ _ i d (by omega)).trans ((canon_miss _ _ _ _ i d (by omega)).trans ((canon_miss _ _ _ _ i d (by omega)).trans ((canon_miss _ _ _ _ i d (by omega)).trans ?_)))
    exact (canon_hit _ _ _ _ i r d hr).trans (stored_at _ x y z _ _ _ _ _ _ i r d hr)
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at_last _ x y z _ _ _ _ _ _ i r d hr)

/-- The output's block after a last point. -/
theorem last_at (hl) (i : Fin 1408) (d : Fin 1024) :
    outLast c t x y z hl (ix2 i d) = Scalar.select (first t) (share x y i d) (z (ix2 i d) + share x y i d) := by
  unfold outLast
  frame_out
  rw [held_read, View.readCov_eq_canon']
  refine (whole_at _ _ i d).trans ?_
  obtain ⟨r, hr | hr | hr | hr | hr⟩ | ⟨r, hr⟩ := piece_cases i
  · refine (canon_miss _ _ _ _ i d (by omega)).trans ((canon_miss _ _ _ _ i d (by omega)).trans ((canon_miss _ _ _ _ i d (by omega)).trans ((canon_miss _ _ _ _ i d (by omega)).trans ((canon_miss _ _ _ _ i d (by omega)).trans ?_))))
    exact (canon_hit _ _ _ _ i r d hr).trans (stored_at _ x y z _ _ _ _ _ _ i r d hr)
  · refine (canon_miss _ _ _ _ i d (by omega)).trans ((canon_miss _ _ _ _ i d (by omega)).trans ((canon_miss _ _ _ _ i d (by omega)).trans ((canon_miss _ _ _ _ i d (by omega)).trans ?_)))
    exact (canon_hit _ _ _ _ i r d hr).trans (stored_at _ x y z _ _ _ _ _ _ i r d hr)
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at_last _ x y z _ _ _ _ _ _ i r d hr)

end Blocks

end Cert.Kernel5Ideal.Body

end
-- ==== Proof.WdownFinal.lean ====
module

public import proofs.«01_k».proof.Proof.WdownBody

/-! The result array of the call `mm_d_wdown`, as a function of the program's arguments. -/

@[expose] public section

set_option maxRecDepth 16384

noncomputable section

open Idealize.ShloMosaic Idealize.ShloMosaic.TcCoe Idealize.SL.Sem

namespace Cert.Kernel5Ideal.Final

open Cert.Kernel5Ideal Cert.Kernel5Ideal.Gen Cert.Kernel5Ideal.Run Cert.Kernel5Ideal.Body Cert.Grad

variable (m : (ℓ : Loc nD τ sig) → Buf (Elt Ideal) ℓ)

/-- The product's left factor in the forward pass. -/
abbrev arg0 (c : Dev nD) : FVec Ideal S8192x2816 .f32 := m ((c : Thread nD τ).loc main_arg0)
/-- The product's cotangent. -/
abbrev arg1 (c : Dev nD) : FVec Ideal S8192x1024 .f32 := m ((c : Thread nD τ).loc main_arg1)

/-- The call's left factor. -/
theorem left (c : Dev nD) : V m c main_v0 = (truncf .bf16 (arg0 m c) bitsLt_bf16_f32 : FVec Ideal S8192x2816 .bf16) := by
  simp only [V, List.flatten_cons, List.flatten_nil, List.append_nil, List.cons_append, List.nil_append, hostOps0]
  after_results

/-- The call's cotangent. -/
theorem right (c : Dev nD) : V m c main_arg1 = arg1 m c := V_main_arg1 m c

/-- The blocks the windows read and write at each grid point. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The `k`-th of a grid point's rows of the operands. -/
abbrev row (t : Fin cfg0.N) (k : Fin 2048) : Fin 8192 := ⟨2048 * (t.val % 4) + k.val, by omega⟩
/-- The row of the result that a row of a grid point's block is. -/
abbrev up (t : Fin cfg0.N) (i : Fin 1408) : Fin 2816 := ⟨1408 * (t.val / 4) + i.val, by have : t.val < 8 := t.isLt; omega⟩
/-- The column of the result that a column of a grid point's block is. -/
abbrev over (t : Fin cfg0.N) (d : Fin 1024) : Fin 1024 := d

/-- Where the first operand's block lies in its array. -/
theorem a_emb (c : Dev nD) (X : (b : Ref sig .tc) → Buf (Elt Ideal) ((c : Thread nD τ).loc b)) (t : Fin cfg0.N) (k : Fin 2048) (i : Fin 1408) :
    View.read (Elt Ideal) ((cfg0.win 0).blk t).view (X (Pipeline.arrRef spec0 0)) (ix2 k i) = X main_v0 (ix2 (row t k) (up t i)) := by
  blk_simp
  refine congrArg (show Vec Ideal S8192x2816 .bf16 from X main_v0) ?_
  blk_ext [idx t]
/-- The first operand's block, read in its array. -/
theorem a_at (c : Dev nD) (t : Fin cfg0.N) (k : Fin 2048) (i : Fin 1408) :
    (show Vec Ideal S2048x1408 .bf16 from iblk m c 0 t) (ix2 k i) = arg0 m c (ix2 (row t k) (up t i)) :=
  (a_emb c (V m c) t k i).trans (congrFun (left m c) _)

/-- Where the second operand's block lies in its array. -/
theorem b_emb (c : Dev nD) (X : (b : Ref sig .tc) → Buf (Elt Ideal) ((c : Thread nD τ).loc b)) (t : Fin cfg0.N) (k : Fin 2048) (d : Fin 1024) :
    View.read (Elt Ideal) ((cfg0.win 1).blk t).view (X (Pipeline.arrRef spec0 1)) (ix2 k d) = X main_arg1 (ix2 (row t k) (over t d)) := by
  blk_simp
  refine congrArg (show Vec Ideal S8192x1024 .f32 from X main_arg1) ?_
  blk_ext [idx t]
/-- The second operand's block, read in its array. -/
theorem b_at (c : Dev nD) (t : Fin cfg0.N) (k : Fin 2048) (d : Fin 1024) :
    (show Vec Ideal S2048x1024 .f32 from iblk m c 1 t) (ix2 k d) = arg1 m c (ix2 (row t k) (over t d)) :=
  (b_emb c (V m c) t k d).trans (congrFun (right m c) _)

/-- One row's share of an entry of the product. -/
def term (c : Dev nD) (i : Fin 2816) (e : Fin 1024) (r : Fin 8192) : EReal := arg0 m c (ix2 r i) * arg1 m c (ix2 r e)

/-- The share of one quarter of the rows in an entry of the product. -/
def quarter (c : Dev nD) (i : Fin 2816) (e : Fin 1024) (s : ℕ) : EReal :=
  ∑ k : Fin 2048, term m c i e ⟨2048 * (s % 4) + k.val, by omega⟩

/-- The share of a grid point's rows is its quarter's. -/
theorem share_eq (c : Dev nD) (t : Fin cfg0.N) (i : Fin 1408) (d : Fin 1024) :
    share (iblk m c 0 t) (iblk m c 1 t) i d = quarter m c (up t i) (over t d) (t.val % 4) := by
  unfold quarter
  refine Finset.sum_congr rfl fun k _ => (Ideal.mul_congr (a_at m c t k i) (b_at m c t k d)).trans ?_
  exact congrArg (term m c (up t i) (over t d)) (Fin.ext (by simp only; omega))

/-- A later point of a block is not its first. -/
theorem later_word : ∀ t : Fin cfg0.N, t.val % 4 ≠ 0 → ¬first t = 1#1 := by decide +kernel

/-- A quarter's share written at a point of the block and at the block's last point. -/
theorem same (c : Dev nD) (t : Fin cfg0.N) (i : Fin 1408) (d : Fin 1024) (k : ℕ) (hN : 4 * (t.val / 4) + k < cfg0.N) (hk : k < 4) :
    quarter m c (up ⟨4 * (t.val / 4) + k, hN⟩ i) (over ⟨4 * (t.val / 4) + k, hN⟩ d) ((4 * (t.val / 4) + k) % 4)
      = quarter m c (up t i) (over t d) k := by
  rw [show up ⟨4 * (t.val / 4) + k, hN⟩ i = up t i from Fin.ext (by simp only; omega)]
  exact congrArg (quarter m c (up t i) (over t d)) (by omega)

/-- Within a block the accumulator holds the sum of the quarters so far. -/
theorem acc_partial (c : Dev nD) (t : Fin cfg0.N) (i : Fin 1408) (d : Fin 1024) (h3 : t.val % 4 = 3) : ∀ k : ℕ, k < 3 →
    acc m c (4 * (t.val / 4) + k + 1) (ix2 i d) = ∑ s : Fin (k + 1), quarter m c (up t i) (over t d) s.val
  | 0, _ => by
    have ht : t.val < 8 := t.isLt
    have hN : 4 * (t.val / 4) + 0 < cfg0.N := (by omega : 4 * (t.val / 4) + 0 < 8)
    have hl : ¬isLast (grid0.coords ⟨4 * (t.val / 4) + 0, hN⟩) := fun h => by
      have := (isLast_iff ⟨4 * (t.val / 4) + 0, hN⟩).mp h
      simp only at this
      omega
    refine (congrFun (acc_succ m c ⟨4 * (t.val / 4) + 0, hN⟩) _).trans ?_
    rw [next, dif_neg hl]
    refine (mid_at c _ _ _ _ hl i d).trans ?_
    rw [pick _ (first_word _ (by simp only; omega)), share_eq, Fin.sum_univ_one]
    exact same m c t i d 0 hN (by omega)
  | k + 1, hk => by
    have ht : t.val < 8 := t.isLt
    have hN : 4 * (t.val / 4) + (k + 1) < cfg0.N := (by omega : 4 * (t.val / 4) + (k + 1) < 8)
    have hl : ¬isLast (grid0.coords ⟨4 * (t.val / 4) + (k + 1), hN⟩) := fun h => by
      have := (isLast_iff ⟨4 * (t.val / 4) + (k + 1), hN⟩).mp h
      simp only at this
      omega
    refine (congrFun (acc_succ m c ⟨4 * (t.val / 4) + (k + 1), hN⟩) _).trans ?_
    rw [next, dif_neg hl]
    refine (mid_at c _ _ _ _ hl i d).trans ?_
    rw [pass _ (later_word _ (by simp only; omega)), share_eq]
    refine Eq.trans ?_ (Fin.sum_univ_castSucc _).symm
    exact Ideal.add_congr (acc_partial c t i d h3 k (by omega)) (same m c t i d (k + 1) hN (by omega))

/-- The call's result: the gradient of the weight. -/
def DW (c : Dev nD) : Vec Ideal S2816x1024 .f32 := fun y => ∑ r : Fin 8192, term m c (y 0) (y 1) r

/-- A block's last point leaves the sum over all the rows. -/
theorem out_at (c : Dev nD) (t : Fin cfg0.N) (h3 : t.val % 4 = 3) (i : Fin 1408) (d : Fin 1024) :
    out m c t (ix2 i d) = ∑ r : Fin 8192, term m c (up t i) (over t d) r := by
  have hl := (isLast_iff t).mpr h3
  rw [out, dif_pos hl]
  refine (last_at c t _ _ _ hl i d).trans ?_
  have e : t.val = 4 * (t.val / 4) + 2 + 1 := by omega
  rw [pass _ (later_word _ (by omega)), share_eq, congrFun (congrArg (acc m c) e) _, acc_partial m c t i d h3 2 (by omega), sum_quarters, h3]
  exact (Fin.sum_univ_castSucc (n := 3) (fun s => quarter m c (up t i) (over t d) s.val)).symm

/-- Where an output block lies in its array. -/
theorem o_emb (t : Fin cfg0.N) (i : Fin 1408) (d : Fin 1024) :
    (win0_2.blk t).view.emb (ix2 i d) = (ix2 (up t i) (over t d) : S2816x1024.Idx) := by
  blk_ext [idx t]

/-- The result array of the call. -/
theorem final (c : Dev nD) : (data m 0 c).arrAt 2 cfg0.N = DW m c := by
  refine (data m 0 c).arrAt_eq_of_covers 2 _ (by decide +kernel) fun t hf y => ?_
  blk_simp
  rw [after_o]
  idx_vars y
  have h3 : t.val % 4 = 3 := (flush0_2 t).mp hf
  refine (out_at m c t h3 y0 y1).trans (Eq.trans ?_ (congrArg (DW m c) (o_emb t y0 y1)).symm)
  rfl

end Cert.Kernel5Ideal.Final

end
-- ==== Proof.WdownValue.lean ====
module

public import proofs.«01_k».proof.Defs
public import proofs.«01_k».proof.Proof.WdownFinal
public import proofs.«01_k».proof.Proof.Gen.Reference5Ideal.Read
public import proofs.«01_k».proof.Proof.Gen.Reference5Ideal.Run

/-! The gradient the call `mm_d_wdown` computes is the reference's, on every input. -/

@[expose] public section

set_option maxRecDepth 16384

noncomputable section

open Idealize.ShloMosaic Idealize.ShloMosaic.TcCoe Idealize.SL.Sem

namespace Cert.Wdown

open Cert.Kernel5Ideal Cert.Kernel5Ideal.Gen Cert.Kernel5Ideal.Final Cert.Reference5Ideal.Read

/-- The reference's gradient of the weight, entry by entry. -/
theorem grad_at (x0 : FVec Ideal S8192x2816 .f32) (x1 : FVec Ideal S8192x1024 .f32) (i : Fin 2816) (e : Fin 1024) :
    val_main_v3 (F := Ideal) x0 x1 (ix2 i e) = ∑ r : Fin 8192, x1 (ix2 r e) * x0 (ix2 r i) := by
  pointwise [val_main_v3, val_main_v2]

/-- The gradients agree. -/
theorem dw (m : (ℓ : Loc nD τ sig) → Buf (Elt Ideal) ℓ) (c : Dev nD) : val_main_v3 (F := Ideal) (arg0 m c) (arg1 m c) = DW m c := by
  funext y
  idx_vars y
  refine (grad_at _ _ y0 y1).trans ?_
  exact Finset.sum_congr rfl fun r _ => mul_comm _ _

/-- The value claim: the call's array is the gradient of the weight. -/
theorem algebraic : Cert.algebraic_Kernel5Ideal_Reference5Ideal := by
  intro m g m' g' hpre hagree
  refine ⟨fun c => DW m c, ?_, ?_⟩
  · refine (θ_run _ _ _).mono (fun r h c => ?_) (Cert.Kernel5Ideal.Run.run_out m g)
    obtain ⟨e0, k⟩ := h c
    exact ⟨e0.trans (final m c), k⟩
  · refine (θ_run _ _ _).mono (fun r h c => ?_) (Cert.Reference5Ideal.Value.run (F := Ideal) m' g')
    obtain ⟨e0, k⟩ := h c
    obtain ⟨k0, k1⟩ := hagree c
    refine ⟨e0.trans ((val_main_v3_eq _ _).trans ?_), k⟩
    rw [k0, k1]
    exact dw m c

end Cert.Wdown
end
-- ==== Proof.WinBody.lean ====
module

public import proofs.«01_k».proof.Proof.WinFrame

/-! What one grid point of the call `mm_d_win` leaves in the accumulator and in its output block. -/

@[expose] public section

set_option maxRecDepth 16384

noncomputable section

open Idealize.ShloMosaic Idealize.ShloMosaic.TcCoe Idealize.SL.Sem

namespace Cert.Kernel6Ideal.Body

open Cert.Kernel6Ideal Cert.Kernel6Ideal.Gen Cert.Kernel6Ideal.Run Cert.Grad

/-- The share of one grid point's 2048 rows in an entry of the product. -/
def share (x : Vec Ideal S2048x1024 .bf16) (y : Vec Ideal S2048x1024 .bf16) (i : Fin 1024) (d : Fin 1024) : EReal :=
  ∑ k : Fin 2048, x (ix2 k i) * y (ix2 k d)

/-- The product of 256 columns, entry by entry. -/
theorem prod_at (X : Vec Ideal S2048x256 .bf16) (Y : Vec Ideal S2048x1024 .bf16) (h h') (r : Fin 256) (d : Fin 1024) :
    matmul (F := Ideal) (φ₁ := .bf16) (φ₂ := .bf16) dot_S2048x256_S2048x1024_S256x1024_0_0_1_1_n_n none (shapeCast S2048x256 X h) (shapeCast S2048x1024 Y h') (constant S256x1024 .f32 0#32) (ix2 r d)
      = ∑ k : Fin 2048, X (ix2 k r) * Y (ix2 k d) := by
  pointwise []

/-- The choice that 256 rows of a store make, entry by entry. -/
theorem choice_at (w : BitVec 1) (M Z : FVec Ideal S256x1024 .f32) (h) (j : S256x1024.Idx) :
    shapeCast S256x1024 (Scalar.select w M (addf Z M)) h j = Scalar.select w (M j) (Z j + M j) := by
  idx_vars j
  by_cases e : w = 1#1
  · rw [pick _ e, pick _ e]
    pointwise []
  · rw [pass _ e, pass _ e]
    pointwise []

/-- An entry one store of 256 rows leaves in the accumulator. -/
theorem stored_at (w : BitVec 1) (x : Vec Ideal S2048x1024 .bf16) (y : Vec Ideal S2048x1024 .bf16) (z : Vec Ideal S1024x1024 .f32)
    (o : ℕ) (h1 h2 h3 h4 h5) (i : Fin 1024) (r : Fin 256) (d : Fin 1024) (hi : i.val = o + r.val) :
    shapeCast S256x1024 (Scalar.select w
        (matmul (F := Ideal) (φ₁ := .bf16) (φ₂ := .bf16) dot_S2048x256_S2048x1024_S256x1024_0_0_1_1_n_n none (shapeCast S2048x256 (View.ld x (Rect.unit (s := S2048x1024) ![0, o] ![2048, 256] h1)) h2) (shapeCast S2048x1024 y h3) (constant S256x1024 .f32 0#32))
        (addf (View.ld z (Rect.unit (s := S1024x1024) ![o, 0] ![256, 1024] h4))
          (matmul (F := Ideal) (φ₁ := .bf16) (φ₂ := .bf16) dot_S2048x256_S2048x1024_S256x1024_0_0_1_1_n_n none (shapeCast S2048x256 (View.ld x (Rect.unit (s := S2048x1024) ![0, o] ![2048, 256] h1)) h2) (shapeCast S2048x1024 y h3) (constant S256x1024 .f32 0#32)))) h5 (ix2 r d)
      = Scalar.select w (share x y i d) (z (ix2 i d) + share x y i d) := by
  have e : ∑ k : Fin 2048, View.ld x (Rect.unit (s := S2048x1024) ![0, o] ![2048, 256] h1) (ix2 k r) * y (ix2 k d) = share x y i d :=
    Finset.sum_congr rfl fun k _ => Ideal.mul_congr (ld_x x o h1 k i r hi) rfl
  refine (choice_at w _ _ h5 (ix2 r d)).trans ?_
  rw [prod_at, e, ld_z z o h4 i r d hi]

/-- The row pieces. -/
theorem piece_cases (i : Fin 1024) : ∃ r : Fin 256, i.val = 0 + r.val ∨ i.val = 256 + r.val ∨ i.val = 512 + r.val ∨ i.val = 768 + r.val :=
  ⟨⟨i.val % 256, by omega⟩, by have := i.isLt; simp only; omega⟩

section Blocks

variable (c : Dev nD) (t : Fin cfg0.N) (x : Vec Ideal S2048x1024 .bf16) (y : Vec Ideal S2048x1024 .bf16) (z : Vec Ideal S1024x1024 .f32)

/-- Whether a point is its block's first. -/
abbrev first : BitVec 1 := Scalar.cmpi .eq (BitVec.ofNat 32 (grid0.coords t 2).val) 0#32

/-- The accumulator reads as what it was given. -/
theorem held_read : View.read (Elt Ideal) (View.whole cc0_scratch0) (sumS_whole.unread z) = z := sumS_whole.read_unread z

/-- The accumulator after a point that is not the last. -/
theorem mid_at (hl) (i : Fin 1024) (d : Fin 1024) :
    sumMid c t x y z hl (ix2 i d) = Scalar.select (first t) (share x y i d) (z (ix2 i d) + share x y i d) := by
  unfold sumMid
  frame_out
  rw [held_read]
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

/-- The output's block after a last point. -/
theorem last_at (hl) (i : Fin 1024) (d : Fin 1024) :
    outLast c t x y z hl (ix2 i d) = Scalar.select (first t) (share x y i d) (z (ix2 i d) + share x y i d) := by
  unfold outLast
  frame_out
  rw [held_read, View.readCov_eq_canon']
  refine (whole_at _ _ i d).trans ?_
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

end Blocks

end Cert.Kernel6Ideal.Body

end
-- ==== Proof.WinFinal.lean ====
module

public import proofs.«01_k».proof.Proof.WinBody

/-! The result array of the call `mm_d_win`, as a function of the program's arguments. -/

@[expose] public section

set_option maxRecDepth 16384

noncomputable section

open Idealize.ShloMosaic Idealize.ShloMosaic.TcCoe Idealize.SL.Sem

namespace Cert.Kernel6Ideal.Final

open Cert.Kernel6Ideal Cert.Kernel6Ideal.Gen Cert.Kernel6Ideal.Run Cert.Kernel6Ideal.Body Cert.Grad

variable (m : (ℓ : Loc nD τ sig) → Buf (Elt Ideal) ℓ)

/-- The product's left factor in the forward pass. -/
abbrev arg0 (c : Dev nD) : FVec Ideal S8192x1024 .f32 := m ((c : Thread nD τ).loc main_arg0)
/-- The product's cotangent. -/
abbrev arg1 (c : Dev nD) : FVec Ideal S8192x2048 .f32 := m ((c : Thread nD τ).loc main_arg1)

/-- The call's left factor. -/
theorem left (c : Dev nD) : V m c main_v0 = (truncf .bf16 (arg0 m c) bitsLt_bf16_f32 : FVec Ideal S8192x1024 .bf16) := by
  simp only [V, List.flatten_cons, List.flatten_nil, List.append_nil, List.cons_append, List.nil_append, hostOps0]
  after_results

/-- The call's cotangent. -/
theorem right (c : Dev nD) : V m c main_v1 = (truncf .bf16 (arg1 m c) bitsLt_bf16_f32 : FVec Ideal S8192x2048 .bf16) := by
  simp only [V, List.flatten_cons, List.flatten_nil, List.append_nil, List.cons_append, List.nil_append, hostOps0]
  after_results

/-- The blocks the windows read and write at each grid point. -/
theorem idx : ∀ t : Fin cfg0.N,
    win0_0.index t = ![t.val % 4, 0] ∧ win0_1.index t = ![t.val % 4, t.val / 4] ∧ win0_2.index t = ![0, t.val / 4] :=
  (by decide +kernel : ∀ t : Fin grid0.N, _)

/-- The `k`-th of a grid point's rows of the operands. -/
abbrev row (t : Fin cfg0.N) (k : Fin 2048) : Fin 8192 := ⟨2048 * (t.val % 4) + k.val, by omega⟩
/-- The row of the result that a row of a grid point's block is. -/
abbrev up (t : Fin cfg0.N) (i : Fin 1024) : Fin 1024 := i
/-- The column of the result that a column of a grid point's block is. -/
abbrev over (t : Fin cfg0.N) (d : Fin 1024) : Fin 2048 := ⟨1024 * (t.val / 4) + d.val, by have : t.val < 8 := t.isLt; omega⟩

/-- Where the first operand's block lies in its array. -/
theorem a_emb (c : Dev nD) (X : (b : Ref sig .tc) → Buf (Elt Ideal) ((c : Thread nD τ).loc b)) (t : Fin cfg0.N) (k : Fin 2048) (i : Fin 1024) :
    View.read (Elt Ideal) ((cfg0.win 0).blk t).view (X (Pipeline.arrRef spec0 0)) (ix2 k i) = X main_v0 (ix2 (row t k) (up t i)) := by
  blk_simp
  refine congrArg (show Vec Ideal S8192x1024 .bf16 from X main_v0) ?_
  blk_ext [idx t]
/-- The first operand's block, read in its array. -/
theorem a_at (c : Dev nD) (t : Fin cfg0.N) (k : Fin 2048) (i : Fin 1024) :
    (show Vec Ideal S2048x1024 .bf16 from iblk m c 0 t) (ix2 k i) = arg0 m c (ix2 (row t k) (up t i)) :=
  (a_emb c (V m c) t k i).trans (congrFun (left m c) _)

/-- Where the second operand's block lies in its array. -/
theorem b_emb (c : Dev nD) (X : (b : Ref sig .tc) → Buf (Elt Ideal) ((c : Thread nD τ).loc b)) (t : Fin cfg0.N) (k : Fin 2048) (d : Fin 1024) :
    View.read (Elt Ideal) ((cfg0.win 1).blk t).view (X (Pipeline.arrRef spec0 1)) (ix2 k d) = X main_v1 (ix2 (row t k) (over t d)) := by
  blk_simp
  refine congrArg (show Vec Ideal S8192x2048 .bf16 from X main_v1) ?_
  blk_ext [idx t]
/-- The second operand's block, read in its array. -/
theorem b_at (c : Dev nD) (t : Fin cfg0.N) (k : Fin 2048) (d : Fin 1024) :
    (show Vec Ideal S2048x1024 .bf16 from iblk m c 1 t) (ix2 k d) = arg1 m c (ix2 (row t k) (over t d)) :=
  (b_emb c (V m c) t k d).trans (congrFun (right m c) _)

/-- One row's share of an entry of the product. -/
def term (c : Dev nD) (i : Fin 1024) (e : Fin 2048) (r : Fin 8192) : EReal := arg0 m c (ix2 r i) * arg1 m c (ix2 r e)

/-- The share of one quarter of the rows in an entry of the product. -/
def quarter (c : Dev nD) (i : Fin 1024) (e : Fin 2048) (s : ℕ) : EReal :=
  ∑ k : Fin 2048, term m c i e ⟨2048 * (s % 4) + k.val, by omega⟩

/-- The share of a grid point's rows is its quarter's. -/
theorem share_eq (c : Dev nD) (t : Fin cfg0.N) (i : Fin 1024) (d : Fin 1024) :
    share (iblk m c 0 t) (iblk m c 1 t) i d = quarter m c (up t i) (over t d) (t.val % 4) := by
  unfold quarter
  refine Finset.sum_congr rfl fun k _ => (Ideal.mul_congr (a_at m c t k i) (b_at m c t k d)).trans ?_
  exact congrArg (term m c (up t i) (over t d)) (Fin.ext (by simp only; omega))

/-- A later point of a block is not its first. -/
theorem later_word : ∀ t : Fin cfg0.N, t.val % 4 ≠ 0 → ¬first t = 1#1 := by decide +kernel

/-- A quarter's share written at a point of the block and at the block's last point. -/
theorem same (c : Dev nD) (t : Fin cfg0.N) (i : Fin 1024) (d : Fin 1024) (k : ℕ) (hN : 4 * (t.val / 4) + k < cfg0.N) (hk : k < 4) :
    quarter m c (up ⟨4 * (t.val / 4) + k, hN⟩ i) (over ⟨4 * (t.val / 4) + k, hN⟩ d) ((4 * (t.val / 4) + k) % 4)
      = quarter m c (up t i) (over t d) k := by
  rw [show over ⟨4 * (t.val / 4) + k, hN⟩ d = over t d from Fin.ext (by simp only; omega)]
  exact congrArg (quarter m c (up t i) (over t d)) (by omega)

/-- Within a block the accumulator holds the sum of the quarters so far. -/
theorem acc_partial (c : Dev nD) (t : Fin cfg0.N) (i : Fin 1024) (d : Fin 1024) (h3 : t.val % 4 = 3) : ∀ k : ℕ, k < 3 →
    acc m c (4 * (t.val / 4) + k + 1) (ix2 i d) = ∑ s : Fin (k + 1), quarter m c (up t i) (over t d) s.val
  | 0, _ => by
    have ht : t.val < 8 := t.isLt
    have hN : 4 * (t.val / 4) + 0 < cfg0.N := (by omega : 4 * (t.val / 4) + 0 < 8)
    have hl : ¬isLast (grid0.coords ⟨4 * (t.val / 4) + 0, hN⟩) := fun h => by
      have := (isLast_iff ⟨4 * (t.val / 4) + 0, hN⟩).mp h
      simp only at this
      omega
    refine (congrFun (acc_succ m c ⟨4 * (t.val / 4) + 0, hN⟩) _).trans ?_
    rw [next, dif_neg hl]
    refine (mid_at c _ _ _ _ hl i d).trans ?_
    rw [pick _ (first_word _ (by simp only; omega)), share_eq, Fin.sum_univ_one]
    exact same m c t i d 0 hN (by omega)
  | k + 1, hk => by
    have ht : t.val < 8 := t.isLt
    have hN : 4 * (t.val / 4) + (k + 1) < cfg0.N := (by omega : 4 * (t.val / 4) + (k + 1) < 8)
    have hl : ¬isLast (grid0.coords ⟨4 * (t.val / 4) + (k + 1), hN⟩) := fun h => by
      have := (isLast_iff ⟨4 * (t.val / 4) + (k + 1), hN⟩).mp h
      simp only at this
      omega
    refine (congrFun (acc_succ m c ⟨4 * (t.val / 4) + (k + 1), hN⟩) _).trans ?_
    rw [next, dif_neg hl]
    refine (mid_at c _ _ _ _ hl i d).trans ?_
    rw [pass _ (later_word _ (by simp only; omega)), share_eq]
    refine Eq.trans ?_ (Fin.sum_univ_castSucc _).symm
    exact Ideal.add_congr (acc_partial c t i d h3 k (by omega)) (same m c t i d (k + 1) hN (by omega))

/-- The call's result: the gradient of the weight. -/
def DW (c : Dev nD) : Vec Ideal S1024x2048 .f32 := fun y => ∑ r : Fin 8192, term m c (y 0) (y 1) r

/-- A block's last point leaves the sum over all the rows. -/
theorem out_at (c : Dev nD) (t : Fin cfg0.N) (h3 : t.val % 4 = 3) (i : Fin 1024) (d : Fin 1024) :
    out m c t (ix2 i d) = ∑ r : Fin 8192, term m c (up t i) (over t d) r := by
  have hl := (isLast_iff t).mpr h3
  rw [out, dif_pos hl]
  refine (last_at c t _ _ _ hl i d).trans ?_
  have e : t.val = 4 * (t.val / 4) + 2 + 1 := by omega
  rw [pass _ (later_word _ (by omega)), share_eq, congrFun (congrArg (acc m c) e) _, acc_partial m c t i d h3 2 (by omega), sum_quarters, h3]
  exact (Fin.sum_univ_castSucc (n := 3) (fun s => quarter m c (up t i) (over t d) s.val)).symm

/-- Where an output block lies in its array. -/
theorem o_emb (t : Fin cfg0.N) (i : Fin 1024) (d : Fin 1024) :
    (win0_2.blk t).view.emb (ix2 i d) = (ix2 (up t i) (over t d) : S1024x2048.Idx) := by
  blk_ext [idx t]

/-- The result array of the call. -/
theorem final (c : Dev nD) : (data m 0 c).arrAt 2 cfg0.N = DW m c := by
  refine (data m 0 c).arrAt_eq_of_covers 2 _ (by decide +kernel) fun t hf y => ?_
  blk_simp
  rw [after_o]
  idx_vars y
  have h3 : t.val % 4 = 3 := (flush0_2 t).mp hf
  refine (out_at m c t h3 y0 y1).trans (Eq.trans ?_ (congrArg (DW m c) (o_emb t y0 y1)).symm)
  rfl

end Cert.Kernel6Ideal.Final

end
-- ==== Proof.WinValue.lean ====
module

public import proofs.«01_k».proof.Defs
public import proofs.«01_k».proof.Proof.WinFinal
public import proofs.«01_k».proof.Proof.Gen.Reference6Ideal.Read
public import proofs.«01_k».proof.Proof.Gen.Reference6Ideal.Run

/-! The gradient the call `mm_d_win` computes is the reference's, on every input. -/

@[expose] public section

set_option maxRecDepth 16384

noncomputable section

open Idealize.ShloMosaic Idealize.ShloMosaic.TcCoe Idealize.SL.Sem

namespace Cert.Win

open Cert.Kernel6Ideal Cert.Kernel6Ideal.Gen Cert.Kernel6Ideal.Final Cert.Reference6Ideal.Read

/-- The reference's gradient of the weight, entry by entry. -/
theorem grad_at (x0 : FVec Ideal S8192x1024 .f32) (x1 : FVec Ideal S8192x2048 .f32) (i : Fin 1024) (e : Fin 2048) :
    val_main_v3 (F := Ideal) x0 x1 (ix2 i e) = ∑ r : Fin 8192, x1 (ix2 r e) * x0 (ix2 r i) := by
  pointwise [val_main_v3, val_main_v2]

/-- The gradients agree. -/
theorem dw (m : (ℓ : Loc nD τ sig) → Buf (Elt Ideal) ℓ) (c : Dev nD) : val_main_v3 (F := Ideal) (arg0 m c) (arg1 m c) = DW m c := by
  funext y
  idx_vars y
  refine (grad_at _ _ y0 y1).trans ?_
  exact Finset.sum_congr rfl fun r _ => mul_comm _ _

/-- The value claim: the call's array is the gradient of the weight. -/
theorem algebraic : Cert.algebraic_Kernel6Ideal_Reference6Ideal := by
  intro m g m' g' hpre hagree
  refine ⟨fun c => DW m c, ?_, ?_⟩
  · refine (θ_run _ _ _).mono (fun r h c => ?_) (Cert.Kernel6Ideal.Run.run_out m g)
    obtain ⟨e0, k⟩ := h c
    exact ⟨e0.trans (final m c), k⟩
  · refine (θ_run _ _ _).mono (fun r h c => ?_) (Cert.Reference6Ideal.Value.run (F := Ideal) m' g')
    obtain ⟨e0, k⟩ := h c
    obtain ⟨k0, k1⟩ := hagree c
    refine ⟨e0.trans ((val_main_v3_eq _ _).trans ?_), k⟩
    rw [k0, k1]
    exact dw m c

end Cert.Win
end
-- ==== Proof.WpgBody.lean ====
module

public import proofs.«01_k».proof.Proof.WpgFrame

/-! What one grid point of the call `mm_d_wpg` leaves in the accumulator and in its output block. -/

@[expose] public section

set_option maxRecDepth 16384

noncomputable section

open Idealize.ShloMosaic Idealize.ShloMosaic.TcCoe Idealize.SL.Sem

namespace Cert.Kernel7Ideal.Body

open Cert.Kernel7Ideal Cert.Kernel7Ideal.Gen Cert.Kernel7Ideal.Run Cert.Grad

/-- The share of one grid point's 2048 rows in an entry of the product. -/
def share (x : Vec Ideal S2048x1024 .bf16) (y : Vec Ideal S2048x1024 .bf16) (i : Fin 1024) (d : Fin 1024) : EReal :=
  ∑ k : Fin 2048, x (ix2 k i) * y (ix2 k d)

/-- The product of 256 columns, entry by entry. -/
theorem prod_at (X : Vec Ideal S2048x256 .bf16) (Y : Vec Ideal S2048x1024 .bf16) (h h') (r : Fin 256) (d : Fin 1024) :
    matmul (F := Ideal) (φ₁ := .bf16) (φ₂ := .bf16) dot_S2048x256_S2048x1024_S256x1024_0_0_1_1_n_n none (shapeCast S2048x256 X h) (shapeCast S2048x1024 Y h') (constant S256x1024 .f32 0#32) (ix2 r d)
      = ∑ k : Fin 2048, X (ix2 k r) * Y (ix2 k d) := by
  pointwise []

/-- The choice that 256 rows of a store make, entry by entry. -/
theorem choice_at (w : BitVec 1) (M Z : FVec Ideal S256x1024 .f32) (h) (j : S256x1024.Idx) :
    shapeCast S256x1024 (Scalar.select w M (addf Z M)) h j = Scalar.select w (M j) (Z j + M j) := by
  idx_vars j
  by_cases e : w = 1#1
  · rw [pick _ e, pick _ e]
    pointwise []
  · rw [pass _ e, pass _ e]
    pointwise []

/-- An entry one store of 256 rows leaves in the accumulator. -/
theorem stored_at (w : BitVec 1) (x : Vec Ideal S2048x1024 .bf16) (y : Vec Ideal S2048x1024 .bf16) (z : Vec Ideal S1024x1024 .f32)
    (o : ℕ) (h1 h2 h3 h4 h5) (i : Fin 1024) (r : Fin 256) (d : Fin 1024) (hi : i.val = o + r.val) :
    shapeCast S256x1024 (Scalar.select w
        (matmul (F := Ideal) (φ₁ := .bf16) (φ₂ := .bf16) dot_S2048x256_S2048x1024_S256x1024_0_0_1_1_n_n none (shapeCast S2048x256 (View.ld x (Rect.unit (s := S2048x1024) ![0, o] ![2048, 256] h1)) h2) (shapeCast S2048x1024 y h3) (constant S256x1024 .f32 0#32))
        (addf (View.ld z (Rect.unit (s := S1024x1024) ![o, 0] ![256, 1024] h4))
          (matmul (F := Ideal) (φ₁ := .bf16) (φ₂ := .bf16) dot_S2048x256_S2048x1024_S256x1024_0_0_1_1_n_n none (shapeCast S2048x256 (View.ld x (Rect.unit (s := S2048x1024) ![0, o] ![2048, 256] h1)) h2) (shapeCast S2048x1024 y h3) (constant S256x1024 .f32 0#32)))) h5 (ix2 r d)
      = Scalar.select w (share x y i d) (z (ix2 i d) + share x y i d) := by
  have e : ∑ k : Fin 2048, View.ld x (Rect.unit (s := S2048x1024) ![0, o] ![2048, 256] h1) (ix2 k r) * y (ix2 k d) = share x y i d :=
    Finset.sum_congr rfl fun k _ => Ideal.mul_congr (ld_x x o h1 k i r hi) rfl
  refine (choice_at w _ _ h5 (ix2 r d)).trans ?_
  rw [prod_at, e, ld_z z o h4 i r d hi]

/-- The row pieces. -/
theorem piece_cases (i : Fin 1024) : ∃ r : Fin 256, i.val = 0 + r.val ∨ i.val = 256 + r.val ∨ i.val = 512 + r.val ∨ i.val = 768 + r.val :=
  ⟨⟨i.val % 256, by omega⟩, by have := i.isLt; simp only; omega⟩

section Blocks

variable (c : Dev nD) (t : Fin cfg0.N) (x : Vec Ideal S2048x1024 .bf16) (y : Vec Ideal S2048x1024 .bf16) (z : Vec Ideal S1024x1024 .f32)

/-- Whether a point is its block's first. -/
abbrev first : BitVec 1 := Scalar.cmpi .eq (BitVec.ofNat 32 (grid0.coords t 2).val) 0#32

/-- The accumulator reads as what it was given. -/
theorem held_read : View.read (Elt Ideal) (View.whole cc0_scratch0) (sumS_whole.unread z) = z := sumS_whole.read_unread z

/-- The accumulator after a point that is not the last. -/
theorem mid_at (hl) (i : Fin 1024) (d : Fin 1024) :
    sumMid c t x y z hl (ix2 i d) = Scalar.select (first t) (share x y i d) (z (ix2 i d) + share x y i d) := by
  unfold sumMid
  frame_out
  rw [held_read]
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

/-- The output's block after a last point. -/
theorem last_at (hl) (i : Fin 1024) (d : Fin 1024) :
    outLast c t x y z hl (ix2 i d) = Scalar.select (first t) (share x y i d) (z (ix2 i d) + share x y i d) := by
  unfold outLast
  frame_out
  rw [held_read, View.readCov_eq_canon']
  refine (whole_at _ _ i d).trans ?_
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

end Blocks

end Cert.Kernel7Ideal.Body

end
-- ==== Proof.WpgFinal.lean ====
module

public import proofs.«01_k».proof.Proof.WpgBody

/-! The result array of the call `mm_d_wpg`, as a function of the program's arguments. -/

@[expose] public section

set_option maxRecDepth 16384

noncomputable section

open Idealize.ShloMosaic Idealize.ShloMosaic.TcCoe Idealize.SL.Sem

namespace Cert.Kernel7Ideal.Final

open Cert.Kernel7Ideal Cert.Kernel7Ideal.Gen Cert.Kernel7Ideal.Run Cert.Kernel7Ideal.Body Cert.Grad

variable (m : (ℓ : Loc nD τ sig) → Buf (Elt Ideal) ℓ)

/-- The product's left factor in the forward pass. -/
abbrev arg0 (c : Dev nD) : FVec Ideal S8192x1024 .f32 := m ((c : Thread nD τ).loc main_arg0)
/-- The product's cotangent. -/
abbrev arg1 (c : Dev nD) : FVec Ideal S8192x1024 .f32 := m ((c : Thread nD τ).loc main_arg1)

/-- The call's left factor. -/
theorem left (c : Dev nD) : V m c main_v0 = (truncf .bf16 (arg0 m c) bitsLt_bf16_f32 : FVec Ideal S8192x1024 .bf16) := by
  simp only [V, List.flatten_cons, List.flatten_nil, List.append_nil, List.cons_append, List.nil_append, hostOps0]
  after_results

/-- The call's cotangent. -/
theorem right (c : Dev nD) : V m c main_v1 = (truncf .bf16 (arg1 m c) bitsLt_bf16_f32 : FVec Ideal S8192x1024 .bf16) := by
  simp only [V, List.flatten_cons, List.flatten_nil, List.append_nil, List.cons_append, List.nil_append, hostOps0]
  after_results

/-- The blocks the windows read and write at each grid point. -/
theorem idx : ∀ t : Fin cfg0.N,
    win0_0.index t = ![t.val % 4, 0] ∧ win0_1.index t = ![t.val % 4, 0] ∧ win0_2.index t = ![0, 0] :=
  (by decide +kernel : ∀ t : Fin grid0.N, _)

/-- The `k`-th of a grid point's rows of the operands. -/
abbrev row (t : Fin cfg0.N) (k : Fin 2048) : Fin 8192 := ⟨2048 * (t.val % 4) + k.val, by omega⟩
/-- The row of the result that a row of a grid point's block is. -/
abbrev up (t : Fin cfg0.N) (i : Fin 1024) : Fin 1024 := i
/-- The column of the result that a column of a grid point's block is. -/
abbrev over (t : Fin cfg0.N) (d : Fin 1024) : Fin 1024 := d

/-- Where the first operand's block lies in its array. -/
theorem a_emb (c : Dev nD) (X : (b : Ref sig .tc) → Buf (Elt Ideal) ((c : Thread nD τ).loc b)) (t : Fin cfg0.N) (k : Fin 2048) (i : Fin 1024) :
    View.read (Elt Ideal) ((cfg0.win 0).blk t).view (X (Pipeline.arrRef spec0 0)) (ix2 k i) = X main_v0 (ix2 (row t k) (up t i)) := by
  blk_simp
  refine congrArg (show Vec Ideal S8192x1024 .bf16 from X main_v0) ?_
  blk_ext [idx t]
/-- The first operand's block, read in its array. -/
theorem a_at (c : Dev nD) (t : Fin cfg0.N) (k : Fin 2048) (i : Fin 1024) :
    (show Vec Ideal S2048x1024 .bf16 from iblk m c 0 t) (ix2 k i) = arg0 m c (ix2 (row t k) (up t i)) :=
  (a_emb c (V m c) t k i).trans (congrFun (left m c) _)

/-- Where the second operand's block lies in its array. -/
theorem b_emb (c : Dev nD) (X : (b : Ref sig .tc) → Buf (Elt Ideal) ((c : Thread nD τ).loc b)) (t : Fin cfg0.N) (k : Fin 2048) (d : Fin 1024) :
    View.read (Elt Ideal) ((cfg0.win 1).blk t).view (X (Pipeline.arrRef spec0 1)) (ix2 k d) = X main_v1 (ix2 (row t k) (over t d)) := by
  blk_simp
  refine congrArg (show Vec Ideal S8192x1024 .bf16 from X main_v1) ?_
  blk_ext [idx t]
/-- The second operand's block, read in its array. -/
theorem b_at (c : Dev nD) (t : Fin cfg0.N) (k : Fin 2048) (d : Fin 1024) :
    (show Vec Ideal S2048x1024 .bf16 from iblk m c 1 t) (ix2 k d) = arg1 m c (ix2 (row t k) (over t d)) :=
  (b_emb c (V m c) t k d).trans (congrFun (right m c) _)

/-- One row's share of an entry of the product. -/
def term (c : Dev nD) (i : Fin 1024) (e : Fin 1024) (r : Fin 8192) : EReal := arg0 m c (ix2 r i) * arg1 m c (ix2 r e)

/-- The share of one quarter of the rows in an entry of the product. -/
def quarter (c : Dev nD) (i : Fin 1024) (e : Fin 1024) (s : ℕ) : EReal :=
  ∑ k : Fin 2048, term m c i e ⟨2048 * (s % 4) + k.val, by omega⟩

/-- The share of a grid point's rows is its quarter's. -/
theorem share_eq (c : Dev nD) (t : Fin cfg0.N) (i : Fin 1024) (d : Fin 1024) :
    share (iblk m c 0 t) (iblk m c 1 t) i d = quarter m c (up t i) (over t d) (t.val % 4) := by
  unfold quarter
  refine Finset.sum_congr rfl fun k _ => (Ideal.mul_congr (a_at m c t k i) (b_at m c t k d)).trans ?_
  exact congrArg (term m c (up t i) (over t d)) (Fin.ext (by simp only; omega))

/-- A later point of a block is not its first. -/
theorem later_word : ∀ t : Fin cfg0.N, t.val % 4 ≠ 0 → ¬first t = 1#1 := by decide +kernel

/-- A quarter's share written at a point of the block and at the block's last point. -/
theorem same (c : Dev nD) (t : Fin cfg0.N) (i : Fin 1024) (d : Fin 1024) (k : ℕ) (hN : 4 * (t.val / 4) + k < cfg0.N) (hk : k < 4) :
    quarter m c (up ⟨4 * (t.val / 4) + k, hN⟩ i) (over ⟨4 * (t.val / 4) + k, hN⟩ d) ((4 * (t.val / 4) + k) % 4)
      = quarter m c (up t i) (over t d) k := by
  exact congrArg (quarter m c (up t i) (over t d)) (by omega)

/-- Within a block the accumulator holds the sum of the quarters so far. -/
theorem acc_partial (c : Dev nD) (t : Fin cfg0.N) (i : Fin 1024) (d : Fin 1024) (h3 : t.val % 4 = 3) : ∀ k : ℕ, k < 3 →
    acc m c (4 * (t.val / 4) + k + 1) (ix2 i d) = ∑ s : Fin (k + 1), quarter m c (up t i) (over t d) s.val
  | 0, _ => by
    have ht : t.val < 4 := t.isLt
    have hN : 4 * (t.val / 4) + 0 < cfg0.N := (by omega : 4 * (t.val / 4) + 0 < 4)
    have hl : ¬isLast (grid0.coords ⟨4 * (t.val / 4) + 0, hN⟩) := fun h => by
      have := (isLast_iff ⟨4 * (t.val / 4) + 0, hN⟩).mp h
      simp only at this
      omega
    refine (congrFun (acc_succ m c ⟨4 * (t.val / 4) + 0, hN⟩) _).trans ?_
    rw [next, dif_neg hl]
    refine (mid_at c _ _ _ _ hl i d).trans ?_
    rw [pick _ (first_word _ (by simp only; omega)), share_eq, Fin.sum_univ_one]
    exact same m c t i d 0 hN (by omega)
  | k + 1, hk => by
    have ht : t.val < 4 := t.isLt
    have hN : 4 * (t.val / 4) + (k + 1) < cfg0.N := (by omega : 4 * (t.val / 4) + (k + 1) < 4)
    have hl : ¬isLast (grid0.coords ⟨4 * (t.val / 4) + (k + 1), hN⟩) := fun h => by
      have := (isLast_iff ⟨4 * (t.val / 4) + (k + 1), hN⟩).mp h
      simp only at this
      omega
    refine (congrFun (acc_succ m c ⟨4 * (t.val / 4) + (k + 1), hN⟩) _).trans ?_
    rw [next, dif_neg hl]
    refine (mid_at c _ _ _ _ hl i d).trans ?_
    rw [pass _ (later_word _ (by simp only; omega)), share_eq]
    refine Eq.trans ?_ (Fin.sum_univ_castSucc _).symm
    exact Ideal.add_congr (acc_partial c t i d h3 k (by omega)) (same m c t i d (k + 1) hN (by omega))

/-- The call's result: the gradient of the weight. -/
def DW (c : Dev nD) : Vec Ideal S1024x1024 .f32 := fun y => ∑ r : Fin 8192, term m c (y 0) (y 1) r

/-- A block's last point leaves the sum over all the rows. -/
theorem out_at (c : Dev nD) (t : Fin cfg0.N) (h3 : t.val % 4 = 3) (i : Fin 1024) (d : Fin 1024) :
    out m c t (ix2 i d) = ∑ r : Fin 8192, term m c (up t i) (over t d) r := by
  have hl := (isLast_iff t).mpr h3
  rw [out, dif_pos hl]
  refine (last_at c t _ _ _ hl i d).trans ?_
  have e : t.val = 4 * (t.val / 4) + 2 + 1 := by omega
  rw [pass _ (later_word _ (by omega)), share_eq, congrFun (congrArg (acc m c) e) _, acc_partial m c t i d h3 2 (by omega), sum_quarters, h3]
  exact (Fin.sum_univ_castSucc (n := 3) (fun s => quarter m c (up t i) (over t d) s.val)).symm

/-- Where an output block lies in its array. -/
theorem o_emb (t : Fin cfg0.N) (i : Fin 1024) (d : Fin 1024) :
    (win0_2.blk t).view.emb (ix2 i d) = (ix2 (up t i) (over t d) : S1024x1024.Idx) := by
  blk_ext [idx t]

/-- The result array of the call. -/
theorem final (c : Dev nD) : (data m 0 c).arrAt 2 cfg0.N = DW m c := by
  refine (data m 0 c).arrAt_eq_of_covers 2 _ (by decide +kernel) fun t hf y => ?_
  blk_simp
  rw [after_o]
  idx_vars y
  have h3 : t.val % 4 = 3 := (flush0_2 t).mp hf
  refine (out_at m c t h3 y0 y1).trans (Eq.trans ?_ (congrArg (DW m c) (o_emb t y0 y1)).symm)
  rfl

end Cert.Kernel7Ideal.Final

end
-- ==== Proof.WpgValue.lean ====
module

public import proofs.«01_k».proof.Defs
public import proofs.«01_k».proof.Proof.WpgFinal
public import proofs.«01_k».proof.Proof.Gen.Reference7Ideal.Read
public import proofs.«01_k».proof.Proof.Gen.Reference7Ideal.Run

/-! The gradient the call `mm_d_wpg` computes is the reference's, on every input. -/

@[expose] public section

set_option maxRecDepth 16384

noncomputable section

open Idealize.ShloMosaic Idealize.ShloMosaic.TcCoe Idealize.SL.Sem

namespace Cert.Wpg

open Cert.Kernel7Ideal Cert.Kernel7Ideal.Gen Cert.Kernel7Ideal.Final Cert.Reference7Ideal.Read

/-- The reference's gradient of the weight, entry by entry. -/
theorem grad_at (x0 : FVec Ideal S8192x1024 .f32) (x1 : FVec Ideal S8192x1024 .f32) (i : Fin 1024) (e : Fin 1024) :
    val_main_v3 (F := Ideal) x0 x1 (ix2 i e) = ∑ r : Fin 8192, x1 (ix2 r e) * x0 (ix2 r i) := by
  pointwise [val_main_v3, val_main_v2]

/-- The gradients agree. -/
theorem dw (m : (ℓ : Loc nD τ sig) → Buf (Elt Ideal) ℓ) (c : Dev nD) : val_main_v3 (F := Ideal) (arg0 m c) (arg1 m c) = DW m c := by
  funext y
  idx_vars y
  refine (grad_at _ _ y0 y1).trans ?_
  exact Finset.sum_congr rfl fun r _ => mul_comm _ _

/-- The value claim: the call's array is the gradient of the weight. -/
theorem algebraic : Cert.algebraic_Kernel7Ideal_Reference7Ideal := by
  intro m g m' g' hpre hagree
  refine ⟨fun c => DW m c, ?_, ?_⟩
  · refine (θ_run _ _ _).mono (fun r h c => ?_) (Cert.Kernel7Ideal.Run.run_out m g)
    obtain ⟨e0, k⟩ := h c
    exact ⟨e0.trans (final m c), k⟩
  · refine (θ_run _ _ _).mono (fun r h c => ?_) (Cert.Reference7Ideal.Value.run (F := Ideal) m' g')
    obtain ⟨e0, k⟩ := h c
    obtain ⟨k0, k1⟩ := hagree c
    refine ⟨e0.trans ((val_main_v3_eq _ _).trans ?_), k⟩
    rw [k0, k1]
    exact dw m c

end Cert.Wpg
end
-- ==== Proof.WoBody.lean ====
module

public import proofs.«01_k».proof.Proof.WoFrame

/-! What one grid point of the call `mm_d_wo_att` leaves in the accumulator and in its output block. -/

@[expose] public section

set_option maxRecDepth 16384

noncomputable section

open Idealize.ShloMosaic Idealize.ShloMosaic.TcCoe Idealize.SL.Sem

namespace Cert.Kernel8Ideal.Body

open Cert.Kernel8Ideal Cert.Kernel8Ideal.Gen Cert.Kernel8Ideal.Run Cert.Grad

/-- The share of one grid point's 2048 rows in an entry of the product. -/
def share (x : Vec Ideal S2048x1024 .bf16) (y : Vec Ideal S2048x1024 .f32) (i : Fin 1024) (d : Fin 1024) : EReal :=
  ∑ k : Fin 2048, x (ix2 k i) * y (ix2 k d)

/-- The product of 256 columns, entry by entry. -/
theorem prod_at (X : Vec Ideal S2048x256 .bf16) (Y : Vec Ideal S2048x1024 .f32) (h h') (r : Fin 256) (d : Fin 1024) :
    matmul (F := Ideal) (φ₁ := .bf16) (φ₂ := .bf16) dot_S2048x256_S2048x1024_S256x1024_0_0_1_1_n_n none (shapeCast S2048x256 X h) (truncf (φ := .f32) .bf16 Y h') (constant S256x1024 .f32 0#32) (ix2 r d)
      = ∑ k : Fin 2048, X (ix2 k r) * Y (ix2 k d) := by
  pointwise []

/-- The choice that 256 rows of a store make, entry by entry. -/
theorem choice_at (w : BitVec 1) (M Z : FVec Ideal S256x1024 .f32) (h) (j : S256x1024.Idx) :
    shapeCast S256x1024 (Scalar.select w M (addf Z M)) h j = Scalar.select w (M j) (Z j + M j) := by
  idx_vars j
  by_cases e : w = 1#1
  · rw [pick _ e, pick _ e]
    pointwise []
  · rw [pass _ e, pass _ e]
    pointwise []

/-- An entry one store of 256 rows leaves in the accumulator. -/
theorem stored_at (w : BitVec 1) (x : Vec Ideal S2048x1024 .bf16) (y : Vec Ideal S2048x1024 .f32) (z : Vec Ideal S1024x1024 .f32)
    (o : ℕ) (h1 h2 h3 h4 h5) (i : Fin 1024) (r : Fin 256) (d : Fin 1024) (hi : i.val = o + r.val) :
    shapeCast S256x1024 (Scalar.select w
        (matmul (F := Ideal) (φ₁ := .bf16) (φ₂ := .bf16) dot_S2048x256_S2048x1024_S256x1024_0_0_1_1_n_n none (shapeCast S2048x256 (View.ld x (Rect.unit (s := S2048x1024) ![0, o] ![2048, 256] h1)) h2) (truncf (φ := .f32) .bf16 y h3) (constant S256x1024 .f32 0#32))
        (addf (View.ld z (Rect.unit (s := S1024x1024) ![o, 0] ![256, 1024] h4))
          (matmul (F := Ideal) (φ₁ := .bf16) (φ₂ := .bf16) dot_S2048x256_S2048x1024_S256x1024_0_0_1_1_n_n none (shapeCast S2048x256 (View.ld x (Rect.unit (s := S2048x1024) ![0, o] ![2048, 256] h1)) h2) (truncf (φ := .f32) .bf16 y h3) (constant S256x1024 .f32 0#32)))) h5 (ix2 r d)
      = Scalar.select w (share x y i d) (z (ix2 i d) + share x y i d) := by
  have e : ∑ k : Fin 2048, View.ld x (Rect.unit (s := S2048x1024) ![0, o] ![2048, 256] h1) (ix2 k r) * y (ix2 k d) = share x y i d :=
    Finset.sum_congr rfl fun k _ => Ideal.mul_congr (ld_x x o h1 k i r hi) rfl
  refine (choice_at w _ _ h5 (ix2 r d)).trans ?_
  rw [prod_at, e, ld_z z o h4 i r d hi]

/-- The row pieces. -/
theorem piece_cases (i : Fin 1024) : ∃ r : Fin 256, i.val = 0 + r.val ∨ i.val = 256 + r.val ∨ i.val = 512 + r.val ∨ i.val = 768 + r.val :=
  ⟨⟨i.val % 256, by omega⟩, by have := i.isLt; simp only; omega⟩

section Blocks

variable (c : Dev nD) (t : Fin cfg0.N) (x : Vec Ideal S2048x1024 .bf16) (y : Vec Ideal S2048x1024 .f32) (z : Vec Ideal S1024x1024 .f32)

/-- Whether a point is its block's first. -/
abbrev first : BitVec 1 := Scalar.cmpi .eq (BitVec.ofNat 32 (grid0.coords t 2).val) 0#32

/-- The accumulator reads as what it was given. -/
theorem held_read : View.read (Elt Ideal) (View.whole cc0_scratch0) (sumS_whole.unread z) = z := sumS_whole.read_unread z

/-- The accumulator after a point that is not the last. -/
theorem mid_at (hl) (i : Fin 1024) (d : Fin 1024) :
    sumMid c t x y z hl (ix2 i d) = Scalar.select (first t) (share x y i d) (z (ix2 i d) + share x y i d) := by
  unfold sumMid
  frame_out
  rw [held_read]
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

/-- The output's block after a last point. -/
theorem last_at (hl) (i : Fin 1024) (d : Fin 1024) :
    outLast c t x y z hl (ix2 i d) = Scalar.select (first t) (share x y i d) (z (ix2 i d) + share x y i d) := by
  unfold outLast
  frame_out
  rw [held_read, View.readCov_eq_canon']
  refine (whole_at _ _ i d).trans ?_
  obtain ⟨r, hr | hr | hr | hr⟩ := piece_cases i
  · refine (canon_miss _ _ _ _ i d (by omega)).trans ((canon_miss _ _ _ _ i d (by omega)).trans ((canon_miss _ _ _ _ i d (by omega)).trans ?_))
    exact (canon_hit _ _ _ _ i r d hr).trans (stored_at _ x y z _ _ _ _ _ _ i r d hr)
  · refine (canon_miss _ _ _ _ i d (by omega)).trans ((canon_miss _ _ _ _ i d (by omega)).trans ?_)
    exact (canon_hit _ _ _ _ i r d hr).trans (stored_at _ x y z _ _ _ _ _ _ i r d hr)
  · refine (canon_miss _ _ _ _ i d (by omega)).trans ?_
    exact (canon_hit _ _ _ _ i r d hr).trans (stored_at _ x y z _ _ _ _ _ _ i r d hr)
  · exact (canon_hit _ _ _ _ i r d hr).trans (stored_at _ x y z _ _ _ _ _ _ i r d hr)

end Blocks

end Cert.Kernel8Ideal.Body

end
-- ==== Proof.WoFinal.lean ====
module

public import proofs.«01_k».proof.Proof.WoBody

/-! The result array of the call `mm_d_wo_att`, as a function of the program's arguments. -/

@[expose] public section

set_option maxRecDepth 16384

noncomputable section

open Idealize.ShloMosaic Idealize.ShloMosaic.TcCoe Idealize.SL.Sem

namespace Cert.Kernel8Ideal.Final

open Cert.Kernel8Ideal Cert.Kernel8Ideal.Gen Cert.Kernel8Ideal.Run Cert.Kernel8Ideal.Body Cert.Grad

variable (m : (ℓ : Loc nD τ sig) → Buf (Elt Ideal) ℓ)

/-- The product's left factor in the forward pass. -/
abbrev arg0 (c : Dev nD) : FVec Ideal S8192x1024 .f32 := m ((c : Thread nD τ).loc main_arg0)
/-- The product's cotangent. -/
abbrev arg1 (c : Dev nD) : FVec Ideal S8192x1024 .f32 := m ((c : Thread nD τ).loc main_arg1)

/-- The call's left factor. -/
theorem left (c : Dev nD) : V m c main_v0 = (truncf .bf16 (arg0 m c) bitsLt_bf16_f32 : FVec Ideal S8192x1024 .bf16) := by
  simp only [V, List.flatten_cons, List.flatten_nil, List.append_nil, List.cons_append, List.nil_append, hostOps0]
  after_results

/-- The call's cotangent. -/
theorem right (c : Dev nD) : V m c main_arg1 = arg1 m c := V_main_arg1 m c

/-- The blocks the windows read and write at each grid point. -/
theorem idx : ∀ t : Fin cfg0.N,
    win0_0.index t = ![t.val % 4, 0] ∧ win0_1.index t = ![t.val % 4, 0] ∧ win0_2.index t = ![0, 0] :=
  (by decide +kernel : ∀ t : Fin grid0.N, _)

/-- The `k`-th of a grid point's rows of the operands. -/
abbrev row (t : Fin cfg0.N) (k : Fin 2048) : Fin 8192 := ⟨2048 * (t.val % 4) + k.val, by omega⟩
/-- The row of the result that a row of a grid point's block is. -/
abbrev up (t : Fin cfg0.N) (i : Fin 1024) : Fin 1024 := i
/-- The column of the result that a column of a grid point's block is. -/
abbrev over (t : Fin cfg0.N) (d : Fin 1024) : Fin 1024 := d

/-- Where the first operand's block lies in its array. -/
theorem a_emb (c : Dev nD) (X : (b : Ref sig .tc) → Buf (Elt Ideal) ((c : Thread nD τ).loc b)) (t : Fin cfg0.N) (k : Fin 2048) (i : Fin 1024) :
    View.read (Elt Ideal) ((cfg0.win 0).blk t).view (X (Pipeline.arrRef spec0 0)) (ix2 k i) = X main_v0 (ix2 (row t k) (up t i)) := by
  blk_simp
  refine congrArg (show Vec Ideal S8192x1024 .bf16 from X main_v0) ?_
  blk_ext [idx t]
/-- The first operand's block, read in its array. -/
theorem a_at (c : Dev nD) (t : Fin cfg0.N) (k : Fin 2048) (i : Fin 1024) :
    (show Vec Ideal S2048x1024 .bf16 from iblk m c 0 t) (ix2 k i) = arg0 m c (ix2 (row t k) (up t i)) :=
  (a_emb c (V m c) t k i).trans (congrFun (left m c) _)

/-- Where the second operand's block lies in its array. -/
theorem b_emb (c : Dev nD) (X : (b : Ref sig .tc) → Buf (Elt Ideal) ((c : Thread nD τ).loc b)) (t : Fin cfg0.N) (k : Fin 2048) (d : Fin 1024) :
    View.read (Elt Ideal) ((cfg0.win 1).blk t).view (X (Pipeline.arrRef spec0 1)) (ix2 k d) = X main_arg1 (ix2 (row t k) (over t d)) := by
  blk_simp
  refine congrArg (show Vec Ideal S8192x1024 .f32 from X main_arg1) ?_
  blk_ext [idx t]
/-- The second operand's block, read in its array. -/
theorem b_at (c : Dev nD) (t : Fin cfg0.N) (k : Fin 2048) (d : Fin 1024) :
    (show Vec Ideal S2048x1024 .f32 from iblk m c 1 t) (ix2 k d) = arg1 m c (ix2 (row t k) (over t d)) :=
  (b_emb c (V m c) t k d).trans (congrFun (right m c) _)

/-- One row's share of an entry of the product. -/
def term (c : Dev nD) (i : Fin 1024) (e : Fin 1024) (r : Fin 8192) : EReal := arg0 m c (ix2 r i) * arg1 m c (ix2 r e)

/-- The share of one quarter of the rows in an entry of the product. -/
def quarter (c : Dev nD) (i : Fin 1024) (e : Fin 1024) (s : ℕ) : EReal :=
  ∑ k : Fin 2048, term m c i e ⟨2048 * (s % 4) + k.val, by omega⟩

/-- The share of a grid point's rows is its quarter's. -/
theorem share_eq (c : Dev nD) (t : Fin cfg0.N) (i : Fin 1024) (d : Fin 1024) :
    share (iblk m c 0 t) (iblk m c 1 t) i d = quarter m c (up t i) (over t d) (t.val % 4) := by
  unfold quarter
  refine Finset.sum_congr rfl fun k _ => (Ideal.mul_congr (a_at m c t k i) (b_at m c t k d)).trans ?_
  exact congrArg (term m c (up t i) (over t d)) (Fin.ext (by simp only; omega))

/-- A later point of a block is not its first. -/
theorem later_word : ∀ t : Fin cfg0.N, t.val % 4 ≠ 0 → ¬first t = 1#1 := by decide +kernel

/-- A quarter's share written at a point of the block and at the block's last point. -/
theorem same (c : Dev nD) (t : Fin cfg0.N) (i : Fin 1024) (d : Fin 1024) (k : ℕ) (hN : 4 * (t.val / 4) + k < cfg0.N) (hk : k < 4) :
    quarter m c (up ⟨4 * (t.val / 4) + k, hN⟩ i) (over ⟨4 * (t.val / 4) + k, hN⟩ d) ((4 * (t.val / 4) + k) % 4)
      = quarter m c (up t i) (over t d) k := by
  exact congrArg (quarter m c (up t i) (over t d)) (by omega)

/-- Within a block the accumulator holds the sum of the quarters so far. -/
theorem acc_partial (c : Dev nD) (t : Fin cfg0.N) (i : Fin 1024) (d : Fin 1024) (h3 : t.val % 4 = 3) : ∀ k : ℕ, k < 3 →
    acc m c (4 * (t.val / 4) + k + 1) (ix2 i d) = ∑ s : Fin (k + 1), quarter m c (up t i) (over t d) s.val
  | 0, _ => by
    have ht : t.val < 4 := t.isLt
    have hN : 4 * (t.val / 4) + 0 < cfg0.N := (by omega : 4 * (t.val / 4) + 0 < 4)
    have hl : ¬isLast (grid0.coords ⟨4 * (t.val / 4) + 0, hN⟩) := fun h => by
      have := (isLast_iff ⟨4 * (t.val / 4) + 0, hN⟩).mp h
      simp only at this
      omega
    refine (congrFun (acc_succ m c ⟨4 * (t.val / 4) + 0, hN⟩) _).trans ?_
    rw [next, dif_neg hl]
    refine (mid_at c _ _ _ _ hl i d).trans ?_
    rw [pick _ (first_word _ (by simp only; omega)), share_eq, Fin.sum_univ_one]
    exact same m c t i d 0 hN (by omega)
  | k + 1, hk => by
    have ht : t.val < 4 := t.isLt
    have hN : 4 * (t.val / 4) + (k + 1) < cfg0.N := (by omega : 4 * (t.val / 4) + (k + 1) < 4)
    have hl : ¬isLast (grid0.coords ⟨4 * (t.val / 4) + (k + 1), hN⟩) := fun h => by
      have := (isLast_iff ⟨4 * (t.val / 4) + (k + 1), hN⟩).mp h
      simp only at this
      omega
    refine (congrFun (acc_succ m c ⟨4 * (t.val / 4) + (k + 1), hN⟩) _).trans ?_
    rw [next, dif_neg hl]
    refine (mid_at c _ _ _ _ hl i d).trans ?_
    rw [pass _ (later_word _ (by simp only; omega)), share_eq]
    refine Eq.trans ?_ (Fin.sum_univ_castSucc _).symm
    exact Ideal.add_congr (acc_partial c t i d h3 k (by omega)) (same m c t i d (k + 1) hN (by omega))

/-- The call's result: the gradient of the weight. -/
def DW (c : Dev nD) : Vec Ideal S1024x1024 .f32 := fun y => ∑ r : Fin 8192, term m c (y 0) (y 1) r

/-- A block's last point leaves the sum over all the rows. -/
theorem out_at (c : Dev nD) (t : Fin cfg0.N) (h3 : t.val % 4 = 3) (i : Fin 1024) (d : Fin 1024) :
    out m c t (ix2 i d) = ∑ r : Fin 8192, term m c (up t i) (over t d) r := by
  have hl := (isLast_iff t).mpr h3
  rw [out, dif_pos hl]
  refine (last_at c t _ _ _ hl i d).trans ?_
  have e : t.val = 4 * (t.val / 4) + 2 + 1 := by omega
  rw [pass _ (later_word _ (by omega)), share_eq, congrFun (congrArg (acc m c) e) _, acc_partial m c t i d h3 2 (by omega), sum_quarters, h3]
  exact (Fin.sum_univ_castSucc (n := 3) (fun s => quarter m c (up t i) (over t d) s.val)).symm

/-- Where an output block lies in its array. -/
theorem o_emb (t : Fin cfg0.N) (i : Fin 1024) (d : Fin 1024) :
    (win0_2.blk t).view.emb (ix2 i d) = (ix2 (up t i) (over t d) : S1024x1024.Idx) := by
  blk_ext [idx t]

/-- The result array of the call. -/
theorem final (c : Dev nD) : (data m 0 c).arrAt 2 cfg0.N = DW m c := by
  refine (data m 0 c).arrAt_eq_of_covers 2 _ (by decide +kernel) fun t hf y => ?_
  blk_simp
  rw [after_o]
  idx_vars y
  have h3 : t.val % 4 = 3 := (flush0_2 t).mp hf
  refine (out_at m c t h3 y0 y1).trans (Eq.trans ?_ (congrArg (DW m c) (o_emb t y0 y1)).symm)
  rfl

end Cert.Kernel8Ideal.Final

end
-- ==== Proof.WoValue.lean ====
module

public import proofs.«01_k».proof.Defs
public import proofs.«01_k».proof.Proof.WoFinal
public import proofs.«01_k».proof.Proof.Gen.Reference8Ideal.Read
public import proofs.«01_k».proof.Proof.Gen.Reference8Ideal.Run

/-! The gradient the call `mm_d_wo_att` computes is the reference's, on every input. -/

@[expose] public section

set_option maxRecDepth 16384

noncomputable section

open Idealize.ShloMosaic Idealize.ShloMosaic.TcCoe Idealize.SL.Sem

namespace Cert.Wo

open Cert.Kernel8Ideal Cert.Kernel8Ideal.Gen Cert.Kernel8Ideal.Final Cert.Reference8Ideal.Read

/-- The reference's gradient of the weight, entry by entry. -/
theorem grad_at (x0 : FVec Ideal S8192x1024 .f32) (x1 : FVec Ideal S8192x1024 .f32) (i : Fin 1024) (e : Fin 1024) :
    val_main_v3 (F := Ideal) x0 x1 (ix2 i e) = ∑ r : Fin 8192, x1 (ix2 r e) * x0 (ix2 r i) := by
  pointwise [val_main_v3, val_main_v2]

/-- The gradients agree. -/
theorem dw (m : (ℓ : Loc nD τ sig) → Buf (Elt Ideal) ℓ) (c : Dev nD) : val_main_v3 (F := Ideal) (arg0 m c) (arg1 m c) = DW m c := by
  funext y
  idx_vars y
  refine (grad_at _ _ y0 y1).trans ?_
  exact Finset.sum_congr rfl fun r _ => mul_comm _ _

/-- The value claim: the call's array is the gradient of the weight. -/
theorem algebraic : Cert.algebraic_Kernel8Ideal_Reference8Ideal := by
  intro m g m' g' hpre hagree
  refine ⟨fun c => DW m c, ?_, ?_⟩
  · refine (θ_run _ _ _).mono (fun r h c => ?_) (Cert.Kernel8Ideal.Run.run_out m g)
    obtain ⟨e0, k⟩ := h c
    exact ⟨e0.trans (final m c), k⟩
  · refine (θ_run _ _ _).mono (fun r h c => ?_) (Cert.Reference8Ideal.Value.run (F := Ideal) m' g')
    obtain ⟨e0, k⟩ := h c
    obtain ⟨k0, k1⟩ := hagree c
    refine ⟨e0.trans ((val_main_v3_eq _ _).trans ?_), k⟩
    rw [k0, k1]
    exact dw m c

end Cert.Wo
end
-- ==== Proof.Rows.lean ====
module

public import proofs.«01_k».proof.Proof.GradLemmas

/-! A block of 1024 rows of a product with the RMS-norm backward, and its pieces of 256 rows.

The block's cotangent has `n` columns and meets the whole weight; the norm's input and the residual cotangent have the same
rows, of 1024 columns. -/

@[expose] public section

set_option maxRecDepth 16384

noncomputable section

open Idealize.ShloMosaic Idealize.ShloMosaic.TcCoe Idealize.SL.Sem

namespace Cert.Rows

open Cert.Grad

variable {n : ℕ}

/-- The cotangent of the norm's output: the cotangent times the weight. -/
def hy (a : Vec Ideal (Mat 1024 n) .bf16) (w : Vec Ideal (Mat 1024 n) .bf16) (i : Fin 1024) (d : Fin 1024) : EReal :=
  ∑ k : Fin n, a (ix2 i k) * w (ix2 d k)

/-- The reciprocal root mean square of a row. -/
def rs (x : Vec Ideal (Mat 1024 1024) .f32) (i : Fin 1024) : EReal :=
  Ideal.rsqrt (Ideal.div (∑ e : Fin 1024, x (ix2 i e) * x (ix2 i e)) (Ideal.ofBits .f32 0x44800000#32) + Ideal.ofBits .f32 0x358637BD#32)

/-- A row's mean of the scaled cotangent times the normalised row. -/
def mean (a : Vec Ideal (Mat 1024 n) .bf16) (w : Vec Ideal (Mat 1024 n) .bf16) (x : Vec Ideal (Mat 1024 1024) .f32)
    (g : Vec Ideal (Mat 1 1024) .f32) (i : Fin 1024) : EReal :=
  Ideal.div (∑ e : Fin 1024, hy a w i e * g (ix2 0 e) * (x (ix2 i e) * rs x i)) (Ideal.ofBits .f32 0x44800000#32)

/-- A row's gradient of the norm's input, with the residual cotangent added. -/
def dx (a : Vec Ideal (Mat 1024 n) .bf16) (w : Vec Ideal (Mat 1024 n) .bf16) (x r : Vec Ideal (Mat 1024 1024) .f32)
    (g : Vec Ideal (Mat 1 1024) .f32) (i : Fin 1024) (d : Fin 1024) : EReal :=
  rs x i * (hy a w i d * g (ix2 0 d) - x (ix2 i d) * rs x i * mean a w x g i) + r (ix2 i d)

/-- A row's share of the gain's gradient. -/
def dg (a : Vec Ideal (Mat 1024 n) .bf16) (w : Vec Ideal (Mat 1024 n) .bf16) (x : Vec Ideal (Mat 1024 1024) .f32)
    (i : Fin 1024) (d : Fin 1024) : EReal :=
  hy a w i d * (x (ix2 i d) * rs x i)

/-- A sum over 1024 rows is the sum of its four pieces. -/
theorem sum_rows (f : Fin 1024 → EReal) :
    ∑ j, f j = ∑ t : Fin 256, f ⟨t.val, by omega⟩ + ∑ t : Fin 256, f ⟨256 + t.val, by omega⟩
      + ∑ t : Fin 256, f ⟨512 + t.val, by omega⟩ + ∑ t : Fin 256, f ⟨768 + t.val, by omega⟩ := by
  have h := Fin.sum_univ_tiles 4 256 (by norm_num) f
  rw [Fin.sum_univ_four] at h
  rw [h]
  have e : ∀ (n : ℕ) (hn : n < 1024) (n' : ℕ) (hn' : n' < 1024), n = n' → f ⟨n, hn⟩ = f ⟨n', hn'⟩ := by
    intro n hn n' hn' h'; subst h'; rfl
  refine Ideal.add_congr (Ideal.add_congr (Ideal.add_congr ?_ ?_) ?_) ?_
  all_goals exact Finset.sum_congr rfl fun t _ => e _ _ _ _ (by simp <;> omega)

/-! ## The same for 256 rows -/

/-- The cotangent of the norm's output for 256 rows. -/
def hyP (w : Vec Ideal (Mat 1024 n) .bf16) (a : Vec Ideal (Mat 256 n) .bf16) (r : Fin 256) (d : Fin 1024) : EReal :=
  ∑ k : Fin n, a (ix2 r k) * w (ix2 d k)

/-- The reciprocal root mean square of one of 256 rows. -/
def rsP (x : Vec Ideal (Mat 256 1024) .f32) (r : Fin 256) : EReal :=
  Ideal.rsqrt (Ideal.div (∑ e : Fin 1024, x (ix2 r e) * x (ix2 r e)) (Ideal.ofBits .f32 0x44800000#32) + Ideal.ofBits .f32 0x358637BD#32)

/-- The gradient of the norm's input for 256 rows. -/
def dxP (g : Vec Ideal (Mat 1 1024) .f32) (w : Vec Ideal (Mat 1024 n) .bf16) (a : Vec Ideal (Mat 256 n) .bf16)
    (x q : Vec Ideal (Mat 256 1024) .f32) (r : Fin 256) (d : Fin 1024) : EReal :=
  rsP x r * (hyP w a r d * g (ix2 0 d) - x (ix2 r d) * rsP x r
    * Ideal.div (∑ e : Fin 1024, hyP w a r e * g (ix2 0 e) * (x (ix2 r e) * rsP x r)) (Ideal.ofBits .f32 0x44800000#32)) + q (ix2 r d)

/-! ## The blocks read, row by row -/

/-- Rows of the cotangent read from a block. -/
theorem ld_a (X : Vec Ideal (Mat 1024 n) .bf16) (o : ℕ) (h) (i : Fin 1024) (r : Fin 256) (k : Fin n) (hi : i.val = o + r.val) :
    View.ld X (Rect.unit (s := Mat 1024 n) ![o, 0] ![256, n] h) (ix2 r k) = X (ix2 i k) := by
  refine View.ld_unit_apply_of X _ _ _ _ _ fun a => ?_
  match a with
  | ⟨0, _⟩ => show i.val = o + r.val; omega
  | ⟨1, _⟩ => show k.val = 0 + k.val; omega

/-- The rows' cotangent is the block's. -/
theorem hyP_eq (A W : Vec Ideal (Mat 1024 n) .bf16) (o : ℕ) (ha) (i : Fin 1024) (r : Fin 256) (d : Fin 1024)
    (hi : i.val = o + r.val) :
    hyP W (View.ld A (Rect.unit (s := Mat 1024 n) ![o, 0] ![256, n] ha)) r d = hy A W i d := by
  unfold hyP hy
  exact Finset.sum_congr rfl fun k _ => Ideal.mul_congr (ld_a A o ha i r k hi) rfl

/-- The rows' reciprocal root mean square is the block's. -/
theorem rsP_eq (X : Vec Ideal (Mat 1024 1024) .f32) (o : ℕ) (hx) (i : Fin 1024) (r : Fin 256) (hi : i.val = o + r.val) :
    rsP (View.ld X (Rect.unit (s := Mat 1024 1024) ![o, 0] ![256, 1024] hx)) r = rs X i := by
  unfold rsP rs
  have e : ∑ e : Fin 1024, View.ld X (Rect.unit (s := Mat 1024 1024) ![o, 0] ![256, 1024] hx) (ix2 r e) * View.ld X (Rect.unit (s := Mat 1024 1024) ![o, 0] ![256, 1024] hx) (ix2 r e)
      = ∑ e : Fin 1024, X (ix2 i e) * X (ix2 i e) :=
    Finset.sum_congr rfl fun e _ => Ideal.mul_congr (ld_z X o hx i r e hi) (ld_z X o hx i r e hi)
  exact congrArg (fun s => Ideal.rsqrt (Ideal.div s _ + _)) e

/-- The rows' gradient of the norm's input is the block's. -/
theorem dxP_eq (A W : Vec Ideal (Mat 1024 n) .bf16) (X Q : Vec Ideal (Mat 1024 1024) .f32) (g : Vec Ideal (Mat 1 1024) .f32)
    (o : ℕ) (ha hx) (i : Fin 1024) (r : Fin 256) (d : Fin 1024) (hi : i.val = o + r.val) :
    dxP g W (View.ld A (Rect.unit (s := Mat 1024 n) ![o, 0] ![256, n] ha))
        (View.ld X (Rect.unit (s := Mat 1024 1024) ![o, 0] ![256, 1024] hx)) (View.ld Q (Rect.unit (s := Mat 1024 1024) ![o, 0] ![256, 1024] hx)) r d
      = dx A W X Q g i d := by
  have e1 := fun e => hyP_eq A W o ha i r e hi
  have e2 := fun e => ld_z X o hx i r e hi
  have e3 := rsP_eq X o hx i r hi
  have e4 := ld_z Q o hx i r d hi
  unfold dxP dx mean
  have e : ∀ e : Fin 1024, _ := fun e => Ideal.mul_congr (Ideal.mul_congr (e1 e) (rfl : g (ix2 0 e) = g (ix2 0 e))) (Ideal.mul_congr (e2 e) e3)
  refine Ideal.add_congr (Ideal.mul_congr e3 ?_) e4
  refine congrArg₂ (· - ·) (Ideal.mul_congr (e1 d) rfl) (Ideal.mul_congr (Ideal.mul_congr (e2 d) e3) ?_)
  exact congrArg (Ideal.div · _) (Finset.sum_congr rfl fun k _ => e k)

/-- The rows' share of the gain's gradient is the block's. -/
theorem dgP_eq (A W : Vec Ideal (Mat 1024 n) .bf16) (X : Vec Ideal (Mat 1024 1024) .f32)
    (o : ℕ) (ha hx) (i : Fin 1024) (r : Fin 256) (d : Fin 1024) (hi : i.val = o + r.val) :
    hyP W (View.ld A (Rect.unit (s := Mat 1024 n) ![o, 0] ![256, n] ha)) r d
      * (View.ld X (Rect.unit (s := Mat 1024 1024) ![o, 0] ![256, 1024] hx) (ix2 r d) * rsP (View.ld X (Rect.unit (s := Mat 1024 1024) ![o, 0] ![256, 1024] hx)) r)
      = dg A W X i d :=
  Ideal.mul_congr (hyP_eq A W o ha i r d hi) (Ideal.mul_congr (ld_z X o hx i r d hi) (rsP_eq X o hx i r hi))

/-- The four row pieces. -/
theorem piece_cases (i : Fin 1024) : ∃ r : Fin 256, i.val = 0 + r.val ∨ i.val = 256 + r.val ∨ i.val = 512 + r.val ∨ i.val = 768 + r.val :=
  ⟨⟨i.val % 256, by omega⟩, by have := i.isLt; simp only; omega⟩

/-- A sum over 8192 rows is the sum over its eight blocks of 1024 rows. -/
theorem sum_blocks (f : Fin 8192 → EReal) :
    ∑ j, f j = ∑ s : Fin 8, ∑ t : Fin 1024, f ⟨1024 * s.val + t.val, by omega⟩ := by
  rw [Fin.sum_univ_tiles 8 1024 rfl f]
  refine Finset.sum_congr rfl fun s _ => Finset.sum_congr rfl fun t _ => congrArg f (Fin.ext ?_)
  simp only
  omega

end Cert.Rows

end
-- ==== Proof.HinPay.lean ====
module

public import proofs.«01_k».proof.Proof.Gen.Kernel9Ideal.Value
public import proofs.«01_k».proof.Proof.Rows
public import Idealize.ShloMosaic.Lib.Pipeline.ValueKit
public import Idealize.ShloMosaic.Lib.Pointwise

/-! What one grid point of the in-projection's product with the RMS-norm backward leaves in its two output blocks.

A grid point holds 1024 rows of the cotangent, the whole weight, the same 1024 rows of the norm's input and of the residual
cotangent, and the norm's gain. The body works on the rows in four pieces of 256. -/

@[expose] public section

set_option maxRecDepth 16384

noncomputable section

open Idealize.ShloMosaic Idealize.ShloMosaic.TcCoe Idealize.SL.Sem

namespace Cert.Kernel9Ideal.Body

open Cert.Kernel9Ideal Cert.Kernel9Ideal.Gen Cert.Rows

/-- The first piece's cotangent. -/
theorem hy1_at (w a) (r : Fin 256) (d : Fin 1024) : k0_pay5 (F := Ideal) w a (ix2 r d) = hyP w a r d := by
  pointwise [k0_pay5, k0_pay4, hyP]

/-- The first piece's reciprocal root mean squares. -/
theorem rs1_at (x) (r : Fin 256) : k0_pay6 (F := Ideal) x (ix2 r 0) = rsP x r := by
  pointwise [k0_pay6, rsP]

/-- The first piece, normalised. -/
theorem nx1_at (x) (r : Fin 256) (d : Fin 1024) : k0_pay7 (F := Ideal) x (ix2 r d) = x (ix2 r d) * rsP x r := by
  rw [← rs1_at]
  unfold k0_pay7
  generalize k0_pay6 (F := Ideal) x = Y
  pointwise []

/-- The second piece's cotangent. -/
theorem hy2_at (w a) (r : Fin 256) (d : Fin 1024) : k0_pay11 (F := Ideal) (k0_pay4 w) (k0_pay10 a) (ix2 r d) = hyP w a r d := by
  pointwise [k0_pay11, k0_pay4, k0_pay10, hyP]

/-- The second piece's reciprocal root mean squares. -/
theorem rs2_at (x) (r : Fin 256) : k0_pay12 (F := Ideal) x (ix2 r 0) = rsP x r := by
  pointwise [k0_pay12, rsP]

/-- The second piece, normalised. -/
theorem nx2_at (x) (r : Fin 256) (d : Fin 1024) : k0_pay13 (F := Ideal) x (ix2 r d) = x (ix2 r d) * rsP x r := by
  rw [← rs2_at]
  unfold k0_pay13
  generalize k0_pay12 (F := Ideal) x = Y
  pointwise []

/-- The third piece's cotangent. -/
theorem hy3_at (w a) (r : Fin 256) (d : Fin 1024) : k0_pay16 (F := Ideal) (k0_pay4 w) a (ix2 r d) = hyP w a r d := by
  pointwise [k0_pay16, k0_pay4, hyP]

/-- The third piece's reciprocal root mean squares. -/
theorem rs3_at (x) (r : Fin 256) : k0_pay18 (F := Ideal) (k0_pay17 x) (ix2 r 0) = rsP x r := by
  pointwise [k0_pay18, k0_pay17, rsP]

/-- The third piece, normalised. -/
theorem nx3_at (x) (r : Fin 256) (d : Fin 1024) : k0_pay19 (F := Ideal) x (k0_pay17 x) (ix2 r d) = x (ix2 r d) * rsP x r := by
  rw [← rs3_at]
  unfold k0_pay19
  generalize k0_pay18 (F := Ideal) (k0_pay17 x) = Y
  pointwise []

/-- The fourth piece's cotangent. -/
theorem hy4_at (w a) (r : Fin 256) (d : Fin 1024) : k0_pay22 (F := Ideal) (k0_pay4 w) a (ix2 r d) = hyP w a r d := by
  pointwise [k0_pay22, k0_pay4, hyP]

/-- The fourth piece's reciprocal root mean squares. -/
theorem rs4_at (x) (r : Fin 256) : k0_pay23 (F := Ideal) x (ix2 r 0) = rsP x r := by
  pointwise [k0_pay23, rsP]

/-- The fourth piece, normalised. -/
theorem nx4_at (x) (r : Fin 256) (d : Fin 1024) : k0_pay24 (F := Ideal) x (ix2 r d) = x (ix2 r d) * rsP x r := by
  rw [← rs4_at]
  unfold k0_pay24
  generalize k0_pay23 (F := Ideal) x = Y
  pointwise []

/-- The first piece's gradient of the norm's input. -/
theorem dx1_at (g w a x q) (r : Fin 256) (d : Fin 1024) :
    k0_pay8 (F := Ideal) g w a x q (ix2 r d) = dxP g w a x q r d := by
  have hY := hy1_at w a
  have hZ := nx1_at x
  have hR := rs1_at x
  unfold dxP k0_pay8
  generalize k0_pay5 (F := Ideal) w a = Y at *
  generalize k0_pay7 (F := Ideal) x = Z at *
  generalize k0_pay6 (F := Ideal) x = R at *
  pointwise []
  simp only [hY, hZ, hR]

/-- The second piece's gradient of the norm's input. -/
theorem dx2_at (g w a x q) (r : Fin 256) (d : Fin 1024) :
    k0_pay14 (F := Ideal) g (k0_pay4 w) (k0_pay10 a) x q (ix2 r d) = dxP g w a x q r d := by
  have hY := hy2_at w a
  have hZ := nx2_at x
  have hR := rs2_at x
  unfold dxP k0_pay14
  generalize k0_pay11 (F := Ideal) (k0_pay4 w) (k0_pay10 a) = Y at *
  generalize k0_pay13 (F := Ideal) x = Z at *
  generalize k0_pay12 (F := Ideal) x = R at *
  pointwise []
  simp only [hY, hZ, hR]

/-- The third piece's gradient of the norm's input. -/
theorem dx3_at (g w a x q) (r : Fin 256) (d : Fin 1024) :
    k0_pay20 (F := Ideal) g (k0_pay16 (k0_pay4 w) a) x q (k0_pay17 x) (ix2 r d) = dxP g w a x q r d := by
  have hY := hy3_at w a
  have hZ := nx3_at x
  have hR := rs3_at x
  unfold dxP k0_pay20
  generalize k0_pay16 (F := Ideal) (k0_pay4 w) a = Y at *
  generalize k0_pay19 (F := Ideal) x (k0_pay17 x) = Z at *
  generalize k0_pay18 (F := Ideal) (k0_pay17 x) = R at *
  pointwise []
  simp only [hY, hZ, hR]

/-- The fourth piece's gradient of the norm's input. -/
theorem dx4_at (g w a x q) (r : Fin 256) (d : Fin 1024) :
    k0_pay1 (F := Ideal) (k0_pay22 (k0_pay4 w) a) q (k0_pay23 x) (k0_pay24 x) (k0_pay25 g) (ix2 r d) = dxP g w a x q r d := by
  have hY := hy4_at w a
  have hZ := nx4_at x
  have hR := rs4_at x
  unfold dxP k0_pay1 k0_pay25
  generalize k0_pay22 (F := Ideal) (k0_pay4 w) a = Y at *
  generalize k0_pay24 (F := Ideal) x = Z at *
  generalize k0_pay23 (F := Ideal) x = R at *
  pointwise []
  simp only [hY, hZ, hR]

/-- The gain's gradient after a grid point: what stood there plus the point's rows. -/
theorem gain_at (w a1 x1 a2 x2 a3 x3 a4 x4) (v : Vec Ideal S1x1024 .f32) (d : Fin 1024) :
    k0_pay3 (F := Ideal) (k0_pay21 (k0_pay15 (k0_pay4 w) (k0_pay9 w a1 x1) (k0_pay10 a2) x2) (k0_pay16 (k0_pay4 w) a3) x3 (k0_pay17 x3))
        (k0_pay22 (k0_pay4 w) a4) (k0_pay24 x4) v (ix2 0 d)
      = v (ix2 0 d) + (∑ r : Fin 256, hyP w a1 r d * (x1 (ix2 r d) * rsP x1 r) + ∑ r : Fin 256, hyP w a2 r d * (x2 (ix2 r d) * rsP x2 r)
        + ∑ r : Fin 256, hyP w a3 r d * (x3 (ix2 r d) * rsP x3 r) + ∑ r : Fin 256, hyP w a4 r d * (x4 (ix2 r d) * rsP x4 r)) := by
  have hY1 := hy1_at w a1
  have hZ1 := nx1_at x1
  have hY2 := hy2_at w a2
  have hZ2 := nx2_at x2
  have hY3 := hy3_at w a3
  have hZ3 := nx3_at x3
  have hY4 := hy4_at w a4
  have hZ4 := nx4_at x4
  unfold k0_pay3 k0_pay21 k0_pay15 k0_pay9
  generalize k0_pay5 (F := Ideal) w a1 = Y1 at *
  generalize k0_pay7 (F := Ideal) x1 = Z1 at *
  generalize k0_pay11 (F := Ideal) (k0_pay4 w) (k0_pay10 a2) = Y2 at *
  generalize k0_pay13 (F := Ideal) x2 = Z2 at *
  generalize k0_pay16 (F := Ideal) (k0_pay4 w) a3 = Y3 at *
  generalize k0_pay19 (F := Ideal) x3 (k0_pay17 x3) = Z3 at *
  generalize k0_pay22 (F := Ideal) (k0_pay4 w) a4 = Y4 at *
  generalize k0_pay24 (F := Ideal) x4 = Z4 at *
  pointwise []
  simp only [hY1, hZ1, hY2, hZ2, hY3, hZ3, hY4, hZ4]

/-- The zeros the gain's gradient starts from. -/
theorem zeros_apply (d : Fin 1024) : k0_pay2 (F := Ideal) (ix2 0 d) = 0 := by
  pointwise [k0_pay2]

end Cert.Kernel9Ideal.Body

end
-- ==== Proof.HinBody.lean ====
module

public import proofs.«01_k».proof.Proof.HinPay
public import proofs.«01_k».proof.Proof.GradLemmas

/-! What one grid point of the in-projection's product with the RMS-norm backward leaves in its two output blocks. -/

@[expose] public section

set_option maxRecDepth 16384

noncomputable section

open Idealize.ShloMosaic Idealize.ShloMosaic.TcCoe Idealize.SL.Sem

namespace Cert.Kernel9Ideal.Body

open Cert.Kernel9Ideal Cert.Kernel9Ideal.Gen Cert.Rows

variable (m : (ℓ : Loc nD τ sig) → Buf (Elt Ideal) ℓ)

/-- What a grid point reads: the cotangent. -/
abbrev aB (c : Dev nD) (t : Fin cfg0.N) : Vec Ideal S1024x2048 .bf16 := iblk m c 0 t
/-- What a grid point reads: the weight. -/
abbrev wB (c : Dev nD) (t : Fin cfg0.N) : Vec Ideal S1024x2048 .bf16 := iblk m c 1 t
/-- What a grid point reads: the norm's input. -/
abbrev xB (c : Dev nD) (t : Fin cfg0.N) : Vec Ideal S1024x1024 .f32 := iblk m c 2 t
/-- What a grid point reads: the residual cotangent. -/
abbrev rB (c : Dev nD) (t : Fin cfg0.N) : Vec Ideal S1024x1024 .f32 := iblk m c 3 t
/-- What a grid point reads: the gain. -/
abbrev gB (c : Dev nD) (t : Fin cfg0.N) : Vec Ideal S1x1024 .f32 := iblk m c 4 t

/-- A grid point's rows of the input's gradient. -/
theorem dx_block (c : Dev nD) (t : Fin cfg0.N) (i : Fin 1024) (d : Fin 1024) :
    (outsAt0 m c t.val t.isLt).1 (ix2 i d) = dx (aB m c t) (wB m c t) (xB m c t) (rB m c t) (gB m c t) i d := by
  obtain ⟨r, hr⟩ := piece_cases i
  rcases Nat.lt_or_ge (t.val % 8) 1 with hlo | hlo
  · rw [outsAt0_A m c t (by omega)]
    frame_out
    rcases hr with hr | hr | hr | hr
    · refine (Cert.Grad.canon_miss _ _ _ _ i d (by omega)).trans ?_
      refine (Cert.Grad.canon_miss _ _ _ _ i d (by omega)).trans ?_
      refine (Cert.Grad.canon_miss _ _ _ _ i d (by omega)).trans ?_
      refine (Cert.Grad.canon_hit _ _ _ _ i r d (by omega)).trans ?_
      refine (dx1_at _ _ _ _ _ r d).trans ?_
      exact dxP_eq _ _ _ _ _ 0 _ _ i r d hr
    · refine (Cert.Grad.canon_miss _ _ _ _ i d (by omega)).trans ?_
      refine (Cert.Grad.canon_miss _ _ _ _ i d (by omega)).trans ?_
      refine (Cert.Grad.canon_hit _ _ _ _ i r d (by omega)).trans ?_
      refine (dx2_at _ _ _ _ _ r d).trans ?_
      exact dxP_eq _ _ _ _ _ 256 _ _ i r d hr
    · refine (Cert.Grad.canon_miss _ _ _ _ i d (by omega)).trans ?_
      refine (Cert.Grad.canon_hit _ _ _ _ i r d (by omega)).trans ?_
      refine (dx3_at _ _ _ _ _ r d).trans ?_
      exact dxP_eq _ _ _ _ _ 512 _ _ i r d hr
    · refine (Cert.Grad.canon_hit _ _ _ _ i r d (by omega)).trans ?_
      refine (dx4_at _ _ _ _ _ r d).trans ?_
      exact dxP_eq _ _ _ _ _ 768 _ _ i r d hr
  · rw [outsAt0_B m c t (by omega)]
    frame_out
    rcases hr with hr | hr | hr | hr
    · refine (Cert.Grad.canon_miss _ _ _ _ i d (by omega)).trans ?_
      refine (Cert.Grad.canon_miss _ _ _ _ i d (by omega)).trans ?_
      refine (Cert.Grad.canon_miss _ _ _ _ i d (by omega)).trans ?_
      refine (Cert.Grad.canon_hit _ _ _ _ i r d (by omega)).trans ?_
      refine (dx1_at _ _ _ _ _ r d).trans ?_
      exact dxP_eq _ _ _ _ _ 0 _ _ i r d hr
    · refine (Cert.Grad.canon_miss _ _ _ _ i d (by omega)).trans ?_
      refine (Cert.Grad.canon_miss _ _ _ _ i d (by omega)).trans ?_
      refine (Cert.Grad.canon_hit _ _ _ _ i r d (by omega)).trans ?_
      refine (dx2_at _ _ _ _ _ r d).trans ?_
      exact dxP_eq _ _ _ _ _ 256 _ _ i r d hr
    · refine (Cert.Grad.canon_miss _ _ _ _ i d (by omega)).trans ?_
      refine (Cert.Grad.canon_hit _ _ _ _ i r d (by omega)).trans ?_
      refine (dx3_at _ _ _ _ _ r d).trans ?_
      exact dxP_eq _ _ _ _ _ 512 _ _ i r d hr
    · refine (Cert.Grad.canon_hit _ _ _ _ i r d (by omega)).trans ?_
      refine (dx4_at _ _ _ _ _ r d).trans ?_
      exact dxP_eq _ _ _ _ _ 768 _ _ i r d hr

/-- The first grid point leaves its rows' share of the gain's gradient. -/
theorem dg_first (c : Dev nD) (t : Fin cfg0.N) (h0 : t.val % 8 = 0) (d : Fin 1024) :
    (outsAt0 m c t.val t.isLt).2 (ix2 0 d) = ∑ i : Fin 1024, dg (aB m c t) (wB m c t) (xB m c t) i d := by
  rw [sum_rows, ← zero_add (∑ t : Fin 256, _ + _ + _ + _), outsAt0_A m c t h0]
  frame_out
  refine (gain_at _ _ _ _ _ _ _ _ _ _ d).trans ?_
  refine Ideal.add_congr ?_ (Ideal.add_congr (Ideal.add_congr (Ideal.add_congr (Finset.sum_congr rfl fun r _ => ?_) (Finset.sum_congr rfl fun r _ => ?_)) (Finset.sum_congr rfl fun r _ => ?_)) (Finset.sum_congr rfl fun r _ => ?_))
  · exact zeros_apply d
  · exact dgP_eq _ _ _ 0 _ _ _ r d (by simp only; omega)
  · exact dgP_eq _ _ _ 256 _ _ _ r d rfl
  · exact dgP_eq _ _ _ 512 _ _ _ r d rfl
  · exact dgP_eq _ _ _ 768 _ _ _ r d rfl

/-- A later grid point adds its rows' share to the gain's gradient. -/
theorem dg_next (c : Dev nD) (t : Fin cfg0.N) (h0 : ¬t.val % 8 = 0) (d : Fin 1024) :
    (outsAt0 m c t.val t.isLt).2 (ix2 0 d)
      = (outsAt0 m c (t.val - 1) (Nat.lt_of_le_of_lt (Nat.sub_le _ _) t.isLt)).2 (ix2 0 d)
        + ∑ i : Fin 1024, dg (aB m c t) (wB m c t) (xB m c t) i d := by
  rw [sum_rows, outsAt0_B m c t h0]
  frame_out
  refine (gain_at _ _ _ _ _ _ _ _ _ _ d).trans ?_
  refine Ideal.add_congr ?_ (Ideal.add_congr (Ideal.add_congr (Ideal.add_congr (Finset.sum_congr rfl fun r _ => ?_) (Finset.sum_congr rfl fun r _ => ?_)) (Finset.sum_congr rfl fun r _ => ?_)) (Finset.sum_congr rfl fun r _ => ?_))
  · rfl
  · exact dgP_eq _ _ _ 0 _ _ _ r d (by simp only; omega)
  · exact dgP_eq _ _ _ 256 _ _ _ r d rfl
  · exact dgP_eq _ _ _ 512 _ _ _ r d rfl
  · exact dgP_eq _ _ _ 768 _ _ _ r d rfl

end Cert.Kernel9Ideal.Body

end
-- ==== Proof.HinFinal.lean ====
module

public import proofs.«01_k».proof.Proof.HinBody
public import proofs.«01_k».proof.Proof.NormMath

/-! The two result arrays of the in-projection's product with the RMS-norm backward, as functions of the program's arguments. -/

@[expose] public section

set_option maxRecDepth 16384

noncomputable section

open Idealize.ShloMosaic Idealize.ShloMosaic.TcCoe Idealize.SL.Sem

namespace Cert.Kernel9Ideal.Final

open Cert.Kernel9Ideal Cert.Kernel9Ideal.Gen Cert.Kernel9Ideal.Body Cert.Rows

variable (m : (ℓ : Loc nD τ sig) → Buf (Elt Ideal) ℓ)

/-- The norm's input. -/
abbrev arg0 (c : Dev nD) : FVec Ideal S8192x1024 .f32 := m ((c : Thread nD τ).loc main_arg0)
/-- The gain. -/
abbrev arg1 (c : Dev nD) : FVec Ideal S1x1024 .f32 := m ((c : Thread nD τ).loc main_arg1)
/-- The weight. -/
abbrev arg2 (c : Dev nD) : FVec Ideal S1024x2048 .f32 := m ((c : Thread nD τ).loc main_arg2)
/-- The residual cotangent. -/
abbrev arg3 (c : Dev nD) : FVec Ideal S8192x1024 .f32 := m ((c : Thread nD τ).loc main_arg3)
/-- The product's cotangent. -/
abbrev arg4 (c : Dev nD) : FVec Ideal S8192x2048 .f32 := m ((c : Thread nD τ).loc main_arg4)

/-- The call's cotangent. -/
theorem v0 (c : Dev nD) : V m c main_v0 = (truncf .bf16 (arg4 m c) bitsLt_bf16_f32 : FVec Ideal S8192x2048 .bf16) := by
  simp only [V, List.flatten_cons, List.flatten_nil, List.append_nil, List.cons_append, List.nil_append, hostOps0]
  after_results

/-- The call's weight. -/
theorem v1 (c : Dev nD) : V m c main_v1 = (truncf .bf16 (arg2 m c) bitsLt_bf16_f32 : FVec Ideal S1024x2048 .bf16) := by
  simp only [V, List.flatten_cons, List.flatten_nil, List.append_nil, List.cons_append, List.nil_append, hostOps0]
  after_results

/-- The blocks the windows read and write at each grid point. -/
theorem idx : ∀ t : Fin cfg0.N,
    win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The `i`-th row of a grid point. -/
abbrev row (t : Fin cfg0.N) (i : Fin 1024) : Fin 8192 := ⟨1024 * t.val + i.val, by have : t.val < 8 := t.isLt; omega⟩

/-- Where window 0's block lies in its array. -/
theorem a_emb (c : Dev nD) (X : (b : Ref sig .tc) → Buf (Elt Ideal) ((c : Thread nD τ).loc b)) (t : Fin cfg0.N) (i : Fin 1024) (k : Fin 2048) :
    View.read (Elt Ideal) ((cfg0.win 0).blk t).view (X (Pipeline.arrRef spec0 0)) (ix2 i k) = X main_v0 (ix2 (row t i) k) := by
  blk_simp
  refine congrArg (show Vec Ideal S8192x2048 .bf16 from X main_v0) ?_
  blk_ext [idx t]
/-- Window 0's block, read in its array. -/
theorem a_at (c : Dev nD) (t : Fin cfg0.N) (i : Fin 1024) (k : Fin 2048) : aB m c t (ix2 i k) = arg4 m c (ix2 (row t i) k) := by
  exact (a_emb c (V m c) t i k).trans (congrFun (v0 m c) _)

/-- Where window 1's block lies in its array. -/
theorem w_emb (c : Dev nD) (X : (b : Ref sig .tc) → Buf (Elt Ideal) ((c : Thread nD τ).loc b)) (t : Fin cfg0.N) (d : Fin 1024) (k : Fin 2048) :
    View.read (Elt Ideal) ((cfg0.win 1).blk t).view (X (Pipeline.arrRef spec0 1)) (ix2 d k) = X main_v1 (ix2 d k) := by
  blk_simp
  refine congrArg (show Vec Ideal S1024x2048 .bf16 from X main_v1) ?_
  blk_ext [idx t]
/-- Window 1's block, read in its array. -/
theorem w_at (c : Dev nD) (t : Fin cfg0.N) (d : Fin 1024) (k : Fin 2048) : wB m c t (ix2 d k) = arg2 m c (ix2 d k) := by
  exact (w_emb c (V m c) t d k).trans (congrFun (v1 m c) _)

/-- Where window 2's block lies in its array. -/
theorem x_emb (c : Dev nD) (X : (b : Ref sig .tc) → Buf (Elt Ideal) ((c : Thread nD τ).loc b)) (t : Fin cfg0.N) (i : Fin 1024) (d : Fin 1024) :
    View.read (Elt Ideal) ((cfg0.win 2).blk t).view (X (Pipeline.arrRef spec0 2)) (ix2 i d) = X main_arg0 (ix2 (row t i) d) := by
  blk_simp
  refine congrArg (show Vec Ideal S8192x1024 .f32 from X main_arg0) ?_
  blk_ext [idx t]
/-- Window 2's block, read in its array. -/
theorem x_at (c : Dev nD) (t : Fin cfg0.N) (i : Fin 1024) (d : Fin 1024) : xB m c t (ix2 i d) = arg0 m c (ix2 (row t i) d) := by
  exact (x_emb c (V m c) t i d).trans (congrFun (V_main_arg0 m c) _)

/-- Where window 3's block lies in its array. -/
theorem r_emb (c : Dev nD) (X : (b : Ref sig .tc) → Buf (Elt Ideal) ((c : Thread nD τ).loc b)) (t : Fin cfg0.N) (i : Fin 1024) (d : Fin 1024) :
    View.read (Elt Ideal) ((cfg0.win 3).blk t).view (X (Pipeline.arrRef spec0 3)) (ix2 i d) = X main_arg3 (ix2 (row t i) d) := by
  blk_simp
  refine congrArg (show Vec Ideal S8192x1024 .f32 from X main_arg3) ?_
  blk_ext [idx t]
/-- Window 3's block, read in its array. -/
theorem r_at (c : Dev nD) (t : Fin cfg0.N) (i : Fin 1024) (d : Fin 1024) : rB m c t (ix2 i d) = arg3 m c (ix2 (row t i) d) := by
  exact (r_emb c (V m c) t i d).trans (congrFun (V_main_arg3 m c) _)

/-- Where window 4's block lies in its array. -/
theorem g_emb (c : Dev nD) (X : (b : Ref sig .tc) → Buf (Elt Ideal) ((c : Thread nD τ).loc b)) (t : Fin cfg0.N) (d : Fin 1024) :
    View.read (Elt Ideal) ((cfg0.win 4).blk t).view (X (Pipeline.arrRef spec0 4)) (ix2 0 d) = X main_arg1 (ix2 0 d) := by
  blk_simp
  refine congrArg (show Vec Ideal S1x1024 .f32 from X main_arg1) ?_
  blk_ext [idx t]
/-- Window 4's block, read in its array. -/
theorem g_at (c : Dev nD) (t : Fin cfg0.N) (d : Fin 1024) : gB m c t (ix2 0 d) = arg1 m c (ix2 0 d) := by
  exact (g_emb c (V m c) t d).trans (congrFun (V_main_arg1 m c) _)

/-- A row of the norm's input. -/
abbrev xRow (c : Dev nD) (i : Fin 8192) : Fin 1024 → EReal := fun e => arg0 m c (ix2 i e)
/-- A row of the cotangent of the norm's output. -/
abbrev yRow (c : Dev nD) (i : Fin 8192) : Fin 1024 → EReal := fun e => ∑ k : Fin 2048, arg4 m c (ix2 i k) * arg2 m c (ix2 e k)
/-- The gain's row. -/
abbrev gRow (c : Dev nD) : Fin 1024 → EReal := fun e => arg1 m c (ix2 0 e)

/-- A grid point's cotangent of the norm's output. -/
theorem hy_at (c : Dev nD) (t : Fin cfg0.N) (i : Fin 1024) (d : Fin 1024) :
    hy (aB m c t) (wB m c t) i d = yRow m c (row t i) d := by
  unfold hy
  exact Finset.sum_congr rfl fun k _ => Ideal.mul_congr (a_at m c t i k) (w_at m c t d k)

/-- A grid point's reciprocal root mean square. -/
theorem rs_at (c : Dev nD) (t : Fin cfg0.N) (i : Fin 1024) : rs (xB m c t) i = Cert.Norm.rs (xRow m c (row t i)) := by
  unfold rs Cert.Norm.rs Cert.Norm.var
  have e : ∑ e : Fin 1024, xB m c t (ix2 i e) * xB m c t (ix2 i e) = ∑ e, xRow m c (row t i) e * xRow m c (row t i) e :=
    Finset.sum_congr rfl fun e _ => Ideal.mul_congr (x_at m c t i e) (x_at m c t i e)
  rw [e]

/-- A grid point's rows of the input's gradient. -/
theorem dx_at (c : Dev nD) (t : Fin cfg0.N) (i : Fin 1024) (d : Fin 1024) :
    dx (aB m c t) (wB m c t) (xB m c t) (rB m c t) (gB m c t) i d
      = Cert.Norm.closed (xRow m c (row t i)) (yRow m c (row t i)) (gRow m c) (arg3 m c (ix2 (row t i) d)) d := by
  unfold dx mean Cert.Norm.closed
  rw [rs_at, hy_at, g_at, x_at, r_at]
  have e : ∑ e : Fin 1024, hy (aB m c t) (wB m c t) i e * gB m c t (ix2 0 e) * (xB m c t (ix2 i e) * Cert.Norm.rs (xRow m c (row t i)))
      = ∑ e, yRow m c (row t i) e * gRow m c e * (xRow m c (row t i) e * Cert.Norm.rs (xRow m c (row t i))) :=
    Finset.sum_congr rfl fun e _ => Ideal.mul_congr (Ideal.mul_congr (hy_at m c t i e) (g_at m c t e)) (Ideal.mul_congr (x_at m c t i e) rfl)
  rw [e]

/-- The call's gradient of the norm's input. -/
def DX (c : Dev nD) : Vec Ideal S8192x1024 .f32 := fun y =>
  Cert.Norm.closed (xRow m c (y 0)) (yRow m c (y 0)) (gRow m c) (arg3 m c (ix2 (y 0) (y 1))) (y 1)

/-- One row's share of the gain's gradient. -/
def gain (c : Dev nD) (d : Fin 1024) (i : Fin 8192) : EReal :=
  yRow m c i d * (xRow m c i d * Cert.Norm.rs (xRow m c i))

/-- The call's gradient of the gain. -/
def DG (c : Dev nD) : Vec Ideal S1x1024 .f32 := fun y => ∑ i : Fin 8192, gain m c (y 1) i

/-- A grid point's rows' share of the gain's gradient. -/
theorem dg_at (c : Dev nD) (t : Fin cfg0.N) (d : Fin 1024) :
    ∑ i : Fin 1024, dg (aB m c t) (wB m c t) (xB m c t) i d = ∑ i : Fin 1024, gain m c d (row t i) := by
  refine Finset.sum_congr rfl fun i _ => ?_
  unfold dg gain
  rw [rs_at, hy_at, x_at]

/-- The contents after a point depend on the point's number only. -/
theorem outs_congr (c : Dev nD) (d : Fin 1024) (n n' : ℕ) (hn : n < cfg0.N) (hn' : n' < cfg0.N) (h : n = n') :
    (outsAt0 m c n hn).2 (ix2 0 d) = (outsAt0 m c n' hn').2 (ix2 0 d) := by
  subst h; rfl

/-- After a grid point the gain's gradient is the sum over the rows so far. -/
theorem dg_partial (c : Dev nD) (d : Fin 1024) : ∀ (b : ℕ) (hb : b < 8) (ht : b < cfg0.N),
    (outsAt0 m c b ht).2 (ix2 0 d) = ∑ s : Fin (b + 1), ∑ i : Fin 1024, gain m c d ⟨1024 * s.val + i.val, by omega⟩
  | 0, hb, ht => by
    have e := dg_first m c ⟨0, ht⟩ (by simp only) d
    rw [dg_at] at e
    refine e.trans ?_
    rw [Fin.sum_univ_one]
    exact Finset.sum_congr rfl fun i _ => congrArg (gain m c d) (Fin.ext (by simp only [row, Fin.val_zero]))
  | b + 1, hb, ht => by
    have e := dg_next m c ⟨b + 1, ht⟩ (by simp only; omega) d
    rw [dg_at] at e
    refine e.trans ?_
    refine Eq.trans ?_ (Fin.sum_univ_castSucc _).symm
    refine Ideal.add_congr ?_ ?_
    · exact (outs_congr m c d (b + 1 - 1) b _ (Nat.lt_of_succ_lt ht) (by omega)).trans
        (dg_partial c d b (by omega) (Nat.lt_of_succ_lt ht))
    · exact Finset.sum_congr rfl fun i _ => congrArg (gain m c d) (Fin.ext (by simp only [row, Fin.val_last]))

/-- Where an input-gradient block lies in its array. -/
theorem dx_emb (t : Fin cfg0.N) (i : Fin 1024) (d : Fin 1024) :
    (win0_5.blk t).view.emb (ix2 i d) = (ix2 (row t i) d : S8192x1024.Idx) := by
  blk_ext [idx t]

/-- The input-gradient array of the call. -/
theorem dx_final (c : Dev nD) : (dats m 0 c).arrAt 5 cfg0.N = DX m c := by
  refine (dats m 0 c).arrAt_eq_of_covers 5 _ (by decide +kernel) fun t hf y => ?_
  blk_simp
  rw [after0_5]
  idx_vars y
  refine (dx_block m c t y0 y1).trans (Eq.trans ?_ (congrArg (DX m c) (dx_emb t y0 y1)).symm)
  exact dx_at m c t y0 y1

/-- Where the gain-gradient block lies in its array. -/
theorem dg_emb (t : Fin cfg0.N) (d : Fin 1024) :
    (win0_6.blk t).view.emb (ix2 0 d) = (ix2 0 d : S1x1024.Idx) := by
  blk_ext [idx t]

/-- The gain-gradient array of the call. -/
theorem dg_final (c : Dev nD) : (dats m 0 c).arrAt 6 cfg0.N = DG m c := by
  refine (dats m 0 c).arrAt_eq_of_covers 6 _ (by decide +kernel) fun t hf y => ?_
  blk_simp
  rw [after0_6]
  idx_vars y
  have h7 : t.val = 7 := by
    have h := (flush0_6 t).mp hf
    have : t.val < 8 := t.isLt
    omega
  have z : y0 = 0 := Subsingleton.elim _ _
  subst z
  refine Eq.trans ?_ (congrArg (DG m c) (dg_emb t y1)).symm
  refine (outs_congr m c y1 t.val 7 t.isLt (by decide) h7).trans ?_
  refine (dg_partial m c y1 7 (by omega) (by decide)).trans ?_
  exact (sum_blocks (gain m c y1)).symm

end Cert.Kernel9Ideal.Final

end
-- ==== Proof.HinRef.lean ====
module

public import proofs.«01_k».proof.Proof.Gen.Reference9Ideal.Read
public import Idealize.ShloMosaic.Lib.Pointwise
public import proofs.«01_k».proof.Proof.NormMath

/-! The reference of the in-projection's product with the RMS-norm backward, one array at a time. -/

@[expose] public section

set_option maxRecDepth 16384

noncomputable section

open Idealize.ShloMosaic Idealize.ShloMosaic.TcCoe Idealize.SL.Sem

namespace Cert.Reference9Ideal.Norm

open Cert.Reference9Ideal Cert.Reference9Ideal.Gen Cert.Reference9Ideal.Read Cert.Norm

variable (x0 : FVec Ideal S8192x1024 .f32) (x1 : FVec Ideal S1x1024 .f32) (x2 : FVec Ideal S1024x2048 .f32)
  (x3 : FVec Ideal S8192x1024 .f32) (x4 : FVec Ideal S8192x2048 .f32)

/-- A row's mean square plus the small number. -/
theorem var_at (i : Fin 8192) : val_main_v7 (F := Ideal) x0 (ix2 i 0) = var (fun e => x0 (ix2 i e)) := by
  unfold var
  pointwise [val_main_v7, val_main_v6, val_main_v5, val_main_v4, val_main_v3, val_main_v2, val_main_v1, val_main_cst, val_main_cst_0, val_main_cst_1]

/-- A row's reciprocal root mean square. -/
theorem rs_at (i : Fin 8192) : val_main_v8 (F := Ideal) x0 (ix2 i 0) = rs (fun e => x0 (ix2 i e)) := by
  rw [val_main_v8_apply, Ideal.hostUnary_rsqrt_def, var_at]
  exact Eq.refl _

/-- The cotangent of the norm's output. -/
theorem hy_at (i : Fin 8192) (d : Fin 1024) :
    val_main_v18 (F := Ideal) x2 x4 (ix2 i d) = ∑ k : Fin 2048, x4 (ix2 i k) * x2 (ix2 d k) := by
  pointwise [val_main_v18]

/-- The cotangent of the norm's output times the gain. -/
theorem scaled_at (i : Fin 8192) (d : Fin 1024) :
    val_main_v23 (F := Ideal) x1 x2 x4 (ix2 i d) = val_main_v18 (F := Ideal) x2 x4 (ix2 i d) * x1 (ix2 0 d) := by
  unfold val_main_v23 val_main_v22 val_main_v14 val_main_v0
  generalize val_main_v18 (F := Ideal) x2 x4 = Y0
  pointwise []

/-- The chain rule's coefficient of a row. -/
theorem coef_at (i : Fin 8192) (d : Fin 1024) :
    val_main_v35 (F := Ideal) x0 x1 x2 x4 (ix2 i d)
      = Ideal.div ((∑ e : Fin 1024, x0 (ix2 i e) * val_main_v23 (F := Ideal) x1 x2 x4 (ix2 i e))
          * (mhalf * Ideal.div (val_main_v8 (F := Ideal) x0 (ix2 i 0)) (val_main_v7 (F := Ideal) x0 (ix2 i 0)))) len := by
  unfold val_main_v35 val_main_v34 val_main_cst_7 val_main_v33 val_main_v32 val_main_cst_6 val_main_v31 val_main_v27 val_main_v26 val_main_cst_5 val_main_v25 val_main_v11 val_main_v10 val_main_cst_2 val_main_v9
  generalize val_main_v23 (F := Ideal) x1 x2 x4 = Y0
  generalize val_main_v8 (F := Ideal) x0 = Y1
  generalize val_main_v7 (F := Ideal) x0 = Y2
  pointwise []
  rw [Fin.sum_univ_one]

/-- The input's gradient. -/
theorem sum_at (i : Fin 8192) (d : Fin 1024) :
    val_main_v39 (F := Ideal) x0 x1 x2 x3 x4 (ix2 i d)
      = x3 (ix2 i d) + val_main_v23 (F := Ideal) x1 x2 x4 (ix2 i d) * val_main_v8 (F := Ideal) x0 (ix2 i 0)
        + x0 (ix2 i d) * val_main_v35 (F := Ideal) x0 x1 x2 x4 (ix2 i d)
        + val_main_v35 (F := Ideal) x0 x1 x2 x4 (ix2 i d) * x0 (ix2 i d) := by
  unfold val_main_v39 val_main_v38 val_main_v37 val_main_v36 val_main_v30 val_main_v29 val_main_v28
  generalize val_main_v23 (F := Ideal) x1 x2 x4 = Y0
  generalize val_main_v8 (F := Ideal) x0 = Y1
  generalize val_main_v35 (F := Ideal) x0 x1 x2 x4 = Y2
  pointwise []

/-- The input's gradient is the chain rule's sum. -/
theorem dx_at (i : Fin 8192) (d : Fin 1024) :
    val_main_v39 (F := Ideal) x0 x1 x2 x3 x4 (ix2 i d)
      = chain (fun e => x0 (ix2 i e)) (fun e => ∑ k : Fin 2048, x4 (ix2 i k) * x2 (ix2 e k)) (fun e => x1 (ix2 0 e)) (x3 (ix2 i d)) d := by
  unfold chain coef
  rw [sum_at, coef_at, rs_at, var_at, scaled_at, hy_at]
  have e : (∑ e : Fin 1024, x0 (ix2 i e) * val_main_v23 (F := Ideal) x1 x2 x4 (ix2 i e))
      = ∑ e : Fin 1024, x0 (ix2 i e) * ((∑ k : Fin 2048, x4 (ix2 i k) * x2 (ix2 e k)) * x1 (ix2 0 e)) :=
    Finset.sum_congr rfl fun e _ => by rw [scaled_at, hy_at]
  rw [e]

/-- The gain's gradient. -/
theorem dg_at (d : Fin 1024) :
    val_main_v40 (F := Ideal) x0 x2 x4 (ix2 0 d)
      = ∑ i : Fin 8192, x0 (ix2 i d) * val_main_v8 (F := Ideal) x0 (ix2 i 0) * val_main_v18 (F := Ideal) x2 x4 (ix2 i d) := by
  unfold val_main_v40 val_main_v24 val_main_cst_4 val_main_v21 val_main_v20 val_main_cst_3 val_main_v19 val_main_v13 val_main_v12
  generalize val_main_v18 (F := Ideal) x2 x4 = Y0
  generalize val_main_v8 (F := Ideal) x0 = Y1
  pointwise []
  rw [Fin.sum_univ_one]

/-- The gain's gradient is the rows' sum of cotangent times normalised row. -/
theorem gain_at (d : Fin 1024) :
    val_main_v40 (F := Ideal) x0 x2 x4 (ix2 0 d)
      = ∑ i : Fin 8192, (∑ k : Fin 2048, x4 (ix2 i k) * x2 (ix2 d k)) * (x0 (ix2 i d) * rs (fun e => x0 (ix2 i e))) := by
  rw [dg_at]
  exact Finset.sum_congr rfl fun i _ => by rw [rs_at, hy_at, mul_comm]

end Cert.Reference9Ideal.Norm
end
-- ==== Proof.HinValue.lean ====
module

public import proofs.«01_k».proof.Defs
public import proofs.«01_k».proof.Proof.HinFinal
public import proofs.«01_k».proof.Proof.HinRef
public import proofs.«01_k».proof.Proof.Gen.Kernel9Ideal.Value
public import proofs.«01_k».proof.Proof.Gen.Reference9Ideal.Run

/-! The in-projection call's gradients of the norm's input and gain are the reference's, on every input. -/

@[expose] public section

set_option maxRecDepth 16384

noncomputable section

open Idealize.ShloMosaic Idealize.ShloMosaic.TcCoe Idealize.SL.Sem

namespace Cert.Hin

open Cert.Kernel9Ideal Cert.Kernel9Ideal.Gen Cert.Kernel9Ideal.Final Cert.Reference9Ideal.Read

variable (m : (ℓ : Loc nD τ sig) → Buf (Elt Ideal) ℓ) (c : Dev nD)

/-- The input's gradients agree. -/
theorem dx : val_main_v39 (F := Ideal) (arg0 m c) (arg1 m c) (arg2 m c) (arg3 m c) (arg4 m c) = DX m c := by
  funext y
  idx_vars y
  refine (Cert.Reference9Ideal.Norm.dx_at _ _ _ _ _ y0 y1).trans ?_
  exact (Cert.Norm.closed_eq _ _ _ _ y1).symm

/-- The gain's gradients agree. -/
theorem dg : val_main_v40 (F := Ideal) (arg0 m c) (arg2 m c) (arg4 m c) = DG m c := by
  funext y
  idx_vars y
  have z : y0 = 0 := Subsingleton.elim _ _
  subst z
  exact Cert.Reference9Ideal.Norm.gain_at _ _ _ y1

/-- The value claim: the call's two arrays are the gradients of the residual stream and the gain. -/
theorem algebraic : Cert.algebraic_Kernel9Ideal_Reference9Ideal := by
  intro m g m' g' hpre hagree
  refine ⟨fun c => DX m c, fun c => DG m c, ?_, ?_⟩
  · refine (θ_run _ _ _).mono (fun r h c => ?_) (Cert.Kernel9Ideal.Value.run_blocks m g)
    obtain ⟨e0, e1, k⟩ := h c
    exact ⟨e0.trans (dx_final m c), e1.trans (dg_final m c), k⟩
  · refine (θ_run _ _ _).mono (fun r h c => ?_) (Cert.Reference9Ideal.Value.run (F := Ideal) m' g')
    obtain ⟨e0, e1, k⟩ := h c
    obtain ⟨k0, k1, k2, k3, k4⟩ := hagree c
    refine ⟨e0.trans ((val_main_v39_eq m' c).trans ?_), e1.trans ((val_main_v40_eq _ _ _).trans ?_), k⟩
    · rw [k0, k1, k2, k3, k4]
      exact dx m c
    · rw [k0, k2, k4]
      exact dg m c

end Cert.Hin
end
-- ==== Proof.GatePay.lean ====
module

public import proofs.«01_k».proof.Proof.Gen.Kernel10Ideal.Value
public import proofs.«01_k».proof.Proof.Rows
public import Idealize.ShloMosaic.Lib.Pipeline.ValueKit
public import Idealize.ShloMosaic.Lib.Pointwise

/-! What one grid point of the embedding gate's product with the RMS-norm backward leaves in its two output blocks.

A grid point holds 1024 rows of the cotangent, the whole weight, the same 1024 rows of the norm's input and of the residual
cotangent, and the norm's gain. The body works on the rows in four pieces of 256. -/

@[expose] public section

set_option maxRecDepth 16384

noncomputable section

open Idealize.ShloMosaic Idealize.ShloMosaic.TcCoe Idealize.SL.Sem

namespace Cert.Kernel10Ideal.Body

open Cert.Kernel10Ideal Cert.Kernel10Ideal.Gen Cert.Rows

/-- The first piece's cotangent. -/
theorem hy1_at (w a) (r : Fin 256) (d : Fin 1024) : k0_pay5 (F := Ideal) w a (ix2 r d) = hyP w a r d := by
  pointwise [k0_pay5, k0_pay4, hyP]

/-- The first piece's reciprocal root mean squares. -/
theorem rs1_at (x) (r : Fin 256) : k0_pay6 (F := Ideal) x (ix2 r 0) = rsP x r := by
  pointwise [k0_pay6, rsP]

/-- The first piece, normalised. -/
theorem nx1_at (x) (r : Fin 256) (d : Fin 1024) : k0_pay7 (F := Ideal) x (ix2 r d) = x (ix2 r d) * rsP x r := by
  rw [← rs1_at]
  unfold k0_pay7
  generalize k0_pay6 (F := Ideal) x = Y
  pointwise []

/-- The second piece's cotangent. -/
theorem hy2_at (w a) (r : Fin 256) (d : Fin 1024) : k0_pay11 (F := Ideal) (k0_pay4 w) (k0_pay10 a) (ix2 r d) = hyP w a r d := by
  pointwise [k0_pay11, k0_pay4, k0_pay10, hyP]

/-- The second piece's reciprocal root mean squares. -/
theorem rs2_at (x) (r : Fin 256) : k0_pay12 (F := Ideal) x (ix2 r 0) = rsP x r := by
  pointwise [k0_pay12, rsP]

/-- The second piece, normalised. -/
theorem nx2_at (x) (r : Fin 256) (d : Fin 1024) : k0_pay13 (F := Ideal) x (ix2 r d) = x (ix2 r d) * rsP x r := by
  rw [← rs2_at]
  unfold k0_pay13
  generalize k0_pay12 (F := Ideal) x = Y
  pointwise []

/-- The third piece's cotangent. -/
theorem hy3_at (w a) (r : Fin 256) (d : Fin 1024) : k0_pay16 (F := Ideal) (k0_pay4 w) a (ix2 r d) = hyP w a r d := by
  pointwise [k0_pay16, k0_pay4, hyP]

/-- The third piece's reciprocal root mean squares. -/
theorem rs3_at (x) (r : Fin 256) : k0_pay18 (F := Ideal) (k0_pay17 x) (ix2 r 0) = rsP x r := by
  pointwise [k0_pay18, k0_pay17, rsP]

/-- The third piece, normalised. -/
theorem nx3_at (x) (r : Fin 256) (d : Fin 1024) : k0_pay19 (F := Ideal) x (k0_pay17 x) (ix2 r d) = x (ix2 r d) * rsP x r := by
  rw [← rs3_at]
  unfold k0_pay19
  generalize k0_pay18 (F := Ideal) (k0_pay17 x) = Y
  pointwise []

/-- The fourth piece's cotangent. -/
theorem hy4_at (w a) (r : Fin 256) (d : Fin 1024) : k0_pay22 (F := Ideal) (k0_pay4 w) a (ix2 r d) = hyP w a r d := by
  pointwise [k0_pay22, k0_pay4, hyP]

/-- The fourth piece's reciprocal root mean squares. -/
theorem rs4_at (x) (r : Fin 256) : k0_pay23 (F := Ideal) x (ix2 r 0) = rsP x r := by
  pointwise [k0_pay23, rsP]

/-- The fourth piece, normalised. -/
theorem nx4_at (x) (r : Fin 256) (d : Fin 1024) : k0_pay24 (F := Ideal) x (ix2 r d) = x (ix2 r d) * rsP x r := by
  rw [← rs4_at]
  unfold k0_pay24
  generalize k0_pay23 (F := Ideal) x = Y
  pointwise []

/-- The first piece's gradient of the norm's input. -/
theorem dx1_at (g w a x q) (r : Fin 256) (d : Fin 1024) :
    k0_pay8 (F := Ideal) g w a x q (ix2 r d) = dxP g w a x q r d := by
  have hY := hy1_at w a
  have hZ := nx1_at x
  have hR := rs1_at x
  unfold dxP k0_pay8
  generalize k0_pay5 (F := Ideal) w a = Y at *
  generalize k0_pay7 (F := Ideal) x = Z at *
  generalize k0_pay6 (F := Ideal) x = R at *
  pointwise []
  simp only [hY, hZ, hR]

/-- The second piece's gradient of the norm's input. -/
theorem dx2_at (g w a x q) (r : Fin 256) (d : Fin 1024) :
    k0_pay14 (F := Ideal) g (k0_pay4 w) (k0_pay10 a) x q (ix2 r d) = dxP g w a x q r d := by
  have hY := hy2_at w a
  have hZ := nx2_at x
  have hR := rs2_at x
  unfold dxP k0_pay14
  generalize k0_pay11 (F := Ideal) (k0_pay4 w) (k0_pay10 a) = Y at *
  generalize k0_pay13 (F := Ideal) x = Z at *
  generalize k0_pay12 (F := Ideal) x = R at *
  pointwise []
  simp only [hY, hZ, hR]

/-- The third piece's gradient of the norm's input. -/
theorem dx3_at (g w a x q) (r : Fin 256) (d : Fin 1024) :
    k0_pay20 (F := Ideal) g (k0_pay16 (k0_pay4 w) a) x q (k0_pay17 x) (ix2 r d) = dxP g w a x q r d := by
  have hY := hy3_at w a
  have hZ := nx3_at x
  have hR := rs3_at x
  unfold dxP k0_pay20
  generalize k0_pay16 (F := Ideal) (k0_pay4 w) a = Y at *
  generalize k0_pay19 (F := Ideal) x (k0_pay17 x) = Z at *
  generalize k0_pay18 (F := Ideal) (k0_pay17 x) = R at *
  pointwise []
  simp only [hY, hZ, hR]

/-- The fourth piece's gradient of the norm's input. -/
theorem dx4_at (g w a x q) (r : Fin 256) (d : Fin 1024) :
    k0_pay1 (F := Ideal) (k0_pay22 (k0_pay4 w) a) q (k0_pay23 x) (k0_pay24 x) (k0_pay25 g) (ix2 r d) = dxP g w a x q r d := by
  have hY := hy4_at w a
  have hZ := nx4_at x
  have hR := rs4_at x
  unfold dxP k0_pay1 k0_pay25
  generalize k0_pay22 (F := Ideal) (k0_pay4 w) a = Y at *
  generalize k0_pay24 (F := Ideal) x = Z at *
  generalize k0_pay23 (F := Ideal) x = R at *
  pointwise []
  simp only [hY, hZ, hR]

/-- The gain's gradient after a grid point: what stood there plus the point's rows. -/
theorem gain_at (w a1 x1 a2 x2 a3 x3 a4 x4) (v : Vec Ideal S1x1024 .f32) (d : Fin 1024) :
    k0_pay3 (F := Ideal) (k0_pay21 (k0_pay15 (k0_pay4 w) (k0_pay9 w a1 x1) (k0_pay10 a2) x2) (k0_pay16 (k0_pay4 w) a3) x3 (k0_pay17 x3))
        (k0_pay22 (k0_pay4 w) a4) (k0_pay24 x4) v (ix2 0 d)
      = v (ix2 0 d) + (∑ r : Fin 256, hyP w a1 r d * (x1 (ix2 r d) * rsP x1 r) + ∑ r : Fin 256, hyP w a2 r d * (x2 (ix2 r d) * rsP x2 r)
        + ∑ r : Fin 256, hyP w a3 r d * (x3 (ix2 r d) * rsP x3 r) + ∑ r : Fin 256, hyP w a4 r d * (x4 (ix2 r d) * rsP x4 r)) := by
  have hY1 := hy1_at w a1
  have hZ1 := nx1_at x1
  have hY2 := hy2_at w a2
  have hZ2 := nx2_at x2
  have hY3 := hy3_at w a3
  have hZ3 := nx3_at x3
  have hY4 := hy4_at w a4
  have hZ4 := nx4_at x4
  unfold k0_pay3 k0_pay21 k0_pay15 k0_pay9
  generalize k0_pay5 (F := Ideal) w a1 = Y1 at *
  generalize k0_pay7 (F := Ideal) x1 = Z1 at *
  generalize k0_pay11 (F := Ideal) (k0_pay4 w) (k0_pay10 a2) = Y2 at *
  generalize k0_pay13 (F := Ideal) x2 = Z2 at *
  generalize k0_pay16 (F := Ideal) (k0_pay4 w) a3 = Y3 at *
  generalize k0_pay19 (F := Ideal) x3 (k0_pay17 x3) = Z3 at *
  generalize k0_pay22 (F := Ideal) (k0_pay4 w) a4 = Y4 at *
  generalize k0_pay24 (F := Ideal) x4 = Z4 at *
  pointwise []
  simp only [hY1, hZ1, hY2, hZ2, hY3, hZ3, hY4, hZ4]

/-- The zeros the gain's gradient starts from. -/
theorem zeros_apply (d : Fin 1024) : k0_pay2 (F := Ideal) (ix2 0 d) = 0 := by
  pointwise [k0_pay2]

end Cert.Kernel10Ideal.Body

end
-- ==== Proof.GateBody.lean ====
module

public import proofs.«01_k».proof.Proof.GatePay
public import proofs.«01_k».proof.Proof.GradLemmas

/-! What one grid point of the embedding gate's product with the RMS-norm backward leaves in its two output blocks. -/

@[expose] public section

set_option maxRecDepth 16384

noncomputable section

open Idealize.ShloMosaic Idealize.ShloMosaic.TcCoe Idealize.SL.Sem

namespace Cert.Kernel10Ideal.Body

open Cert.Kernel10Ideal Cert.Kernel10Ideal.Gen Cert.Rows

variable (m : (ℓ : Loc nD τ sig) → Buf (Elt Ideal) ℓ)

/-- What a grid point reads: the cotangent. -/
abbrev aB (c : Dev nD) (t : Fin cfg0.N) : Vec Ideal S1024x1024 .bf16 := iblk m c 0 t
/-- What a grid point reads: the weight. -/
abbrev wB (c : Dev nD) (t : Fin cfg0.N) : Vec Ideal S1024x1024 .bf16 := iblk m c 1 t
/-- What a grid point reads: the norm's input. -/
abbrev xB (c : Dev nD) (t : Fin cfg0.N) : Vec Ideal S1024x1024 .f32 := iblk m c 2 t
/-- What a grid point reads: the residual cotangent. -/
abbrev rB (c : Dev nD) (t : Fin cfg0.N) : Vec Ideal S1024x1024 .f32 := iblk m c 3 t
/-- What a grid point reads: the gain. -/
abbrev gB (c : Dev nD) (t : Fin cfg0.N) : Vec Ideal S1x1024 .f32 := iblk m c 4 t

/-- A grid point's rows of the input's gradient. -/
theorem dx_block (c : Dev nD) (t : Fin cfg0.N) (i : Fin 1024) (d : Fin 1024) :
    (outsAt0 m c t.val t.isLt).1 (ix2 i d) = dx (aB m c t) (wB m c t) (xB m c t) (rB m c t) (gB m c t) i d := by
  obtain ⟨r, hr⟩ := piece_cases i
  rcases Nat.lt_or_ge (t.val % 8) 1 with hlo | hlo
  · rw [outsAt0_A m c t (by omega)]
    frame_out
    rcases hr with hr | hr | hr | hr
    · refine (Cert.Grad.canon_miss _ _ _ _ i d (by omega)).trans ?_
      refine (Cert.Grad.canon_miss _ _ _ _ i d (by omega)).trans ?_
      refine (Cert.Grad.canon_miss _ _ _ _ i d (by omega)).trans ?_
      refine (Cert.Grad.canon_hit _ _ _ _ i r d (by omega)).trans ?_
      refine (dx1_at _ _ _ _ _ r d).trans ?_
      exact dxP_eq _ _ _ _ _ 0 _ _ i r d hr
    · refine (Cert.Grad.canon_miss _ _ _ _ i d (by omega)).trans ?_
      refine (Cert.Grad.canon_miss _ _ _ _ i d (by omega)).trans ?_
      refine (Cert.Grad.canon_hit _ _ _ _ i r d (by omega)).trans ?_
      refine (dx2_at _ _ _ _ _ r d).trans ?_
      exact dxP_eq _ _ _ _ _ 256 _ _ i r d hr
    · refine (Cert.Grad.canon_miss _ _ _ _ i d (by omega)).trans ?_
      refine (Cert.Grad.canon_hit _ _ _ _ i r d (by omega)).trans ?_
      refine (dx3_at _ _ _ _ _ r d).trans ?_
      exact dxP_eq _ _ _ _ _ 512 _ _ i r d hr
    · refine (Cert.Grad.canon_hit _ _ _ _ i r d (by omega)).trans ?_
      refine (dx4_at _ _ _ _ _ r d).trans ?_
      exact dxP_eq _ _ _ _ _ 768 _ _ i r d hr
  · rw [outsAt0_B m c t (by omega)]
    frame_out
    rcases hr with hr | hr | hr | hr
    · refine (Cert.Grad.canon_miss _ _ _ _ i d (by omega)).trans ?_
      refine (Cert.Grad.canon_miss _ _ _ _ i d (by omega)).trans ?_
      refine (Cert.Grad.canon_miss _ _ _ _ i d (by omega)).trans ?_
      refine (Cert.Grad.canon_hit _ _ _ _ i r d (by omega)).trans ?_
      refine (dx1_at _ _ _ _ _ r d).trans ?_
      exact dxP_eq _ _ _ _ _ 0 _ _ i r d hr
    · refine (Cert.Grad.canon_miss _ _ _ _ i d (by omega)).trans ?_
      refine (Cert.Grad.canon_miss _ _ _ _ i d (by omega)).trans ?_
      refine (Cert.Grad.canon_hit _ _ _ _ i r d (by omega)).trans ?_
      refine (dx2_at _ _ _ _ _ r d).trans ?_
      exact dxP_eq _ _ _ _ _ 256 _ _ i r d hr
    · refine (Cert.Grad.canon_miss _ _ _ _ i d (by omega)).trans ?_
      refine (Cert.Grad.canon_hit _ _ _ _ i r d (by omega)).trans ?_
      refine (dx3_at _ _ _ _ _ r d).trans ?_
      exact dxP_eq _ _ _ _ _ 512 _ _ i r d hr
    · refine (Cert.Grad.canon_hit _ _ _ _ i r d (by omega)).trans ?_
      refine (dx4_at _ _ _ _ _ r d).trans ?_
      exact dxP_eq _ _ _ _ _ 768 _ _ i r d hr

/-- The first grid point leaves its rows' share of the gain's gradient. -/
theorem dg_first (c : Dev nD) (t : Fin cfg0.N) (h0 : t.val % 8 = 0) (d : Fin 1024) :
    (outsAt0 m c t.val t.isLt).2 (ix2 0 d) = ∑ i : Fin 1024, dg (aB m c t) (wB m c t) (xB m c t) i d := by
  rw [sum_rows, ← zero_add (∑ t : Fin 256, _ + _ + _ + _), outsAt0_A m c t h0]
  frame_out
  refine (gain_at _ _ _ _ _ _ _ _ _ _ d).trans ?_
  refine Ideal.add_congr ?_ (Ideal.add_congr (Ideal.add_congr (Ideal.add_congr (Finset.sum_congr rfl fun r _ => ?_) (Finset.sum_congr rfl fun r _ => ?_)) (Finset.sum_congr rfl fun r _ => ?_)) (Finset.sum_congr rfl fun r _ => ?_))
  · exact zeros_apply d
  · exact dgP_eq _ _ _ 0 _ _ _ r d (by simp only; omega)
  · exact dgP_eq _ _ _ 256 _ _ _ r d rfl
  · exact dgP_eq _ _ _ 512 _ _ _ r d rfl
  · exact dgP_eq _ _ _ 768 _ _ _ r d rfl

/-- A later grid point adds its rows' share to the gain's gradient. -/
theorem dg_next (c : Dev nD) (t : Fin cfg0.N) (h0 : ¬t.val % 8 = 0) (d : Fin 1024) :
    (outsAt0 m c t.val t.isLt).2 (ix2 0 d)
      = (outsAt0 m c (t.val - 1) (Nat.lt_of_le_of_lt (Nat.sub_le _ _) t.isLt)).2 (ix2 0 d)
        + ∑ i : Fin 1024, dg (aB m c t) (wB m c t) (xB m c t) i d := by
  rw [sum_rows, outsAt0_B m c t h0]
  frame_out
  refine (gain_at _ _ _ _ _ _ _ _ _ _ d).trans ?_
  refine Ideal.add_congr ?_ (Ideal.add_congr (Ideal.add_congr (Ideal.add_congr (Finset.sum_congr rfl fun r _ => ?_) (Finset.sum_congr rfl fun r _ => ?_)) (Finset.sum_congr rfl fun r _ => ?_)) (Finset.sum_congr rfl fun r _ => ?_))
  · rfl
  · exact dgP_eq _ _ _ 0 _ _ _ r d (by simp only; omega)
  · exact dgP_eq _ _ _ 256 _ _ _ r d rfl
  · exact dgP_eq _ _ _ 512 _ _ _ r d rfl
  · exact dgP_eq _ _ _ 768 _ _ _ r d rfl

end Cert.Kernel10Ideal.Body

end
-- ==== Proof.GateFinal.lean ====
module

public import proofs.«01_k».proof.Proof.GateBody
public import proofs.«01_k».proof.Proof.NormMath

/-! The two result arrays of the embedding gate's product with the RMS-norm backward, as functions of the program's arguments. -/

@[expose] public section

set_option maxRecDepth 16384

noncomputable section

open Idealize.ShloMosaic Idealize.ShloMosaic.TcCoe Idealize.SL.Sem

namespace Cert.Kernel10Ideal.Final

open Cert.Kernel10Ideal Cert.Kernel10Ideal.Gen Cert.Kernel10Ideal.Body Cert.Rows

variable (m : (ℓ : Loc nD τ sig) → Buf (Elt Ideal) ℓ)

/-- The norm's input. -/
abbrev arg0 (c : Dev nD) : FVec Ideal S8192x1024 .f32 := m ((c : Thread nD τ).loc main_arg0)
/-- The gain. -/
abbrev arg1 (c : Dev nD) : FVec Ideal S1x1024 .f32 := m ((c : Thread nD τ).loc main_arg1)
/-- The weight. -/
abbrev arg2 (c : Dev nD) : FVec Ideal S1024x1024 .f32 := m ((c : Thread nD τ).loc main_arg2)
/-- The residual cotangent. -/
abbrev arg3 (c : Dev nD) : FVec Ideal S8192x1024 .f32 := m ((c : Thread nD τ).loc main_arg3)
/-- The product's cotangent. -/
abbrev arg4 (c : Dev nD) : FVec Ideal S8192x1024 .f32 := m ((c : Thread nD τ).loc main_arg4)

/-- The call's cotangent. -/
theorem v0 (c : Dev nD) : V m c main_v0 = (truncf .bf16 (arg4 m c) bitsLt_bf16_f32 : FVec Ideal S8192x1024 .bf16) := by
  simp only [V, List.flatten_cons, List.flatten_nil, List.append_nil, List.cons_append, List.nil_append, hostOps0]
  after_results

/-- The call's weight. -/
theorem v1 (c : Dev nD) : V m c main_v1 = (truncf .bf16 (arg2 m c) bitsLt_bf16_f32 : FVec Ideal S1024x1024 .bf16) := by
  simp only [V, List.flatten_cons, List.flatten_nil, List.append_nil, List.cons_append, List.nil_append, hostOps0]
  after_results

/-- The blocks the windows read and write at each grid point. -/
theorem idx : ∀ t : Fin cfg0.N,
    win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The `i`-th row of a grid point. -/
abbrev row (t : Fin cfg0.N) (i : Fin 1024) : Fin 8192 := ⟨1024 * t.val + i.val, by have : t.val < 8 := t.isLt; omega⟩

/-- Where window 0's block lies in its array. -/
theorem a_emb (c : Dev nD) (X : (b : Ref sig .tc) → Buf (Elt Ideal) ((c : Thread nD τ).loc b)) (t : Fin cfg0.N) (i : Fin 1024) (k : Fin 1024) :
    View.read (Elt Ideal) ((cfg0.win 0).blk t).view (X (Pipeline.arrRef spec0 0)) (ix2 i k) = X main_v0 (ix2 (row t i) k) := by
  blk_simp
  refine congrArg (show Vec Ideal S8192x1024 .bf16 from X main_v0) ?_
  blk_ext [idx t]
/-- Window 0's block, read in its array. -/
theorem a_at (c : Dev nD) (t : Fin cfg0.N) (i : Fin 1024) (k : Fin 1024) : aB m c t (ix2 i k) = arg4 m c (ix2 (row t i) k) := by
  exact (a_emb c (V m c) t i k).trans (congrFun (v0 m c) _)

/-- Where window 1's block lies in its array. -/
theorem w_emb (c : Dev nD) (X : (b : Ref sig .tc) → Buf (Elt Ideal) ((c : Thread nD τ).loc b)) (t : Fin cfg0.N) (d : Fin 1024) (k : Fin 1024) :
    View.read (Elt Ideal) ((cfg0.win 1).blk t).view (X (Pipeline.arrRef spec0 1)) (ix2 d k) = X main_v1 (ix2 d k) := by
  blk_simp
  refine congrArg (show Vec Ideal S1024x1024 .bf16 from X main_v1) ?_
  blk_ext [idx t]
/-- Window 1's block, read in its array. -/
theorem w_at (c : Dev nD) (t : Fin cfg0.N) (d : Fin 1024) (k : Fin 1024) : wB m c t (ix2 d k) = arg2 m c (ix2 d k) := by
  exact (w_emb c (V m c) t d k).trans (congrFun (v1 m c) _)

/-- Where window 2's block lies in its array. -/
theorem x_emb (c : Dev nD) (X : (b : Ref sig .tc) → Buf (Elt Ideal) ((c : Thread nD τ).loc b)) (t : Fin cfg0.N) (i : Fin 1024) (d : Fin 1024) :
    View.read (Elt Ideal) ((cfg0.win 2).blk t).view (X (Pipeline.arrRef spec0 2)) (ix2 i d) = X main_arg0 (ix2 (row t i) d) := by
  blk_simp
  refine congrArg (show Vec Ideal S8192x1024 .f32 from X main_arg0) ?_
  blk_ext [idx t]
/-- Window 2's block, read in its array. -/
theorem x_at (c : Dev nD) (t : Fin cfg0.N) (i : Fin 1024) (d : Fin 1024) : xB m c t (ix2 i d) = arg0 m c (ix2 (row t i) d) := by
  exact (x_emb c (V m c) t i d).trans (congrFun (V_main_arg0 m c) _)

/-- Where window 3's block lies in its array. -/
theorem r_emb (c : Dev nD) (X : (b : Ref sig .tc) → Buf (Elt Ideal) ((c : Thread nD τ).loc b)) (t : Fin cfg0.N) (i : Fin 1024) (d : Fin 1024) :
    View.read (Elt Ideal) ((cfg0.win 3).blk t).view (X (Pipeline.arrRef spec0 3)) (ix2 i d) = X main_arg3 (ix2 (row t i) d) := by
  blk_simp
  refine congrArg (show Vec Ideal S8192x1024 .f32 from X main_arg3) ?_
  blk_ext [idx t]
/-- Window 3's block, read in its array. -/
theorem r_at (c : Dev nD) (t : Fin cfg0.N) (i : Fin 1024) (d : Fin 1024) : rB m c t (ix2 i d) = arg3 m c (ix2 (row t i) d) := by
  exact (r_emb c (V m c) t i d).trans (congrFun (V_main_arg3 m c) _)

/-- Where window 4's block lies in its array. -/
theorem g_emb (c : Dev nD) (X : (b : Ref sig .tc) → Buf (Elt Ideal) ((c : Thread nD τ).loc b)) (t : Fin cfg0.N) (d : Fin 1024) :
    View.read (Elt Ideal) ((cfg0.win 4).blk t).view (X (Pipeline.arrRef spec0 4)) (ix2 0 d) = X main_arg1 (ix2 0 d) := by
  blk_simp
  refine congrArg (show Vec Ideal S1x1024 .f32 from X main_arg1) ?_
  blk_ext [idx t]
/-- Window 4's block, read in its array. -/
theorem g_at (c : Dev nD) (t : Fin cfg0.N) (d : Fin 1024) : gB m c t (ix2 0 d) = arg1 m c (ix2 0 d) := by
  exact (g_emb c (V m c) t d).trans (congrFun (V_main_arg1 m c) _)

/-- A row of the norm's input. -/
abbrev xRow (c : Dev nD) (i : Fin 8192) : Fin 1024 → EReal := fun e => arg0 m c (ix2 i e)
/-- A row of the cotangent of the norm's output. -/
abbrev yRow (c : Dev nD) (i : Fin 8192) : Fin 1024 → EReal := fun e => ∑ k : Fin 1024, arg4 m c (ix2 i k) * arg2 m c (ix2 e k)
/-- The gain's row. -/
abbrev gRow (c : Dev nD) : Fin 1024 → EReal := fun e => arg1 m c (ix2 0 e)

/-- A grid point's cotangent of the norm's output. -/
theorem hy_at (c : Dev nD) (t : Fin cfg0.N) (i : Fin 1024) (d : Fin 1024) :
    hy (aB m c t) (wB m c t) i d = yRow m c (row t i) d := by
  unfold hy
  exact Finset.sum_congr rfl fun k _ => Ideal.mul_congr (a_at m c t i k) (w_at m c t d k)

/-- A grid point's reciprocal root mean square. -/
theorem rs_at (c : Dev nD) (t : Fin cfg0.N) (i : Fin 1024) : rs (xB m c t) i = Cert.Norm.rs (xRow m c (row t i)) := by
  unfold rs Cert.Norm.rs Cert.Norm.var
  have e : ∑ e : Fin 1024, xB m c t (ix2 i e) * xB m c t (ix2 i e) = ∑ e, xRow m c (row t i) e * xRow m c (row t i) e :=
    Finset.sum_congr rfl fun e _ => Ideal.mul_congr (x_at m c t i e) (x_at m c t i e)
  rw [e]

/-- A grid point's rows of the input's gradient. -/
theorem dx_at (c : Dev nD) (t : Fin cfg0.N) (i : Fin 1024) (d : Fin 1024) :
    dx (aB m c t) (wB m c t) (xB m c t) (rB m c t) (gB m c t) i d
      = Cert.Norm.closed (xRow m c (row t i)) (yRow m c (row t i)) (gRow m c) (arg3 m c (ix2 (row t i) d)) d := by
  unfold dx mean Cert.Norm.closed
  rw [rs_at, hy_at, g_at, x_at, r_at]
  have e : ∑ e : Fin 1024, hy (aB m c t) (wB m c t) i e * gB m c t (ix2 0 e) * (xB m c t (ix2 i e) * Cert.Norm.rs (xRow m c (row t i)))
      = ∑ e, yRow m c (row t i) e * gRow m c e * (xRow m c (row t i) e * Cert.Norm.rs (xRow m c (row t i))) :=
    Finset.sum_congr rfl fun e _ => Ideal.mul_congr (Ideal.mul_congr (hy_at m c t i e) (g_at m c t e)) (Ideal.mul_congr (x_at m c t i e) rfl)
  rw [e]

/-- The call's gradient of the norm's input. -/
def DX (c : Dev nD) : Vec Ideal S8192x1024 .f32 := fun y =>
  Cert.Norm.closed (xRow m c (y 0)) (yRow m c (y 0)) (gRow m c) (arg3 m c (ix2 (y 0) (y 1))) (y 1)

/-- One row's share of the gain's gradient. -/
def gain (c : Dev nD) (d : Fin 1024) (i : Fin 8192) : EReal :=
  yRow m c i d * (xRow m c i d * Cert.Norm.rs (xRow m c i))

/-- The call's gradient of the gain. -/
def DG (c : Dev nD) : Vec Ideal S1x1024 .f32 := fun y => ∑ i : Fin 8192, gain m c (y 1) i

/-- A grid point's rows' share of the gain's gradient. -/
theorem dg_at (c : Dev nD) (t : Fin cfg0.N) (d : Fin 1024) :
    ∑ i : Fin 1024, dg (aB m c t) (wB m c t) (xB m c t) i d = ∑ i : Fin 1024, gain m c d (row t i) := by
  refine Finset.sum_congr rfl fun i _ => ?_
  unfold dg gain
  rw [rs_at, hy_at, x_at]

/-- The contents after a point depend on the point's number only. -/
theorem outs_congr (c : Dev nD) (d : Fin 1024) (n n' : ℕ) (hn : n < cfg0.N) (hn' : n' < cfg0.N) (h : n = n') :
    (outsAt0 m c n hn).2 (ix2 0 d) = (outsAt0 m c n' hn').2 (ix2 0 d) := by
  subst h; rfl

/-- After a grid point the gain's gradient is the sum over the rows so far. -/
theorem dg_partial (c : Dev nD) (d : Fin 1024) : ∀ (b : ℕ) (hb : b < 8) (ht : b < cfg0.N),
    (outsAt0 m c b ht).2 (ix2 0 d) = ∑ s : Fin (b + 1), ∑ i : Fin 1024, gain m c d ⟨1024 * s.val + i.val, by omega⟩
  | 0, hb, ht => by
    have e := dg_first m c ⟨0, ht⟩ (by simp only) d
    rw [dg_at] at e
    refine e.trans ?_
    rw [Fin.sum_univ_one]
    exact Finset.sum_congr rfl fun i _ => congrArg (gain m c d) (Fin.ext (by simp only [row, Fin.val_zero]))
  | b + 1, hb, ht => by
    have e := dg_next m c ⟨b + 1, ht⟩ (by simp only; omega) d
    rw [dg_at] at e
    refine e.trans ?_
    refine Eq.trans ?_ (Fin.sum_univ_castSucc _).symm
    refine Ideal.add_congr ?_ ?_
    · exact (outs_congr m c d (b + 1 - 1) b _ (Nat.lt_of_succ_lt ht) (by omega)).trans
        (dg_partial c d b (by omega) (Nat.lt_of_succ_lt ht))
    · exact Finset.sum_congr rfl fun i _ => congrArg (gain m c d) (Fin.ext (by simp only [row, Fin.val_last]))

/-- Where an input-gradient block lies in its array. -/
theorem dx_emb (t : Fin cfg0.N) (i : Fin 1024) (d : Fin 1024) :
    (win0_5.blk t).view.emb (ix2 i d) = (ix2 (row t i) d : S8192x1024.Idx) := by
  blk_ext [idx t]

/-- The input-gradient array of the call. -/
theorem dx_final (c : Dev nD) : (dats m 0 c).arrAt 5 cfg0.N = DX m c := by
  refine (dats m 0 c).arrAt_eq_of_covers 5 _ (by decide +kernel) fun t hf y => ?_
  blk_simp
  rw [after0_5]
  idx_vars y
  refine (dx_block m c t y0 y1).trans (Eq.trans ?_ (congrArg (DX m c) (dx_emb t y0 y1)).symm)
  exact dx_at m c t y0 y1

/-- Where the gain-gradient block lies in its array. -/
theorem dg_emb (t : Fin cfg0.N) (d : Fin 1024) :
    (win0_6.blk t).view.emb (ix2 0 d) = (ix2 0 d : S1x1024.Idx) := by
  blk_ext [idx t]

/-- The gain-gradient array of the call. -/
theorem dg_final (c : Dev nD) : (dats m 0 c).arrAt 6 cfg0.N = DG m c := by
  refine (dats m 0 c).arrAt_eq_of_covers 6 _ (by decide +kernel) fun t hf y => ?_
  blk_simp
  rw [after0_6]
  idx_vars y
  have h7 : t.val = 7 := by
    have h := (flush0_6 t).mp hf
    have : t.val < 8 := t.isLt
    omega
  have z : y0 = 0 := Subsingleton.elim _ _
  subst z
  refine Eq.trans ?_ (congrArg (DG m c) (dg_emb t y1)).symm
  refine (outs_congr m c y1 t.val 7 t.isLt (by decide) h7).trans ?_
  refine (dg_partial m c y1 7 (by omega) (by decide)).trans ?_
  exact (sum_blocks (gain m c y1)).symm

end Cert.Kernel10Ideal.Final

end
-- ==== Proof.GateRef.lean ====
module

public import proofs.«01_k».proof.Proof.Gen.Reference10Ideal.Read
public import Idealize.ShloMosaic.Lib.Pointwise
public import proofs.«01_k».proof.Proof.NormMath

/-! The reference of the embedding gate's product with the RMS-norm backward, one array at a time. -/

@[expose] public section

set_option maxRecDepth 16384

noncomputable section

open Idealize.ShloMosaic Idealize.ShloMosaic.TcCoe Idealize.SL.Sem

namespace Cert.Reference10Ideal.Norm

open Cert.Reference10Ideal Cert.Reference10Ideal.Gen Cert.Reference10Ideal.Read Cert.Norm

variable (x0 : FVec Ideal S8192x1024 .f32) (x1 : FVec Ideal S1x1024 .f32) (x2 : FVec Ideal S1024x1024 .f32)
  (x3 : FVec Ideal S8192x1024 .f32) (x4 : FVec Ideal S8192x1024 .f32)

/-- A row's mean square plus the small number. -/
theorem var_at (i : Fin 8192) : val_main_v7 (F := Ideal) x0 (ix2 i 0) = var (fun e => x0 (ix2 i e)) := by
  unfold var
  pointwise [val_main_v7, val_main_v6, val_main_v5, val_main_v4, val_main_v3, val_main_v2, val_main_v1, val_main_cst, val_main_cst_0, val_main_cst_1]

/-- A row's reciprocal root mean square. -/
theorem rs_at (i : Fin 8192) : val_main_v8 (F := Ideal) x0 (ix2 i 0) = rs (fun e => x0 (ix2 i e)) := by
  rw [val_main_v8_apply, Ideal.hostUnary_rsqrt_def, var_at]
  exact Eq.refl _

/-- The cotangent of the norm's output. -/
theorem hy_at (i : Fin 8192) (d : Fin 1024) :
    val_main_v18 (F := Ideal) x2 x4 (ix2 i d) = ∑ k : Fin 1024, x4 (ix2 i k) * x2 (ix2 d k) := by
  pointwise [val_main_v18]

/-- The cotangent of the norm's output times the gain. -/
theorem scaled_at (i : Fin 8192) (d : Fin 1024) :
    val_main_v23 (F := Ideal) x1 x2 x4 (ix2 i d) = val_main_v18 (F := Ideal) x2 x4 (ix2 i d) * x1 (ix2 0 d) := by
  unfold val_main_v23 val_main_v22 val_main_v14 val_main_v0
  generalize val_main_v18 (F := Ideal) x2 x4 = Y0
  pointwise []

/-- The chain rule's coefficient of a row. -/
theorem coef_at (i : Fin 8192) (d : Fin 1024) :
    val_main_v35 (F := Ideal) x0 x1 x2 x4 (ix2 i d)
      = Ideal.div ((∑ e : Fin 1024, x0 (ix2 i e) * val_main_v23 (F := Ideal) x1 x2 x4 (ix2 i e))
          * (mhalf * Ideal.div (val_main_v8 (F := Ideal) x0 (ix2 i 0)) (val_main_v7 (F := Ideal) x0 (ix2 i 0)))) len := by
  unfold val_main_v35 val_main_v34 val_main_cst_7 val_main_v33 val_main_v32 val_main_cst_6 val_main_v31 val_main_v27 val_main_v26 val_main_cst_5 val_main_v25 val_main_v11 val_main_v10 val_main_cst_2 val_main_v9
  generalize val_main_v23 (F := Ideal) x1 x2 x4 = Y0
  generalize val_main_v8 (F := Ideal) x0 = Y1
  generalize val_main_v7 (F := Ideal) x0 = Y2
  pointwise []
  rw [Fin.sum_univ_one]

/-- The input's gradient. -/
theorem sum_at (i : Fin 8192) (d : Fin 1024) :
    val_main_v39 (F := Ideal) x0 x1 x2 x3 x4 (ix2 i d)
      = x3 (ix2 i d) + val_main_v23 (F := Ideal) x1 x2 x4 (ix2 i d) * val_main_v8 (F := Ideal) x0 (ix2 i 0)
        + x0 (ix2 i d) * val_main_v35 (F := Ideal) x0 x1 x2 x4 (ix2 i d)
        + val_main_v35 (F := Ideal) x0 x1 x2 x4 (ix2 i d) * x0 (ix2 i d) := by
  unfold val_main_v39 val_main_v38 val_main_v37 val_main_v36 val_main_v30 val_main_v29 val_main_v28
  generalize val_main_v23 (F := Ideal) x1 x2 x4 = Y0
  generalize val_main_v8 (F := Ideal) x0 = Y1
  generalize val_main_v35 (F := Ideal) x0 x1 x2 x4 = Y2
  pointwise []

/-- The input's gradient is the chain rule's sum. -/
theorem dx_at (i : Fin 8192) (d : Fin 1024) :
    val_main_v39 (F := Ideal) x0 x1 x2 x3 x4 (ix2 i d)
      = chain (fun e => x0 (ix2 i e)) (fun e => ∑ k : Fin 1024, x4 (ix2 i k) * x2 (ix2 e k)) (fun e => x1 (ix2 0 e)) (x3 (ix2 i d)) d := by
  unfold chain coef
  rw [sum_at, coef_at, rs_at, var_at, scaled_at, hy_at]
  have e : (∑ e : Fin 1024, x0 (ix2 i e) * val_main_v23 (F := Ideal) x1 x2 x4 (ix2 i e))
      = ∑ e : Fin 1024, x0 (ix2 i e) * ((∑ k : Fin 1024, x4 (ix2 i k) * x2 (ix2 e k)) * x1 (ix2 0 e)) :=
    Finset.sum_congr rfl fun e _ => by rw [scaled_at, hy_at]
  rw [e]

/-- The gain's gradient. -/
theorem dg_at (d : Fin 1024) :
    val_main_v40 (F := Ideal) x0 x2 x4 (ix2 0 d)
      = ∑ i : Fin 8192, x0 (ix2 i d) * val_main_v8 (F := Ideal) x0 (ix2 i 0) * val_main_v18 (F := Ideal) x2 x4 (ix2 i d) := by
  unfold val_main_v40 val_main_v24 val_main_cst_4 val_main_v21 val_main_v20 val_main_cst_3 val_main_v19 val_main_v13 val_main_v12
  generalize val_main_v18 (F := Ideal) x2 x4 = Y0
  generalize val_main_v8 (F := Ideal) x0 = Y1
  pointwise []
  rw [Fin.sum_univ_one]

/-- The gain's gradient is the rows' sum of cotangent times normalised row. -/
theorem gain_at (d : Fin 1024) :
    val_main_v40 (F := Ideal) x0 x2 x4 (ix2 0 d)
      = ∑ i : Fin 8192, (∑ k : Fin 1024, x4 (ix2 i k) * x2 (ix2 d k)) * (x0 (ix2 i d) * rs (fun e => x0 (ix2 i e))) := by
  rw [dg_at]
  exact Finset.sum_congr rfl fun i _ => by rw [rs_at, hy_at, mul_comm]

end Cert.Reference10Ideal.Norm
end
-- ==== Proof.GateValue.lean ====
module

public import proofs.«01_k».proof.Defs
public import proofs.«01_k».proof.Proof.GateFinal
public import proofs.«01_k».proof.Proof.GateRef
public import proofs.«01_k».proof.Proof.Gen.Kernel10Ideal.Value
public import proofs.«01_k».proof.Proof.Gen.Reference10Ideal.Run

/-! The embedding gate call's gradients of the norm's input and gain are the reference's, on every input. -/

@[expose] public section

set_option maxRecDepth 16384

noncomputable section

open Idealize.ShloMosaic Idealize.ShloMosaic.TcCoe Idealize.SL.Sem

namespace Cert.Gate

open Cert.Kernel10Ideal Cert.Kernel10Ideal.Gen Cert.Kernel10Ideal.Final Cert.Reference10Ideal.Read

variable (m : (ℓ : Loc nD τ sig) → Buf (Elt Ideal) ℓ) (c : Dev nD)

/-- The input's gradients agree. -/
theorem dx : val_main_v39 (F := Ideal) (arg0 m c) (arg1 m c) (arg2 m c) (arg3 m c) (arg4 m c) = DX m c := by
  funext y
  idx_vars y
  refine (Cert.Reference10Ideal.Norm.dx_at _ _ _ _ _ y0 y1).trans ?_
  exact (Cert.Norm.closed_eq _ _ _ _ y1).symm

/-- The gain's gradients agree. -/
theorem dg : val_main_v40 (F := Ideal) (arg0 m c) (arg2 m c) (arg4 m c) = DG m c := by
  funext y
  idx_vars y
  have z : y0 = 0 := Subsingleton.elim _ _
  subst z
  exact Cert.Reference10Ideal.Norm.gain_at _ _ _ y1

/-- The value claim: the call's two arrays are the gradients of the residual stream and the gain. -/
theorem algebraic : Cert.algebraic_Kernel10Ideal_Reference10Ideal := by
  intro m g m' g' hpre hagree
  refine ⟨fun c => DX m c, fun c => DG m c, ?_, ?_⟩
  · refine (θ_run _ _ _).mono (fun r h c => ?_) (Cert.Kernel10Ideal.Value.run_blocks m g)
    obtain ⟨e0, e1, k⟩ := h c
    exact ⟨e0.trans (dx_final m c), e1.trans (dg_final m c), k⟩
  · refine (θ_run _ _ _).mono (fun r h c => ?_) (Cert.Reference10Ideal.Value.run (F := Ideal) m' g')
    obtain ⟨e0, e1, k⟩ := h c
    obtain ⟨k0, k1, k2, k3, k4⟩ := hagree c
    refine ⟨e0.trans ((val_main_v39_eq m' c).trans ?_), e1.trans ((val_main_v40_eq _ _ _).trans ?_), k⟩
    · rw [k0, k1, k2, k3, k4]
      exact dx m c
    · rw [k0, k2, k4]
      exact dg m c

end Cert.Gate
end
-- ==== Proof.lean ====
module

public import proofs.«01_k».proof.Defs
public import proofs.«01_k».proof.Proof.Frames
public import proofs.«01_k».proof.Proof.Frames2
public import proofs.«01_k».proof.Proof.NormFrames
public import proofs.«01_k».proof.Proof.Frames4
public import proofs.«01_k».proof.Proof.Frames5
public import proofs.«01_k».proof.Proof.Frames6
public import proofs.«01_k».proof.Proof.Frames7
public import proofs.«01_k».proof.Proof.Frames8
public import proofs.«01_k».proof.Proof.Frames9
public import proofs.«01_k».proof.Proof.Frames10
public import proofs.«01_k».proof.Proof.Value
public import proofs.«01_k».proof.Proof.FlashValue
public import proofs.«01_k».proof.Proof.NormValue
public import proofs.«01_k».proof.Proof.WupValue
public import proofs.«01_k».proof.Proof.WdownValue
public import proofs.«01_k».proof.Proof.WinValue
public import proofs.«01_k».proof.Proof.WpgValue
public import proofs.«01_k».proof.Proof.WoValue
public import proofs.«01_k».proof.Proof.HinValue
public import proofs.«01_k».proof.Proof.GateValue

@[expose] public section

noncomputable section

namespace Cert.Proof

/-- Every claim holds. -/
theorem claim : Cert.Claim :=
  haveI : Cert.Pre_finite.Facts := Cert.Pre_finite.facts
  haveI : Cert.Pre_finite2.Facts := Cert.Pre_finite2.facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.facts, Cert.Pre_finite2.facts,
    Cert.Frames.kernel, Cert.Frames.kernelIdeal, Cert.Frames.kernelIdeal_finite, Cert.Frames.referenceIdeal,
    Cert.Frames.referenceIdeal_finite, Cert.Frames.kernel2, Cert.Frames.kernel2Ideal, Cert.Frames.kernel2Ideal_finite,
    Cert.Frames.reference2Ideal, Cert.Frames.reference2Ideal_finite, Cert.Frames.kernel3, Cert.Frames.kernel3Ideal,
    Cert.Frames.reference3Ideal, Cert.Frames.kernel4, Cert.Frames.kernel4Ideal, Cert.Frames.reference4Ideal,
    Cert.Frames.kernel5, Cert.Frames.kernel5Ideal, Cert.Frames.reference5Ideal,
    Cert.Frames.kernel6, Cert.Frames.kernel6Ideal, Cert.Frames.reference6Ideal,
    Cert.Frames.kernel7, Cert.Frames.kernel7Ideal, Cert.Frames.reference7Ideal,
    Cert.Frames.kernel8, Cert.Frames.kernel8Ideal, Cert.Frames.reference8Ideal,
    Cert.Frames.kernel9, Cert.Frames.kernel9Ideal, Cert.Frames.reference9Ideal,
    Cert.Frames.kernel10, Cert.Frames.kernel10Ideal, Cert.Frames.reference10Ideal,
    Cert.Frames.preserves, Cert.Agree.algebraic, Cert.Frames.preserves2, Cert.Flash.algebraic,
    Cert.Frames.preserves3, Cert.Norm.algebraic, Cert.Frames.preserves4, Cert.Wup.algebraic,
    Cert.Frames.preserves5, Cert.Wdown.algebraic,
    Cert.Frames.preserves6, Cert.Win.algebraic,
    Cert.Frames.preserves7, Cert.Wpg.algebraic,
    Cert.Frames.preserves8, Cert.Wo.algebraic,
    Cert.Frames.preserves9, Cert.Hin.algebraic,
    Cert.Frames.preserves10, Cert.Gate.algebraic⟩

end Cert.Proof

end
